-- ==== Defs.lean ====
def Pre_Front (m : (ℓ : Loc Cert.Front.nD Cert.Front.τ Cert.Front.sig) → Buf (Elt Bits) ℓ) : Prop :=
  True

def Pre_FrontIdeal (m : (ℓ : Loc Cert.FrontIdeal.nD Cert.FrontIdeal.τ Cert.FrontIdeal.sig) → Buf (Elt Ideal) ℓ) : Prop :=
  True

def Pre_FrontIdeal_front_finite [hPre_front_finite : Cert.Pre_front_finite.Facts] (m : (ℓ : Loc Cert.FrontIdeal.nD Cert.FrontIdeal.τ Cert.FrontIdeal.sig) → Buf (Elt Ideal) ℓ) : Prop :=
  ∀ c : Dev Cert.FrontIdeal.nD,
    (Cert.Pre_front_finite.fn (F := Ideal) (m ((c.tc : Thread Cert.FrontIdeal.nD Cert.FrontIdeal.τ).loc Cert.FrontIdeal.main_arg0)) (m ((c.tc : Thread Cert.FrontIdeal.nD Cert.FrontIdeal.τ).loc Cert.FrontIdeal.main_arg1)) (m ((c.tc : Thread Cert.FrontIdeal.nD Cert.FrontIdeal.τ).loc Cert.FrontIdeal.main_arg2)) (m ((c.tc : Thread Cert.FrontIdeal.nD Cert.FrontIdeal.τ).loc Cert.FrontIdeal.main_arg3)) (m ((c.tc : Thread Cert.FrontIdeal.nD Cert.FrontIdeal.τ).loc Cert.FrontIdeal.main_arg4))) = (fun _ => 1#1)

def Pre_FrontRefIdeal (m : (ℓ : Loc Cert.FrontRefIdeal.nD Cert.FrontRefIdeal.τ Cert.FrontRefIdeal.sig) → Buf (Elt Ideal) ℓ) : Prop :=
  True

def Pre_FrontRefIdeal_front_finite [hPre_front_finite : Cert.Pre_front_finite.Facts] (m : (ℓ : Loc Cert.FrontRefIdeal.nD Cert.FrontRefIdeal.τ Cert.FrontRefIdeal.sig) → Buf (Elt Ideal) ℓ) : Prop :=
  ∀ c : Dev Cert.FrontRefIdeal.nD,
    (Cert.Pre_front_finite.fn (F := Ideal) (m ((c.tc : Thread Cert.FrontRefIdeal.nD Cert.FrontRefIdeal.τ).loc Cert.FrontRefIdeal.main_arg0)) (m ((c.tc : Thread Cert.FrontRefIdeal.nD Cert.FrontRefIdeal.τ).loc Cert.FrontRefIdeal.main_arg1)) (m ((c.tc : Thread Cert.FrontRefIdeal.nD Cert.FrontRefIdeal.τ).loc Cert.FrontRefIdeal.main_arg2)) (m ((c.tc : Thread Cert.FrontRefIdeal.nD Cert.FrontRefIdeal.τ).loc Cert.FrontRefIdeal.main_arg3)) (m ((c.tc : Thread Cert.FrontRefIdeal.nD Cert.FrontRefIdeal.τ).loc Cert.FrontRefIdeal.main_arg4))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_qkv_finite [hPre_qkv_finite : Cert.Pre_qkv_finite.Facts] (m : (ℓ : Loc Cert.QkvIdeal.nD Cert.QkvIdeal.τ Cert.QkvIdeal.sig) → Buf (Elt Ideal) ℓ) : Prop :=
  ∀ c : Dev Cert.QkvIdeal.nD,
    (Cert.Pre_qkv_finite.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_qkv_finite [hPre_qkv_finite : Cert.Pre_qkv_finite.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_qkv_finite.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_QkvFwd (m : (ℓ : Loc Cert.QkvFwd.nD Cert.QkvFwd.τ Cert.QkvFwd.sig) → Buf (Elt Bits) ℓ) : Prop :=
  True

def Pre_QkvFwdIdeal (m : (ℓ : Loc Cert.QkvFwdIdeal.nD Cert.QkvFwdIdeal.τ Cert.QkvFwdIdeal.sig) → Buf (Elt Ideal) ℓ) : Prop :=
  True

def Pre_QkvFwdRefIdeal (m : (ℓ : Loc Cert.QkvFwdRefIdeal.nD Cert.QkvFwdRefIdeal.τ Cert.QkvFwdRefIdeal.sig) → Buf (Elt Ideal) ℓ) : Prop :=
  True

def quiescent_Front [hFront : Cert.Front.Facts] : Prop :=
  ∀ (m : (ℓ : Loc Cert.Front.nD Cert.Front.τ Cert.Front.sig) → Buf (Elt Bits) ℓ) (g : Dev Cert.Front.nD → PrngReg), Pre_Front m →
    θ_run (Cert.Front.defs (F := Bits)) (onTc (τ := Cert.Front.τ) (Cert.Front.main (F := Bits))) ⟨m, fun _ => 0, g⟩ (fun r => (∀ c : Dev Cert.Front.nD,
      r.2.mem ((c.tc : Thread Cert.Front.nD Cert.Front.τ).loc Cert.Front.main_arg0) = m ((c.tc : Thread Cert.Front.nD Cert.Front.τ).loc Cert.Front.main_arg0)
      ∧ r.2.mem ((c.tc : Thread Cert.Front.nD Cert.Front.τ).loc Cert.Front.main_arg1) = m ((c.tc : Thread Cert.Front.nD Cert.Front.τ).loc Cert.Front.main_arg1)
      ∧ r.2.mem ((c.tc : Thread Cert.Front.nD Cert.Front.τ).loc Cert.Front.main_arg2) = m ((c.tc : Thread Cert.Front.nD Cert.Front.τ).loc Cert.Front.main_arg2)
      ∧ r.2.mem ((c.tc : Thread Cert.Front.nD Cert.Front.τ).loc Cert.Front.main_arg3) = m ((c.tc : Thread Cert.Front.nD Cert.Front.τ).loc Cert.Front.main_arg3)
      ∧ r.2.mem ((c.tc : Thread Cert.Front.nD Cert.Front.τ).loc Cert.Front.main_arg4) = m ((c.tc : Thread Cert.Front.nD Cert.Front.τ).loc Cert.Front.main_arg4))
      ∧ r.2.sem = fun _ => 0)

def quiescent_FrontIdeal [hFrontIdeal : Cert.FrontIdeal.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ r.2.sem = fun _ => 0)

def quiescent_FrontIdeal_pre_front_finite [hFrontIdeal : Cert.FrontIdeal.Facts] [hPre_front_finite : Cert.Pre_front_finite.Facts] : Prop :=
  ∀ (m : (ℓ : Loc Cert.FrontIdeal.nD Cert.FrontIdeal.τ Cert.FrontIdeal.sig) → Buf (Elt Ideal) ℓ) (g : Dev Cert.FrontIdeal.nD → PrngReg), Pre_FrontIdeal_front_finite m →
    θ_run (Cert.FrontIdeal.defs (F := Ideal)) (onTc (τ := Cert.FrontIdeal.τ) (Cert.FrontIdeal.main (F := Ideal))) ⟨m, fun _ => 0, g⟩ (fun r => (∀ c : Dev Cert.FrontIdeal.nD,
      r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
      ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
      ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
      ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
      ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ r.2.sem = fun _ => 0)

def quiescent_FrontRefIdeal [hFrontRefIdeal : Cert.FrontRefIdeal.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4))
      ∧ r.2.sem = fun _ => 0)

def quiescent_FrontRefIdeal_pre_front_finite [hFrontRefIdeal : Cert.FrontRefIdeal.Facts] [hPre_front_finite : Cert.Pre_front_finite.Facts] : Prop :=
  ∀ (m : (ℓ : Loc Cert.FrontRefIdeal.nD Cert.FrontRefIdeal.τ Cert.FrontRefIdeal.sig) → Buf (Elt Ideal) ℓ) (g : Dev Cert.FrontRefIdeal.nD → PrngReg), Pre_FrontRefIdeal_front_finite m →
    θ_run (Cert.FrontRefIdeal.defs (F := Ideal)) (onTc (τ := Cert.FrontRefIdeal.τ) (Cert.FrontRefIdeal.main (F := Ideal))) ⟨m, fun _ => 0, g⟩ (fun r => (∀ c : Dev Cert.FrontRefIdeal.nD,
      r.2.mem ((c.tc : Thread Cert.FrontRefIdeal.nD Cert.FrontRefIdeal.τ).loc Cert.FrontRefIdeal.main_arg0) = m ((c.tc : Thread Cert.FrontRefIdeal.nD Cert.FrontRefIdeal.τ).loc Cert.FrontRefIdeal.main_arg0)
      ∧ r.2.mem ((c.tc : Thread Cert.FrontRefIdeal.nD Cert.FrontRefIdeal.τ).loc Cert.FrontRefIdeal.main_arg1) = m ((c.tc : Thread Cert.FrontRefIdeal.nD Cert.FrontRefIdeal.τ).loc Cert.FrontRefIdeal.main_arg1)
      ∧ r.2.mem ((c.tc : Thread Cert.FrontRefIdeal.nD Cert.FrontRefIdeal.τ).loc Cert.FrontRefIdeal.main_arg2) = m ((c.tc : Thread Cert.FrontRefIdeal.nD Cert.FrontRefIdeal.τ).loc Cert.FrontRefIdeal.main_arg2)
      ∧ r.2.mem ((c.tc : Thread Cert.FrontRefIdeal.nD Cert.FrontRefIdeal.τ).loc Cert.FrontRefIdeal.main_arg3) = m ((c.tc : Thread Cert.FrontRefIdeal.nD Cert.FrontRefIdeal.τ).loc Cert.FrontRefIdeal.main_arg3)
      ∧ r.2.mem ((c.tc : Thread Cert.FrontRefIdeal.nD Cert.FrontRefIdeal.τ).loc Cert.FrontRefIdeal.main_arg4) = m ((c.tc : Thread Cert.FrontRefIdeal.nD Cert.FrontRefIdeal.τ).loc Cert.FrontRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvIdeal_pre_qkv_finite [hQkvIdeal : Cert.QkvIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_qkv_finite m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_QkvRefIdeal_pre_qkv_finite [hQkvRefIdeal : Cert.QkvRefIdeal.Facts] [hPre_qkv_finite : Cert.Pre_qkv_finite.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_qkv_finite m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3))
      ∧ r.2.sem = fun _ => 0)

def quiescent_QkvFwd [hQkvFwd : Cert.QkvFwd.Facts] : Prop :=
  ∀ (m : (ℓ : Loc Cert.QkvFwd.nD Cert.QkvFwd.τ Cert.QkvFwd.sig) → Buf (Elt Bits) ℓ) (g : Dev Cert.QkvFwd.nD → PrngReg), Pre_QkvFwd m →
    θ_run (Cert.QkvFwd.defs (F := Bits)) (onTc (τ := Cert.QkvFwd.τ) (Cert.QkvFwd.main (F := Bits))) ⟨m, fun _ => 0, g⟩ (fun r => (∀ c : Dev Cert.QkvFwd.nD,
      r.2.mem ((c.tc : Thread Cert.QkvFwd.nD Cert.QkvFwd.τ).loc Cert.QkvFwd.main_arg0) = m ((c.tc : Thread Cert.QkvFwd.nD Cert.QkvFwd.τ).loc Cert.QkvFwd.main_arg0)
      ∧ r.2.mem ((c.tc : Thread Cert.QkvFwd.nD Cert.QkvFwd.τ).loc Cert.QkvFwd.main_arg1) = m ((c.tc : Thread Cert.QkvFwd.nD Cert.QkvFwd.τ).loc Cert.QkvFwd.main_arg1)
      ∧ r.2.mem ((c.tc : Thread Cert.QkvFwd.nD Cert.QkvFwd.τ).loc Cert.QkvFwd.main_arg2) = m ((c.tc : Thread Cert.QkvFwd.nD Cert.QkvFwd.τ).loc Cert.QkvFwd.main_arg2)
      ∧ r.2.mem ((c.tc : Thread Cert.QkvFwd.nD Cert.QkvFwd.τ).loc Cert.QkvFwd.main_arg3) = m ((c.tc : Thread Cert.QkvFwd.nD Cert.QkvFwd.τ).loc Cert.QkvFwd.main_arg3)
      ∧ r.2.mem ((c.tc : Thread Cert.QkvFwd.nD Cert.QkvFwd.τ).loc Cert.QkvFwd.main_arg4) = m ((c.tc : Thread Cert.QkvFwd.nD Cert.QkvFwd.τ).loc Cert.QkvFwd.main_arg4)
      ∧ r.2.mem ((c.tc : Thread Cert.QkvFwd.nD Cert.QkvFwd.τ).loc Cert.QkvFwd.main_arg5) = m ((c.tc : Thread Cert.QkvFwd.nD Cert.QkvFwd.τ).loc Cert.QkvFwd.main_arg5)
      ∧ r.2.mem ((c.tc : Thread Cert.QkvFwd.nD Cert.QkvFwd.τ).loc Cert.QkvFwd.main_arg6) = m ((c.tc : Thread Cert.QkvFwd.nD Cert.QkvFwd.τ).loc Cert.QkvFwd.main_arg6))
      ∧ r.2.sem = fun _ => 0)

def quiescent_QkvFwdIdeal [hQkvFwdIdeal : Cert.QkvFwdIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg), Pre_QkvFwdIdeal m →
    θ_run (Cert.QkvFwdIdeal.defs (F := Ideal)) (onTc (τ := Cert.QkvFwdIdeal.τ) (Cert.QkvFwdIdeal.main (F := Ideal))) ⟨m, fun _ => 0, g⟩ (fun r => (∀ c : Dev Cert.QkvFwdIdeal.nD,
      r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
      ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
      ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
      ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
      ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
      ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
      ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ r.2.sem = fun _ => 0)

def quiescent_QkvFwdRefIdeal [hQkvFwdRefIdeal : Cert.QkvFwdRefIdeal.Facts] : Prop :=
  ∀ (m : (ℓ : Loc Cert.QkvFwdRefIdeal.nD Cert.QkvFwdRefIdeal.τ Cert.QkvFwdRefIdeal.sig) → Buf (Elt Ideal) ℓ) (g : Dev Cert.QkvFwdRefIdeal.nD → PrngReg), Pre_QkvFwdRefIdeal m →
    θ_run (Cert.QkvFwdRefIdeal.defs (F := Ideal)) (onTc (τ := Cert.QkvFwdRefIdeal.τ) (Cert.QkvFwdRefIdeal.main (F := Ideal))) ⟨m, fun _ => 0, g⟩ (fun r => (∀ c : Dev Cert.QkvFwdRefIdeal.nD,
      r.2.mem ((c.tc : Thread Cert.QkvFwdRefIdeal.nD Cert.QkvFwdRefIdeal.τ).loc Cert.QkvFwdRefIdeal.main_arg0) = m ((c.tc : Thread Cert.QkvFwdRefIdeal.nD Cert.QkvFwdRefIdeal.τ).loc Cert.QkvFwdRefIdeal.main_arg0)
      ∧ r.2.mem ((c.tc : Thread Cert.QkvFwdRefIdeal.nD Cert.QkvFwdRefIdeal.τ).loc Cert.QkvFwdRefIdeal.main_arg1) = m ((c.tc : Thread Cert.QkvFwdRefIdeal.nD Cert.QkvFwdRefIdeal.τ).loc Cert.QkvFwdRefIdeal.main_arg1)
      ∧ r.2.mem ((c.tc : Thread Cert.QkvFwdRefIdeal.nD Cert.QkvFwdRefIdeal.τ).loc Cert.QkvFwdRefIdeal.main_arg2) = m ((c.tc : Thread Cert.QkvFwdRefIdeal.nD Cert.QkvFwdRefIdeal.τ).loc Cert.QkvFwdRefIdeal.main_arg2)
      ∧ r.2.mem ((c.tc : Thread Cert.QkvFwdRefIdeal.nD Cert.QkvFwdRefIdeal.τ).loc Cert.QkvFwdRefIdeal.main_arg3) = m ((c.tc : Thread Cert.QkvFwdRefIdeal.nD Cert.QkvFwdRefIdeal.τ).loc Cert.QkvFwdRefIdeal.main_arg3)
      ∧ r.2.mem ((c.tc : Thread Cert.QkvFwdRefIdeal.nD Cert.QkvFwdRefIdeal.τ).loc Cert.QkvFwdRefIdeal.main_arg4) = m ((c.tc : Thread Cert.QkvFwdRefIdeal.nD Cert.QkvFwdRefIdeal.τ).loc Cert.QkvFwdRefIdeal.main_arg4)
      ∧ r.2.mem ((c.tc : Thread Cert.QkvFwdRefIdeal.nD Cert.QkvFwdRefIdeal.τ).loc Cert.QkvFwdRefIdeal.main_arg5) = m ((c.tc : Thread Cert.QkvFwdRefIdeal.nD Cert.QkvFwdRefIdeal.τ).loc Cert.QkvFwdRefIdeal.main_arg5)
      ∧ r.2.mem ((c.tc : Thread Cert.QkvFwdRefIdeal.nD Cert.QkvFwdRefIdeal.τ).loc Cert.QkvFwdRefIdeal.main_arg6) = m ((c.tc : Thread Cert.QkvFwdRefIdeal.nD Cert.QkvFwdRefIdeal.τ).loc Cert.QkvFwdRefIdeal.main_arg6))
      ∧ r.2.sem = fun _ => 0)

def preserves_Front_FrontIdeal : Prop :=
  True

def algebraic_FrontIdeal_FrontRefIdeal_pre_front_finite [hFrontIdeal : Cert.FrontIdeal.Facts] [hFrontRefIdeal : Cert.FrontRefIdeal.Facts] [hPre_front_finite : Cert.Pre_front_finite.Facts] : Prop :=
  ∀ (m : (ℓ : Loc Cert.FrontIdeal.nD Cert.FrontIdeal.τ Cert.FrontIdeal.sig) → Buf (Elt Ideal) ℓ) (g : Dev Cert.FrontIdeal.nD → PrngReg)
    (m' : (ℓ : Loc Cert.FrontRefIdeal.nD Cert.FrontRefIdeal.τ Cert.FrontRefIdeal.sig) → Buf (Elt Ideal) ℓ) (g' : Dev Cert.FrontRefIdeal.nD → PrngReg), Pre_FrontIdeal_front_finite m →
    (∀ c : Dev Cert.FrontIdeal.nD,
      m' ((c.tc : Thread Cert.FrontRefIdeal.nD Cert.FrontRefIdeal.τ).loc Cert.FrontRefIdeal.main_arg0) = m ((c.tc : Thread Cert.FrontIdeal.nD Cert.FrontIdeal.τ).loc Cert.FrontIdeal.main_arg0)
      ∧ m' ((c.tc : Thread Cert.FrontRefIdeal.nD Cert.FrontRefIdeal.τ).loc Cert.FrontRefIdeal.main_arg1) = m ((c.tc : Thread Cert.FrontIdeal.nD Cert.FrontIdeal.τ).loc Cert.FrontIdeal.main_arg1)
      ∧ m' ((c.tc : Thread Cert.FrontRefIdeal.nD Cert.FrontRefIdeal.τ).loc Cert.FrontRefIdeal.main_arg2) = m ((c.tc : Thread Cert.FrontIdeal.nD Cert.FrontIdeal.τ).loc Cert.FrontIdeal.main_arg2)
      ∧ m' ((c.tc : Thread Cert.FrontRefIdeal.nD Cert.FrontRefIdeal.τ).loc Cert.FrontRefIdeal.main_arg3) = m ((c.tc : Thread Cert.FrontIdeal.nD Cert.FrontIdeal.τ).loc Cert.FrontIdeal.main_arg3)
      ∧ m' ((c.tc : Thread Cert.FrontRefIdeal.nD Cert.FrontRefIdeal.τ).loc Cert.FrontRefIdeal.main_arg4) = m ((c.tc : Thread Cert.FrontIdeal.nD Cert.FrontIdeal.τ).loc Cert.FrontIdeal.main_arg4)) →
    ∃ (v0 : (c : Dev Cert.FrontIdeal.nD) → Buf (Elt Ideal) ((c.tc : Thread Cert.FrontIdeal.nD Cert.FrontIdeal.τ).loc Cert.FrontIdeal.main_v44_0)) (v1 : (c : Dev Cert.FrontIdeal.nD) → Buf (Elt Ideal) ((c.tc : Thread Cert.FrontIdeal.nD Cert.FrontIdeal.τ).loc Cert.FrontIdeal.main_v44_1)),
      θ_run (Cert.FrontIdeal.defs (F := Ideal)) (onTc (τ := Cert.FrontIdeal.τ) (Cert.FrontIdeal.main (F := Ideal))) ⟨m, fun _ => 0, g⟩ (fun r => ∀ c : Dev Cert.FrontIdeal.nD,
          r.2.mem ((c.tc : Thread Cert.FrontIdeal.nD Cert.FrontIdeal.τ).loc Cert.FrontIdeal.main_v44_0) = v0 c
          ∧ r.2.mem ((c.tc : Thread Cert.FrontIdeal.nD Cert.FrontIdeal.τ).loc Cert.FrontIdeal.main_v44_1) = v1 c
          ∧ r.2.mem ((c.tc : Thread Cert.FrontIdeal.nD Cert.FrontIdeal.τ).loc Cert.FrontIdeal.main_arg0) = m ((c.tc : Thread Cert.FrontIdeal.nD Cert.FrontIdeal.τ).loc Cert.FrontIdeal.main_arg0)
          ∧ r.2.mem ((c.tc : Thread Cert.FrontIdeal.nD Cert.FrontIdeal.τ).loc Cert.FrontIdeal.main_arg1) = m ((c.tc : Thread Cert.FrontIdeal.nD Cert.FrontIdeal.τ).loc Cert.FrontIdeal.main_arg1)
          ∧ r.2.mem ((c.tc : Thread Cert.FrontIdeal.nD Cert.FrontIdeal.τ).loc Cert.FrontIdeal.main_arg2) = m ((c.tc : Thread Cert.FrontIdeal.nD Cert.FrontIdeal.τ).loc Cert.FrontIdeal.main_arg2)
          ∧ r.2.mem ((c.tc : Thread Cert.FrontIdeal.nD Cert.FrontIdeal.τ).loc Cert.FrontIdeal.main_arg3) = m ((c.tc : Thread Cert.FrontIdeal.nD Cert.FrontIdeal.τ).loc Cert.FrontIdeal.main_arg3)
          ∧ r.2.mem ((c.tc : Thread Cert.FrontIdeal.nD Cert.FrontIdeal.τ).loc Cert.FrontIdeal.main_arg4) = m ((c.tc : Thread Cert.FrontIdeal.nD Cert.FrontIdeal.τ).loc Cert.FrontIdeal.main_arg4))
      ∧ θ_run (Cert.FrontRefIdeal.defs (F := Ideal)) (onTc (τ := Cert.FrontRefIdeal.τ) (Cert.FrontRefIdeal.main (F := Ideal))) ⟨m', fun _ => 0, g'⟩ (fun r => ∀ c : Dev Cert.FrontRefIdeal.nD,
          r.2.mem ((c.tc : Thread Cert.FrontRefIdeal.nD Cert.FrontRefIdeal.τ).loc Cert.FrontRefIdeal.main_v43) = v0 c
          ∧ r.2.mem ((c.tc : Thread Cert.FrontRefIdeal.nD Cert.FrontRefIdeal.τ).loc Cert.FrontRefIdeal.main_v42) = v1 c
          ∧ r.2.mem ((c.tc : Thread Cert.FrontRefIdeal.nD Cert.FrontRefIdeal.τ).loc Cert.FrontRefIdeal.main_arg0) = m' ((c.tc : Thread Cert.FrontRefIdeal.nD Cert.FrontRefIdeal.τ).loc Cert.FrontRefIdeal.main_arg0)
          ∧ r.2.mem ((c.tc : Thread Cert.FrontRefIdeal.nD Cert.FrontRefIdeal.τ).loc Cert.FrontRefIdeal.main_arg1) = m' ((c.tc : Thread Cert.FrontRefIdeal.nD Cert.FrontRefIdeal.τ).loc Cert.FrontRefIdeal.main_arg1)
          ∧ r.2.mem ((c.tc : Thread Cert.FrontRefIdeal.nD Cert.FrontRefIdeal.τ).loc Cert.FrontRefIdeal.main_arg2) = m' ((c.tc : Thread Cert.FrontRefIdeal.nD Cert.FrontRefIdeal.τ).loc Cert.FrontRefIdeal.main_arg2)
          ∧ r.2.mem ((c.tc : Thread Cert.FrontRefIdeal.nD Cert.FrontRefIdeal.τ).loc Cert.FrontRefIdeal.main_arg3) = m' ((c.tc : Thread Cert.FrontRefIdeal.nD Cert.FrontRefIdeal.τ).loc Cert.FrontRefIdeal.main_arg3)
          ∧ r.2.mem ((c.tc : Thread Cert.FrontRefIdeal.nD Cert.FrontRefIdeal.τ).loc Cert.FrontRefIdeal.main_arg4) = m' ((c.tc : Thread Cert.FrontRefIdeal.nD Cert.FrontRefIdeal.τ).loc Cert.FrontRefIdeal.main_arg4))

def preserves_Attn_AttnIdeal : Prop :=
  IdealRules.named_const.Statement Cert.AttnIdeal.κ "scale2" .f32 0x3E16C740#32 (((Real.log 2)⁻¹ * (Real.sqrt 96)⁻¹ : ℝ) : EReal)
  ∧ IdealRules.named_const.Statement Cert.AttnIdeal.κ "scale" .f32 0x3DD105EC#32 (((Real.sqrt 96)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v61_0)) (v1 : (c : Dev Cert.AttnIdeal.nD) → Buf (Elt Ideal) ((c.tc : Thread Cert.AttnIdeal.nD Cert.AttnIdeal.τ).loc Cert.AttnIdeal.main_v61_1)) (v2 : (c : Dev Cert.AttnIdeal.nD) → Buf (Elt Ideal) ((c.tc : Thread Cert.AttnIdeal.nD Cert.AttnIdeal.τ).loc Cert.AttnIdeal.main_v61_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v61_0) = v0 c
          ∧ r.2.mem ((c.tc : Thread Cert.AttnIdeal.nD Cert.AttnIdeal.τ).loc Cert.AttnIdeal.main_v61_1) = v1 c
          ∧ r.2.mem ((c.tc : Thread Cert.AttnIdeal.nD Cert.AttnIdeal.τ).loc Cert.AttnIdeal.main_v61_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v78) = v0 c
          ∧ r.2.mem ((c.tc : Thread Cert.AttnRefIdeal.nD Cert.AttnRefIdeal.τ).loc Cert.AttnRefIdeal.main_v81) = v1 c
          ∧ r.2.mem ((c.tc : Thread Cert.AttnRefIdeal.nD Cert.AttnRefIdeal.τ).loc Cert.AttnRefIdeal.main_v82) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Qkv_QkvIdeal : Prop :=
  True

def algebraic_QkvIdeal_QkvRefIdeal_pre_qkv_finite [hQkvIdeal : Cert.QkvIdeal.Facts] [hQkvRefIdeal : Cert.QkvRefIdeal.Facts] [hPre_qkv_finite : Cert.Pre_qkv_finite.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_qkv_finite m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v82_0)) (v1 : (c : Dev Cert.QkvIdeal.nD) → Buf (Elt Ideal) ((c.tc : Thread Cert.QkvIdeal.nD Cert.QkvIdeal.τ).loc Cert.QkvIdeal.main_v82_1)) (v2 : (c : Dev Cert.QkvIdeal.nD) → Buf (Elt Ideal) ((c.tc : Thread Cert.QkvIdeal.nD Cert.QkvIdeal.τ).loc Cert.QkvIdeal.main_v82_2)) (v3 : (c : Dev Cert.QkvIdeal.nD) → Buf (Elt Ideal) ((c.tc : Thread Cert.QkvIdeal.nD Cert.QkvIdeal.τ).loc Cert.QkvIdeal.main_v82_3)) (v4 : (c : Dev Cert.QkvIdeal.nD) → Buf (Elt Ideal) ((c.tc : Thread Cert.QkvIdeal.nD Cert.QkvIdeal.τ).loc Cert.QkvIdeal.main_v82_4)) (v5 : (c : Dev Cert.QkvIdeal.nD) → Buf (Elt Ideal) ((c.tc : Thread Cert.QkvIdeal.nD Cert.QkvIdeal.τ).loc Cert.QkvIdeal.main_v82_5)) (v6 : (c : Dev Cert.QkvIdeal.nD) → Buf (Elt Ideal) ((c.tc : Thread Cert.QkvIdeal.nD Cert.QkvIdeal.τ).loc Cert.QkvIdeal.main_v82_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v82_0) = v0 c
          ∧ r.2.mem ((c.tc : Thread Cert.QkvIdeal.nD Cert.QkvIdeal.τ).loc Cert.QkvIdeal.main_v82_1) = v1 c
          ∧ r.2.mem ((c.tc : Thread Cert.QkvIdeal.nD Cert.QkvIdeal.τ).loc Cert.QkvIdeal.main_v82_2) = v2 c
          ∧ r.2.mem ((c.tc : Thread Cert.QkvIdeal.nD Cert.QkvIdeal.τ).loc Cert.QkvIdeal.main_v82_3) = v3 c
          ∧ r.2.mem ((c.tc : Thread Cert.QkvIdeal.nD Cert.QkvIdeal.τ).loc Cert.QkvIdeal.main_v82_4) = v4 c
          ∧ r.2.mem ((c.tc : Thread Cert.QkvIdeal.nD Cert.QkvIdeal.τ).loc Cert.QkvIdeal.main_v82_5) = v5 c
          ∧ r.2.mem ((c.tc : Thread Cert.QkvIdeal.nD Cert.QkvIdeal.τ).loc Cert.QkvIdeal.main_v82_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v202) = v0 c
          ∧ r.2.mem ((c.tc : Thread Cert.QkvRefIdeal.nD Cert.QkvRefIdeal.τ).loc Cert.QkvRefIdeal.main_v204) = v1 c
          ∧ r.2.mem ((c.tc : Thread Cert.QkvRefIdeal.nD Cert.QkvRefIdeal.τ).loc Cert.QkvRefIdeal.main_v205) = v2 c
          ∧ r.2.mem ((c.tc : Thread Cert.QkvRefIdeal.nD Cert.QkvRefIdeal.τ).loc Cert.QkvRefIdeal.main_v207) = v3 c
          ∧ r.2.mem ((c.tc : Thread Cert.QkvRefIdeal.nD Cert.QkvRefIdeal.τ).loc Cert.QkvRefIdeal.main_v208) = v4 c
          ∧ r.2.mem ((c.tc : Thread Cert.QkvRefIdeal.nD Cert.QkvRefIdeal.τ).loc Cert.QkvRefIdeal.main_v193) = v5 c
          ∧ r.2.mem ((c.tc : Thread Cert.QkvRefIdeal.nD Cert.QkvRefIdeal.τ).loc Cert.QkvRefIdeal.main_v147) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_v44) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Hgrn_HgrnIdeal : Prop :=
  True

def preserves_QkvFwd_QkvFwdIdeal : Prop :=
  True

def algebraic_QkvFwdIdeal_QkvFwdRefIdeal [hQkvFwdIdeal : Cert.QkvFwdIdeal.Facts] [hQkvFwdRefIdeal : Cert.QkvFwdRefIdeal.Facts] : Prop :=
  ∀ (m : (ℓ : Loc Cert.QkvFwdIdeal.nD Cert.QkvFwdIdeal.τ Cert.QkvFwdIdeal.sig) → Buf (Elt Ideal) ℓ) (g : Dev Cert.QkvFwdIdeal.nD → PrngReg)
    (m' : (ℓ : Loc Cert.QkvFwdRefIdeal.nD Cert.QkvFwdRefIdeal.τ Cert.QkvFwdRefIdeal.sig) → Buf (Elt Ideal) ℓ) (g' : Dev Cert.QkvFwdRefIdeal.nD → PrngReg), Pre_QkvFwdIdeal m →
    (∀ c : Dev Cert.QkvFwdIdeal.nD,
      m' ((c.tc : Thread Cert.QkvFwdRefIdeal.nD Cert.QkvFwdRefIdeal.τ).loc Cert.QkvFwdRefIdeal.main_arg0) = m ((c.tc : Thread Cert.QkvFwdIdeal.nD Cert.QkvFwdIdeal.τ).loc Cert.QkvFwdIdeal.main_arg0)
      ∧ m' ((c.tc : Thread Cert.QkvFwdRefIdeal.nD Cert.QkvFwdRefIdeal.τ).loc Cert.QkvFwdRefIdeal.main_arg1) = m ((c.tc : Thread Cert.QkvFwdIdeal.nD Cert.QkvFwdIdeal.τ).loc Cert.QkvFwdIdeal.main_arg1)
      ∧ m' ((c.tc : Thread Cert.QkvFwdRefIdeal.nD Cert.QkvFwdRefIdeal.τ).loc Cert.QkvFwdRefIdeal.main_arg2) = m ((c.tc : Thread Cert.QkvFwdIdeal.nD Cert.QkvFwdIdeal.τ).loc Cert.QkvFwdIdeal.main_arg2)
      ∧ m' ((c.tc : Thread Cert.QkvFwdRefIdeal.nD Cert.QkvFwdRefIdeal.τ).loc Cert.QkvFwdRefIdeal.main_arg3) = m ((c.tc : Thread Cert.QkvFwdIdeal.nD Cert.QkvFwdIdeal.τ).loc Cert.QkvFwdIdeal.main_arg3)
      ∧ m' ((c.tc : Thread Cert.QkvFwdRefIdeal.nD Cert.QkvFwdRefIdeal.τ).loc Cert.QkvFwdRefIdeal.main_arg4) = m ((c.tc : Thread Cert.QkvFwdIdeal.nD Cert.QkvFwdIdeal.τ).loc Cert.QkvFwdIdeal.main_arg4)
      ∧ m' ((c.tc : Thread Cert.QkvFwdRefIdeal.nD Cert.QkvFwdRefIdeal.τ).loc Cert.QkvFwdRefIdeal.main_arg5) = m ((c.tc : Thread Cert.QkvFwdIdeal.nD Cert.QkvFwdIdeal.τ).loc Cert.QkvFwdIdeal.main_arg5)
      ∧ m' ((c.tc : Thread Cert.QkvFwdRefIdeal.nD Cert.QkvFwdRefIdeal.τ).loc Cert.QkvFwdRefIdeal.main_arg6) = m ((c.tc : Thread Cert.QkvFwdIdeal.nD Cert.QkvFwdIdeal.τ).loc Cert.QkvFwdIdeal.main_arg6)) →
    ∃ (v0 : (c : Dev Cert.QkvFwdIdeal.nD) → Buf (Elt Ideal) ((c.tc : Thread Cert.QkvFwdIdeal.nD Cert.QkvFwdIdeal.τ).loc Cert.QkvFwdIdeal.main_v65_0)) (v1 : (c : Dev Cert.QkvFwdIdeal.nD) → Buf (Elt Ideal) ((c.tc : Thread Cert.QkvFwdIdeal.nD Cert.QkvFwdIdeal.τ).loc Cert.QkvFwdIdeal.main_v65_1)) (v2 : (c : Dev Cert.QkvFwdIdeal.nD) → Buf (Elt Ideal) ((c.tc : Thread Cert.QkvFwdIdeal.nD Cert.QkvFwdIdeal.τ).loc Cert.QkvFwdIdeal.main_v65_2)),
      θ_run (Cert.QkvFwdIdeal.defs (F := Ideal)) (onTc (τ := Cert.QkvFwdIdeal.τ) (Cert.QkvFwdIdeal.main (F := Ideal))) ⟨m, fun _ => 0, g⟩ (fun r => ∀ c : Dev Cert.QkvFwdIdeal.nD,
          r.2.mem ((c.tc : Thread Cert.QkvFwdIdeal.nD Cert.QkvFwdIdeal.τ).loc Cert.QkvFwdIdeal.main_v65_0) = v0 c
          ∧ r.2.mem ((c.tc : Thread Cert.QkvFwdIdeal.nD Cert.QkvFwdIdeal.τ).loc Cert.QkvFwdIdeal.main_v65_1) = v1 c
          ∧ r.2.mem ((c.tc : Thread Cert.QkvFwdIdeal.nD Cert.QkvFwdIdeal.τ).loc Cert.QkvFwdIdeal.main_v65_2) = v2 c
          ∧ r.2.mem ((c.tc : Thread Cert.QkvFwdIdeal.nD Cert.QkvFwdIdeal.τ).loc Cert.QkvFwdIdeal.main_arg0) = m ((c.tc : Thread Cert.QkvFwdIdeal.nD Cert.QkvFwdIdeal.τ).loc Cert.QkvFwdIdeal.main_arg0)
          ∧ r.2.mem ((c.tc : Thread Cert.QkvFwdIdeal.nD Cert.QkvFwdIdeal.τ).loc Cert.QkvFwdIdeal.main_arg1) = m ((c.tc : Thread Cert.QkvFwdIdeal.nD Cert.QkvFwdIdeal.τ).loc Cert.QkvFwdIdeal.main_arg1)
          ∧ r.2.mem ((c.tc : Thread Cert.QkvFwdIdeal.nD Cert.QkvFwdIdeal.τ).loc Cert.QkvFwdIdeal.main_arg2) = m ((c.tc : Thread Cert.QkvFwdIdeal.nD Cert.QkvFwdIdeal.τ).loc Cert.QkvFwdIdeal.main_arg2)
          ∧ r.2.mem ((c.tc : Thread Cert.QkvFwdIdeal.nD Cert.QkvFwdIdeal.τ).loc Cert.QkvFwdIdeal.main_arg3) = m ((c.tc : Thread Cert.QkvFwdIdeal.nD Cert.QkvFwdIdeal.τ).loc Cert.QkvFwdIdeal.main_arg3)
          ∧ r.2.mem ((c.tc : Thread Cert.QkvFwdIdeal.nD Cert.QkvFwdIdeal.τ).loc Cert.QkvFwdIdeal.main_arg4) = m ((c.tc : Thread Cert.QkvFwdIdeal.nD Cert.QkvFwdIdeal.τ).loc Cert.QkvFwdIdeal.main_arg4)
          ∧ r.2.mem ((c.tc : Thread Cert.QkvFwdIdeal.nD Cert.QkvFwdIdeal.τ).loc Cert.QkvFwdIdeal.main_arg5) = m ((c.tc : Thread Cert.QkvFwdIdeal.nD Cert.QkvFwdIdeal.τ).loc Cert.QkvFwdIdeal.main_arg5)
          ∧ r.2.mem ((c.tc : Thread Cert.QkvFwdIdeal.nD Cert.QkvFwdIdeal.τ).loc Cert.QkvFwdIdeal.main_arg6) = m ((c.tc : Thread Cert.QkvFwdIdeal.nD Cert.QkvFwdIdeal.τ).loc Cert.QkvFwdIdeal.main_arg6))
      ∧ θ_run (Cert.QkvFwdRefIdeal.defs (F := Ideal)) (onTc (τ := Cert.QkvFwdRefIdeal.τ) (Cert.QkvFwdRefIdeal.main (F := Ideal))) ⟨m', fun _ => 0, g'⟩ (fun r => ∀ c : Dev Cert.QkvFwdRefIdeal.nD,
          r.2.mem ((c.tc : Thread Cert.QkvFwdRefIdeal.nD Cert.QkvFwdRefIdeal.τ).loc Cert.QkvFwdRefIdeal.main_v105) = v0 c
          ∧ r.2.mem ((c.tc : Thread Cert.QkvFwdRefIdeal.nD Cert.QkvFwdRefIdeal.τ).loc Cert.QkvFwdRefIdeal.main_v109) = v1 c
          ∧ r.2.mem ((c.tc : Thread Cert.QkvFwdRefIdeal.nD Cert.QkvFwdRefIdeal.τ).loc Cert.QkvFwdRefIdeal.main_v111) = v2 c
          ∧ r.2.mem ((c.tc : Thread Cert.QkvFwdRefIdeal.nD Cert.QkvFwdRefIdeal.τ).loc Cert.QkvFwdRefIdeal.main_arg0) = m' ((c.tc : Thread Cert.QkvFwdRefIdeal.nD Cert.QkvFwdRefIdeal.τ).loc Cert.QkvFwdRefIdeal.main_arg0)
          ∧ r.2.mem ((c.tc : Thread Cert.QkvFwdRefIdeal.nD Cert.QkvFwdRefIdeal.τ).loc Cert.QkvFwdRefIdeal.main_arg1) = m' ((c.tc : Thread Cert.QkvFwdRefIdeal.nD Cert.QkvFwdRefIdeal.τ).loc Cert.QkvFwdRefIdeal.main_arg1)
          ∧ r.2.mem ((c.tc : Thread Cert.QkvFwdRefIdeal.nD Cert.QkvFwdRefIdeal.τ).loc Cert.QkvFwdRefIdeal.main_arg2) = m' ((c.tc : Thread Cert.QkvFwdRefIdeal.nD Cert.QkvFwdRefIdeal.τ).loc Cert.QkvFwdRefIdeal.main_arg2)
          ∧ r.2.mem ((c.tc : Thread Cert.QkvFwdRefIdeal.nD Cert.QkvFwdRefIdeal.τ).loc Cert.QkvFwdRefIdeal.main_arg3) = m' ((c.tc : Thread Cert.QkvFwdRefIdeal.nD Cert.QkvFwdRefIdeal.τ).loc Cert.QkvFwdRefIdeal.main_arg3)
          ∧ r.2.mem ((c.tc : Thread Cert.QkvFwdRefIdeal.nD Cert.QkvFwdRefIdeal.τ).loc Cert.QkvFwdRefIdeal.main_arg4) = m' ((c.tc : Thread Cert.QkvFwdRefIdeal.nD Cert.QkvFwdRefIdeal.τ).loc Cert.QkvFwdRefIdeal.main_arg4)
          ∧ r.2.mem ((c.tc : Thread Cert.QkvFwdRefIdeal.nD Cert.QkvFwdRefIdeal.τ).loc Cert.QkvFwdRefIdeal.main_arg5) = m' ((c.tc : Thread Cert.QkvFwdRefIdeal.nD Cert.QkvFwdRefIdeal.τ).loc Cert.QkvFwdRefIdeal.main_arg5)
          ∧ r.2.mem ((c.tc : Thread Cert.QkvFwdRefIdeal.nD Cert.QkvFwdRefIdeal.τ).loc Cert.QkvFwdRefIdeal.main_arg6) = m' ((c.tc : Thread Cert.QkvFwdRefIdeal.nD Cert.QkvFwdRefIdeal.τ).loc Cert.QkvFwdRefIdeal.main_arg6))

def Claim : Prop :=
  ∃ (hFront : Cert.Front.Facts) (hFrontIdeal : Cert.FrontIdeal.Facts) (hFrontRefIdeal : Cert.FrontRefIdeal.Facts) (hAttn : Cert.Attn.Facts) (hAttnIdeal : Cert.AttnIdeal.Facts) (hAttnRefIdeal : Cert.AttnRefIdeal.Facts) (hQkv : Cert.Qkv.Facts) (hQkvIdeal : Cert.QkvIdeal.Facts) (hQkvRefIdeal : Cert.QkvRefIdeal.Facts) (hProj : Cert.Proj.Facts) (hProjIdeal : Cert.ProjIdeal.Facts) (hProjRefIdeal : Cert.ProjRefIdeal.Facts) (hHgrn : Cert.Hgrn.Facts) (hHgrnIdeal : Cert.HgrnIdeal.Facts) (hQkvFwd : Cert.QkvFwd.Facts) (hQkvFwdIdeal : Cert.QkvFwdIdeal.Facts) (hQkvFwdRefIdeal : Cert.QkvFwdRefIdeal.Facts) (hPre_front_finite : Cert.Pre_front_finite.Facts) (hPre_attn_finite : Cert.Pre_attn_finite.Facts) (hPre_qkv_finite : Cert.Pre_qkv_finite.Facts),
    quiescent_Front (hFront := hFront)
    ∧ quiescent_FrontIdeal (hFrontIdeal := hFrontIdeal)
    ∧ quiescent_FrontIdeal_pre_front_finite (hFrontIdeal := hFrontIdeal) (hPre_front_finite := hPre_front_finite)
    ∧ quiescent_FrontRefIdeal (hFrontRefIdeal := hFrontRefIdeal)
    ∧ quiescent_FrontRefIdeal_pre_front_finite (hFrontRefIdeal := hFrontRefIdeal) (hPre_front_finite := hPre_front_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Qkv (hQkv := hQkv)
    ∧ quiescent_QkvIdeal (hQkvIdeal := hQkvIdeal)
    ∧ quiescent_QkvIdeal_pre_qkv_finite (hQkvIdeal := hQkvIdeal) (hPre_qkv_finite := hPre_qkv_finite)
    ∧ quiescent_QkvRefIdeal (hQkvRefIdeal := hQkvRefIdeal)
    ∧ quiescent_QkvRefIdeal_pre_qkv_finite (hQkvRefIdeal := hQkvRefIdeal) (hPre_qkv_finite := hPre_qkv_finite)
    ∧ quiescent_Proj (hProj := hProj)
    ∧ quiescent_ProjIdeal (hProjIdeal := hProjIdeal)
    ∧ quiescent_ProjRefIdeal (hProjRefIdeal := hProjRefIdeal)
    ∧ quiescent_Hgrn (hHgrn := hHgrn)
    ∧ quiescent_HgrnIdeal (hHgrnIdeal := hHgrnIdeal)
    ∧ quiescent_QkvFwd (hQkvFwd := hQkvFwd)
    ∧ quiescent_QkvFwdIdeal (hQkvFwdIdeal := hQkvFwdIdeal)
    ∧ quiescent_QkvFwdRefIdeal (hQkvFwdRefIdeal := hQkvFwdRefIdeal)
    ∧ preserves_Front_FrontIdeal
    ∧ algebraic_FrontIdeal_FrontRefIdeal_pre_front_finite (hFrontIdeal := hFrontIdeal) (hFrontRefIdeal := hFrontRefIdeal) (hPre_front_finite := hPre_front_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Qkv_QkvIdeal
    ∧ algebraic_QkvIdeal_QkvRefIdeal_pre_qkv_finite (hQkvIdeal := hQkvIdeal) (hQkvRefIdeal := hQkvRefIdeal) (hPre_qkv_finite := hPre_qkv_finite)
    ∧ preserves_Proj_ProjIdeal
    ∧ algebraic_ProjIdeal_ProjRefIdeal (hProjIdeal := hProjIdeal) (hProjRefIdeal := hProjRefIdeal)
    ∧ preserves_Hgrn_HgrnIdeal
    ∧ preserves_QkvFwd_QkvFwdIdeal
    ∧ algebraic_QkvFwdIdeal_QkvFwdRefIdeal (hQkvFwdIdeal := hQkvFwdIdeal) (hQkvFwdRefIdeal := hQkvFwdRefIdeal)
-- ==== Pre_attn_finite.lean ====
abbrev S1x8x4096x96 : Shape := ⟨4, ![1, 8, 4096, 96]⟩
abbrev S1x8x4096x64 : Shape := ⟨4, ![1, 8, 4096, 64]⟩
abbrev S1x4096x512 : Shape := ⟨3, ![1, 4096, 512]⟩
abbrev S_ : Shape := ⟨0, ![]⟩

class Facts : Prop where
  bcast_S_S1x8x4096x96 : S_.BroadcastsInDim S1x8x4096x96 (![] : Fin 0 → Fin S1x8x4096x96.rank)
  reducesTo_S1x8x4096x96_S_d0_1_2_3 : S1x8x4096x96.ReducesTo [0, 1, 2, 3] S_
  h_S_ : 0 < S_.numel
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x8x4096x96 .f32) (main_arg1 : FVec F S1x8x4096x96 .f32) (main_arg2 : FVec F S1x8x4096x64 .f32) (main_arg3 : FVec F S1x4096x512 .f32) : IVec S_ 1 :=
  let main_v0 : FVec F S1x8x4096x96 .f32 := Host.absf main_arg0
  let main_cst : FVec F S_ .f32 := constant S_ .f32 0x7F800000#32
  let main_v1 : FVec F S1x8x4096x96 .f32 := broadcastInDim S1x8x4096x96 ![] bcast_S_S1x8x4096x96 main_cst
  let main_v2 : IVec S1x8x4096x96 1 := cmpf .olt main_v0 main_v1
  let main_c : IVec S_ 1 := constantI S_ 1 1#1
  let main_v3 : IVec S_ 1 := (fun x v => Host.reduce IntOp.andi x v reducesTo_S1x8x4096x96_S_d0_1_2_3 h_S_) main_v2 main_c
  let main_v4 : FVec F S1x8x4096x96 .f32 := Host.absf main_arg1
  let main_cst_0 : FVec F S_ .f32 := constant S_ .f32 0x7F800000#32
  let main_v5 : FVec F S1x8x4096x96 .f32 := broadcastInDim S1x8x4096x96 ![] bcast_S_S1x8x4096x96 main_cst_0
  let main_v6 : IVec S1x8x4096x96 1 := cmpf .olt main_v4 main_v5
  let main_c_1 : IVec S_ 1 := constantI S_ 1 1#1
  let main_v7 : IVec S_ 1 := (fun x v => Host.reduce IntOp.andi x v reducesTo_S1x8x4096x96_S_d0_1_2_3 h_S_) main_v6 main_c_1
  let main_v8 : IVec S_ 1 := andi main_v3 main_v7
  let main_v9 : FVec F S1x8x4096x64 .f32 := Host.absf main_arg2
  let main_cst_2 : FVec F S_ .f32 := constant S_ .f32 0x7F800000#32
  let main_v10 : FVec F S1x8x4096x64 .f32 := broadcastInDim S1x8x4096x64 ![] bcast_S_S1x8x4096x64 main_cst_2
  let main_v11 : IVec S1x8x4096x64 1 := cmpf .olt main_v9 main_v10
  let main_c_3 : IVec S_ 1 := constantI S_ 1 1#1
  let main_v12 : IVec S_ 1 := (fun x v => Host.reduce IntOp.andi x v reducesTo_S1x8x4096x64_S_d0_1_2_3 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_front_finite.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1x4096x5664 : Shape := ⟨3, ![1, 4096, 5664]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5664 : S_.BroadcastsInDim S1x1024x5664 (![] : Fin 0 → Fin S1x1024x5664.rank)
  reducesTo_S1x1024x5664_S_d0_1_2 : S1x1024x5664.ReducesTo [0, 1, 2] S_
  bcast_S_S1x4096x5664 : S_.BroadcastsInDim S1x4096x5664 (![] : Fin 0 → Fin S1x4096x5664.rank)
  reducesTo_S1x4096x5664_S_d0_1_2 : S1x4096x5664.ReducesTo [0, 1, 2] S_

variable [Facts]

def fn_part1 {F : FTy → Type} [FloatOps F] (main_v13 : IVec S_ 1) (main_v16 : IVec S1x4096x5664 1) : IVec S_ 1 :=
  let main_c_5 : IVec S_ 1 := constantI S_ 1 1#1
  let main_v17 : IVec S_ 1 := (fun x v => Host.reduce IntOp.andi x v reducesTo_S1x4096x5664_S_d0_1_2 h_S_) main_v16 main_c_5
  let main_v18 : IVec S_ 1 := andi main_v13 main_v17
  main_v18

def fn {F : FTy → Type} [FloatOps F] (main_arg0 : FVec F S1x4096x1024 .f32) (main_arg1 : FVec F S1x1024 .f32) (main_arg2 : FVec F S1x1024x5664 .f32) (main_arg3 : FVec F S1x4096x1024 .f32) (main_arg4 : FVec F S1x4096x5664 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5664 .f32 := Host.absf main_arg2
  let main_cst_2 : FVec F S_ .f32 := constant S_ .f32 0x7F800000#32
  let main_v10 : FVec F S1x1024x5664 .f32 := broadcastInDim S1x1024x5664 ![] bcast_S_S1x1024x5664 main_cst_2
  let main_v11 : IVec S1x1024x5664 1 := cmpf .olt main_v9 main_v10
  let main_c_3 : IVec S_ 1 := constantI S_ 1 1#1
  let main_v12 : IVec S_ 1 := (fun x v => Host.reduce IntOp.andi x v reducesTo_S1x1024x5664_S_d0_1_2 h_S_) main_v11 main_c_3
  let main_v13 : IVec S_ 1 := andi main_v8 main_v12
  let main_v14 : FVec F S1x4096x5664 .f32 := Host.absf main_arg4
  let main_cst_4 : FVec F S_ .f32 := constant S_ .f32 0x7F800000#32
  let main_v15 : FVec F S1x4096x5664 .f32 := broadcastInDim S1x4096x5664 ![] bcast_S_S1x4096x5664 main_cst_4
  let main_v16 : IVec S1x4096x5664 1 := cmpf .olt main_v14 main_v15
  fn_part1 (F := F) main_v13 main_v16
-- ==== Pre_qkv_finite.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S1x8x4096x96 : Shape := ⟨4, ![1, 8, 4096, 96]⟩
abbrev S1x8x4096x64 : Shape := ⟨4, ![1, 8, 4096, 64]⟩
abbrev S_ : Shape := ⟨0, ![]⟩

class Facts : Prop where
  bcast_S_S1x4096x768 : S_.BroadcastsInDim S1x4096x768 (![] : Fin 0 → Fin S1x4096x768.rank)
  reducesTo_S1x4096x768_S_d0_1_2 : S1x4096x768.ReducesTo [0, 1, 2] S_
  h_S_ : 0 < S_.numel
  bcast_S_S1x4096x256 : S_.BroadcastsInDim S1x4096x256 (![] : Fin 0 → Fin S1x4096x256.rank)
  reducesTo_S1x4096x256_S_d0_1_2 : S1x4096x256.ReducesTo [0, 1, 2] S_
  bcast_S_S1x768 : S_.BroadcastsInDim S1x768 (![] : Fin 0 → Fin S1x768.rank)
  reducesTo_S1x768_S_d0_1 : S1x768.ReducesTo [0, 1] S_
  bcast_S_S1x256 : S_.BroadcastsInDim S1x256 (![] : Fin 0 → Fin S1x256.rank)
  reducesTo_S1x256_S_d0_1 : S1x256.ReducesTo [0, 1] S_
  bcast_S_S1x768x768 : S_.BroadcastsInDim S1x768x768 (![] : Fin 0 → Fin S1x768x768.rank)
  reducesTo_S1x768x768_S_d0_1_2 : S1x768x768.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1x8x4096x96 : S_.BroadcastsInDim S1x8x4096x96 (![] : Fin 0 → Fin S1x8x4096x96.rank)
  reducesTo_S1x8x4096x96_S_d0_1_2_3 : S1x8x4096x96.ReducesTo [0, 1, 2, 3] S_
  bcast_S_S1x8x4096x64 : S_.BroadcastsInDim S1x8x4096x64 (![] : Fin 0 → Fin S1x8x4096x64.rank)
  reducesTo_S1x8x4096x64_S_d0_1_2_3 : S1x8x4096x64.ReducesTo [0, 1, 2, 3] S_

variable [Facts]

def fn_part2 {F : FTy → Type} [FloatOps F] (main_arg8 : FVec F S1x8x4096x96 .f32) (main_arg9 : FVec F S1x8x4096x64 .f32) (main_v33 : IVec S_ 1) : IVec S_ 1 :=
  let main_v34 : FVec F S1x8x4096x96 .f32 := Host.absf main_arg8
  let main_cst_12 : FVec F S_ .f32 := constant S_ .f32 0x7F800000#32
  let main_v35 : FVec F S1x8x4096x96 .f32 := broadcastInDim S1x8x4096x96 ![] bcast_S_S1x8x4096x96 main_cst_12
  let main_v36 : IVec S1x8x4096x96 1 := cmpf .olt main_v34 main_v35
  let main_c_13 : IVec S_ 1 := constantI S_ 1 1#1
  let main_v37 : IVec S_ 1 := (fun x v => Host.reduce IntOp.andi x v reducesTo_S1x8x4096x96_S_d0_1_2_3 h_S_) main_v36 main_c_13
  let main_v38 : IVec S_ 1 := andi main_v33 main_v37
  let main_v39 : FVec F S1x8x4096x64 .f32 := Host.absf main_arg9
  let main_cst_14 : FVec F S_ .f32 := constant S_ .f32 0x7F800000#32
  let main_v40 : FVec F S1x8x4096x64 .f32 := broadcastInDim S1x8x4096x64 ![] bcast_S_S1x8x4096x64 main_cst_14
  let main_v41 : IVec S1x8x4096x64 1 := cmpf .olt main_v39 main_v40
  let main_c_15 : IVec S_ 1 := constantI S_ 1 1#1
  let main_v42 : IVec S_ 1 := (fun x v => Host.reduce IntOp.andi x v reducesTo_S1x8x4096x64_S_d0_1_2_3 h_S_) main_v41 main_c_15
  let main_v43 : IVec S_ 1 := andi main_v38 main_v42
  main_v43

def fn_part1 {F : FTy → Type} [FloatOps F] (main_arg5 : FVec F S1x768x768 .f32) (main_arg6 : FVec F S1x256x1024 .f32) (main_arg7 : FVec F S1x8x4096x96 .f32) (main_arg8 : FVec F S1x8x4096x96 .f32) (main_arg9 : FVec F S1x8x4096x64 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x768x768 .f32 := Host.absf main_arg5
  let main_cst_6 : FVec F S_ .f32 := constant S_ .f32 0x7F800000#32
  let main_v20 : FVec F S1x768x768 .f32 := broadcastInDim S1x768x768 ![] bcast_S_S1x768x768 main_cst_6
  let main_v21 : IVec S1x768x768 1 := cmpf .olt main_v19 main_v20
  let main_c_7 : IVec S_ 1 := constantI S_ 1 1#1
  let main_v22 : IVec S_ 1 := (fun x v => Host.reduce IntOp.andi x v reducesTo_S1x768x768_S_d0_1_2 h_S_) main_v21 main_c_7
  let main_v23 : IVec S_ 1 := andi main_v18 main_v22
  let main_v24 : FVec F S1x256x1024 .f32 := Host.absf main_arg6
  let main_cst_8 : FVec F S_ .f32 := constant S_ .f32 0x7F800000#32
  let main_v25 : FVec F S1x256x1024 .f32 := broadcastInDim S1x256x1024 ![] bcast_S_S1x256x1024 main_cst_8
  let main_v26 : IVec S1x256x1024 1 := cmpf .olt main_v24 main_v25
  let main_c_9 : IVec S_ 1 := constantI S_ 1 1#1
  let main_v27 : IVec S_ 1 := (fun x v => Host.reduce IntOp.andi x v reducesTo_S1x256x1024_S_d0_1_2 h_S_) main_v26 main_c_9
  let main_v28 : IVec S_ 1 := andi main_v23 main_v27
  let main_v29 : FVec F S1x8x4096x96 .f32 := Host.absf main_arg7
  let main_cst_10 : FVec F S_ .f32 := constant S_ .f32 0x7F800000#32
  let main_v30 : FVec F S1x8x4096x96 .f32 := broadcastInDim S1x8x4096x96 ![] bcast_S_S1x8x4096x96 main_cst_10
  let main_v31 : IVec S1x8x4096x96 1 := cmpf .olt main_v29 main_v30
  let main_c_11 : IVec S_ 1 := constantI S_ 1 1#1
  let main_v32 : IVec S_ 1 := (fun x v => Host.reduce IntOp.andi x v reducesTo_S1x8x4096x96_S_d0_1_2_3 h_S_) main_v31 main_c_11
  let main_v33 : IVec S_ 1 := andi main_v28 main_v32
  fn_part2 (F := F) main_arg8 main_arg9 main_v33

def fn {F : FTy → Type} [FloatOps F] (main_arg0 : FVec F S1x4096x768 .f32) (main_arg1 : FVec F S1x4096x256 .f32) (main_arg2 : FVec F S1x4096x32 .f32) (main_arg3 : FVec F S1x768 .f32) (main_arg4 : FVec F S1x256 .f32) (main_arg5 : FVec F S1x768x768 .f32) (main_arg6 : FVec F S1x256x1024 .f32) (main_arg7 : FVec F S1x8x4096x96 .f32) (main_arg8 : FVec F S1x8x4096x96 .f32) (main_arg9 : FVec F S1x8x4096x64 .f32) : IVec S_ 1 :=
  let main_v0 : FVec F S1x4096x768 .f32 := Host.absf main_arg0
  let main_cst : FVec F S_ .f32 := constant S_ .f32 0x7F800000#32
  let main_v1 : FVec F S1x4096x768 .f32 := broadcastInDim S1x4096x768 ![] bcast_S_S1x4096x768 main_cst
  let main_v2 : IVec S1x4096x768 1 := cmpf .olt main_v0 main_v1
  let main_c : IVec S_ 1 := constantI S_ 1 1#1
  let main_v3 : IVec S_ 1 := (fun x v => Host.reduce IntOp.andi x v reducesTo_S1x4096x768_S_d0_1_2 h_S_) main_v2 main_c
  let main_v4 : FVec F S1x4096x256 .f32 := Host.absf main_arg1
  let main_cst_0 : FVec F S_ .f32 := constant S_ .f32 0x7F800000#32
  let main_v5 : FVec F S1x4096x256 .f32 := broadcastInDim S1x4096x256 ![] bcast_S_S1x4096x256 main_cst_0
  let main_v6 : IVec S1x4096x256 1 := cmpf .olt main_v4 main_v5
  let main_c_1 : IVec S_ 1 := constantI S_ 1 1#1
  let main_v7 : IVec S_ 1 := (fun x v => Host.reduce IntOp.andi x v reducesTo_S1x4096x256_S_d0_1_2 h_S_) main_v6 main_c_1
  let main_v8 : IVec S_ 1 := andi main_v3 main_v7
  let main_v9 : FVec F S1x768 .f32 := Host.absf main_arg3
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S1x256 .f32 := Host.absf main_arg4
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg5 main_arg6 main_arg7 main_arg8 main_arg9 main_v13 main_v16
-- ==== Front.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1x4096x5664 : Shape := ⟨3, ![1, 4096, 5664]⟩
abbrev S1024x5664 : Shape := ⟨2, ![1024, 5664]⟩
abbrev S5664x1024 : Shape := ⟨2, ![5664, 1024]⟩
abbrev S4096x5664 : Shape := ⟨2, ![4096, 5664]⟩
abbrev S4096x512 : Shape := ⟨2, ![4096, 512]⟩
abbrev S1x4096x512 : Shape := ⟨3, ![1, 4096, 512]⟩
abbrev S3x4096x512 : Shape := ⟨3, ![3, 4096, 512]⟩
abbrev S_ : Shape := ⟨0, ![]⟩
abbrev S4096x64 : Shape := ⟨2, ![4096, 64]⟩
abbrev S4096x32 : Shape := ⟨2, ![4096, 32]⟩
abbrev S4096x128 : Shape := ⟨2, ![4096, 128]⟩
abbrev S4096x1024 : Shape := ⟨2, ![4096, 1024]⟩
abbrev S4096x2048 : Shape := ⟨2, ![4096, 2048]⟩
abbrev S4096x768 : Shape := ⟨2, ![4096, 768]⟩
abbrev S4096x256 : Shape := ⟨2, ![4096, 256]⟩
abbrev S64x1024 : Shape := ⟨2, ![64, 1024]⟩
abbrev S32x1024 : Shape := ⟨2, ![32, 1024]⟩
abbrev S128x1024 : Shape := ⟨2, ![128, 1024]⟩
abbrev S8x128 : Shape := ⟨2, ![8, 128]⟩
abbrev S512x1024 : Shape := ⟨2, ![512, 1024]⟩
abbrev S512x2048 : Shape := ⟨2, ![512, 2048]⟩
abbrev S512x512 : Shape := ⟨2, ![512, 512]⟩
abbrev S3x512x512 : Shape := ⟨3, ![3, 512, 512]⟩
abbrev S512x768 : Shape := ⟨2, ![512, 768]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S1x512x512 : Shape := ⟨3, ![1, 512, 512]⟩
abbrev S2048x1024 : Shape := ⟨2, ![2048, 1024]⟩
abbrev S768x1024 : Shape := ⟨2, ![768, 1024]⟩
abbrev S256x1024 : Shape := ⟨2, ![256, 1024]⟩
abbrev S1024 : Shape := ⟨1, ![1024]⟩

abbrev nBuf : Space → Nat
  | .hbm => 56
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1x4096x1024, .f32⟩
  | .hbm, ⟨4, _⟩ => ⟨S1x4096x5664, .f32⟩
  | .hbm, ⟨5, _⟩ => ⟨S1024x5664, .f32⟩
  | .hbm, ⟨6, _⟩ => ⟨S5664x1024, .f32⟩
  | .hbm, ⟨7, _⟩ => ⟨S5664x1024, .bf16⟩
  | .hbm, ⟨8, _⟩ => ⟨S4096x5664, .f32⟩
  | .hbm, ⟨9, _⟩ => ⟨S4096x512, .f32⟩
  | .hbm, ⟨10, _⟩ => ⟨S4096x512, .bf16⟩
  | .hbm, ⟨11, _⟩ => ⟨S4096x5664, .f32⟩
  | .hbm, ⟨12, _⟩ => ⟨S4096x512, .f32⟩
  | .hbm, ⟨13, _⟩ => ⟨S4096x512, .bf16⟩
  | .hbm, ⟨14, _⟩ => ⟨S4096x5664, .f32⟩
  | .hbm, ⟨15, _⟩ => ⟨S4096x512, .f32⟩
  | .hbm, ⟨16, _⟩ => ⟨S4096x512, .bf16⟩
  | .hbm, ⟨17, _⟩ => ⟨S1x4096x512, .bf16⟩
  | .hbm, ⟨18, _⟩ => ⟨S1x4096x512, .bf16⟩
  | .hbm, ⟨19, _⟩ => ⟨S1x4096x512, .bf16⟩
  | .hbm, ⟨20, _⟩ => ⟨S3x4096x512, .bf16⟩
  | .hbm, ⟨21, _⟩ => ⟨S_, .bf16⟩
  | .hbm, ⟨22, _⟩ => ⟨S4096x64, .bf16⟩
  | .hbm, ⟨23, _⟩ => ⟨S4096x5664, .f32⟩
  | .hbm, ⟨24, _⟩ => ⟨S4096x32, .f32⟩
  | .hbm, ⟨25, _⟩ => ⟨S4096x32, .bf16⟩
  | .hbm, ⟨26, _⟩ => ⟨S_, .bf16⟩
  | .hbm, ⟨27, _⟩ => ⟨S4096x32, .bf16⟩
  | .hbm, ⟨28, _⟩ => ⟨S4096x128, .bf16⟩
  | .hbm, ⟨29, _⟩ => ⟨S4096x1024, .f32⟩
  | .hbm, ⟨30, _⟩ => ⟨S4096x1024, .f32⟩
  | .hbm, ⟨31, _⟩ => ⟨S4096x5664, .f32⟩
  | .hbm, ⟨32, _⟩ => ⟨S4096x2048, .f32⟩
  | .hbm, ⟨33, _⟩ => ⟨S4096x2048, .bf16⟩
  | .hbm, ⟨34, _⟩ => ⟨S4096x5664, .f32⟩
  | .hbm, ⟨35, _⟩ => ⟨S4096x512, .f32⟩
  | .hbm, ⟨36, _⟩ => ⟨S4096x512, .bf16⟩
  | .hbm, ⟨37, _⟩ => ⟨S4096x5664, .f32⟩
  | .hbm, ⟨38, _⟩ => ⟨S4096x512, .f32⟩
  | .hbm, ⟨39, _⟩ => ⟨S4096x512, .bf16⟩
  | .hbm, ⟨40, _⟩ => ⟨S4096x5664, .f32⟩
  | .hbm, ⟨41, _⟩ => ⟨S4096x768, .f32⟩
  | .hbm, ⟨42, _⟩ => ⟨S4096x768, .bf16⟩
  | .hbm, ⟨43, _⟩ => ⟨S4096x5664, .f32⟩
  | .hbm, ⟨44, _⟩ => ⟨S4096x256, .f32⟩
  | .hbm, ⟨45, _⟩ => ⟨S4096x256, .bf16⟩
  | .hbm, ⟨46, _⟩ => ⟨S_, .bf16⟩
  | .hbm, ⟨47, _⟩ => ⟨S64x1024, .bf16⟩
  | .hbm, ⟨48, _⟩ => ⟨S32x1024, .bf16⟩
  | .hbm, ⟨49, _⟩ => ⟨S_, .bf16⟩
  | .hbm, ⟨50, _⟩ => ⟨S32x1024, .bf16⟩
  | .hbm, ⟨51, _⟩ => ⟨S128x1024, .bf16⟩
  | .hbm, ⟨52, _⟩ => ⟨S_, .f32⟩
  | .hbm, ⟨53, _⟩ => ⟨S8x128, .f32⟩
  | .hbm, ⟨54, _⟩ => ⟨S4096x1024, .f32⟩
  | .hbm, ⟨55, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .bf16⟩
  | .local _ .vmem, ⟨5, _⟩ => ⟨S512x2048, .bf16⟩
  | .local _ .vmem, ⟨6, _⟩ => ⟨S512x512, .bf16⟩
  | .local _ .vmem, ⟨7, _⟩ => ⟨S512x512, .bf16⟩
  | .local _ .vmem, ⟨8, _⟩ => ⟨S3x512x512, .bf16⟩
  | .local _ .vmem, ⟨9, _⟩ => ⟨S3x512x512, .bf16⟩
  | .local _ .vmem, ⟨10, _⟩ => ⟨S512x512, .bf16⟩
  | .local _ .vmem, ⟨11, _⟩ => ⟨S512x512, .bf16⟩
  | .local _ .vmem, ⟨12, _⟩ => ⟨S512x768, .bf16⟩
  | .local _ .vmem, ⟨13, _⟩ => ⟨S512x768, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S1x1024, .f32⟩
  | .local _ .vmem, ⟨19, _⟩ => ⟨S5664x1024, .bf16⟩
  | .local _ .vmem, ⟨20, _⟩ => ⟨S128x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_1 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_cst_3 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5664x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FrontRefIdeal.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1x4096x5664 : Shape := ⟨3, ![1, 4096, 5664]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5664 : Shape := ⟨2, ![1024, 5664]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1x4096x1024, .f32⟩
  | .hbm, ⟨4, _⟩ => ⟨S1x4096x5664, .f32⟩
  | .hbm, ⟨5, _⟩ => ⟨S1024, .f32⟩
  | .hbm, ⟨6, _⟩ => ⟨S1x4096x1024, .f32⟩
  | .hbm, ⟨7, _⟩ => ⟨S_, .f32⟩
  | .hbm, ⟨8, _⟩ => ⟨S1x4096, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1024x5664, .f32⟩
  | .hbm, ⟨27, _⟩ => ⟨S1x4096x5664, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x1024, .f32⟩
  | .hbm, ⟨57, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Attn.lean ====
abbrev S1x8x4096x96 : Shape := ⟨4, ![1, 8, 4096, 96]⟩
abbrev S1x8x4096x64 : Shape := ⟨4, ![1, 8, 4096, 64]⟩
abbrev S1x4096x512 : Shape := ⟨3, ![1, 4096, 512]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S4096x512 : Shape := ⟨2, ![4096, 512]⟩
abbrev S8x4096x1 : Shape := ⟨3, ![8, 4096, 1]⟩
abbrev S8x4096x128 : Shape := ⟨3, ![8, 4096, 128]⟩
abbrev S8 : Shape := ⟨1, ![8]⟩
abbrev S8x1x1 : Shape := ⟨3, ![8, 1, 1]⟩
abbrev S128 : Shape := ⟨1, ![128]⟩
abbrev S1x1x128 : Shape := ⟨3, ![1, 1, 128]⟩
abbrev S8x4096x64 : Shape := ⟨3, ![8, 4096, 64]⟩
abbrev S8x1x128 : Shape := ⟨3, ![8, 1, 128]⟩
abbrev S8x4096x96 : Shape := ⟨3, ![8, 4096, 96]⟩
abbrev S8x4096x32 : Shape := ⟨3, ![8, 4096, 32]⟩
abbrev S8x128 : Shape := ⟨2, ![8, 128]⟩
abbrev S2x4096x128 : Shape := ⟨3, ![2, 4096, 128]⟩
abbrev S2x1024x128 : Shape := ⟨3, ![2, 1024, 128]⟩
abbrev S4096x128 : Shape := ⟨2, ![4096, 128]⟩
abbrev S1024x128 : Shape := ⟨2, ![1024, 128]⟩
abbrev S1x1024x128 : Shape := ⟨3, ![1, 1024, 128]⟩
abbrev S1024 : Shape := ⟨1, ![1024]⟩
abbrev S1024x1 : Shape := ⟨2, ![1024, 1]⟩
abbrev S512x128 : Shape := ⟨2, ![512, 128]⟩
abbrev S1x512x128 : Shape := ⟨3, ![1, 512, 128]⟩
abbrev S512x512 : Shape := ⟨2, ![512, 512]⟩
abbrev S128x512 : Shape := ⟨2, ![128, 512]⟩
abbrev S128x1024 : Shape := ⟨2, ![128, 1024]⟩
abbrev S1024x1024 : Shape := ⟨2, ![1024, 1024]⟩

abbrev nBuf : Space → Nat
  | .hbm => 135
  | .vmem => 21
  | .smem => 0
  | _ => 0

abbrev hbmTy0_0 (i : Nat) : BufTy := match i % 128 with
  | 0 => ⟨S1x8x4096x96, .f32⟩
  | 1 => ⟨S1x8x4096x96, .f32⟩
  | 2 => ⟨S1x8x4096x64, .f32⟩
  | 3 => ⟨S1x4096x512, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S_, .f32⟩
  | 24 => ⟨S_, .f32⟩
  | 25 => ⟨S_, .f32⟩
  | 26 => ⟨S_, .f32⟩
  | 27 => ⟨S1x8x4096x4096, .f32⟩
  | 28 => ⟨S1x8x4096x4096, .f32⟩
  | 29 => ⟨S1x8x4096x4096, .f32⟩
  | 30 => ⟨S1x4096, .i32⟩
  | 31 => ⟨S4096x1, .i32⟩
  | 32 => ⟨S4096x4096, .i32⟩
  | 33 => ⟨S4096x4096, .i32⟩
  | 34 => ⟨S4096x4096, .i1⟩
  | 35 => ⟨S_, .f32⟩
  | 36 => ⟨S_, .f32⟩
  | 37 => ⟨S1x8x4096x4096, .i1⟩
  | 38 => ⟨S1x8x4096x4096, .f32⟩
  | 39 => ⟨S1x8x4096x4096, .f32⟩
  | 40 => ⟨S_, .f32⟩
  | 41 => ⟨S1x8x4096, .f32⟩
  | 42 => ⟨S1x8x4096x1, .f32⟩
  | 43 => ⟨S1x8x4096x4096, .f32⟩
  | 44 => ⟨S1x8x4096x4096, .f32⟩
  | 45 => ⟨S1x8x4096x4096, .f32⟩
  | 46 => ⟨S_, .f32⟩
  | 47 => ⟨S1x8x4096, .f32⟩
  | 48 => ⟨S1x8x4096x1, .f32⟩
  | 49 => ⟨S1x8x4096x4096, .f32⟩
  | 50 => ⟨S1x8x4096x4096, .f32⟩
  | 51 => ⟨S1x8x4096x64, .f32⟩
  | 52 => ⟨S1x4096x8x64, .f32⟩
  | 53 => ⟨S4096x512, .f32⟩
  | 54 => ⟨S1x8x4096x1, .f32⟩
  | 55 => ⟨S1x8x4096x1, .f32⟩
  | 56 => ⟨S_, .f32⟩
  | 57 => ⟨S_, .f32⟩
  | 58 => ⟨S1x8x4096x1, .f32⟩
  | 59 => ⟨S1x8x4096x1, .f32⟩
  | 60 => ⟨S8x4096x1, .f32⟩
  | 61 => ⟨S8x4096x128, .f32⟩
  | 62 => ⟨S8, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S8, .i32⟩
  | 70 => ⟨S8, .i32⟩
  | 71 => ⟨S_, .i32⟩
  | 72 => ⟨S8, .i32⟩
  | 73 => ⟨S8, .i1⟩
  | 74 => ⟨S_, .i32⟩
  | 75 => ⟨S8, .i32⟩
  | 76 => ⟨S8, .i1⟩
  | 77 => ⟨S_, .i32⟩
  | 78 => ⟨S_, .i1⟩
  | 79 => ⟨S8, .i1⟩
  | 80 => ⟨S8, .i1⟩
  | 81 => ⟨S8, .i1⟩
  | 82 => ⟨S8, .i32⟩
  | 83 => ⟨S8, .i32⟩
  | 84 => ⟨S8, .i32⟩
  | 85 => ⟨S_, .i32⟩
  | 86 => ⟨S8, .i32⟩
  | 87 => ⟨S8, .i1⟩
  | 88 => ⟨S8x1x1, .i1⟩
  | 89 => ⟨S128, .i32⟩
  | 90 => ⟨S1x1x128, .i32⟩
  | 91 => ⟨S8x4096x64, .f32⟩
  | 92 => ⟨S_, .f32⟩
  | 93 => ⟨S_, .f32⟩
  | 94 => ⟨S8x4096x64, .i1⟩
  | 95 => ⟨S8x4096x64, .f32⟩
  | 96 => ⟨S8x4096x64, .f32⟩
  | 97 => ⟨S8x4096x64, .f32⟩
  | 98 => ⟨S_, .f32⟩
  | 99 => ⟨S_, .f32⟩
  | 100 => ⟨S8x4096x64, .i1⟩
  | 101 => ⟨S8x4096x64, .f32⟩
  | 102 => ⟨S8x4096x64, .f32⟩
  | 103 => ⟨S8x4096x128, .f32⟩
  | 104 => ⟨S_, .i32⟩
  | 105 => ⟨S_, .i32⟩
  | 106 => ⟨S8x1x1, .i32⟩
  | 107 => ⟨S8x1x1, .i32⟩
  | 108 => ⟨S8x1x1, .i32⟩
  | 109 => ⟨S8x1x1, .i32⟩
  | 110 => ⟨S8x1x128, .i32⟩
  | 111 => ⟨S8x1x128, .i32⟩
  | 112 => ⟨S8x1x128, .i1⟩
  | 113 => ⟨S_, .f32⟩
  | 114 => ⟨S_, .f32⟩
  | 115 => ⟨S8x4096x128, .i1⟩
  | 116 => ⟨S8x4096x128, .f32⟩
  | 117 => ⟨S8x4096x128, .f32⟩
  | 118 => ⟨S8x4096x128, .bf16⟩
  | 119 => ⟨S8x4096x96, .f32⟩
  | 120 => ⟨S_, .f32⟩
  | 121 => ⟨S8x4096x32, .f32⟩
  | 122 => ⟨S8x4096x128, .f32⟩
  | 123 => ⟨S8x4096x128, .bf16⟩
  | 124 => ⟨S8x4096x96, .f32⟩
  | 125 => ⟨S_, .f32⟩
  | 126 => ⟨S8x4096x32, .f32⟩
  | 127 => ⟨S8x4096x128, .f32⟩
  | _ => ⟨S1x8x4096x96, .f32⟩

abbrev hbmTy0_1 (i : Nat) : BufTy := match i % 128 with
  | 0 => ⟨S8x4096x128, .bf16⟩
  | 1 => ⟨S4096x512, .f32⟩
  | 2 => ⟨S_, .f32⟩
  | 3 => ⟨S8x128, .f32⟩
  | 4 => ⟨S8x4096x128, .f32⟩
  | 5 => ⟨S8x4096x128, .f32⟩
  | 6 => ⟨S8x4096x128, .f32⟩
  | _ => ⟨S1x8x4096x96, .f32⟩

abbrev hbmTy (i : Nat) : BufTy := match i / 128 with
  | 0 => hbmTy0_0 i
  | 1 => hbmTy0_1 i
  | _ => ⟨S1x8x4096x96, .f32⟩

abbrev bufTy : (tb : Table) → Fin (tcTables nBuf tb) → BufTy
  | .hbm, ⟨i, _⟩ => hbmTy i
  | .local _ .vmem, ⟨0, _⟩ => ⟨S2x4096x128, .bf16⟩
  | .local _ .vmem, ⟨1, _⟩ => ⟨S2x4096x128, .bf16⟩
  | .local _ .vmem, ⟨2, _⟩ => ⟨S2x1024x128, .bf16⟩
  | .local _ .vmem, ⟨3, _⟩ => ⟨S2x1024x128, .bf16⟩
  | .local _ .vmem, ⟨4, _⟩ => ⟨S2x1024x128, .bf16⟩
  | .local _ .vmem, ⟨5, _⟩ => ⟨S2x1024x128, .bf16⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S2x4096x128, .f32⟩
  | .local _ .vmem, ⟨11, _⟩ => ⟨S2x4096x128, .f32⟩
  | .local _ .vmem, ⟨12, _⟩ => ⟨S8x128, .f32⟩
  | .local _ .vmem, ⟨13, _⟩ => ⟨S2x4096x128, .f32⟩
  | .local _ .vmem, ⟨14, _⟩ => ⟨S2x4096x128, .f32⟩
  | .local _ .vmem, ⟨15, _⟩ => ⟨S2x1024x128, .f32⟩
  | .local _ .vmem, ⟨16, _⟩ => ⟨S2x1024x128, .f32⟩
  | .local _ .vmem, ⟨17, _⟩ => ⟨S2x1024x128, .f32⟩
  | .local _ .vmem, ⟨18, _⟩ => ⟨S2x1024x128, .f32⟩
  | .local _ .vmem, ⟨19, _⟩ => ⟨S2x4096x128, .bf16⟩
  | .local _ .vmem, ⟨20, _⟩ => ⟨S2x4096x128, .f32⟩
  | _, _ => ⟨S1x8x4096x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_4 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v33 : Ref sig .tc := ⟨.hbm, 84, rfl⟩
abbrev main_c_6 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_cst_7 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v40 : Ref sig .tc := ⟨.hbm, 96, rfl⟩
abbrev main_v41 : Ref sig .tc := ⟨.hbm, 97, rfl⟩
abbrev main_cst_8 : Ref sig .tc := ⟨.hbm, 98, rfl⟩
abbrev main_call4_v0 : Ref sig .tc := ⟨.hbm, 99, rfl⟩
abbrev main_call4_v1 : Ref sig .tc := ⟨.hbm, 100, rfl⟩
abbrev main_call4_v2 : Ref sig .tc := ⟨.hbm, 101, rfl⟩
abbrev main_v42 : Ref sig .tc := ⟨.hbm, 102, rfl⟩
abbrev main_v43 : Ref sig .tc := ⟨.hbm, 103, rfl⟩
abbrev main_c_9 : Ref sig .tc := ⟨.hbm, 104, rfl⟩
abbrev main_c_10 : Ref sig .tc := ⟨.hbm, 105, rfl⟩
abbrev main_call5_v0 : Ref sig .tc := ⟨.hbm, 106, rfl⟩
abbrev main_call5_v1 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_cst_11 : Ref sig .tc := ⟨.hbm, 113, rfl⟩
abbrev main_call6_v0 : Ref sig .tc := ⟨.hbm, 114, rfl⟩
abbrev main_call6_v1 : Ref sig .tc := ⟨.hbm, 115, rfl⟩
abbrev main_call6_v2 : Ref sig .tc := ⟨.hbm, 116, rfl⟩
abbrev main_v49 : Ref sig .tc := ⟨.hbm, 117, rfl⟩
abbrev main_v50 : Ref sig .tc := ⟨.hbm, 118, rfl⟩
abbrev main_v51 : Ref sig .tc := ⟨.hbm, 119, rfl⟩
abbrev main_cst_12 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_13 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_cst_14 : Ref sig .tc := ⟨.hbm, 130, rfl⟩
abbrev main_v60 : Ref sig .tc := ⟨.hbm, 131, rfl⟩
abbrev main_v61_0 : Ref sig .tc := ⟨.hbm, 132, rfl⟩
abbrev main_v61_1 : Ref sig .tc := ⟨.hbm, 133, rfl⟩
abbrev main_v61_2 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_207 : BitVec 32 := 0#32
  let c4_i32_208 : BitVec 32 := 4#32
  let v499 : BitVec 32 := Scalar.addi c0_i32_207 c4_i32_208
  let c1_i32_209 : BitVec 32 := 1#32
  ⟨c0_i32_207, v499, c1_i32_209⟩
def k0_mult1 (k0_t1 : Fin k0_t1_loop.trips) : BitVec 32 :=
  let c0_i32_212 : BitVec 32 := 0#32
  let c0_i32_207 : BitVec 32 := 0#32
  let c1_i32_209 : BitVec 32 := 1#32
  let arg14 : BitVec 32 := Scf.iv c0_i32_207 c1_i32_209 k0_t1
  let c1_i32_211 : BitVec 32 := 1#32
  let v500 : BitVec 32 := Scalar.muli arg14 c1_i32_211
  let v501 : BitVec 32 := Scalar.addi c0_i32_212 v500
  let c1024_i32_213 : BitVec 32 := 1024#32
  let v502 : BitVec 32 := Scalar.muli v501 c1024_i32_213
  v502
def k0_off1 (k0_t1 : Fin k0_t1_loop.trips) : Fin 2 → Nat :=
  let c0_i32_212 : BitVec 32 := 0#32
  let c0_i32_207 : BitVec 32 := 0#32
  let c1_i32_209 : BitVec 32 := 1#32
  let arg14 : BitVec 32 := Scf.iv c0_i32_207 c1_i32_209 k0_t1
  let c1_i32_211 : BitVec 32 := 1#32
  let v500 : BitVec 32 := Scalar.muli arg14 c1_i32_211
  let v501 : BitVec 32 := Scalar.addi c0_i32_212 v500
  let c1024_i32_213 : BitVec 32 := 1024#32
  let v502 : BitVec 32 := Scalar.muli v501 c1024_i32_213
  let v503 : BitVec 32 := v502
  let v504 : Index := Scalar.indexCast v503
  let c0_214 : Index := 0#32
  ![v504.toNat, 0]
def k0_off2 (k0_t1 : Fin k0_t1_loop.trips) : Fin 3 → Nat :=
  let c0_218 : Index := 0#32
  let c0_i32_212 : BitVec 32 := 0#32
  let c0_i32_207 : BitVec 32 := 0#32
  let c1_i32_209 : BitVec 32 := 1#32
  let arg14 : BitVec 32 := Scf.iv c0_i32_207 c1_i32_209 k0_t1
  let c1_i32_211 : BitVec 32 := 1#32
  let v500 : BitVec 32 := Scalar.muli arg14 c1_i32_211
  let v501 : BitVec 32 := Scalar.addi c0_i32_212 v500
  let c1024_i32_213 : BitVec 32 := 1024#32
  let v502 : BitVec 32 := Scalar.muli v501 c1024_i32_213
  let v503 : BitVec 32 := v502
  let v515 : Index := Scalar.indexCast v503
  let c0_219 : Index := 0#32
  ![0, v515.toNat, 0]
def k0_off3 (k0_t1 : Fin k0_t1_loop.trips) : Fin 3 → Nat :=
  let c1_225 : Index := 1#32
  let c0_i32_212 : BitVec 32 := 0#32
  let c0_i32_207 : BitVec 32 := 0#32
  let c1_i32_209 : BitVec 32 := 1#32
  let arg14 : BitVec 32 := Scf.iv c0_i32_207 c1_i32_209 k0_t1
  let c1_i32_211 : BitVec 32 := 1#32
  let v500 : BitVec 32 := Scalar.muli arg14 c1_i32_211
  let v501 : BitVec 32 := Scalar.addi c0_i32_212 v500
  let c1024_i32_213 : BitVec 32 := 1024#32
  let v502 : BitVec 32 := Scalar.muli v501 c1024_i32_213
  let v503 : BitVec 32 := v502
  let v533 : Index := Scalar.indexCast v503
  let c0_226 : Index := 0#32
  ![1, v533.toNat, 0]
def k0_mult2 (i : grid0.Coords) : BitVec 32 :=
  let arg1 : BitVec 32 := BitVec.ofNat 32 (i 1).val
  let c1024_i32 : BitVec 32 := 1024#32
  let v16 : BitVec 32 := Scalar.muli arg1 c1024_i32
  v16
def k0_off4 (i : grid0.Coords) : Fin 3 → Nat :=
  let c0_11 : Index := 0#32
  let arg1 : BitVec 32 := BitVec.ofNat 32 (i 1).val
  let c1024_i32 : BitVec 32 := 1024#32
  let v16 : BitVec 32 := Scalar.muli arg1 c1024_i32
  let v17 : BitVec 32 := v16
  let v18 : Index := Scalar.indexCast v17
  let c0_12 : Index := 0#32
  ![0, v18.toNat, 0]
def k0_mult3 (i : grid0.Coords) : BitVec 32 :=
  let arg1 : BitVec 32 := BitVec.ofNat 32 (i 1).val
  let c1024_i32_42 : BitVec 32 := 1024#32
  let v106 : BitVec 32 := Scalar.muli arg1 c1024_i32_42
  let c512_i32 : BitVec 32 := 512#32
  let v107 : BitVec 32 := Scalar.addi v106 c512_i32
  v107
def k0_off5 (i : grid0.Coords) : Fin 3 → Nat :=
  let c0_43 : Index := 0#32
  let arg1 : BitVec 32 := BitVec.ofNat 32 (i 1).val
  let c1024_i32_42 : BitVec 32 := 1024#32
  let v106 : BitVec 32 := Scalar.muli arg1 c1024_i32_42
  let c512_i32 : BitVec 32 := 512#32
  let v107 : BitVec 32 := Scalar.addi v106 c512_i32
  let v108 : BitVec 32 := v107
  let v109 : Index := Scalar.indexCast v108
  let c0_44 : Index := 0#32
  ![0, v109.toNat, 0]
def k0_mult4 (i : grid0.Coords) : BitVec 32 :=
  let arg1 : BitVec 32 := BitVec.ofNat 32 (i 1).val
  let c1024_i32_61 : BitVec 32 := 1024#32
  let v144 : BitVec 32 := Scalar.muli arg1 c1024_i32_61
  let c512_i32_62 : BitVec 32 := 512#32
  let v145 : BitVec 32 := Scalar.addi v144 c512_i32_62
  v145
def k0_mult5 (i : grid0.Coords) : BitVec 32 :=
  let arg1 : BitVec 32 := BitVec.ofNat 32 (i 1).val
  let c1024_i32_96 : BitVec 32 := 1024#32
  let v243 : BitVec 32 := Scalar.muli arg1 c1024_i32_96
  v243
def k0_off6 (i : grid0.Coords) : Fin 3 → Nat :=
  let c1_97 : Index := 1#32
  let arg1 : BitVec 32 := BitVec.ofNat 32 (i 1).val
  let c1024_i32_96 : BitVec 32 := 1024#32
  let v243 : BitVec 32 := Scalar.muli arg1 c1024_i32_96
  let v244 : BitVec 32 := v243
  let v245 : Index := Scalar.indexCast v244
  let c0_98 : Index := 0#32
  ![1, v245.toNat, 0]
def k0_mult6 (i : grid0.Coords) : BitVec 32 :=
  let arg1 : BitVec 32 := BitVec.ofNat 32 (i 1).val
  let c1024_i32_130 : BitVec 32 := 1024#32
  let v333 : BitVec 32 := Scalar.muli arg1 c1024_i32_130
  let c512_i32_131 : BitVec 32 := 512#32
  let v334 : BitVec 32 := Scalar.addi v333 c512_i32_131
  v334
def k0_off7 (i : grid0.Coords) : Fin 3 → Nat :=
  let c1_132 : Index := 1#32
  let arg1 : BitVec 32 := BitVec.ofNat 32 (i 1).val
  let c1024_i32_130 : BitVec 32 := 1024#32
  let v333 : BitVec 32 := Scalar.muli arg1 c1024_i32_130
  let c512_i32_131 : BitVec 32 := 512#32
  let v334 : BitVec 32 := Scalar.addi v333 c512_i32_131
  let v335 : BitVec 32 := v334
  let v336 : Index := Scalar.indexCast v335
  let c0_133 : Index := 0#32
  ![1, v336.toNat, 0]
def k0_mult7 (i : grid0.Coords) : BitVec 32 :=
  let arg1 : BitVec 32 := BitVec.ofNat 32 (i 1).val
  let c1024_i32_150 : BitVec 32 := 1024#32
  let v371 : BitVec 32 := Scalar.muli arg1 c1024_i32_150
  let c512_i32_151 : BitVec 32 := 512#32
  let v372 : BitVec 32 := Scalar.addi v371 c512_i32_151
  v372
@[reducible] def k0_t2_loop (i : grid0.Coords) : Scf.Loop 32 :=
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let c1_i32_186 : BitVec 32 := 1#32
  ⟨v11, v470, c1_i32_186⟩
def k0_mult8 (i : grid0.Coords) (k0_t2 : Fin (k0_t2_loop i).trips) : BitVec 32 :=
  let arg1 : BitVec 32 := BitVec.ofNat 32 (i 1).val
  let c1_i32 : BitVec 32 := 1#32
  let v11 : BitVec 32 := Scalar.addi arg1 c1_i32
  let c1_i32_186 : BitVec 32 := 1#32
  let arg14 : BitVec 32 := Scf.iv v11 c1_i32_186 k0_t2
  let c1024_i32_203 : BitVec 32 := 1024#32
  let v496 : BitVec 32 := Scalar.muli arg14 c1024_i32_203
  v496
def k0_off8 (i : grid0.Coords) (k0_t2 : Fin (k0_t2_loop i).trips) : Fin 3 → Nat :=
  let c0_204 : Index := 0#32
  let arg1 : BitVec 32 := BitVec.ofNat 32 (i 1).val
  let c1_i32 : BitVec 32 := 1#32
  let v11 : BitVec 32 := Scalar.addi arg1 c1_i32
  let c1_i32_186 : BitVec 32 := 1#32
  let arg14 : BitVec 32 := Scf.iv v11 c1_i32_186 k0_t2
  let c1024_i32_203 : BitVec 32 := 1024#32
  let v496 : BitVec 32 := Scalar.muli arg14 c1024_i32_203
  let v497 : BitVec 32 := v496
  let v498 : Index := Scalar.indexCast v497
  let c0_205 : Index := 0#32
  ![0, v498.toNat, 0]
def k0_mult9 (i : grid0.Coords) (k0_t2 : Fin (k0_t2_loop i).trips) : BitVec 32 :=
  let arg1 : BitVec 32 := BitVec.ofNat 32 (i 1).val
  let c1_i32 : BitVec 32 := 1#32
  let v11 : BitVec 32 := Scalar.addi arg1 c1_i32
  let c1_i32_186 : BitVec 32 := 1#32
  let arg14 : BitVec 32 := Scf.iv v11 c1_i32_186 k0_t2
  let c1024_i32_222 : BitVec 32 := 1024#32
  let v533 : BitVec 32 := Scalar.muli arg14 c1024_i32_222
  v533
def k0_off9 (i : grid0.Coords) (k0_t2 : Fin (k0_t2_loop i).trips) : Fin 3 → Nat :=
  let c1_223 : Index := 1#32
  let arg1 : BitVec 32 := BitVec.ofNat 32 (i 1).val
  let c1_i32 : BitVec 32 := 1#32
  let v11 : BitVec 32 := Scalar.addi arg1 c1_i32
  let c1_i32_186 : BitVec 32 := 1#32
  let arg14 : BitVec 32 := Scf.iv v11 c1_i32_186 k0_t2
  let c1024_i32_222 : BitVec 32 := 1024#32
  let v533 : BitVec 32 := Scalar.muli arg14 c1024_i32_222
  let v534 : BitVec 32 := v533
  let v535 : Index := Scalar.indexCast v534
  let c0_224 : Index := 0#32
  ![1, v535.toNat, 0]
@[reducible] def k0_t3_loop (i : grid0.Coords) : Scf.Loop 32 :=
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let v467 : BitVec 32 := Scalar.addi v11 v466
  let c1_i32_187 : BitVec 32 := 1#32
  ⟨v470, v467, c1_i32_187⟩
def k0_mult10 (i : grid0.Coords) (k0_t3 : Fin (k0_t3_loop i).trips) : BitVec 32 :=
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let c1_i32_187 : BitVec 32 := 1#32
  let arg14 : BitVec 32 := Scf.iv v470 c1_i32_187 k0_t3
  let c1024_i32_203 : BitVec 32 := 1024#32
  let v496 : BitVec 32 := Scalar.muli arg14 c1024_i32_203
  v496
def k0_off10 (i : grid0.Coords) (k0_t3 : Fin (k0_t3_loop i).trips) : Fin 3 → Nat :=
  let c0_204 : Index := 0#32
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let c1_i32_187 : BitVec 32 := 1#32
  let arg14 : BitVec 32 := Scf.iv v470 c1_i32_187 k0_t3
  let c1024_i32_203 : BitVec 32 := 1024#32
  let v496 : BitVec 32 := Scalar.muli arg14 c1024_i32_203
  let v497 : BitVec 32 := v496
  let v498 : Index := Scalar.indexCast v497
  let c0_205 : Index := 0#32
  ![0, v498.toNat, 0]
def k0_mult11 (i : grid0.Coords) (k0_t3 : Fin (k0_t3_loop i).trips) : BitVec 32 :=
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let c1_i32_187 : BitVec 32 := 1#32
  let arg14 : BitVec 32 := Scf.iv v470 c1_i32_187 k0_t3
  let c1024_i32_222 : BitVec 32 := 1024#32
  let v533 : BitVec 32 := Scalar.muli arg14 c1024_i32_222
  v533
def k0_off11 (i : grid0.Coords) (k0_t3 : Fin (k0_t3_loop i).trips) : Fin 3 → Nat :=
  let c1_223 : Index := 1#32
  let arg1 : BitVec 32 := BitVec.ofNat 32 (i 1).val
  let c1_i32 : BitVec 32 := 1#32
  let v11 : BitVec 32 := Scalar.addi arg1 c1_i32
  let c4_i32 : BitVec 32 := 4#32
  let v466 : BitVec 32 := Scalar.subi c4_i32 v11
  let c1_i32_185 : BitVec 32 := 1#32
  let v468 : BitVec 32 := Scalar.divsi v466 c1_i32_185
  let v469 : BitVec 32 := Scalar.muli v468 c1_i32_185
  let v470 : BitVec 32 := Scalar.addi v11 v469
  let c1_i32_187 : BitVec 32 := 1#32
  let arg14 : BitVec 32 := Scf.iv v470 c1_i32_187 k0_t3
  let c1024_i32_222 : BitVec 32 := 1024#32
  let v533 : BitVec 32 := Scalar.muli arg14 c1024_i32_222
  let v534 : BitVec 32 := v533
  let v535 : Index := Scalar.indexCast v534
  let c0_224 : Index := 0#32
  ![1, v535.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== AttnIdeal.lean ====
variable {F : FTy → Type} [FloatOps F] [Named F]
def κ : String → Option EReal := fun
  | "scale" => some (((Real.sqrt 96)⁻¹ : ℝ) : EReal)
  | "scale2" => some (((Real.log 2)⁻¹ * (Real.sqrt 96)⁻¹ : ℝ) : EReal)
  | _ => none
-- ==== AttnRefIdeal.lean ====
abbrev S1x8x4096x96 : Shape := ⟨4, ![1, 8, 4096, 96]⟩
abbrev S1x8x4096x64 : Shape := ⟨4, ![1, 8, 4096, 64]⟩
abbrev S1x4096x512 : Shape := ⟨3, ![1, 4096, 512]⟩
abbrev S4096 : Shape := ⟨1, ![4096]⟩
abbrev S_ : Shape := ⟨0, ![]⟩
abbrev S1x8x4096x4096 : Shape := ⟨4, ![1, 8, 4096, 4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x4096x8x64 : Shape := ⟨4, ![1, 4096, 8, 64]⟩
abbrev S1x8x64x4096 : Shape := ⟨4, ![1, 8, 64, 4096]⟩
abbrev S8x4096 : Shape := ⟨2, ![8, 4096]⟩
abbrev S8 : Shape := ⟨1, ![8]⟩
abbrev S8x1x1 : Shape := ⟨3, ![8, 1, 1]⟩
abbrev S8x4096x64 : Shape := ⟨3, ![8, 4096, 64]⟩
abbrev S8x4096x96 : Shape := ⟨3, ![8, 4096, 96]⟩
abbrev S8x4096x32 : Shape := ⟨3, ![8, 4096, 32]⟩
abbrev S8x4096x128 : Shape := ⟨3, ![8, 4096, 128]⟩

abbrev nBuf : Space → Nat
  | .hbm => 158
  | .vmem => 0
  | .smem => 0
  | _ => 0

abbrev hbmTy0_0 (i : Nat) : BufTy := match i % 128 with
  | 0 => ⟨S1x8x4096x96, .f32⟩
  | 1 => ⟨S1x8x4096x96, .f32⟩
  | 2 => ⟨S1x8x4096x64, .f32⟩
  | 3 => ⟨S1x4096x512, .f32⟩
  | 4 => ⟨S4096, .i32⟩
  | 5 => ⟨S_, .i32⟩
  | 6 => ⟨S_, .i32⟩
  | 7 => ⟨S4096, .i32⟩
  | 8 => ⟨S4096, .i32⟩
  | 9 => ⟨S4096, .i32⟩
  | 10 => ⟨S_, .i32⟩
  | 11 => ⟨S4096, .i32⟩
  | 12 => ⟨S4096, .i1⟩
  | 13 => ⟨S4096, .i32⟩
  | 14 => ⟨S4096, .i32⟩
  | 15 => ⟨S_, .i32⟩
  | 16 => ⟨S4096, .i32⟩
  | 17 => ⟨S4096, .i1⟩
  | 18 => ⟨S4096, .i1⟩
  | 19 => ⟨S_, .i32⟩
  | 20 => ⟨S4096, .i32⟩
  | 21 => ⟨S4096, .i32⟩
  | 22 => ⟨S4096, .i32⟩
  | 23 => ⟨S_, .f32⟩
  | 24 => ⟨S_, .f32⟩
  | 25 => ⟨S_, .f32⟩
  | 26 => ⟨S_, .f32⟩
  | 27 => ⟨S1x8x4096x4096, .f32⟩
  | 28 => ⟨S1x8x4096x4096, .f32⟩
  | 29 => ⟨S1x8x4096x4096, .f32⟩
  | 30 => ⟨S1x4096, .i32⟩
  | 31 => ⟨S4096x1, .i32⟩
  | 32 => ⟨S4096x4096, .i32⟩
  | 33 => ⟨S4096x4096, .i32⟩
  | 34 => ⟨S4096x4096, .i1⟩
  | 35 => ⟨S_, .f32⟩
  | 36 => ⟨S_, .f32⟩
  | 37 => ⟨S1x8x4096x4096, .i1⟩
  | 38 => ⟨S1x8x4096x4096, .f32⟩
  | 39 => ⟨S1x8x4096x4096, .f32⟩
  | 40 => ⟨S_, .f32⟩
  | 41 => ⟨S1x8x4096x4096, .f32⟩
  | 42 => ⟨S_, .f32⟩
  | 43 => ⟨S1x8x4096, .f32⟩
  | 44 => ⟨S1x8x4096x1, .f32⟩
  | 45 => ⟨S1x8x4096x4096, .f32⟩
  | 46 => ⟨S1x8x4096x4096, .i1⟩
  | 47 => ⟨S1x8x4096x4096, .f32⟩
  | 48 => ⟨S_, .f32⟩
  | 49 => ⟨S1x8x4096, .f32⟩
  | 50 => ⟨S_, .f32⟩
  | 51 => ⟨S1x8x4096, .f32⟩
  | 52 => ⟨S1x8x4096, .f32⟩
  | 53 => ⟨S_, .f32⟩
  | 54 => ⟨S1x8x4096, .f32⟩
  | 55 => ⟨S1x8x4096, .i1⟩
  | 56 => ⟨S_, .f32⟩
  | 57 => ⟨S1x8x4096, .f32⟩
  | 58 => ⟨S1x8x4096, .i1⟩
  | 59 => ⟨S_, .f32⟩
  | 60 => ⟨S1x8x4096, .f32⟩
  | 61 => ⟨S_, .f32⟩
  | 62 => ⟨S1x8x4096, .f32⟩
  | 63 => ⟨S_, .f32⟩
  | 64 => ⟨S1x8x4096, .f32⟩
  | 65 => ⟨S1x8x4096, .f32⟩
  | 66 => ⟨S1x8x4096, .f32⟩
  | 67 => ⟨S1x8x4096x1, .f32⟩
  | 68 => ⟨S1x8x4096x4096, .f32⟩
  | 69 => ⟨S1x8x4096x4096, .f32⟩
  | 70 => ⟨S1x8x4096x4096, .f32⟩
  | 71 => ⟨S_, .f32⟩
  | 72 => ⟨S1x8x4096, .f32⟩
  | 73 => ⟨S1x8x4096x1, .f32⟩
  | 74 => ⟨S1x8x4096x4096, .f32⟩
  | 75 => ⟨S1x8x4096x4096, .f32⟩
  | 76 => ⟨S1x8x4096x1, .f32⟩
  | 77 => ⟨S_, .f32⟩
  | 78 => ⟨S1x8x4096x1, .f32⟩
  | 79 => ⟨S1x8x4096x1, .f32⟩
  | 80 => ⟨S1x8x4096x64, .f32⟩
  | 81 => ⟨S1x4096x8x64, .f32⟩
  | 82 => ⟨S1x4096x512, .f32⟩
  | 83 => ⟨S1x4096x8x64, .f32⟩
  | 84 => ⟨S1x8x4096x64, .f32⟩
  | 85 => ⟨S1x8x64x4096, .f32⟩
  | 86 => ⟨S1x8x4096x64, .f32⟩
  | 87 => ⟨S1x8x4096x4096, .f32⟩
  | 88 => ⟨S1x8x4096x4096, .f32⟩
  | 89 => ⟨S1x8x4096x4096, .f32⟩
  | 90 => ⟨S1x8x4096x4096, .f32⟩
  | 91 => ⟨S_, .f32⟩
  | 92 => ⟨S1x8x4096, .f32⟩
  | 93 => ⟨S1x8x4096x1, .f32⟩
  | 94 => ⟨S1x8x4096x1, .f32⟩
  | 95 => ⟨S1x8x4096x4096, .f32⟩
  | 96 => ⟨S1x8x4096x4096, .f32⟩
  | 97 => ⟨S_, .f32⟩
  | 98 => ⟨S8x4096, .f32⟩
  | 99 => ⟨S1x8x4096, .f32⟩
  | 100 => ⟨S1x8x4096x4096, .f32⟩
  | 101 => ⟨S1x8x4096x4096, .f32⟩
  | 102 => ⟨S1x8x4096x4096, .f32⟩
  | 103 => ⟨S_, .f32⟩
  | 104 => ⟨S1x8x4096x4096, .f32⟩
  | 105 => ⟨S1x8x4096x4096, .f32⟩
  | 106 => ⟨S1x8x4096x4096, .f32⟩
  | 107 => ⟨S1x8x4096x4096, .f32⟩
  | 108 => ⟨S1x8x4096x96, .f32⟩
  | 109 => ⟨S1x8x4096x96, .f32⟩
  | 110 => ⟨S8, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S8, .i32⟩
  | 118 => ⟨S8, .i32⟩
  | 119 => ⟨S_, .i32⟩
  | 120 => ⟨S8, .i32⟩
  | 121 => ⟨S8, .i1⟩
  | 122 => ⟨S_, .i32⟩
  | 123 => ⟨S8, .i32⟩
  | 124 => ⟨S8, .i1⟩
  | 125 => ⟨S_, .i32⟩
  | 126 => ⟨S_, .i1⟩
  | 127 => ⟨S8, .i1⟩
  | _ => ⟨S1x8x4096x96, .f32⟩

abbrev hbmTy0_1 (i : Nat) : BufTy := match i % 128 with
  | 0 => ⟨S8, .i1⟩
  | 1 => ⟨S8, .i1⟩
  | 2 => ⟨S8, .i32⟩
  | 3 => ⟨S8, .i32⟩
  | 4 => ⟨S8, .i32⟩
  | 5 => ⟨S_, .i32⟩
  | 6 => ⟨S8, .i32⟩
  | 7 => ⟨S8, .i1⟩
  | 8 => ⟨S8x1x1, .i1⟩
  | 9 => ⟨S8x4096x64, .f32⟩
  | 10 => ⟨S_, .f32⟩
  | 11 => ⟨S_, .f32⟩
  | 12 => ⟨S8x4096x64, .i1⟩
  | 13 => ⟨S8x4096x64, .f32⟩
  | 14 => ⟨S8x4096x64, .f32⟩
  | 15 => ⟨S8x4096x64, .f32⟩
  | 16 => ⟨S_, .f32⟩
  | 17 => ⟨S_, .f32⟩
  | 18 => ⟨S8x4096x64, .i1⟩
  | 19 => ⟨S8x4096x64, .f32⟩
  | 20 => ⟨S8x4096x64, .f32⟩
  | 21 => ⟨S8x4096x96, .f32⟩
  | 22 => ⟨S_, .f32⟩
  | 23 => ⟨S8x4096x32, .f32⟩
  | 24 => ⟨S8x4096x128, .f32⟩
  | 25 => ⟨S8x4096x96, .f32⟩
  | 26 => ⟨S_, .f32⟩
  | 27 => ⟨S8x4096x32, .f32⟩
  | 28 => ⟨S8x4096x128, .f32⟩
  | 29 => ⟨S8x4096x128, .f32⟩
  | _ => ⟨S1x8x4096x96, .f32⟩

abbrev hbmTy (i : Nat) : BufTy := match i / 128 with
  | 0 => hbmTy0_0 i
  | 1 => hbmTy0_1 i
  | _ => ⟨S1x8x4096x96, .f32⟩

abbrev bufTy : (tb : Table) → Fin (tcTables nBuf tb) → BufTy
  | .hbm, ⟨i, _⟩ => hbmTy i
  | _, _ => ⟨S1x8x4096x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst_1 : Ref sig .tc := ⟨.hbm, 35, rfl⟩
abbrev main_call1_v0 : Ref sig .tc := ⟨.hbm, 36, rfl⟩
abbrev main_v12_1 : Ref sig .tc := ⟨.hbm, 37, rfl⟩
abbrev main_call1_v2 : Ref sig .tc := ⟨.hbm, 38, rfl⟩
abbrev main_v12_0 : Ref sig .tc := ⟨.hbm, 39, rfl⟩
abbrev main_call1_cst : Ref sig .tc := ⟨.hbm, 40, rfl⟩
abbrev main_v12_2 : Ref sig .tc := ⟨.hbm, 41, rfl⟩
abbrev main_cst_2 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_cst_4 : Ref sig .tc := ⟨.hbm, 50, rfl⟩
abbrev main_v19 : Ref sig .tc := ⟨.hbm, 51, rfl⟩
abbrev main_v20 : Ref sig .tc := ⟨.hbm, 52, rfl⟩
abbrev main_cst_5 : Ref sig .tc := ⟨.hbm, 53, rfl⟩
abbrev main_v21 : Ref sig .tc := ⟨.hbm, 54, rfl⟩
abbrev main_v22 : Ref sig .tc := ⟨.hbm, 55, rfl⟩
abbrev main_cst_6 : Ref sig .tc := ⟨.hbm, 56, rfl⟩
abbrev main_v23 : Ref sig .tc := ⟨.hbm, 57, rfl⟩
abbrev main_v24 : Ref sig .tc := ⟨.hbm, 58, rfl⟩
abbrev main_cst_7 : Ref sig .tc := ⟨.hbm, 59, rfl⟩
abbrev main_v25 : Ref sig .tc := ⟨.hbm, 60, rfl⟩
abbrev main_cst_8 : Ref sig .tc := ⟨.hbm, 61, rfl⟩
abbrev main_v26 : Ref sig .tc := ⟨.hbm, 62, rfl⟩
abbrev main_cst_9 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_10 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_11 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_cst_12 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_cst_13 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_call2_cst : Ref sig .tc := ⟨.hbm, 103, rfl⟩
abbrev main_call2_v0 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_c_14 : Ref sig .tc := ⟨.hbm, 111, rfl⟩
abbrev main_call3_v0 : Ref sig .tc := ⟨.hbm, 112, rfl⟩
abbrev main_call3_c : Ref sig .tc := ⟨.hbm, 113, rfl⟩
abbrev main_call3_v1 : Ref sig .tc := ⟨.hbm, 114, rfl⟩
abbrev main_call3_c_0 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_c_1 : Ref sig .tc := ⟨.hbm, 119, rfl⟩
abbrev main_call3_v5 : Ref sig .tc := ⟨.hbm, 120, rfl⟩
abbrev main_call3_v6 : Ref sig .tc := ⟨.hbm, 121, rfl⟩
abbrev main_call3_c_2 : Ref sig .tc := ⟨.hbm, 122, rfl⟩
abbrev main_call3_v7 : Ref sig .tc := ⟨.hbm, 123, rfl⟩
abbrev main_call3_v8 : Ref sig .tc := ⟨.hbm, 124, rfl⟩
abbrev main_call3_c_3 : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_v12 : Ref sig .tc := ⟨.hbm, 129, rfl⟩
abbrev main_call3_v13 : Ref sig .tc := ⟨.hbm, 130, rfl⟩
abbrev main_call3_v14 : Ref sig .tc := ⟨.hbm, 131, rfl⟩
abbrev main_v68 : Ref sig .tc := ⟨.hbm, 132, rfl⟩
abbrev main_c_15 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩
abbrev main_v72 : Ref sig .tc := ⟨.hbm, 137, rfl⟩
abbrev main_cst_16 : Ref sig .tc := ⟨.hbm, 138, rfl⟩
abbrev main_call4_v0 : Ref sig .tc := ⟨.hbm, 139, rfl⟩
abbrev main_call4_v1 : Ref sig .tc := ⟨.hbm, 140, rfl⟩
abbrev main_call4_v2 : Ref sig .tc := ⟨.hbm, 141, rfl⟩
abbrev main_v73 : Ref sig .tc := ⟨.hbm, 142, rfl⟩
abbrev main_v74 : Ref sig .tc := ⟨.hbm, 143, rfl⟩
abbrev main_cst_17 : Ref sig .tc := ⟨.hbm, 144, rfl⟩
abbrev main_call5_v0 : Ref sig .tc := ⟨.hbm, 145, rfl⟩
abbrev main_call5_v1 : Ref sig .tc := ⟨.hbm, 146, rfl⟩
abbrev main_call5_v2 : Ref sig .tc := ⟨.hbm, 147, rfl⟩
abbrev main_v75 : Ref sig .tc := ⟨.hbm, 148, rfl⟩
abbrev main_v76 : Ref sig .tc := ⟨.hbm, 149, rfl⟩
abbrev main_cst_18 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_cst_19 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩

abbrev nD : Nat := 1
abbrev τ : Topo := Topo.v7x

variable {F : FTy → Type} [FloatOps F]
-- ==== Qkv.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S1x8x4096x96 : Shape := ⟨4, ![1, 8, 4096, 96]⟩
abbrev S1x8x4096x64 : Shape := ⟨4, ![1, 8, 4096, 64]⟩
abbrev S_ : Shape := ⟨0, ![]⟩
abbrev S4096x4608 : Shape := ⟨2, ![4096, 4608]⟩
abbrev S4096x768 : Shape := ⟨2, ![4096, 768]⟩
abbrev S4096x256 : Shape := ⟨2, ![4096, 256]⟩
abbrev S4096x64 : Shape := ⟨2, ![4096, 64]⟩
abbrev S4096x32 : Shape := ⟨2, ![4096, 32]⟩
abbrev S4096x5760 : Shape := ⟨2, ![4096, 5760]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x128 : Shape := ⟨2, ![4096, 128]⟩
abbrev S768x768 : Shape := ⟨2, ![768, 768]⟩
abbrev S768x8x96 : Shape := ⟨3, ![768, 8, 96]⟩
abbrev S768x8x128 : Shape := ⟨3, ![768, 8, 128]⟩
abbrev S768x1024 : Shape := ⟨2, ![768, 1024]⟩
abbrev S256x1024 : Shape := ⟨2, ![256, 1024]⟩
abbrev S256x8x128 : Shape := ⟨3, ![256, 8, 128]⟩
abbrev S256x8x64 : Shape := ⟨3, ![256, 8, 64]⟩
abbrev S256x4x2x1x64 : Shape := ⟨5, ![256, 4, 2, 1, 64]⟩
abbrev S2x2 : Shape := ⟨2, ![2, 2]⟩
abbrev S1x1x2x2x1 : Shape := ⟨5, ![1, 1, 2, 2, 1]⟩
abbrev S256x4x2x2x64 : Shape := ⟨5, ![256, 4, 2, 2, 64]⟩
abbrev S256x4x256 : Shape := ⟨3, ![256, 4, 256]⟩
abbrev S4x256x256 : Shape := ⟨3, ![4, 256, 256]⟩
abbrev S8 : Shape := ⟨1, ![8]⟩
abbrev S8x1x1 : Shape := ⟨3, ![8, 1, 1]⟩
abbrev S8x4096x64 : Shape := ⟨3, ![8, 4096, 64]⟩
abbrev S8x4096x128 : Shape := ⟨3, ![8, 4096, 128]⟩
abbrev S8x4096x96 : Shape := ⟨3, ![8, 4096, 96]⟩
abbrev S8x4096x32 : Shape := ⟨3, ![8, 4096, 32]⟩
abbrev S512x768 : Shape := ⟨2, ![512, 768]⟩
abbrev S512x256 : Shape := ⟨2, ![512, 256]⟩
abbrev S8x512x128 : Shape := ⟨3, ![8, 512, 128]⟩
abbrev S512x128 : Shape := ⟨2, ![512, 128]⟩
abbrev S512 : Shape := ⟨1, ![512]⟩
abbrev S512x1 : Shape := ⟨2, ![512, 1]⟩
abbrev S1x512x128 : Shape := ⟨3, ![1, 512, 128]⟩
abbrev S512x1024 : Shape := ⟨2, ![512, 1024]⟩
abbrev S1x256x256 : Shape := ⟨3, ![1, 256, 256]⟩
abbrev S256x256 : Shape := ⟨2, ![256, 256]⟩
abbrev S768 : Shape := ⟨1, ![768]⟩
abbrev S256 : Shape := ⟨1, ![256]⟩
abbrev S768x128 : Shape := ⟨2, ![768, 128]⟩
abbrev S256x128 : Shape := ⟨2, ![256, 128]⟩
abbrev S1x256x128 : Shape := ⟨3, ![1, 256, 128]⟩

abbrev nBuf : Space → Nat
  | .hbm => 131
  | .vmem => 34
  | .smem => 0
  | _ => 0

abbrev hbmTy0_0 (i : Nat) : BufTy := match i % 128 with
  | 0 => ⟨S1x4096x768, .f32⟩
  | 1 => ⟨S1x4096x256, .f32⟩
  | 2 => ⟨S1x4096x32, .f32⟩
  | 3 => ⟨S1x768, .f32⟩
  | 4 => ⟨S1x256, .f32⟩
  | 5 => ⟨S1x768x768, .f32⟩
  | 6 => ⟨S1x256x1024, .f32⟩
  | 7 => ⟨S1x8x4096x96, .f32⟩
  | 8 => ⟨S1x8x4096x96, .f32⟩
  | 9 => ⟨S1x8x4096x64, .f32⟩
  | 10 => ⟨S_, .f32⟩
  | 11 => ⟨S4096x4608, .f32⟩
  | 12 => ⟨S4096x768, .f32⟩
  | 13 => ⟨S4096x256, .f32⟩
  | 14 => ⟨S_, .f32⟩
  | 15 => ⟨S4096x64, .f32⟩
  | 16 => ⟨S4096x32, .f32⟩
  | 17 => ⟨S_, .f32⟩
  | 18 => ⟨S4096x32, .f32⟩
  | 19 => ⟨S4096x5760, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S4096, .f32⟩
  | 35 => ⟨S4096x1, .f32⟩
  | 36 => ⟨S1x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S_, .f32⟩
  | 43 => ⟨S4096x64, .f32⟩
  | 44 => ⟨S_, .f32⟩
  | 45 => ⟨S4096x32, .f32⟩
  | 46 => ⟨S4096x128, .f32⟩
  | 47 => ⟨S_, .f32⟩
  | 48 => ⟨S4096x64, .f32⟩
  | 49 => ⟨S4096x16, .f32⟩
  | 50 => ⟨S_, .f32⟩
  | 51 => ⟨S4096x16, .f32⟩
  | 52 => ⟨S_, .f32⟩
  | 53 => ⟨S4096x32, .f32⟩
  | 54 => ⟨S4096x128, .f32⟩
  | 55 => ⟨S_, .f32⟩
  | 56 => ⟨S4096x64, .f32⟩
  | 57 => ⟨S_, .f32⟩
  | 58 => ⟨S4096x16, .f32⟩
  | 59 => ⟨S_, .f32⟩
  | 60 => ⟨S4096x32, .f32⟩
  | 61 => ⟨S4096x128, .f32⟩
  | 62 => ⟨S768x768, .f32⟩
  | 63 => ⟨S768x768, .bf16⟩
  | 64 => ⟨S768x8x96, .bf16⟩
  | 65 => ⟨S_, .i32⟩
  | 66 => ⟨S_, .bf16⟩
  | 67 => ⟨S768x8x128, .bf16⟩
  | 68 => ⟨S768x1024, .bf16⟩
  | 69 => ⟨S256x1024, .f32⟩
  | 70 => ⟨S256x1024, .bf16⟩
  | 71 => ⟨S256x8x128, .bf16⟩
  | 72 => ⟨S256x8x64, .bf16⟩
  | 73 => ⟨S_, .i32⟩
  | 74 => ⟨S_, .bf16⟩
  | 75 => ⟨S256x8x128, .bf16⟩
  | 76 => ⟨S256x1024, .bf16⟩
  | 77 => ⟨S256x8x64, .bf16⟩
  | 78 => ⟨S256x4x2x1x64, .bf16⟩
  | 79 => ⟨S2x2, .i32⟩
  | 80 => ⟨S2x2, .i32⟩
  | 81 => ⟨S_, .i32⟩
  | 82 => ⟨S2x2, .i32⟩
  | 83 => ⟨S2x2, .i32⟩
  | 84 => ⟨S2x2, .i1⟩
  | 85 => ⟨S2x2, .bf16⟩
  | 86 => ⟨S1x1x2x2x1, .bf16⟩
  | 87 => ⟨S256x4x2x2x64, .bf16⟩
  | 88 => ⟨S256x4x2x2x64, .bf16⟩
  | 89 => ⟨S256x4x2x2x64, .bf16⟩
  | 90 => ⟨S256x1024, .bf16⟩
  | 91 => ⟨S256x4x256, .bf16⟩
  | 92 => ⟨S4x256x256, .bf16⟩
  | 93 => ⟨S256x4x256, .bf16⟩
  | 94 => ⟨S4x256x256, .bf16⟩
  | 95 => ⟨S8, .i32⟩
  | 96 => ⟨S_, .i32⟩
  | 97 => ⟨S8, .i32⟩
  | 98 => ⟨S8, .i32⟩
  | 99 => ⟨S_, .i32⟩
  | 100 => ⟨S8, .i32⟩
  | 101 => ⟨S8, .i1⟩
  | 102 => ⟨S8x1x1, .i1⟩
  | 103 => ⟨S8x4096x64, .f32⟩
  | 104 => ⟨S_, .f32⟩
  | 105 => ⟨S_, .f32⟩
  | 106 => ⟨S8x4096x64, .i1⟩
  | 107 => ⟨S8x4096x64, .f32⟩
  | 108 => ⟨S8x4096x64, .f32⟩
  | 109 => ⟨S8x4096x64, .f32⟩
  | 110 => ⟨S_, .f32⟩
  | 111 => ⟨S_, .f32⟩
  | 112 => ⟨S8x4096x64, .i1⟩
  | 113 => ⟨S8x4096x64, .f32⟩
  | 114 => ⟨S8x4096x64, .f32⟩
  | 115 => ⟨S8x4096x128, .f32⟩
  | 116 => ⟨S8x4096x96, .f32⟩
  | 117 => ⟨S_, .f32⟩
  | 118 => ⟨S8x4096x32, .f32⟩
  | 119 => ⟨S8x4096x128, .f32⟩
  | 120 => ⟨S8x4096x96, .f32⟩
  | 121 => ⟨S_, .f32⟩
  | 122 => ⟨S8x4096x32, .f32⟩
  | 123 => ⟨S8x4096x128, .f32⟩
  | 124 => ⟨S4096x768, .bf16⟩
  | 125 => ⟨S4096x256, .bf16⟩
  | 126 => ⟨S4096x128, .bf16⟩
  | 127 => ⟨S768x768, .bf16⟩
  | _ => ⟨S1x4096x768, .f32⟩

abbrev hbmTy0_1 (i : Nat) : BufTy := match i % 128 with
  | 0 => ⟨S4x256x256, .bf16⟩
  | 1 => ⟨S1x768, .f32⟩
  | 2 => ⟨S1x256, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S8x512x128, .f32⟩
  | .local _ .vmem, ⟨5, _⟩ => ⟨S8x512x128, .f32⟩
  | .local _ .vmem, ⟨6, _⟩ => ⟨S8x512x128, .f32⟩
  | .local _ .vmem, ⟨7, _⟩ => ⟨S8x512x128, .f32⟩
  | .local _ .vmem, ⟨8, _⟩ => ⟨S8x512x128, .f32⟩
  | .local _ .vmem, ⟨9, _⟩ => ⟨S8x512x128, .f32⟩
  | .local _ .vmem, ⟨10, _⟩ => ⟨S1x768, .f32⟩
  | .local _ .vmem, ⟨11, _⟩ => ⟨S1x256, .f32⟩
  | .local _ .vmem, ⟨12, _⟩ => ⟨S768x1024, .bf16⟩
  | .local _ .vmem, ⟨13, _⟩ => ⟨S4x256x256, .bf16⟩
  | .local _ .vmem, ⟨14, _⟩ => ⟨S4x256x256, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x768, .bf16⟩
  | .local _ .vmem, ⟨22, _⟩ => ⟨S512x768, .bf16⟩
  | .local _ .vmem, ⟨23, _⟩ => ⟨S512x256, .bf16⟩
  | .local _ .vmem, ⟨24, _⟩ => ⟨S512x256, .bf16⟩
  | .local _ .vmem, ⟨25, _⟩ => ⟨S512x128, .bf16⟩
  | .local _ .vmem, ⟨26, _⟩ => ⟨S512x128, .bf16⟩
  | .local _ .vmem, ⟨27, _⟩ => ⟨S768x768, .bf16⟩
  | .local _ .vmem, ⟨28, _⟩ => ⟨S4x256x256, .bf16⟩
  | .local _ .vmem, ⟨29, _⟩ => ⟨S1x768, .f32⟩
  | .local _ .vmem, ⟨30, _⟩ => ⟨S1x256, .f32⟩
  | .local _ .vmem, ⟨31, _⟩ => ⟨S768x1024, .f32⟩
  | .local _ .vmem, ⟨32, _⟩ => ⟨S256x1024, .f32⟩
  | .local _ .vmem, ⟨33, _⟩ => ⟨S256x1024, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_cst_5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_cst_9 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_cst_11 : Ref sig .tc := ⟨.hbm, 55, rfl⟩
abbrev main_v33 : Ref sig .tc := ⟨.hbm, 56, rfl⟩
abbrev main_cst_12 : Ref sig .tc := ⟨.hbm, 57, rfl⟩
abbrev main_v34 : Ref sig .tc := ⟨.hbm, 58, rfl⟩
abbrev main_cst_13 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c : Ref sig .tc := ⟨.hbm, 65, rfl⟩
abbrev main_call0_v0 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_call1_v0 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_15 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_18 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_v72 : Ref sig .tc := ⟨.hbm, 108, rfl⟩
abbrev main_v73 : Ref sig .tc := ⟨.hbm, 109, rfl⟩
abbrev main_cst_19 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_20 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_21 : Ref sig .tc := ⟨.hbm, 121, rfl⟩
abbrev main_v80 : Ref sig .tc := ⟨.hbm, 122, rfl⟩
abbrev main_v81 : Ref sig .tc := ⟨.hbm, 123, rfl⟩
abbrev main_v82_0 : Ref sig .tc := ⟨.hbm, 124, rfl⟩
abbrev main_v82_1 : Ref sig .tc := ⟨.hbm, 125, rfl⟩
abbrev main_v82_2 : Ref sig .tc := ⟨.hbm, 126, rfl⟩
abbrev main_v82_3 : Ref sig .tc := ⟨.hbm, 127, rfl⟩
abbrev main_v82_4 : Ref sig .tc := ⟨.hbm, 128, rfl⟩
abbrev main_v82_5 : Ref sig .tc := ⟨.hbm, 129, rfl⟩
abbrev main_v82_6 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v307 : BitVec 1 := Scalar.cmpi .eq arg0 c7_i32
  let v308 : BitVec 32 := Scalar.extui v307
  let c0_i32_196 : BitVec 32 := 0#32
  let v309 : BitVec 1 := Scalar.cmpi .ne v308 c0_i32_196
  v309

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S768x768 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== QkvRefIdeal.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S1x8x4096x96 : Shape := ⟨4, ![1, 8, 4096, 96]⟩
abbrev S1x8x4096x64 : Shape := ⟨4, ![1, 8, 4096, 64]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S768 : Shape := ⟨1, ![768]⟩
abbrev S1x4096 : Shape := ⟨2, ![1, 4096]⟩
abbrev S1x4096x1 : Shape := ⟨3, ![1, 4096, 1]⟩
abbrev S1x1x768 : Shape := ⟨3, ![1, 1, 768]⟩
abbrev S768x768 : Shape := ⟨2, ![768, 768]⟩
abbrev S1x4096x8x96 : Shape := ⟨4, ![1, 4096, 8, 96]⟩
abbrev S1x4096x8x64 : Shape := ⟨4, ![1, 4096, 8, 64]⟩
abbrev S1x4096x8x32 : Shape := ⟨4, ![1, 4096, 8, 32]⟩
abbrev S1x4096x8x16 : Shape := ⟨4, ![1, 4096, 8, 16]⟩
abbrev S1x4096x1x16 : Shape := ⟨4, ![1, 4096, 1, 16]⟩
abbrev S256 : Shape := ⟨1, ![256]⟩
abbrev S1x1x256 : Shape := ⟨3, ![1, 1, 256]⟩
abbrev S256x1024 : Shape := ⟨2, ![256, 1024]⟩
abbrev S1x4096x1024 : Shape := ⟨3, ![1, 4096, 1024]⟩
abbrev S1x4096x8x128 : Shape := ⟨4, ![1, 4096, 8, 128]⟩
abbrev S1x4096x1x32 : Shape := ⟨4, ![1, 4096, 1, 32]⟩
abbrev S4096x32 : Shape := ⟨2, ![4096, 32]⟩
abbrev S1024x256 : Shape := ⟨2, ![1024, 256]⟩
abbrev S4096x64 : Shape := ⟨2, ![4096, 64]⟩
abbrev S4096x128 : Shape := ⟨2, ![4096, 128]⟩
abbrev S256x4x256 : Shape := ⟨3, ![256, 4, 256]⟩
abbrev S4x256x256 : Shape := ⟨3, ![4, 256, 256]⟩
abbrev S4096x768 : Shape := ⟨2, ![4096, 768]⟩
abbrev S4096x256 : Shape := ⟨2, ![4096, 256]⟩

abbrev nBuf : Space → Nat
  | .hbm => 253
  | .vmem => 0
  | .smem => 0
  | _ => 0

abbrev hbmTy0_0 (i : Nat) : BufTy := match i % 128 with
  | 0 => ⟨S1x4096x768, .f32⟩
  | 1 => ⟨S1x4096x256, .f32⟩
  | 2 => ⟨S1x4096x32, .f32⟩
  | 3 => ⟨S1x768, .f32⟩
  | 4 => ⟨S1x256, .f32⟩
  | 5 => ⟨S1x768x768, .f32⟩
  | 6 => ⟨S1x256x1024, .f32⟩
  | 7 => ⟨S1x8x4096x96, .f32⟩
  | 8 => ⟨S1x8x4096x96, .f32⟩
  | 9 => ⟨S1x8x4096x64, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096, .f32⟩
  | 25 => ⟨S4096x1, .f32⟩
  | 26 => ⟨S1x16, .f32⟩
  | 27 => ⟨S4096x16, .f32⟩
  | 28 => ⟨S4096x16, .f32⟩
  | 29 => ⟨S4096x16, .f32⟩
  | 30 => ⟨S4096x16, .f32⟩
  | 31 => ⟨S4096x16, .f32⟩
  | 32 => ⟨S768, .f32⟩
  | 33 => ⟨S1x4096x768, .f32⟩
  | 34 => ⟨S_, .f32⟩
  | 35 => ⟨S1x4096, .f32⟩
  | 36 => ⟨S1x4096x1, .f32⟩
  | 37 => ⟨S_, .f32⟩
  | 38 => ⟨S1x4096x1, .f32⟩
  | 39 => ⟨S1x4096x1, .f32⟩
  | 40 => ⟨S_, .f32⟩
  | 41 => ⟨S1x4096x1, .f32⟩
  | 42 => ⟨S1x4096x1, .f32⟩
  | 43 => ⟨S1x4096x1, .f32⟩
  | 44 => ⟨S1x4096x1, .f32⟩
  | 45 => ⟨S_, .f32⟩
  | 46 => ⟨S1x4096x1, .f32⟩
  | 47 => ⟨S1x4096x1, .f32⟩
  | 48 => ⟨S1x4096x768, .f32⟩
  | 49 => ⟨S1x4096x768, .f32⟩
  | 50 => ⟨S1x1x768, .f32⟩
  | 51 => ⟨S1x4096x768, .f32⟩
  | 52 => ⟨S1x4096x768, .f32⟩
  | 53 => ⟨S768x768, .f32⟩
  | 54 => ⟨S1x4096x768, .f32⟩
  | 55 => ⟨S1x4096x8x96, .f32⟩
  | 56 => ⟨S1x4096x8x64, .f32⟩
  | 57 => ⟨S1x4096x8x32, .f32⟩
  | 58 => ⟨S1x4096x8x16, .f32⟩
  | 59 => ⟨S1x4096x8x16, .f32⟩
  | 60 => ⟨S1x4096x1x16, .f32⟩
  | 61 => ⟨S1x4096x1x16, .f32⟩
  | 62 => ⟨S1x4096x8x16, .f32⟩
  | 63 => ⟨S1x4096x8x16, .f32⟩
  | 64 => ⟨S1x4096x8x16, .f32⟩
  | 65 => ⟨S1x4096x8x16, .f32⟩
  | 66 => ⟨S1x4096x8x16, .f32⟩
  | 67 => ⟨S1x4096x8x16, .f32⟩
  | 68 => ⟨S1x4096x8x16, .f32⟩
  | 69 => ⟨S1x4096x8x16, .f32⟩
  | 70 => ⟨S1x4096x8x16, .f32⟩
  | 71 => ⟨S1x4096x8x16, .f32⟩
  | 72 => ⟨S1x4096x8x32, .f32⟩
  | 73 => ⟨S256, .f32⟩
  | 74 => ⟨S1x4096x256, .f32⟩
  | 75 => ⟨S_, .f32⟩
  | 76 => ⟨S1x4096, .f32⟩
  | 77 => ⟨S1x4096x1, .f32⟩
  | 78 => ⟨S_, .f32⟩
  | 79 => ⟨S1x4096x1, .f32⟩
  | 80 => ⟨S1x4096x1, .f32⟩
  | 81 => ⟨S_, .f32⟩
  | 82 => ⟨S1x4096x1, .f32⟩
  | 83 => ⟨S1x4096x1, .f32⟩
  | 84 => ⟨S1x4096x1, .f32⟩
  | 85 => ⟨S1x4096x1, .f32⟩
  | 86 => ⟨S_, .f32⟩
  | 87 => ⟨S1x4096x1, .f32⟩
  | 88 => ⟨S1x4096x1, .f32⟩
  | 89 => ⟨S1x4096x256, .f32⟩
  | 90 => ⟨S1x4096x256, .f32⟩
  | 91 => ⟨S1x1x256, .f32⟩
  | 92 => ⟨S1x4096x256, .f32⟩
  | 93 => ⟨S1x4096x256, .f32⟩
  | 94 => ⟨S256x1024, .f32⟩
  | 95 => ⟨S1x4096x1024, .f32⟩
  | 96 => ⟨S1x4096x8x128, .f32⟩
  | 97 => ⟨S1x4096x8x64, .f32⟩
  | 98 => ⟨S1x4096x8x64, .f32⟩
  | 99 => ⟨S1x4096x1x32, .f32⟩
  | 100 => ⟨S1x4096x1x16, .f32⟩
  | 101 => ⟨S1x4096x1x16, .f32⟩
  | 102 => ⟨S1x4096x1x16, .f32⟩
  | 103 => ⟨S1x4096x1x16, .f32⟩
  | 104 => ⟨S1x4096x1x16, .f32⟩
  | 105 => ⟨S1x4096x1x16, .f32⟩
  | 106 => ⟨S1x4096x1x16, .f32⟩
  | 107 => ⟨S1x4096x1x16, .f32⟩
  | 108 => ⟨S1x4096x1x16, .f32⟩
  | 109 => ⟨S1x4096x1x16, .f32⟩
  | 110 => ⟨S1x4096x1x32, .f32⟩
  | 111 => ⟨S1x4096x8x32, .f32⟩
  | 112 => ⟨S1x4096x8x96, .f32⟩
  | 113 => ⟨S1x8x4096x96, .f32⟩
  | 114 => ⟨S1x4096x8x96, .f32⟩
  | 115 => ⟨S1x8x4096x96, .f32⟩
  | 116 => ⟨S1x8x4096x64, .f32⟩
  | 117 => ⟨S1x4096x8x64, .f32⟩
  | 118 => ⟨S1x4096x8x96, .f32⟩
  | 119 => ⟨S1x4096x8x64, .f32⟩
  | 120 => ⟨S1x4096x8x32, .f32⟩
  | 121 => ⟨S1x4096x8x96, .f32⟩
  | 122 => ⟨S1x4096x8x64, .f32⟩
  | 123 => ⟨S1x4096x8x32, .f32⟩
  | 124 => ⟨S_, .f32⟩
  | 125 => ⟨S4096x32, .f32⟩
  | 126 => ⟨S1x4096x1x32, .f32⟩
  | 127 => ⟨S1x4096x1x16, .f32⟩
  | _ => ⟨S1x4096x768, .f32⟩

abbrev hbmTy0_1 (i : Nat) : BufTy := match i % 128 with
  | 0 => ⟨S1x4096x1x16, .f32⟩
  | 1 => ⟨S1x4096x1x16, .f32⟩
  | 2 => ⟨S1x4096x1x16, .f32⟩
  | 3 => ⟨S1x4096x1x16, .f32⟩
  | 4 => ⟨S1x4096x1x16, .f32⟩
  | 5 => ⟨S1x4096x1x16, .f32⟩
  | 6 => ⟨S1x4096x1x16, .f32⟩
  | 7 => ⟨S1x4096x1x16, .f32⟩
  | 8 => ⟨S_, .f32⟩
  | 9 => ⟨S1x4096x1x32, .f32⟩
  | 10 => ⟨S_, .f32⟩
  | 11 => ⟨S1x4096x1x32, .f32⟩
  | 12 => ⟨S1x4096x1x32, .f32⟩
  | 13 => ⟨S_, .f32⟩
  | 14 => ⟨S4096x32, .f32⟩
  | 15 => ⟨S1x4096x32, .f32⟩
  | 16 => ⟨S_, .f32⟩
  | 17 => ⟨S1x4096x8x128, .f32⟩
  | 18 => ⟨S_, .f32⟩
  | 19 => ⟨S1x4096x8x128, .f32⟩
  | 20 => ⟨S1x4096x8x128, .f32⟩
  | 21 => ⟨S1x4096x1024, .f32⟩
  | 22 => ⟨S1024x256, .f32⟩
  | 23 => ⟨S256x1024, .f32⟩
  | 24 => ⟨S1x4096x256, .f32⟩
  | 25 => ⟨S1x256x1024, .f32⟩
  | 26 => ⟨S1x4096x256, .f32⟩
  | 27 => ⟨S_, .f32⟩
  | 28 => ⟨S1x256, .f32⟩
  | 29 => ⟨S1x1x256, .f32⟩
  | 30 => ⟨S1x4096x256, .f32⟩
  | 31 => ⟨S1x4096x256, .f32⟩
  | 32 => ⟨S_, .f32⟩
  | 33 => ⟨S256, .f32⟩
  | 34 => ⟨S1x4096x256, .f32⟩
  | 35 => ⟨S_, .f32⟩
  | 36 => ⟨S1x4096, .f32⟩
  | 37 => ⟨S1x4096x1, .f32⟩
  | 38 => ⟨S1x4096x256, .f32⟩
  | 39 => ⟨S1x4096x256, .f32⟩
  | 40 => ⟨S1x4096x1, .f32⟩
  | 41 => ⟨S_, .f32⟩
  | 42 => ⟨S1x4096x1, .f32⟩
  | 43 => ⟨S1x4096x1, .f32⟩
  | 44 => ⟨S_, .f32⟩
  | 45 => ⟨S4096, .f32⟩
  | 46 => ⟨S1x4096, .f32⟩
  | 47 => ⟨S1x4096x256, .f32⟩
  | 48 => ⟨S1x4096x256, .f32⟩
  | 49 => ⟨S1x4096x256, .f32⟩
  | 50 => ⟨S1x4096x256, .f32⟩
  | 51 => ⟨S1x4096x256, .f32⟩
  | 52 => ⟨S1x256, .f32⟩
  | 53 => ⟨S1x4096x8x16, .f32⟩
  | 54 => ⟨S1x4096x8x16, .f32⟩
  | 55 => ⟨S1x4096x8x16, .f32⟩
  | 56 => ⟨S1x4096x8x16, .f32⟩
  | 57 => ⟨S1x4096x8x16, .f32⟩
  | 58 => ⟨S1x4096x8x16, .f32⟩
  | 59 => ⟨S1x4096x8x16, .f32⟩
  | 60 => ⟨S1x4096x8x16, .f32⟩
  | 61 => ⟨S1x4096x8x16, .f32⟩
  | 62 => ⟨S1x4096x8x16, .f32⟩
  | 63 => ⟨S1x4096x8x16, .f32⟩
  | 64 => ⟨S1x4096x8x16, .f32⟩
  | 65 => ⟨S1x4096x8x16, .f32⟩
  | 66 => ⟨S_, .f32⟩
  | 67 => ⟨S1x4096x8x32, .f32⟩
  | 68 => ⟨S_, .f32⟩
  | 69 => ⟨S1x4096x8x32, .f32⟩
  | 70 => ⟨S1x4096x8x32, .f32⟩
  | 71 => ⟨S_, .f32⟩
  | 72 => ⟨S1x4096x8x96, .f32⟩
  | 73 => ⟨S_, .f32⟩
  | 74 => ⟨S1x4096x8x96, .f32⟩
  | 75 => ⟨S1x4096x8x96, .f32⟩
  | 76 => ⟨S1x4096x768, .f32⟩
  | 77 => ⟨S768x768, .f32⟩
  | 78 => ⟨S768x768, .f32⟩
  | 79 => ⟨S1x4096x768, .f32⟩
  | 80 => ⟨S1x768x768, .f32⟩
  | 81 => ⟨S1x4096x768, .f32⟩
  | 82 => ⟨S_, .f32⟩
  | 83 => ⟨S1x768, .f32⟩
  | 84 => ⟨S1x1x768, .f32⟩
  | 85 => ⟨S1x4096x768, .f32⟩
  | 86 => ⟨S1x4096x768, .f32⟩
  | 87 => ⟨S_, .f32⟩
  | 88 => ⟨S768, .f32⟩
  | 89 => ⟨S1x4096x768, .f32⟩
  | 90 => ⟨S_, .f32⟩
  | 91 => ⟨S1x4096, .f32⟩
  | 92 => ⟨S1x4096x1, .f32⟩
  | 93 => ⟨S1x4096x768, .f32⟩
  | 94 => ⟨S1x4096x768, .f32⟩
  | 95 => ⟨S1x4096x1, .f32⟩
  | 96 => ⟨S_, .f32⟩
  | 97 => ⟨S1x4096x1, .f32⟩
  | 98 => ⟨S1x4096x1, .f32⟩
  | 99 => ⟨S_, .f32⟩
  | 100 => ⟨S4096, .f32⟩
  | 101 => ⟨S1x4096, .f32⟩
  | 102 => ⟨S1x4096x768, .f32⟩
  | 103 => ⟨S1x4096x768, .f32⟩
  | 104 => ⟨S1x4096x768, .f32⟩
  | 105 => ⟨S1x4096x768, .f32⟩
  | 106 => ⟨S1x4096x768, .f32⟩
  | 107 => ⟨S1x768, .f32⟩
  | 108 => ⟨S_, .f32⟩
  | 109 => ⟨S4096x64, .f32⟩
  | 110 => ⟨S4096x32, .f32⟩
  | 111 => ⟨S_, .f32⟩
  | 112 => ⟨S4096x32, .f32⟩
  | 113 => ⟨S4096x128, .f32⟩
  | 114 => ⟨S256x1024, .f32⟩
  | 115 => ⟨S256x4x256, .f32⟩
  | 116 => ⟨S4x256x256, .f32⟩
  | 117 => ⟨S4096x768, .f32⟩
  | 118 => ⟨S4096x768, .bf16⟩
  | 119 => ⟨S4096x256, .f32⟩
  | 120 => ⟨S4096x256, .bf16⟩
  | 121 => ⟨S4096x128, .bf16⟩
  | 122 => ⟨S768x768, .f32⟩
  | 123 => ⟨S768x768, .bf16⟩
  | 124 => ⟨S4x256x256, .bf16⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_cst_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_10 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_cst_11 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_12 : Ref sig .tc := ⟨.hbm, 136, rfl⟩
abbrev main_v113 : Ref sig .tc := ⟨.hbm, 137, rfl⟩
abbrev main_cst_13 : Ref sig .tc := ⟨.hbm, 138, rfl⟩
abbrev main_v114 : Ref sig .tc := ⟨.hbm, 139, rfl⟩
abbrev main_v115 : Ref sig .tc := ⟨.hbm, 140, rfl⟩
abbrev main_cst_14 : Ref sig .tc := ⟨.hbm, 141, rfl⟩
abbrev main_v116 : Ref sig .tc := ⟨.hbm, 142, rfl⟩
abbrev main_v117 : Ref sig .tc := ⟨.hbm, 143, rfl⟩
abbrev main_cst_15 : Ref sig .tc := ⟨.hbm, 144, rfl⟩
abbrev main_v118 : Ref sig .tc := ⟨.hbm, 145, rfl⟩
abbrev main_cst_16 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_cst_17 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_18 : Ref sig .tc := ⟨.hbm, 160, rfl⟩
abbrev main_v131 : Ref sig .tc := ⟨.hbm, 161, rfl⟩
abbrev main_v132 : Ref sig .tc := ⟨.hbm, 162, rfl⟩
abbrev main_cst_19 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_20 : Ref sig .tc := ⟨.hbm, 169, rfl⟩
abbrev main_v138 : Ref sig .tc := ⟨.hbm, 170, rfl⟩
abbrev main_v139 : Ref sig .tc := ⟨.hbm, 171, rfl⟩
abbrev main_cst_21 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_22 : Ref sig .tc := ⟨.hbm, 194, rfl⟩
abbrev main_v161 : Ref sig .tc := ⟨.hbm, 195, rfl⟩
abbrev main_cst_23 : Ref sig .tc := ⟨.hbm, 196, rfl⟩
abbrev main_v162 : Ref sig .tc := ⟨.hbm, 197, rfl⟩
abbrev main_v163 : Ref sig .tc := ⟨.hbm, 198, rfl⟩
abbrev main_cst_24 : Ref sig .tc := ⟨.hbm, 199, rfl⟩
abbrev main_v164 : Ref sig .tc := ⟨.hbm, 200, rfl⟩
abbrev main_cst_25 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_cst_26 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_cst_27 : Ref sig .tc := ⟨.hbm, 215, rfl⟩
abbrev main_v177 : Ref sig .tc := ⟨.hbm, 216, rfl⟩
abbrev main_v178 : Ref sig .tc := ⟨.hbm, 217, rfl⟩
abbrev main_cst_28 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_29 : Ref sig .tc := ⟨.hbm, 224, rfl⟩
abbrev main_v184 : Ref sig .tc := ⟨.hbm, 225, rfl⟩
abbrev main_v185 : Ref sig .tc := ⟨.hbm, 226, rfl⟩
abbrev main_cst_30 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_cst_31 : Ref sig .tc := ⟨.hbm, 236, rfl⟩
abbrev main_v194 : Ref sig .tc := ⟨.hbm, 237, rfl⟩
abbrev main_v195 : Ref sig .tc := ⟨.hbm, 238, rfl⟩
abbrev main_cst_32 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_v201 : Ref sig .tc := ⟨.hbm, 245, rfl⟩
abbrev main_v202 : Ref sig .tc := ⟨.hbm, 246, rfl⟩
abbrev main_v203 : Ref sig .tc := ⟨.hbm, 247, rfl⟩
abbrev main_v204 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩

abbrev nD : Nat := 1
abbrev τ : Topo := Topo.v7x

variable {F : FTy → Type} [FloatOps F]
-- ==== Proj.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1024x5664 : Shape := ⟨2, ![1024, 5664]⟩
abbrev S5664x1024 : Shape := ⟨2, ![5664, 1024]⟩
abbrev S4096x1024 : Shape := ⟨2, ![4096, 1024]⟩
abbrev S_ : Shape := ⟨0, ![]⟩
abbrev S64x1024 : Shape := ⟨2, ![64, 1024]⟩
abbrev S32x1024 : Shape := ⟨2, ![32, 1024]⟩
abbrev S128x1024 : Shape := ⟨2, ![128, 1024]⟩
abbrev S4096x5760 : Shape := ⟨2, ![4096, 5760]⟩
abbrev S512x1024 : Shape := ⟨2, ![512, 1024]⟩
abbrev S512x5760 : Shape := ⟨2, ![512, 5760]⟩
abbrev S512 : Shape := ⟨1, ![512]⟩
abbrev S512x1 : Shape := ⟨2, ![512, 1]⟩
abbrev S2048x1024 : Shape := ⟨2, ![2048, 1024]⟩
abbrev S512x2048 : Shape := ⟨2, ![512, 2048]⟩
abbrev S2560x1024 : Shape := ⟨2, ![2560, 1024]⟩
abbrev S512x2560 : Shape := ⟨2, ![512, 2560]⟩
abbrev S1024x1024 : Shape := ⟨2, ![1024, 1024]⟩
abbrev S512x128 : Shape := ⟨2, ![512, 128]⟩

abbrev nBuf : Space → Nat
  | .hbm => 15
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1024x5664, .f32⟩
  | .hbm, ⟨4, _⟩ => ⟨S5664x1024, .f32⟩
  | .hbm, ⟨5, _⟩ => ⟨S5664x1024, .bf16⟩
  | .hbm, ⟨6, _⟩ => ⟨S4096x1024, .f32⟩
  | .hbm, ⟨7, _⟩ => ⟨S_, .bf16⟩
  | .hbm, ⟨8, _⟩ => ⟨S64x1024, .bf16⟩
  | .hbm, ⟨9, _⟩ => ⟨S32x1024, .bf16⟩
  | .hbm, ⟨10, _⟩ => ⟨S_, .bf16⟩
  | .hbm, ⟨11, _⟩ => ⟨S32x1024, .bf16⟩
  | .hbm, ⟨12, _⟩ => ⟨S128x1024, .bf16⟩
  | .hbm, ⟨13, _⟩ => ⟨S4096x5760, .f32⟩
  | .hbm, ⟨14, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5664x1024, .bf16⟩
  | .local _ .vmem, ⟨4, _⟩ => ⟨S128x1024, .bf16⟩
  | .local _ .vmem, ⟨5, _⟩ => ⟨S512x5760, .f32⟩
  | .local _ .vmem, ⟨6, _⟩ => ⟨S512x5760, .f32⟩
  | .local _ .vmem, ⟨7, _⟩ => ⟨S512x1024, .bf16⟩
  | .local _ .vmem, ⟨8, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5664x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5760 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjRefIdeal.lean ====
abbrev S1x4096x1024 : Shape := ⟨3, ![1, 4096, 1024]⟩
abbrev S1x1024 : Shape := ⟨2, ![1, 1024]⟩
abbrev S1x1024x5664 : Shape := ⟨3, ![1, 1024, 5664]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x5664 : Shape := ⟨2, ![1024, 5664]⟩
abbrev S1x4096x5664 : Shape := ⟨3, ![1, 4096, 5664]⟩
abbrev S4096x5664 : Shape := ⟨2, ![4096, 5664]⟩
abbrev S4096x2048 : Shape := ⟨2, ![4096, 2048]⟩
abbrev S4096x512 : Shape := ⟨2, ![4096, 512]⟩
abbrev S4096x768 : Shape := ⟨2, ![4096, 768]⟩
abbrev S4096x256 : Shape := ⟨2, ![4096, 256]⟩
abbrev S4096x64 : Shape := ⟨2, ![4096, 64]⟩
abbrev S4096x32 : Shape := ⟨2, ![4096, 32]⟩
abbrev S4096x5760 : Shape := ⟨2, ![4096, 5760]⟩
abbrev S4096x1024 : Shape := ⟨2, ![4096, 1024]⟩

abbrev nBuf : Space → Nat
  | .hbm => 56
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x5664, .f32⟩
  | .hbm, ⟨3, _⟩ => ⟨S1024, .f32⟩
  | .hbm, ⟨4, _⟩ => ⟨S1x4096x1024, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1024, .f32⟩
  | .hbm, ⟨16, _⟩ => ⟨S1x4096x1024, .f32⟩
  | .hbm, ⟨17, _⟩ => ⟨S1x1x1024, .f32⟩
  | .hbm, ⟨18, _⟩ => ⟨S1x4096x1024, .f32⟩
  | .hbm, ⟨19, _⟩ => ⟨S1x4096x1024, .f32⟩
  | .hbm, ⟨20, _⟩ => ⟨S1024x5664, .f32⟩
  | .hbm, ⟨21, _⟩ => ⟨S1x4096x5664, .f32⟩
  | .hbm, ⟨22, _⟩ => ⟨S4096x5664, .f32⟩
  | .hbm, ⟨23, _⟩ => ⟨S4096x2048, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x768, .f32⟩
  | .hbm, ⟨30, _⟩ => ⟨S4096x256, .f32⟩
  | .hbm, ⟨31, _⟩ => ⟨S_, .f32⟩
  | .hbm, ⟨32, _⟩ => ⟨S4096x64, .f32⟩
  | .hbm, ⟨33, _⟩ => ⟨S4096x32, .f32⟩
  | .hbm, ⟨34, _⟩ => ⟨S_, .f32⟩
  | .hbm, ⟨35, _⟩ => ⟨S4096x32, .f32⟩
  | .hbm, ⟨36, _⟩ => ⟨S4096x5760, .f32⟩
  | .hbm, ⟨37, _⟩ => ⟨S1024, .f32⟩
  | .hbm, ⟨38, _⟩ => ⟨S1x4096x1024, .f32⟩
  | .hbm, ⟨39, _⟩ => ⟨S_, .f32⟩
  | .hbm, ⟨40, _⟩ => ⟨S1x4096, .f32⟩
  | .hbm, ⟨41, _⟩ => ⟨S1x4096x1, .f32⟩
  | .hbm, ⟨42, _⟩ => ⟨S_, .f32⟩
  | .hbm, ⟨43, _⟩ => ⟨S1x4096x1, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x1x1024, .f32⟩
  | .hbm, ⟨52, _⟩ => ⟨S1x4096x1024, .f32⟩
  | .hbm, ⟨53, _⟩ => ⟨S1x4096x1024, .f32⟩
  | .hbm, ⟨54, _⟩ => ⟨S4096x1024, .f32⟩
  | .hbm, ⟨55, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Hgrn.lean ====
abbrev S4096x5760 : Shape := ⟨2, ![4096, 5760]⟩
abbrev S2x512 : Shape := ⟨2, ![2, 512]⟩
abbrev S4x128x128x128 : Shape := ⟨4, ![4, 128, 128, 128]⟩
abbrev S4096x512 : Shape := ⟨2, ![4096, 512]⟩
abbrev S3x4096x512 : Shape := ⟨3, ![3, 4096, 512]⟩
abbrev S256x512 : Shape := ⟨2, ![256, 512]⟩
abbrev S4x8x128x128 : Shape := ⟨4, ![4, 8, 128, 128]⟩
abbrev S3x256x512 : Shape := ⟨3, ![3, 256, 512]⟩
abbrev S4x128x128 : Shape := ⟨3, ![4, 128, 128]⟩
abbrev S1x512 : Shape := ⟨2, ![1, 512]⟩
abbrev S256x128 : Shape := ⟨2, ![256, 128]⟩
abbrev S128x128 : Shape := ⟨2, ![128, 128]⟩
abbrev S256x256 : Shape := ⟨2, ![256, 256]⟩
abbrev S8x32x512 : Shape := ⟨3, ![8, 32, 512]⟩
abbrev S8x1x512 : Shape := ⟨3, ![8, 1, 512]⟩
abbrev S8x32x128 : Shape := ⟨3, ![8, 32, 128]⟩
abbrev S8x128x128 : Shape := ⟨3, ![8, 128, 128]⟩
abbrev S1x128x128 : Shape := ⟨3, ![1, 128, 128]⟩
abbrev S1x1x512 : Shape := ⟨3, ![1, 1, 512]⟩
abbrev S1x128 : Shape := ⟨2, ![1, 128]⟩
abbrev S1x8x128x128 : Shape := ⟨4, ![1, 8, 128, 128]⟩
abbrev S8x128 : Shape := ⟨2, ![8, 128]⟩
abbrev S8x1x128 : Shape := ⟨3, ![8, 1, 128]⟩
abbrev S512 : Shape := ⟨1, ![512]⟩
abbrev S1x256x512 : Shape := ⟨3, ![1, 256, 512]⟩

abbrev nBuf : Space → Nat
  | .hbm => 6
  | .vmem => 16
  | .smem => 0
  | _ => 0

abbrev bufTy : (tb : Table) → Fin (tcTables nBuf tb) → BufTy
  | .hbm, ⟨0, _⟩ => ⟨S4096x5760, .f32⟩
  | .hbm, ⟨1, _⟩ => ⟨S2x512, .f32⟩
  | .hbm, ⟨2, _⟩ => ⟨S4x128x128x128, .f32⟩
  | .hbm, ⟨3, _⟩ => ⟨S4096x512, .f32⟩
  | .hbm, ⟨4, _⟩ => ⟨S3x4096x512, .bf16⟩
  | .hbm, ⟨5, _⟩ => ⟨S2x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S2x512, .f32⟩
  | .local _ .vmem, ⟨7, _⟩ => ⟨S4x8x128x128, .f32⟩
  | .local _ .vmem, ⟨8, _⟩ => ⟨S4x8x128x128, .f32⟩
  | .local _ .vmem, ⟨9, _⟩ => ⟨S256x512, .f32⟩
  | .local _ .vmem, ⟨10, _⟩ => ⟨S256x512, .f32⟩
  | .local _ .vmem, ⟨11, _⟩ => ⟨S3x256x512, .bf16⟩
  | .local _ .vmem, ⟨12, _⟩ => ⟨S3x256x512, .bf16⟩
  | .local _ .vmem, ⟨13, _⟩ => ⟨S2x512, .f32⟩
  | .local _ .vmem, ⟨14, _⟩ => ⟨S4x128x128, .f32⟩
  | .local _ .vmem, ⟨15, _⟩ => ⟨S1x512, .f32⟩
  | _, _ => ⟨S4096x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v1010 : BitVec 1 := Scalar.cmpi .eq arg1 c15_i32
  let v1011 : BitVec 32 := Scalar.extui v1010
  let c0_i32_253 : BitVec 32 := 0#32
  let v1012 : BitVec 1 := Scalar.cmpi .ne v1011 c0_i32_253
  v1012

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c5_i32 : BitVec 32 := 5#32
  let v1 : BitVec 32 := Scalar.addi c5_i32 arg0
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c6_i32 : BitVec 32 := 6#32
  let v1 : BitVec 32 := Scalar.addi c6_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c7_i32 : BitVec 32 := 7#32
  let v1 : BitVec 32 := Scalar.addi c7_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![c0_i32.toNat, v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S4x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== QkvFwd.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S_ : Shape := ⟨0, ![]⟩
abbrev S4096x4608 : Shape := ⟨2, ![4096, 4608]⟩
abbrev S4096x768 : Shape := ⟨2, ![4096, 768]⟩
abbrev S4096x256 : Shape := ⟨2, ![4096, 256]⟩
abbrev S4096x64 : Shape := ⟨2, ![4096, 64]⟩
abbrev S4096x32 : Shape := ⟨2, ![4096, 32]⟩
abbrev S4096x5760 : Shape := ⟨2, ![4096, 5760]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S768x768 : Shape := ⟨2, ![768, 768]⟩
abbrev S768x8x96 : Shape := ⟨3, ![768, 8, 96]⟩
abbrev S768x8x128 : Shape := ⟨3, ![768, 8, 128]⟩
abbrev S768x1024 : Shape := ⟨2, ![768, 1024]⟩
abbrev S256x1024 : Shape := ⟨2, ![256, 1024]⟩
abbrev S256x8x128 : Shape := ⟨3, ![256, 8, 128]⟩
abbrev S256x8x64 : Shape := ⟨3, ![256, 8, 64]⟩
abbrev S256x4x2x1x64 : Shape := ⟨5, ![256, 4, 2, 1, 64]⟩
abbrev S2x2 : Shape := ⟨2, ![2, 2]⟩
abbrev S1x1x2x2x1 : Shape := ⟨5, ![1, 1, 2, 2, 1]⟩
abbrev S256x4x2x2x64 : Shape := ⟨5, ![256, 4, 2, 2, 64]⟩
abbrev S256x4x256 : Shape := ⟨3, ![256, 4, 256]⟩
abbrev S4x256x256 : Shape := ⟨3, ![4, 256, 256]⟩
abbrev S4096x128 : Shape := ⟨2, ![4096, 128]⟩
abbrev S8x4096x128 : Shape := ⟨3, ![8, 4096, 128]⟩
abbrev S512x768 : Shape := ⟨2, ![512, 768]⟩
abbrev S512x256 : Shape := ⟨2, ![512, 256]⟩
abbrev S512x128 : Shape := ⟨2, ![512, 128]⟩
abbrev S8x512x128 : Shape := ⟨3, ![8, 512, 128]⟩
abbrev S512 : Shape := ⟨1, ![512]⟩
abbrev S512x1 : Shape := ⟨2, ![512, 1]⟩
abbrev S512x1024 : Shape := ⟨2, ![512, 1024]⟩
abbrev S1x256x256 : Shape := ⟨3, ![1, 256, 256]⟩
abbrev S256x256 : Shape := ⟨2, ![256, 256]⟩
abbrev S1x512x128 : Shape := ⟨3, ![1, 512, 128]⟩

abbrev nBuf : Space → Nat
  | .hbm => 95
  | .vmem => 23
  | .smem => 0
  | _ => 0

abbrev bufTy : (tb : Table) → Fin (tcTables nBuf tb) → BufTy
  | .hbm, ⟨0, _⟩ => ⟨S1x4096x768, .f32⟩
  | .hbm, ⟨1, _⟩ => ⟨S1x4096x256, .f32⟩
  | .hbm, ⟨2, _⟩ => ⟨S1x4096x32, .f32⟩
  | .hbm, ⟨3, _⟩ => ⟨S1x768, .f32⟩
  | .hbm, ⟨4, _⟩ => ⟨S1x256, .f32⟩
  | .hbm, ⟨5, _⟩ => ⟨S1x768x768, .f32⟩
  | .hbm, ⟨6, _⟩ => ⟨S1x256x1024, .f32⟩
  | .hbm, ⟨7, _⟩ => ⟨S_, .f32⟩
  | .hbm, ⟨8, _⟩ => ⟨S4096x4608, .f32⟩
  | .hbm, ⟨9, _⟩ => ⟨S4096x768, .f32⟩
  | .hbm, ⟨10, _⟩ => ⟨S4096x256, .f32⟩
  | .hbm, ⟨11, _⟩ => ⟨S_, .f32⟩
  | .hbm, ⟨12, _⟩ => ⟨S4096x64, .f32⟩
  | .hbm, ⟨13, _⟩ => ⟨S4096x32, .f32⟩
  | .hbm, ⟨14, _⟩ => ⟨S_, .f32⟩
  | .hbm, ⟨15, _⟩ => ⟨S4096x32, .f32⟩
  | .hbm, ⟨16, _⟩ => ⟨S4096x5760, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S4096, .f32⟩
  | .hbm, ⟨32, _⟩ => ⟨S4096x1, .f32⟩
  | .hbm, ⟨33, _⟩ => ⟨S1x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x16, .f32⟩
  | .hbm, ⟨39, _⟩ => ⟨S_, .f32⟩
  | .hbm, ⟨40, _⟩ => ⟨S4096x64, .f32⟩
  | .hbm, ⟨41, _⟩ => ⟨S_, .f32⟩
  | .hbm, ⟨42, _⟩ => ⟨S4096x32, .f32⟩
  | .hbm, ⟨43, _⟩ => ⟨S_, .f32⟩
  | .hbm, ⟨44, _⟩ => ⟨S4096x64, .f32⟩
  | .hbm, ⟨45, _⟩ => ⟨S4096x16, .f32⟩
  | .hbm, ⟨46, _⟩ => ⟨S_, .f32⟩
  | .hbm, ⟨47, _⟩ => ⟨S4096x16, .f32⟩
  | .hbm, ⟨48, _⟩ => ⟨S_, .f32⟩
  | .hbm, ⟨49, _⟩ => ⟨S4096x32, .f32⟩
  | .hbm, ⟨50, _⟩ => ⟨S_, .f32⟩
  | .hbm, ⟨51, _⟩ => ⟨S4096x64, .f32⟩
  | .hbm, ⟨52, _⟩ => ⟨S_, .f32⟩
  | .hbm, ⟨53, _⟩ => ⟨S4096x16, .f32⟩
  | .hbm, ⟨54, _⟩ => ⟨S_, .f32⟩
  | .hbm, ⟨55, _⟩ => ⟨S4096x32, .f32⟩
  | .hbm, ⟨56, _⟩ => ⟨S768x768, .f32⟩
  | .hbm, ⟨57, _⟩ => ⟨S768x768, .bf16⟩
  | .hbm, ⟨58, _⟩ => ⟨S768x8x96, .bf16⟩
  | .hbm, ⟨59, _⟩ => ⟨S_, .i32⟩
  | .hbm, ⟨60, _⟩ => ⟨S_, .bf16⟩
  | .hbm, ⟨61, _⟩ => ⟨S768x8x128, .bf16⟩
  | .hbm, ⟨62, _⟩ => ⟨S768x1024, .bf16⟩
  | .hbm, ⟨63, _⟩ => ⟨S256x1024, .f32⟩
  | .hbm, ⟨64, _⟩ => ⟨S256x1024, .bf16⟩
  | .hbm, ⟨65, _⟩ => ⟨S256x8x128, .bf16⟩
  | .hbm, ⟨66, _⟩ => ⟨S256x8x64, .bf16⟩
  | .hbm, ⟨67, _⟩ => ⟨S_, .i32⟩
  | .hbm, ⟨68, _⟩ => ⟨S_, .bf16⟩
  | .hbm, ⟨69, _⟩ => ⟨S256x8x128, .bf16⟩
  | .hbm, ⟨70, _⟩ => ⟨S256x1024, .bf16⟩
  | .hbm, ⟨71, _⟩ => ⟨S256x8x64, .bf16⟩
  | .hbm, ⟨72, _⟩ => ⟨S256x4x2x1x64, .bf16⟩
  | .hbm, ⟨73, _⟩ => ⟨S2x2, .i32⟩
  | .hbm, ⟨74, _⟩ => ⟨S2x2, .i32⟩
  | .hbm, ⟨75, _⟩ => ⟨S_, .i32⟩
  | .hbm, ⟨76, _⟩ => ⟨S2x2, .i32⟩
  | .hbm, ⟨77, _⟩ => ⟨S2x2, .i32⟩
  | .hbm, ⟨78, _⟩ => ⟨S2x2, .i1⟩
  | .hbm, ⟨79, _⟩ => ⟨S2x2, .bf16⟩
  | .hbm, ⟨80, _⟩ => ⟨S1x1x2x2x1, .bf16⟩
  | .hbm, ⟨81, _⟩ => ⟨S256x4x2x2x64, .bf16⟩
  | .hbm, ⟨82, _⟩ => ⟨S256x4x2x2x64, .bf16⟩
  | .hbm, ⟨83, _⟩ => ⟨S256x4x2x2x64, .bf16⟩
  | .hbm, ⟨84, _⟩ => ⟨S256x1024, .bf16⟩
  | .hbm, ⟨85, _⟩ => ⟨S256x4x256, .bf16⟩
  | .hbm, ⟨86, _⟩ => ⟨S4x256x256, .bf16⟩
  | .hbm, ⟨87, _⟩ => ⟨S256x4x256, .bf16⟩
  | .hbm, ⟨88, _⟩ => ⟨S4x256x256, .bf16⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S8x4096x128, .bf16⟩
  | .hbm, ⟨93, _⟩ => ⟨S8x4096x128, .bf16⟩
  | .hbm, ⟨94, _⟩ => ⟨S8x4096x128, .bf16⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S512x128, .f32⟩
  | .local _ .vmem, ⟨5, _⟩ => ⟨S512x128, .f32⟩
  | .local _ .vmem, ⟨6, _⟩ => ⟨S1x768, .f32⟩
  | .local _ .vmem, ⟨7, _⟩ => ⟨S1x256, .f32⟩
  | .local _ .vmem, ⟨8, _⟩ => ⟨S768x1024, .bf16⟩
  | .local _ .vmem, ⟨9, _⟩ => ⟨S4x256x256, .bf16⟩
  | .local _ .vmem, ⟨10, _⟩ => ⟨S4x256x256, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S8x512x128, .bf16⟩
  | .local _ .vmem, ⟨18, _⟩ => ⟨S8x512x128, .bf16⟩
  | .local _ .vmem, ⟨19, _⟩ => ⟨S8x512x128, .bf16⟩
  | .local _ .vmem, ⟨20, _⟩ => ⟨S8x512x128, .bf16⟩
  | .local _ .vmem, ⟨21, _⟩ => ⟨S8x512x128, .bf16⟩
  | .local _ .vmem, ⟨22, _⟩ => ⟨S8x512x128, .bf16⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_cst_8 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_cst_11 : Ref sig .tc := ⟨.hbm, 50, rfl⟩
abbrev main_v31 : Ref sig .tc := ⟨.hbm, 51, rfl⟩
abbrev main_cst_12 : Ref sig .tc := ⟨.hbm, 52, rfl⟩
abbrev main_v32 : Ref sig .tc := ⟨.hbm, 53, rfl⟩
abbrev main_cst_13 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c : Ref sig .tc := ⟨.hbm, 59, rfl⟩
abbrev main_call0_v0 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_call1_v0 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_15 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65_0 : Ref sig .tc := ⟨.hbm, 92, rfl⟩
abbrev main_v65_1 : Ref sig .tc := ⟨.hbm, 93, rfl⟩
abbrev main_v65_2 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_2 (i : grid0.Coords) : Fin 2 → Nat :=
  let arg0 : BitVec 32 := BitVec.ofNat 32 (i 0).val
  let c44_i32 : BitVec 32 := 44#32
  let c0_i32 : BitVec 32 := 0#32
  ![arg0.toNat, c44_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkvFwdRefIdeal.lean ====
abbrev S1x4096x768 : Shape := ⟨3, ![1, 4096, 768]⟩
abbrev S1x4096x256 : Shape := ⟨3, ![1, 4096, 256]⟩
abbrev S1x4096x32 : Shape := ⟨3, ![1, 4096, 32]⟩
abbrev S1x768 : Shape := ⟨2, ![1, 768]⟩
abbrev S1x256 : Shape := ⟨2, ![1, 256]⟩
abbrev S1x768x768 : Shape := ⟨3, ![1, 768, 768]⟩
abbrev S1x256x1024 : Shape := ⟨3, ![1, 256, 1024]⟩
abbrev S16 : Shape := ⟨1, ![16]⟩
abbrev S_ : Shape := ⟨0, ![]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S768 : Shape := ⟨1, ![768]⟩
abbrev S1x4096 : Shape := ⟨2, ![1, 4096]⟩
abbrev S1x4096x1 : Shape := ⟨3, ![1, 4096, 1]⟩
abbrev S1x1x768 : Shape := ⟨3, ![1, 1, 768]⟩
abbrev S768x768 : Shape := ⟨2, ![768, 768]⟩
abbrev S1x4096x8x96 : Shape := ⟨4, ![1, 4096, 8, 96]⟩
abbrev S1x4096x8x64 : Shape := ⟨4, ![1, 4096, 8, 64]⟩
abbrev S1x4096x8x32 : Shape := ⟨4, ![1, 4096, 8, 32]⟩
abbrev S1x4096x8x16 : Shape := ⟨4, ![1, 4096, 8, 16]⟩
abbrev S1x4096x1x16 : Shape := ⟨4, ![1, 4096, 1, 16]⟩
abbrev S256 : Shape := ⟨1, ![256]⟩
abbrev S1x1x256 : Shape := ⟨3, ![1, 1, 256]⟩
abbrev S256x1024 : Shape := ⟨2, ![256, 1024]⟩
abbrev S1x4096x1024 : Shape := ⟨3, ![1, 4096, 1024]⟩
abbrev S1x4096x8x128 : Shape := ⟨4, ![1, 4096, 8, 128]⟩
abbrev S1x4096x1x32 : Shape := ⟨4, ![1, 4096, 1, 32]⟩
abbrev S1x8x4096x96 : Shape := ⟨4, ![1, 8, 4096, 96]⟩
abbrev S1x8x4096x64 : Shape := ⟨4, ![1, 8, 4096, 64]⟩
abbrev S8x4096x1 : Shape := ⟨3, ![8, 4096, 1]⟩
abbrev S8 : Shape := ⟨1, ![8]⟩
abbrev S8x1x1 : Shape := ⟨3, ![8, 1, 1]⟩
abbrev S8x4096x64 : Shape := ⟨3, ![8, 4096, 64]⟩
abbrev S8x4096x63 : Shape := ⟨3, ![8, 4096, 63]⟩
abbrev S8x4096x128 : Shape := ⟨3, ![8, 4096, 128]⟩
abbrev S8x4096x96 : Shape := ⟨3, ![8, 4096, 96]⟩
abbrev S8x4096x32 : Shape := ⟨3, ![8, 4096, 32]⟩

abbrev nBuf : Space → Nat
  | .hbm => 137
  | .vmem => 0
  | .smem => 0
  | _ => 0

abbrev hbmTy0_0 (i : Nat) : BufTy := match i % 128 with
  | 0 => ⟨S1x4096x768, .f32⟩
  | 1 => ⟨S1x4096x256, .f32⟩
  | 2 => ⟨S1x4096x32, .f32⟩
  | 3 => ⟨S1x768, .f32⟩
  | 4 => ⟨S1x256, .f32⟩
  | 5 => ⟨S1x768x768, .f32⟩
  | 6 => ⟨S1x256x1024, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S4096x16, .f32⟩
  | 29 => ⟨S768, .f32⟩
  | 30 => ⟨S1x4096x768, .f32⟩
  | 31 => ⟨S_, .f32⟩
  | 32 => ⟨S1x4096, .f32⟩
  | 33 => ⟨S1x4096x1, .f32⟩
  | 34 => ⟨S_, .f32⟩
  | 35 => ⟨S1x4096x1, .f32⟩
  | 36 => ⟨S1x4096x1, .f32⟩
  | 37 => ⟨S_, .f32⟩
  | 38 => ⟨S1x4096x1, .f32⟩
  | 39 => ⟨S1x4096x1, .f32⟩
  | 40 => ⟨S1x4096x1, .f32⟩
  | 41 => ⟨S1x4096x768, .f32⟩
  | 42 => ⟨S1x4096x768, .f32⟩
  | 43 => ⟨S1x1x768, .f32⟩
  | 44 => ⟨S1x4096x768, .f32⟩
  | 45 => ⟨S1x4096x768, .f32⟩
  | 46 => ⟨S768x768, .f32⟩
  | 47 => ⟨S1x4096x768, .f32⟩
  | 48 => ⟨S1x4096x8x96, .f32⟩
  | 49 => ⟨S1x4096x8x64, .f32⟩
  | 50 => ⟨S1x4096x8x32, .f32⟩
  | 51 => ⟨S1x4096x8x16, .f32⟩
  | 52 => ⟨S1x4096x8x16, .f32⟩
  | 53 => ⟨S1x4096x1x16, .f32⟩
  | 54 => ⟨S1x4096x1x16, .f32⟩
  | 55 => ⟨S1x4096x8x16, .f32⟩
  | 56 => ⟨S1x4096x8x16, .f32⟩
  | 57 => ⟨S1x4096x8x16, .f32⟩
  | 58 => ⟨S1x4096x8x16, .f32⟩
  | 59 => ⟨S1x4096x8x16, .f32⟩
  | 60 => ⟨S1x4096x8x16, .f32⟩
  | 61 => ⟨S1x4096x8x16, .f32⟩
  | 62 => ⟨S1x4096x8x16, .f32⟩
  | 63 => ⟨S1x4096x8x16, .f32⟩
  | 64 => ⟨S1x4096x8x16, .f32⟩
  | 65 => ⟨S1x4096x8x32, .f32⟩
  | 66 => ⟨S256, .f32⟩
  | 67 => ⟨S1x4096x256, .f32⟩
  | 68 => ⟨S_, .f32⟩
  | 69 => ⟨S1x4096, .f32⟩
  | 70 => ⟨S1x4096x1, .f32⟩
  | 71 => ⟨S_, .f32⟩
  | 72 => ⟨S1x4096x1, .f32⟩
  | 73 => ⟨S1x4096x1, .f32⟩
  | 74 => ⟨S_, .f32⟩
  | 75 => ⟨S1x4096x1, .f32⟩
  | 76 => ⟨S1x4096x1, .f32⟩
  | 77 => ⟨S1x4096x1, .f32⟩
  | 78 => ⟨S1x4096x256, .f32⟩
  | 79 => ⟨S1x4096x256, .f32⟩
  | 80 => ⟨S1x1x256, .f32⟩
  | 81 => ⟨S1x4096x256, .f32⟩
  | 82 => ⟨S1x4096x256, .f32⟩
  | 83 => ⟨S256x1024, .f32⟩
  | 84 => ⟨S1x4096x1024, .f32⟩
  | 85 => ⟨S1x4096x8x128, .f32⟩
  | 86 => ⟨S1x4096x8x64, .f32⟩
  | 87 => ⟨S1x4096x8x64, .f32⟩
  | 88 => ⟨S1x4096x1x32, .f32⟩
  | 89 => ⟨S1x4096x1x16, .f32⟩
  | 90 => ⟨S1x4096x1x16, .f32⟩
  | 91 => ⟨S1x4096x1x16, .f32⟩
  | 92 => ⟨S1x4096x1x16, .f32⟩
  | 93 => ⟨S1x4096x1x16, .f32⟩
  | 94 => ⟨S1x4096x1x16, .f32⟩
  | 95 => ⟨S1x4096x1x16, .f32⟩
  | 96 => ⟨S1x4096x1x16, .f32⟩
  | 97 => ⟨S1x4096x1x16, .f32⟩
  | 98 => ⟨S1x4096x1x16, .f32⟩
  | 99 => ⟨S1x4096x1x32, .f32⟩
  | 100 => ⟨S1x4096x8x32, .f32⟩
  | 101 => ⟨S1x4096x8x96, .f32⟩
  | 102 => ⟨S1x8x4096x96, .f32⟩
  | 103 => ⟨S1x4096x8x96, .f32⟩
  | 104 => ⟨S1x8x4096x96, .f32⟩
  | 105 => ⟨S1x8x4096x64, .f32⟩
  | 106 => ⟨S_, .f32⟩
  | 107 => ⟨S8x4096x1, .f32⟩
  | 108 => ⟨S8, .i32⟩
  | 109 => ⟨S_, .i32⟩
  | 110 => ⟨S8, .i32⟩
  | 111 => ⟨S8, .i32⟩
  | 112 => ⟨S_, .i32⟩
  | 113 => ⟨S8, .i32⟩
  | 114 => ⟨S8, .i1⟩
  | 115 => ⟨S8x1x1, .i1⟩
  | 116 => ⟨S8x4096x64, .f32⟩
  | 117 => ⟨S_, .f32⟩
  | 118 => ⟨S8x4096x63, .f32⟩
  | 119 => ⟨S8x4096x128, .f32⟩
  | 120 => ⟨S_, .f32⟩
  | 121 => ⟨S8x4096x63, .f32⟩
  | 122 => ⟨S8x4096x64, .f32⟩
  | 123 => ⟨S8x4096x128, .f32⟩
  | 124 => ⟨S8x4096x96, .f32⟩
  | 125 => ⟨S_, .f32⟩
  | 126 => ⟨S8x4096x32, .f32⟩
  | 127 => ⟨S8x4096x128, .f32⟩
  | _ => ⟨S1x4096x768, .f32⟩

abbrev hbmTy0_1 (i : Nat) : BufTy := match i % 128 with
  | 0 => ⟨S8x4096x128, .bf16⟩
  | 1 => ⟨S8x4096x96, .f32⟩
  | 2 => ⟨S_, .f32⟩
  | 3 => ⟨S8x4096x32, .f32⟩
  | 4 => ⟨S8x4096x128, .f32⟩
  | 5 => ⟨S8x4096x128, .bf16⟩
  | 6 => ⟨S8x4096x128, .i1⟩
  | 7 => ⟨S8x4096x128, .f32⟩
  | 8 => ⟨S8x4096x128, .bf16⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_cst_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_9 : Ref sig .tc := ⟨.hbm, 106, rfl⟩
abbrev main_v89 : Ref sig .tc := ⟨.hbm, 107, rfl⟩
abbrev main_v90 : Ref sig .tc := ⟨.hbm, 108, rfl⟩
abbrev main_c : Ref sig .tc := ⟨.hbm, 109, rfl⟩
abbrev main_v91 : Ref sig .tc := ⟨.hbm, 110, rfl⟩
abbrev main_v92 : Ref sig .tc := ⟨.hbm, 111, rfl⟩
abbrev main_c_10 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_11 : Ref sig .tc := ⟨.hbm, 117, rfl⟩
abbrev main_v97 : Ref sig .tc := ⟨.hbm, 118, rfl⟩
abbrev main_v98 : Ref sig .tc := ⟨.hbm, 119, rfl⟩
abbrev main_cst_12 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_14 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_call0_v0 : Ref sig .tc := ⟨.hbm, 134, rfl⟩
abbrev main_v110 : Ref sig .tc := ⟨.hbm, 135, rfl⟩
abbrev main_v111 : Ref sig .tc := ⟨.hbm, 136, rfl⟩

abbrev nD : Nat := 1
abbrev τ : Topo := Topo.v7x

variable {F : FTy → Type} [FloatOps F]
-- ==== Proof.FrontBlock.lean ====
/- The block one grid point of `front_bwd` computes, read at coordinates over the extended reals. -/
module

public import proofs.«01_k».proof.Proof.Gen.FrontIdeal.Value
public import Idealize.ShloMosaic.Lib.Pipeline.ValueKit
public import Idealize.ShloMosaic.Lib.Pointwise

@[expose] public section

set_option maxRecDepth 16384

noncomputable section

namespace Cert.FrontIdeal.Value

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

/-- The block index of every window that moves with the grid point. -/
theorem idx_val : ∀ t : Fin cfg0.N, win0_0.index t = ![t.val, 0] ∧ win0_1.index t = ![t.val, 0] ∧ win0_2.index t = ![t.val, 0]
    ∧ win0_3.index t = ![t.val, 0] ∧ win0_4.index t = ![0, t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] ∧ win0_12.index t = ![t.val, 0] ∧ win0_13.index t = ![0, 0] :=
  (by decide +kernel : ∀ t : Fin grid0.N, _)

/-- The row of the arrays that row `i` of point `t`'s blocks is. -/
def rowOf (t : Fin cfg0.N) (i : Fin 512) : Fin 4096 := ⟨t.val * 512 + i.val, by have := lt_of_lt_of_eq t.isLt N_0; omega⟩

/-- The stack of three pieces at each of its rows. -/
theorem cat3_at (a b c : FVec Ideal S1x4096x512 .bf16) (h) (i : Fin 4096) (k : Fin 512) :
    concatenate S3x4096x512 0 [⟨S1x4096x512, a⟩, ⟨S1x4096x512, b⟩, ⟨S1x4096x512, c⟩] h (ix3 0 i k) = a (ix3 0 i k)
    ∧ concatenate S3x4096x512 0 [⟨S1x4096x512, a⟩, ⟨S1x4096x512, b⟩, ⟨S1x4096x512, c⟩] h (ix3 1 i k) = b (ix3 0 i k)
    ∧ concatenate S3x4096x512 0 [⟨S1x4096x512, a⟩, ⟨S1x4096x512, b⟩, ⟨S1x4096x512, c⟩] h (ix3 2 i k) = c (ix3 0 i k) := by
  refine ⟨?_, ?_, ?_⟩ <;> pointwise

/-- The key's columns between two blocks of zeros. -/
theorem catK_at (a : FVec Ideal S4096x64 .bf16) (b c : FVec Ideal S4096x32 .bf16) (h) (i : Fin 4096) (k : Fin 128) :
    concatenate S4096x128 1 [⟨S4096x64, a⟩, ⟨S4096x32, b⟩, ⟨S4096x32, c⟩] h (ix2 i k)
      = if h : k.val < 64 then a (ix2 i ⟨k.val, h⟩) else if h' : k.val - 64 < 32 then b (ix2 i ⟨k.val - 64, h'⟩)
        else c (ix2 i ⟨k.val - 64 - 32, by omega⟩) := by
  pointwise

theorem catK_mid (a : FVec Ideal S4096x64 .bf16) (b c : FVec Ideal S4096x32 .bf16) (h) (i : Fin 4096) (k : Fin 32) :
    concatenate S4096x128 1 [⟨S4096x64, a⟩, ⟨S4096x32, b⟩, ⟨S4096x32, c⟩] h (ix2 i ⟨64 + k.val, by omega⟩) = b (ix2 i k) := by
  refine (catK_at a b c h i _).trans ?_
  rw [dif_neg (by simp), dif_pos (by simp)]
  simp

/-- The same for the weight's rows. -/
theorem catW_at (a : FVec Ideal S64x1024 .bf16) (b c : FVec Ideal S32x1024 .bf16) (h) (k : Fin 128) (d : Fin 1024) :
    concatenate S128x1024 0 [⟨S64x1024, a⟩, ⟨S32x1024, b⟩, ⟨S32x1024, c⟩] h (ix2 k d)
      = if h : k.val < 64 then a (ix2 ⟨k.val, h⟩ d) else if h' : k.val - 64 < 32 then b (ix2 ⟨k.val - 64, h'⟩ d)
        else c (ix2 ⟨k.val - 64 - 32, by omega⟩ d) := by
  pointwise

theorem catW_mid (a : FVec Ideal S64x1024 .bf16) (b c : FVec Ideal S32x1024 .bf16) (h) (k : Fin 32) (d : Fin 1024) :
    concatenate S128x1024 0 [⟨S64x1024, a⟩, ⟨S32x1024, b⟩, ⟨S32x1024, c⟩] h (ix2 ⟨64 + k.val, by omega⟩ d) = b (ix2 k d) := by
  refine (catW_at a b c h _ d).trans ?_
  rw [dif_neg (by simp), dif_pos (by simp)]
  simp

set_option maxHeartbeats 1000000 in
/-- The three stacked pieces as the region finds them. -/
theorem V_v15 (c : Dev nD) : V m c main_v15 = concatenate S3x4096x512 0 [⟨S1x4096x512, (V m c main_v12 : FVec Ideal S1x4096x512 .bf16)⟩, ⟨S1x4096x512, (V m c main_v13 : FVec Ideal S1x4096x512 .bf16)⟩, ⟨S1x4096x512, (V m c main_v14 : FVec Ideal S1x4096x512 .bf16)⟩]
    concatenates_S1x4096x512_S1x4096x512_S1x4096x512_S3x4096x512_d0 := by
  unfold V
  simp only [hostOps0, List.flatten_cons, List.flatten_nil, List.append_nil, StableHlo.after_cons, StableHlo.after_nil]
  simp (disch := decide) only [StableHlo.unary_result_ne', StableHlo.reshape_result_ne', StableHlo.nary_result_ne',
    StableHlo.nullary_result_ne', StableHlo.binary_result_ne', StableHlo.nary_result']
  rfl
set_option maxHeartbeats 1000000 in
/-- The key's padded cotangent as the region finds it. -/
theorem V_v21 (c : Dev nD) : V m c main_v21 = concatenate S4096x128 1 [⟨S4096x64, (V m c main_v16 : FVec Ideal S4096x64 .bf16)⟩, ⟨S4096x32, (V m c main_v19 : FVec Ideal S4096x32 .bf16)⟩, ⟨S4096x32, (V m c main_v20 : FVec Ideal S4096x32 .bf16)⟩]
    concatenates_S4096x64_S4096x32_S4096x32_S4096x128_d1 := by
  unfold V
  simp only [hostOps0, List.flatten_cons, List.flatten_nil, List.append_nil, StableHlo.after_cons, StableHlo.after_nil]
  simp (disch := decide) only [StableHlo.unary_result_ne', StableHlo.reshape_result_ne', StableHlo.nary_result_ne',
    StableHlo.nullary_result_ne', StableHlo.binary_result_ne', StableHlo.nary_result']
  rfl
set_option maxHeartbeats 1000000 in
/-- The key's padded weight as the region finds it. -/
theorem V_v42 (c : Dev nD) : V m c main_v42 = concatenate S128x1024 0 [⟨S64x1024, (V m c main_v39 : FVec Ideal S64x1024 .bf16)⟩, ⟨S32x1024, (V m c main_v40 : FVec Ideal S32x1024 .bf16)⟩, ⟨S32x1024, (V m c main_v41 : FVec Ideal S32x1024 .bf16)⟩]
    concatenates_S64x1024_S32x1024_S32x1024_S128x1024_d0 := by
  unfold V
  simp only [hostOps0, List.flatten_cons, List.flatten_nil, List.append_nil, StableHlo.after_cons, StableHlo.after_nil]
  simp (disch := decide) only [StableHlo.unary_result_ne', StableHlo.reshape_result_ne', StableHlo.nary_result_ne',
    StableHlo.nullary_result_ne', StableHlo.binary_result_ne', StableHlo.nary_result']
  rfl
theorem stack_0 (c : Dev nD) (i : Fin 4096) (k : Fin 512) :
    V m c main_v15 (ix3 0 i k) = m ((c : Thread nD τ).loc main_arg4) (ix3 0 i ⟨1568 + k.val, by omega⟩) := by
  rw [V_v15]
  refine ((cat3_at _ _ _ _ _ _).1).trans ?_
  entry_read
  pointwise
theorem stack_1 (c : Dev nD) (i : Fin 4096) (k : Fin 512) :
    V m c main_v15 (ix3 1 i k) = m ((c : Thread nD τ).loc main_arg4) (ix3 0 i ⟨2080 + k.val, by omega⟩) := by
  rw [V_v15]
  refine ((cat3_at _ _ _ _ _ _).2.1).trans ?_
  entry_read
  pointwise
theorem stack_2 (c : Dev nD) (i : Fin 4096) (k : Fin 512) :
    V m c main_v15 (ix3 2 i k) = m ((c : Thread nD τ).loc main_arg4) (ix3 0 i ⟨2592 + k.val, by omega⟩) := by
  rw [V_v15]
  refine ((cat3_at _ _ _ _ _ _).2.2).trans ?_
  entry_read
  pointwise
theorem key_zero (c : Dev nD) (i : Fin 4096) (k : Fin 128) (hk : ¬ (64 ≤ k.val ∧ k.val < 96)) :
    V m c main_v21 (ix2 i k) = (0 : EReal) := by
  rw [V_v21]
  refine (catK_at _ _ _ _ _ _).trans ?_
  split
  · entry_read; pointwise
  · split
    · omega
    · entry_read; pointwise
theorem key_mid (c : Dev nD) (i : Fin 4096) (k : Fin 32) :
    V m c main_v21 (ix2 i ⟨64 + k.val, by omega⟩) = m ((c : Thread nD τ).loc main_arg4) (ix3 0 i ⟨1024 + k.val, by omega⟩) := by
  rw [V_v21]
  refine (catK_mid _ _ _ _ _ _).trans ?_
  entry_read
  pointwise
theorem kpe_mid (c : Dev nD) (k : Fin 32) (d : Fin 1024) :
    V m c main_v42 (ix2 ⟨64 + k.val, by omega⟩ d) = m ((c : Thread nD τ).loc main_arg2) (ix3 0 d ⟨1024 + k.val, by omega⟩) := by
  rw [V_v42]
  refine (catW_mid _ _ _ _ _ _).trans ?_
  entry_read
  pointwise
theorem iblk0 (c : Dev nD) (t : Fin cfg0.N) (i : Fin 512) (d : Fin 1024) :
    iblk m c 0 t (ix2 i d) = m ((c : Thread nD τ).loc main_arg0) (ix3 0 (rowOf t i) d) := by
  blk_simp [iblk, idx_val t]; entry_read; pointwise; blk_ext [rowOf, idx_val t]
theorem iblk1 (c : Dev nD) (t : Fin cfg0.N) (i : Fin 512) (d : Fin 1024) :
    iblk m c 1 t (ix2 i d) = m ((c : Thread nD τ).loc main_arg3) (ix3 0 (rowOf t i) d) := by
  blk_simp [iblk, idx_val t]; entry_read; pointwise; blk_ext [rowOf, idx_val t]
theorem iblk9 (c : Dev nD) (t : Fin cfg0.N) (d : Fin 1024) :
    iblk m c 9 t (ix2 0 d) = m ((c : Thread nD τ).loc main_arg1) (ix2 0 d) := by
  blk_ext [iblk, V, idx_val t]
theorem iblk10 (c : Dev nD) (t : Fin cfg0.N) (k : Fin 5664) (d : Fin 1024) :
    iblk m c 10 t (ix2 k d) = m ((c : Thread nD τ).loc main_arg2) (ix3 0 d k) := by
  blk_simp [iblk, idx_val t]; entry_read; pointwise; blk_ext [rowOf, idx_val t]
theorem iblk2 (c : Dev nD) (t : Fin cfg0.N) (i : Fin 512) (k : Fin 2048) :
    iblk m c 2 t (ix2 i k) = m ((c : Thread nD τ).loc main_arg4) (ix3 0 (rowOf t i) ⟨3616 + k.val, by omega⟩) := by
  blk_simp [iblk, idx_val t]; entry_read; pointwise; blk_ext [rowOf, idx_val t]
theorem iblk3 (c : Dev nD) (t : Fin cfg0.N) (i : Fin 512) (k : Fin 512) :
    iblk m c 3 t (ix2 i k) = m ((c : Thread nD τ).loc main_arg4) (ix3 0 (rowOf t i) ⟨1056 + k.val, by omega⟩) := by
  blk_simp [iblk, idx_val t]; entry_read; pointwise; blk_ext [rowOf, idx_val t]
theorem iblk5 (c : Dev nD) (t : Fin cfg0.N) (i : Fin 512) (k : Fin 512) :
    iblk m c 5 t (ix2 i k) = m ((c : Thread nD τ).loc main_arg4) (ix3 0 (rowOf t i) ⟨3104 + k.val, by omega⟩) := by
  blk_simp [iblk, idx_val t]; entry_read; pointwise; blk_ext [rowOf, idx_val t]
theorem iblk7 (c : Dev nD) (t : Fin cfg0.N) (i : Fin 512) (k : Fin 256) :
    iblk m c 7 t (ix2 i k) = m ((c : Thread nD τ).loc main_arg4) (ix3 0 (rowOf t i) ⟨768 + k.val, by omega⟩) := by
  blk_simp [iblk, idx_val t]; entry_read; pointwise; blk_ext [rowOf, idx_val t]
theorem iblk6 (c : Dev nD) (t : Fin cfg0.N) (i : Fin 512) (k : Fin 768) :
    iblk m c 6 t (ix2 i k) = m ((c : Thread nD τ).loc main_arg4) (ix3 0 (rowOf t i) ⟨k.val, by omega⟩) := by
  blk_simp [iblk, idx_val t]; entry_read; pointwise; blk_ext [rowOf, idx_val t]
theorem iblk4 (c : Dev nD) (t : Fin cfg0.N) (n : Fin 3) (i : Fin 512) (k : Fin 512) :
    iblk m c 4 t (ix3 n i k) = V m c main_v15 (ix3 n (rowOf t i) k) := by
  blk_ext [iblk, rowOf, idx_val t]
theorem iblk8 (c : Dev nD) (t : Fin cfg0.N) (i : Fin 512) (k : Fin 128) :
    iblk m c 8 t (ix2 i k) = V m c main_v21 (ix2 (rowOf t i) k) := by
  blk_ext [iblk, rowOf, idx_val t]
theorem iblk11 (c : Dev nD) (t : Fin cfg0.N) (k : Fin 128) (d : Fin 1024) :
    iblk m c 11 t (ix2 k d) = V m c main_v42 (ix2 k d) := by
  blk_ext [iblk, rowOf, idx_val t]

end Cert.FrontIdeal.Value
-- ==== Proof.SumPieces.lean ====
/- Sums over a range of indices cut into consecutive pieces, in any commutative monoid. -/
module

public import Mathlib.Algebra.BigOperators.Fin
public import Mathlib.Algebra.BigOperators.Intervals

@[expose] public section

namespace Cert.SumPieces

open Finset

variable {M : Type*} [AddCommMonoid M]

/-- A function on the first `N` numbers, zero on the others. -/
def onNat {N : ℕ} (f : Fin N → M) (n : ℕ) : M := if h : n < N then f ⟨n, h⟩ else 0

/-- The piece of `n` indices from `off` on, as a sum over an interval. -/
theorem piece {N : ℕ} (f : Fin N → M) (off n : ℕ) (h : off + n ≤ N) :
    ∑ k : Fin n, f ⟨off + k.val, by omega⟩ = ∑ j ∈ Ico off (off + n), onNat f j := by
  rw [sum_Ico_eq_sum_range, Nat.add_sub_cancel_left, sum_range]
  refine sum_congr rfl fun k _ => ?_
  rw [onNat, dif_pos (by omega)]

/-- The whole sum, as a sum over an interval. -/
theorem whole {N : ℕ} (f : Fin N → M) : ∑ k : Fin N, f k = ∑ j ∈ Ico 0 N, onNat f j := by
  have := piece f 0 N (by omega)
  simp only [zero_add] at this
  exact this

/-- A sum whose terms vanish outside the indices `off ≤ k < off + n`. -/
theorem middle {N : ℕ} (f : Fin N → M) (off n : ℕ) (h : off + n ≤ N) (hz : ∀ k : Fin N, ¬(off ≤ k.val ∧ k.val < off + n) → f k = 0) :
    ∑ k : Fin N, f k = ∑ k : Fin n, f ⟨off + k.val, by omega⟩ := by
  have z : ∀ a b : ℕ, (b ≤ off ∨ off + n ≤ a) → ∑ j ∈ Ico a b, onNat f j = 0 := fun a b hab =>
    sum_eq_zero fun j hj => by
      rw [mem_Ico] at hj
      unfold onNat
      split
      · exact hz _ (by simp only; omega)
      · rfl
  rw [whole, piece f off n h, ← sum_Ico_consecutive _ (Nat.zero_le off) (by omega : off ≤ N),
    ← sum_Ico_consecutive _ (by omega : off ≤ off + n) h, z 0 off (Or.inl le_rfl), z (off + n) N (Or.inr le_rfl), zero_add, add_zero]

end Cert.SumPieces
-- ==== Proof.FrontPoint.lean ====
/- What `front_bwd` leaves in its two results, as functions of the arguments over the extended reals. -/
module

public import proofs.«01_k».proof.Proof.FrontBlock
public import proofs.«01_k».proof.Proof.SumPieces

@[expose] public section

set_option maxRecDepth 16384

noncomputable section

namespace Cert.FrontIdeal.Value

open Cert.FrontIdeal Cert.FrontIdeal.Gen Idealize.ShloMosaic Idealize.ShloMosaic.TcCoe Idealize.SL.Sem
open Idealize.ShloMosaic.Pipeline (Dat)

variable (m : (ℓ : Loc nD τ sig) → Buf (Elt Ideal) ℓ)

/-- The arguments' entries. -/
def aX (c : Dev nD) (s : Fin 4096) (d : Fin 1024) : EReal := m ((c : Thread nD τ).loc main_arg0) (ix3 0 s d)
def aG (c : Dev nD) (d : Fin 1024) : EReal := m ((c : Thread nD τ).loc main_arg1) (ix2 0 d)
def aW (c : Dev nD) (d : Fin 1024) (k : Fin 5664) : EReal := m ((c : Thread nD τ).loc main_arg2) (ix3 0 d k)
def aO (c : Dev nD) (s : Fin 4096) (d : Fin 1024) : EReal := m ((c : Thread nD τ).loc main_arg3) (ix3 0 s d)
def aP (c : Dev nD) (s : Fin 4096) (k : Fin 5664) : EReal := m ((c : Thread nD τ).loc main_arg4) (ix3 0 s k)

/-- The cotangent of the normed input: the projection's cotangent against the weight, all columns. -/
def dh (c : Dev nD) (s : Fin 4096) (d : Fin 1024) : EReal := ∑ k : Fin 5664, aP m c s k * aW m c d k

/-- The reciprocal root of a row's mean square. -/
def rs (c : Dev nD) (s : Fin 4096) : EReal :=
  Ideal.rsqrt (Ideal.div (∑ d : Fin 1024, aX m c s d * aX m c s d) (Ideal.ofBits .f32 0x44800000#32) + Ideal.ofBits .f32 0x358637BD#32)

/-- The columns in the order in which the kernel adds its pieces. -/
theorem columns (f : Fin 5664 → EReal) :
    ∑ k : Fin 32, f ⟨1024 + k.val, by omega⟩ + ∑ k : Fin 2048, f ⟨3616 + k.val, by omega⟩ + ∑ k : Fin 512, f ⟨1056 + k.val, by omega⟩
      + ∑ k : Fin 512, f ⟨1568 + k.val, by omega⟩ + ∑ k : Fin 512, f ⟨2080 + k.val, by omega⟩ + ∑ k : Fin 512, f ⟨2592 + k.val, by omega⟩
      + ∑ k : Fin 512, f ⟨3104 + k.val, by omega⟩ + ∑ k : Fin 768, f ⟨k.val, by omega⟩ + ∑ k : Fin 256, f ⟨768 + k.val, by omega⟩
    = ∑ k : Fin 5664, f k := by
  have h0 : ∑ k : Fin 768, f ⟨k.val, by omega⟩ = ∑ k : Fin 768, f ⟨0 + k.val, by omega⟩ := Finset.sum_congr rfl fun k _ => by simp
  rw [h0, SumPieces.whole f]
  simp only [SumPieces.piece f 1024 32 (by omega), SumPieces.piece f 3616 2048 (by omega), SumPieces.piece f 1056 512 (by omega),
    SumPieces.piece f 1568 512 (by omega), SumPieces.piece f 2080 512 (by omega), SumPieces.piece f 2592 512 (by omega),
    SumPieces.piece f 3104 512 (by omega), SumPieces.piece f 0 768 (by omega), SumPieces.piece f 768 256 (by omega)]
  norm_num only
  have s := fun (a b : ℕ) (h : a ≤ b) (h' : b ≤ 5664) =>
    (Finset.sum_Ico_consecutive (SumPieces.onNat f) h h').symm
  rw [s 0 768 (by omega) (by omega), s 768 1024 (by omega) (by omega), s 1024 1056 (by omega) (by omega), s 1056 1568 (by omega) (by omega),
    s 1568 2080 (by omega) (by omega), s 2080 2592 (by omega) (by omega), s 2592 3104 (by omega) (by omega), s 3104 3616 (by omega) (by omega)]
  ac_rfl

/-- The padded product is the product of the 32 columns in the middle. -/
theorem key_sum (c : Dev nD) (t : Fin cfg0.N) (i : Fin 512) (d : Fin 1024) :
    ∑ k : Fin 128, (show EReal from iblk m c 8 t (ix2 i k)) * (show EReal from iblk m c 11 t (ix2 k d))
      = ∑ k : Fin 32, aP m c (rowOf t i) ⟨1024 + k.val, by omega⟩ * aW m c d ⟨1024 + k.val, by omega⟩ := by
  rw [SumPieces.middle _ 64 32 (by omega) (fun k hk => by
    show (show EReal from iblk m c 8 t (ix2 i k)) * _ = 0
    rw [iblk8, key_zero m c _ k hk]
    exact zero_mul _)]
  refine Finset.sum_congr rfl fun k _ => ?_
  rw [iblk8, iblk11]
  exact Ideal.mul_congr (key_mid m c _ k) (kpe_mid m c k d)

/-- The cotangent of the normed input that one point's block holds. -/
theorem dh_block (c : Dev nD) (t : Fin cfg0.N) (i : Fin 512) (d : Fin 1024) :
    k0_pay1 (F := Ideal) (k0_pay14 (iblk m c 7 t))
      (k0_pay15 (k0_pay7 (iblk m c 2 t)) (k0_pay8 (iblk m c 3 t))
        (k0_pay9 (View.ld (iblk m c 4 t) (Rect.unit ![0, 0, 0] ![1, 512, 512] inb_S3x512x512_S1x512x512_0_0_0)))
        (k0_pay10 (View.ld (iblk m c 4 t) (Rect.unit ![1, 0, 0] ![1, 512, 512] inb_S3x512x512_S1x512x512_1_0_0)))
        (k0_pay11 (View.ld (iblk m c 4 t) (Rect.unit ![2, 0, 0] ![1, 512, 512] inb_S3x512x512_S1x512x512_2_0_0)))
        (k0_pay12 (iblk m c 5 t)) (k0_pay13 (iblk m c 6 t)) (iblk m c 8 t) (iblk m c 11 t)
        (View.ld (iblk m c 10 t) (Rect.unit ![3616, 0] ![2048, 1024] inb_S5664x1024_S2048x1024_3616_0))
        (View.ld (iblk m c 10 t) (Rect.unit ![1056, 0] ![512, 1024] inb_S5664x1024_S512x1024_1056_0))
        (View.ld (iblk m c 10 t) (Rect.unit ![1568, 0] ![512, 1024] inb_S5664x1024_S512x1024_1568_0))
        (View.ld (iblk m c 10 t) (Rect.unit ![2080, 0] ![512, 1024] inb_S5664x1024_S512x1024_2080_0))
        (View.ld (iblk m c 10 t) (Rect.unit ![2592, 0] ![512, 1024] inb_S5664x1024_S512x1024_2592_0))
        (View.ld (iblk m c 10 t) (Rect.unit ![3104, 0] ![512, 1024] inb_S5664x1024_S512x1024_3104_0))
        (View.ld (iblk m c 10 t) (Rect.unit ![0, 0] ![768, 1024] inb_S5664x1024_S768x1024_0_0)))
      (View.ld (iblk m c 10 t) (Rect.unit ![768, 0] ![256, 1024] inb_S5664x1024_S256x1024_768_0)) (ix2 i d)
    = dh m c (rowOf t i) d := by
  pointwise [k0_pay1, k0_pay14, k0_pay15, k0_pay7, k0_pay8, k0_pay9, k0_pay10, k0_pay11, k0_pay12, k0_pay13]
  refine Eq.trans ?_ (columns _)
  refine Ideal.add_congr (Ideal.add_congr (Ideal.add_congr (Ideal.add_congr (Ideal.add_congr (Ideal.add_congr (Ideal.add_congr
    (Ideal.add_congr (key_sum m c t i d) ?_) ?_) ?_) ?_) ?_) ?_) ?_) ?_ <;> refine Finset.sum_congr rfl fun k _ => Ideal.mul_congr ?_ (iblk10 m c t _ _)
  · exact iblk2 m c t i k
  · exact iblk3 m c t i k
  · exact (iblk4 m c t 0 i k).trans (stack_0 m c _ k)
  · exact (iblk4 m c t 1 i k).trans (stack_1 m c _ k)
  · exact (iblk4 m c t 2 i k).trans (stack_2 m c _ k)
  · exact iblk5 m c t i k
  · exact iblk6 m c t i k
  · exact iblk7 m c t i k

/-- The gradient of the input that the kernel leaves. -/
def gx (c : Dev nD) (s : Fin 4096) (d : Fin 1024) : EReal :=
  aO m c s d + (rs m c s * (dh m c s d * aG m c d)
    - aX m c s d * (rs m c s * rs m c s * rs m c s) * Ideal.div (∑ e : Fin 1024, aX m c s e * (dh m c s e * aG m c e)) (Ideal.ofBits .f32 0x44800000#32))

/-- The gradient of the scale that the kernel leaves. -/
def gg (c : Dev nD) (d : Fin 1024) : EReal := ∑ s : Fin 4096, dh m c s d * (aX m c s d * rs m c s)

/-- The root of a row as a point's block holds it. -/
theorem rs_block (c : Dev nD) (t : Fin cfg0.N) (i : Fin 512) :
    Ideal.rsqrt (Ideal.div (∑ d : Fin 1024, (show EReal from iblk m c 0 t (ix2 i d)) * (show EReal from iblk m c 0 t (ix2 i d)))
      (Ideal.ofBits .f32 0x44800000#32) + Ideal.ofBits .f32 0x358637BD#32) = rs m c (rowOf t i) := by
  unfold rs
  congr 3
  exact Finset.sum_congr rfl fun d _ => Ideal.mul_congr (iblk0 m c t i d) (iblk0 m c t i d)

theorem pay6_at (x : FVec Ideal S512x1024 .f32) (i : Fin 512) : k0_pay6 (F := Ideal) x (ix2 i 0)
    = Ideal.rsqrt (Ideal.div (∑ d : Fin 1024, x (ix2 i d) * x (ix2 i d)) (Ideal.ofBits .f32 0x44800000#32) + Ideal.ofBits .f32 0x358637BD#32) := by
  pointwise [k0_pay6, k0_pay5]

theorem pay3_at (x : FVec Ideal S512x1024 .f32) (g : FVec Ideal S1x1024 .f32) (r : FVec Ideal S512x1 .f32) (a : FVec Ideal S512x256 .bf16)
    (b : FVec Ideal S512x1024 .f32) (w : FVec Ideal S256x1024 .bf16) (o : FVec Ideal S512x1024 .f32) (i : Fin 512) (d : Fin 1024) :
    k0_pay3 (F := Ideal) (k0_pay5 x) g r a b w o (ix2 i d)
    = o (ix2 i d) + (r (ix2 i 0) * (k0_pay1 a b w (ix2 i d) * g (ix2 0 d)) - x (ix2 i d) * (r (ix2 i 0) * r (ix2 i 0) * r (ix2 i 0))
        * Ideal.div (∑ e : Fin 1024, x (ix2 i e) * (k0_pay1 a b w (ix2 i e) * g (ix2 0 e))) (Ideal.ofBits .f32 0x44800000#32)) := by
  pointwise [k0_pay3, k0_pay5]

theorem pay2_at (x : FVec Ideal S512x1024 .f32) (r : FVec Ideal S512x1 .f32) (a : FVec Ideal S512x256 .bf16)
    (b : FVec Ideal S512x1024 .f32) (w : FVec Ideal S256x1024 .bf16) (p : FVec Ideal S1x1024 .f32) (d : Fin 1024) :
    k0_pay2 (F := Ideal) (k0_pay5 x) r a b w p (ix2 0 d)
    = p (ix2 0 d) + ∑ i : Fin 512, k0_pay1 a b w (ix2 i d) * (x (ix2 i d) * r (ix2 i 0)) := by
  pointwise [k0_pay2, k0_pay5]

/-- The row root of a point's block. -/
theorem r_at (c : Dev nD) (t : Fin cfg0.N) (i : Fin 512) : k0_pay6 (F := Ideal) (iblk m c 0 t) (ix2 i 0) = rs m c (rowOf t i) :=
  (pay6_at _ i).trans (rs_block m c t i)

/-- Where a point's block of the first result lies. -/
theorem emb12 (t : Fin cfg0.N) (i : Fin 512) (d : Fin 1024) :
    ((View.whole main_v44_0).slice (win0_12.rect t)).emb (ix2 i d) = (ix2 (rowOf t i) d : S4096x1024.Idx) := by
  blk_ext [rowOf, idx_val t]

/-- One entry of the first result, from the values of the point's blocks. -/
theorem gx_congr (c : Dev nD) (s : Fin 4096) (d : Fin 1024) (o r : EReal) (h g : Fin 1024 → EReal) (xs : Fin 1024 → EReal)
    (ho : o = aO m c s d) (hr : r = rs m c s) (hh : ∀ e, h e = dh m c s e) (hg : ∀ e, g e = aG m c e) (hx : ∀ e, xs e = aX m c s e) :
    o + (r * (h d * g d) - xs d * (r * r * r) * Ideal.div (∑ e : Fin 1024, xs e * (h e * g e)) (Ideal.ofBits .f32 0x44800000#32)) = gx m c s d := by
  obtain rfl : h = _ := funext hh
  obtain rfl : g = _ := funext hg
  obtain rfl : xs = _ := funext hx
  rw [ho, hr]; rfl

set_option maxHeartbeats 1000000 in
theorem final12 (c : Dev nD) : (dats m 0 c).arrAt 12 (cfgs 0).N = (fun i => gx m c (i 0) (i 1) : FVec Ideal S4096x1024 .f32) := by
  refine (dats m 0 c).arrAt_eq_of_covers 12 _ (by decide +kernel) fun t _ y => ?_
  blk_simp
  rw [after0_12]
  by_cases h : t.val % 8 = 0
  · rw [outsAt0_A m c t h]; frame_out; idx_vars y
    exact (pay3_at ..).trans ((gx_congr m c _ y1 _ _ _ _ _ (iblk1 m c t y0 y1) (r_at m c t y0) (dh_block m c t y0) (iblk9 m c t) (iblk0 m c t y0)).trans
      (congrArg (fun i : S4096x1024.Idx => gx m c (i 0) (i 1)) (emb12 t y0 y1).symm))
  · rw [outsAt0_B m c t h]; frame_out; idx_vars y
    exact (pay3_at ..).trans ((gx_congr m c _ y1 _ _ _ _ _ (iblk1 m c t y0 y1) (r_at m c t y0) (dh_block m c t y0) (iblk9 m c t) (iblk0 m c t y0)).trans
      (congrArg (fun i : S4096x1024.Idx => gx m c (i 0) (i 1)) (emb12 t y0 y1).symm))

/-- What one point adds to the second result. -/
def ggPart (c : Dev nD) (t : Fin cfg0.N) (j : S1x1024.Idx) : EReal :=
  ∑ i : Fin 512, dh m c (rowOf t i) (j 1) * (aX m c (rowOf t i) (j 1) * rs m c (rowOf t i))

theorem ggPart_eq (c : Dev nD) (t : Fin cfg0.N) (d : Fin 1024) (a : FVec Ideal S512x256 .bf16) (b : FVec Ideal S512x1024 .f32)
    (w : FVec Ideal S256x1024 .bf16) (hh : ∀ i, k0_pay1 a b w (ix2 i d) = dh m c (rowOf t i) d) :
    ∑ i : Fin 512, k0_pay1 a b w (ix2 i d) * ((show EReal from iblk m c 0 t (ix2 i d)) * k0_pay6 (F := Ideal) (iblk m c 0 t) (ix2 i 0))
      = ggPart m c t (ix2 0 d) :=
  Finset.sum_congr rfl fun i _ => Ideal.mul_congr (hh i) (Ideal.mul_congr (iblk0 m c t i d) (r_at m c t i))

/-- The points' parts add up to the sum over all rows. -/
theorem gg_sum (c : Dev nD) (d : Fin 1024) : ∑ t : Fin cfg0.N, ggPart m c t (ix2 0 d) = gg m c d :=
  (Fin.sum_univ_tiles 8 512 rfl fun s => dh m c s d * (aX m c s d * rs m c s)).symm

set_option maxHeartbeats 1000000 in
theorem final13 (c : Dev nD) : (dats m 0 c).arrAt 13 (cfgs 0).N = (fun i => gg m c (i 1) : FVec Ideal S1x1024 .f32) := by
  refine (dats m 0 c).arrAt_eq_of_after_last 13 t0_7 (by decide +kernel) _ fun j => ?_
  blk_simp
  rw [after0_13, Pipeline.eq_sum_fin_of_reset_step_apply_last (fun n h => (outsAt0 m c n h).2) 8 (fun _ => 0) (ggPart m c)
    (fun t h j => by
      rw [outsAt0_A m c t h]; frame_out; idx_vars j
      obtain rfl : j0 = 0 := Subsingleton.elim _ _
      refine (pay2_at ..).trans (Ideal.add_congr ?_ (ggPart_eq m c t j1 _ _ _ fun i => dh_block m c t i j1))
      pointwise [k0_pay4])
    (fun t h j => by
      rw [outsAt0_B m c t h]; frame_out; idx_vars j
      obtain rfl : j0 = 0 := Subsingleton.elim _ _
      exact (pay2_at ..).trans (Ideal.add_congr rfl (ggPart_eq m c t j1 _ _ _ fun i => dh_block m c t i j1))) (le_of_eq N_0) t0_7 rfl j, zero_add]
  idx_vars j
  obtain rfl : j0 = 0 := Subsingleton.elim _ _
  exact gg_sum m c j1

end Cert.FrontIdeal.Value
-- ==== Proof.FrontRefPoint.lean ====
/- What the reference of `front_bwd` leaves, entry by entry, over the extended reals. -/
module

public import proofs.«01_k».proof.Proof.Gen.FrontRefIdeal.Read
public import Idealize.ShloMosaic.Lib.Pipeline.ValueKit
public import Idealize.ShloMosaic.Lib.Pointwise

@[expose] public section

set_option maxRecDepth 16384

noncomputable section

namespace Cert.FrontRefIdeal.Read

open Cert.FrontRefIdeal Cert.FrontRefIdeal.Gen Idealize.ShloMosaic Idealize.ShloMosaic.TcCoe Idealize.SL.Sem

variable (x : (⟨S1x4096x1024, .f32⟩ : BufTy).Contents (Elt Ideal)) (g : (⟨S1x1024, .f32⟩ : BufTy).Contents (Elt Ideal))
  (w : (⟨S1x1024x5664, .f32⟩ : BufTy).Contents (Elt Ideal)) (o : (⟨S1x4096x1024, .f32⟩ : BufTy).Contents (Elt Ideal))
  (p : (⟨S1x4096x5664, .f32⟩ : BufTy).Contents (Elt Ideal))

/-- The constants of the reference's text. -/
theorem k_1024 : Ideal.ofBits .f32 0x44800000#32 = ((1024 : ℝ) : EReal) := by simp [Ideal.ofBits, Ideal.ieee, -EReal.coe_mul]; norm_num
theorem k_mhalf : Ideal.ofBits .f32 0xBF000000#32 = ((-(1 / 2) : ℝ) : EReal) := by simp [Ideal.ofBits, Ideal.ieee, -EReal.coe_mul]; norm_num
theorem k_eps : ∃ e : ℝ, 0 < e ∧ Ideal.ofBits .f32 0x358637BD#32 = ((e : ℝ) : EReal) := by
  refine ⟨_, ?_, by simp [Ideal.ofBits, Ideal.ieee, -EReal.coe_mul]; rfl⟩
  norm_num
theorem k_zero : Ideal.ofBits .f32 0x00000000#32 = 0 := by simp [Ideal.ofBits, Ideal.ieee]

/-- A reduction over two axes of length one keeps the one entry. -/
theorem reduce_02 (v : S1x4096x1.Idx → EReal) (i : EReal) (s : Fin 4096) :
    Ideal.hostReduceAdd reducesTo_S1x4096x1_S4096_d0_2 v i (ix1 s) = i + v (ix3 0 s 0) := by
  unfold Ideal.hostReduceAdd
  congr 1
  refine Finset.sum_eq_single_of_mem (ix3 0 s 0) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b2 = 0 := Subsingleton.elim _ _
    have h1 : b1.val = s.val := congrArg Fin.val (congrFun hd 0)
    obtain rfl : b1 = s := Fin.ext h1
    exact absurd rfl hne

theorem reduce_01 (v : S1x1x1024.Idx → EReal) (i : EReal) (s : Fin 1024) :
    Ideal.hostReduceAdd reducesTo_S1x1x1024_S1024_d0_1 v i (ix1 s) = i + v (ix3 0 0 s) := by
  unfold Ideal.hostReduceAdd
  congr 1
  refine Finset.sum_eq_single_of_mem (ix3 0 0 s) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b1 = 0 := Subsingleton.elim _ _
    have h1 : b2.val = s.val := congrArg Fin.val (congrFun hd 0)
    obtain rfl : b2 = s := Fin.ext h1
    exact absurd rfl hne

theorem v7_at (s : Fin 4096) : val_main_v7 (F := Ideal) x (ix3 0 s 0) = Ideal.div (∑ d : Fin 1024, x (ix3 0 s d) * x (ix3 0 s d)) (Ideal.ofBits .f32 0x44800000#32) + Ideal.ofBits .f32 0x358637BD#32 := by
  pointwise [val_main_v7, val_main_v6, val_main_v5, val_main_v4, val_main_v3, val_main_v2, val_main_v1, val_main_cst, val_main_cst_0, val_main_cst_1, k_zero]
theorem v11_at (s : Fin 4096) : val_main_v11 (F := Ideal) x (ix3 0 s 0) = Ideal.ofBits .f32 0xBF000000#32 * Ideal.div (Ideal.rsqrt (val_main_v7 (F := Ideal) x (ix3 0 s 0))) (val_main_v7 (F := Ideal) x (ix3 0 s 0)) := by
  pointwise [val_main_v11, val_main_v10, val_main_v9, val_main_v8, val_main_cst_2]
theorem v19_at (s : Fin 4096) (d : Fin 1024) : val_main_v19 (F := Ideal) w p (ix3 0 s d) = ∑ k : Fin 5664, p (ix3 0 s k) * w (ix3 0 d k) := by
  pointwise [val_main_v19, val_main_v17]
theorem v42_at (d : Fin 1024) : val_main_v42 (F := Ideal) x w p (ix2 0 d)
    = ∑ s : Fin 4096, x (ix3 0 s d) * Ideal.rsqrt (val_main_v7 (F := Ideal) x (ix3 0 s 0)) * val_main_v19 (F := Ideal) w p (ix3 0 s d) := by
  pointwise [val_main_v42, val_main_v22, val_main_v25, val_main_v21, val_main_v20, val_main_v13, val_main_v12, val_main_v8, reduce_01, val_main_cst_3, val_main_cst_4]
theorem v34_at (s : Fin 4096) : val_main_v34 (F := Ideal) x g w p (ix3 0 s 0) = Ideal.div ((∑ d : Fin 1024, x (ix3 0 s d) * (val_main_v19 (F := Ideal) w p (ix3 0 s d) * g (ix2 0 d)))
    * val_main_v11 (F := Ideal) x (ix3 0 s 0)) (Ideal.ofBits .f32 0x44800000#32) := by
  pointwise [val_main_v34, val_main_v33, val_main_v32, val_main_v30, val_main_v28, val_main_v27, val_main_v26, val_main_v24, val_main_v23, val_main_v14, val_main_v0, val_main_cst_5, val_main_cst_6, k_zero]
theorem v43_at (s : Fin 4096) (d : Fin 1024) : val_main_v43 (F := Ideal) x g w o p (ix2 s d)
    = o (ix3 0 s d) + val_main_v19 (F := Ideal) w p (ix3 0 s d) * g (ix2 0 d) * Ideal.rsqrt (val_main_v7 (F := Ideal) x (ix3 0 s 0))
      + x (ix3 0 s d) * val_main_v34 (F := Ideal) x g w p (ix3 0 s 0) + val_main_v34 (F := Ideal) x g w p (ix3 0 s 0) * x (ix3 0 s d) := by
  pointwise [val_main_v43, val_main_v41, val_main_v40, val_main_v39, val_main_v38, val_main_v37, val_main_v36, val_main_v35, val_main_v30, val_main_v31, val_main_v29, val_main_v24, val_main_v23, val_main_v14, val_main_v0, val_main_v8, reduce_02, val_main_cst_7]

end Cert.FrontRefIdeal.Read
-- ==== Proof.RealNum.lean ====
/- Finite extended reals: the exact operations on them are the operations on real numbers. -/
module

public import Idealize.ShloMosaic.Lib.ReduceAll
public import Idealize.ShloMosaic.Lib.Pointwise
public import Mathlib.Analysis.SpecialFunctions.Pow.Real

@[expose] public section

noncomputable section

namespace Cert.RealNum

open Idealize.ShloMosaic

/-- A sum of reals, taken in the extended reals. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a nonzero real. -/
theorem div_coe (x y : ℝ) (h : y ≠ 0) : Ideal.div (x : EReal) (y : EReal) = ((x / y : ℝ) : EReal) := by
  rw [Ideal.div_coe h, ← EReal.coe_mul, mul_one_div]

/-- The reciprocal root of a positive real. -/
theorem rsqrt_pos (x : ℝ) (h : 0 < x) : Ideal.rsqrt (x : EReal) = (((Real.sqrt x)⁻¹ : ℝ) : EReal) := by
  rw [Ideal.rsqrt_coe, if_neg h.le.not_gt, if_neg h.ne']

/-- `|x| < ∞`, as the printed comparison reads it, makes `x` a real. -/
theorem real_of_abs_lt {s : Shape} (x : FVec Ideal s .f32) (y : FVec Ideal s .f32) (i : s.Idx) (hy : y i = (⊤ : EReal))
    (h : cmpf (F := Ideal) .olt (Host.absf x) y i = 1#1) : ∃ r : ℝ, x i = (r : EReal) := by
  have h' : Ideal.cmp .olt (max (x i : EReal) (-(x i : EReal))) (y i) = 1#1 := h
  rw [hy] at h'
  generalize hx : (x i : EReal) = z at h' ⊢
  induction z using EReal.rec with
  | bot => simp [Ideal.cmp] at h'
  | top => simp [Ideal.cmp] at h'
  | coe r => exact ⟨r, rfl⟩

/-- A printed `all (|x| < inf)` makes every entry of `x` a real. -/
theorem real_of_all {s t u w : Shape} {axes : List (Fin s.rank)} [Subsingleton t.Idx] (x : FVec Ideal s .f32) (dims : Fin w.rank → Fin s.rank)
    (hb : w.BroadcastsInDim s dims) (init : u.Idx → BitVec 1) (h : s.ReducesTo axes t) (hu : 0 < u.numel) (j : t.Idx)
    (e : Host.reduce IntOp.andi (cmpf (F := Ideal) .olt (Host.absf x) (broadcastInDim s dims hb (constant w .f32 0x7F800000#32))) init h hu j = 1#1)
    (i : s.Idx) : ∃ r : ℝ, x i = (r : EReal) :=
  real_of_abs_lt x _ i (by show Ideal.ofBits .f32 0x7F800000#32 = ⊤; simp [Ideal.ofBits, Ideal.ieee]) (Host.reduce_andi_all _ _ _ _ j e i)

end Cert.RealNum
-- ==== Proof.NormGrad.lean ====
/- The gradient of a root-mean-square norm, written out with the cubed root and as the derivative of the forward lines. -/
module

public import proofs.«01_k».proof.Proof.RealNum

@[expose] public section

noncomputable section

namespace Cert.NormGrad

open Idealize.ShloMosaic

variable {n : ℕ}

/-- The mean square of a row plus the epsilon, as a real. -/
theorem mean_coe (x : Fin n → ℝ) (K e : ℝ) (hK : 0 < K) :
    Ideal.div (∑ d : Fin n, (x d : EReal) * (x d : EReal)) (K : EReal) + (e : EReal) = (((∑ d, x d * x d) / K + e : ℝ) : EReal) := by
  simp only [← EReal.coe_mul, RealNum.sum_coe]
  rw [RealNum.div_coe _ _ hK.ne', ← EReal.coe_add]

theorem mean_pos (x : Fin n → ℝ) (K e : ℝ) (hK : 0 < K) (he : 0 < e) : 0 < (∑ d, x d * x d) / K + e := by
  have : 0 ≤ ∑ d, x d * x d := Finset.sum_nonneg fun d _ => mul_self_nonneg _
  positivity

/-- The two ways of writing the gradient of the row agree; `o` is what is added before it, of any value. -/
theorem grad_eq (o : EReal) (x g h : Fin n → ℝ) (K e : ℝ) (hK : 0 < K) (he : 0 < e) (d : Fin n) :
    o + (Ideal.rsqrt (Ideal.div (∑ d : Fin n, (x d : EReal) * (x d : EReal)) (K : EReal) + (e : EReal)) * ((h d : EReal) * (g d : EReal))
      - (x d : EReal) * (Ideal.rsqrt (Ideal.div (∑ d : Fin n, (x d : EReal) * (x d : EReal)) (K : EReal) + (e : EReal))
          * Ideal.rsqrt (Ideal.div (∑ d : Fin n, (x d : EReal) * (x d : EReal)) (K : EReal) + (e : EReal))
          * Ideal.rsqrt (Ideal.div (∑ d : Fin n, (x d : EReal) * (x d : EReal)) (K : EReal) + (e : EReal)))
        * Ideal.div (∑ d : Fin n, (x d : EReal) * ((h d : EReal) * (g d : EReal))) (K : EReal))
    = o + (h d : EReal) * (g d : EReal) * Ideal.rsqrt (Ideal.div (∑ d : Fin n, (x d : EReal) * (x d : EReal)) (K : EReal) + (e : EReal))
      + (x d : EReal) * Ideal.div ((∑ d : Fin n, (x d : EReal) * ((h d : EReal) * (g d : EReal))) * (((-(1 / 2) : ℝ) : EReal)
          * Ideal.div (Ideal.rsqrt (Ideal.div (∑ d : Fin n, (x d : EReal) * (x d : EReal)) (K : EReal) + (e : EReal)))
            (Ideal.div (∑ d : Fin n, (x d : EReal) * (x d : EReal)) (K : EReal) + (e : EReal)))) (K : EReal)
      + Ideal.div ((∑ d : Fin n, (x d : EReal) * ((h d : EReal) * (g d : EReal))) * (((-(1 / 2) : ℝ) : EReal)
          * Ideal.div (Ideal.rsqrt (Ideal.div (∑ d : Fin n, (x d : EReal) * (x d : EReal)) (K : EReal) + (e : EReal)))
            (Ideal.div (∑ d : Fin n, (x d : EReal) * (x d : EReal)) (K : EReal) + (e : EReal)))) (K : EReal) * (x d : EReal) := by
  rw [mean_coe x K e hK]
  have hM := mean_pos x K e hK he
  generalize (∑ d, x d * x d) / K + e = M at hM ⊢
  rw [RealNum.rsqrt_pos M hM]
  have hs : Real.sqrt M * Real.sqrt M = M := Real.mul_self_sqrt hM.le
  have hp : 0 < Real.sqrt M := Real.sqrt_pos.2 hM
  generalize Real.sqrt M = s at hs hp ⊢
  simp only [← EReal.coe_mul, RealNum.sum_coe, RealNum.div_coe _ _ hM.ne', RealNum.div_coe _ _ hK.ne']
  generalize ∑ d, x d * (h d * g d) = S
  simp only [← EReal.coe_mul, ← EReal.coe_sub, add_assoc, ← EReal.coe_add]
  congr 2
  subst hs
  field_simp
  ring

end Cert.NormGrad
-- ==== Proof.FrontClaim.lean ====
/- The value claim of `front_bwd`: on finite arguments the kernel leaves what the reference leaves. -/
module

public import proofs.«01_k».proof.Defs
public import proofs.«01_k».proof.Proof.Gen.Pre_front_finite
public import proofs.«01_k».proof.Proof.Gen.FrontRefIdeal.Run
public import proofs.«01_k».proof.Proof.FrontPoint
public import proofs.«01_k».proof.Proof.FrontRefPoint
public import proofs.«01_k».proof.Proof.NormGrad

@[expose] public section

set_option maxRecDepth 16384

noncomputable section

namespace Cert.FrontClaim

open Idealize.ShloMosaic Idealize.ShloMosaic.TcCoe Idealize.SL.Sem

/-- What the precondition says of the arguments. -/
theorem reals (x : FVec Ideal Pre_front_finite.S1x4096x1024 .f32) (g : FVec Ideal Pre_front_finite.S1x1024 .f32)
    (w : FVec Ideal Pre_front_finite.S1x1024x5664 .f32) (o : FVec Ideal Pre_front_finite.S1x4096x1024 .f32) (p : FVec Ideal Pre_front_finite.S1x4096x5664 .f32)
    (h : Pre_front_finite.fn (F := Ideal) x g w o p = fun _ => 1#1) :
    (∀ i, ∃ r : ℝ, x i = (r : EReal)) ∧ (∀ i, ∃ r : ℝ, g i = (r : EReal)) ∧ (∀ i, ∃ r : ℝ, w i = (r : EReal)) ∧ ∀ i, ∃ r : ℝ, p i = (r : EReal) := by
  haveI : Subsingleton Pre_front_finite.S_.Idx := ⟨fun a b => funext fun k => k.elim0⟩
  have h1 := congrFun h (fun k => k.elim0)
  obtain ⟨h2, hp⟩ := IntOp.andi_eq_one.1 h1
  obtain ⟨h3, hw⟩ := IntOp.andi_eq_one.1 h2
  obtain ⟨hx, hg⟩ := IntOp.andi_eq_one.1 h3
  exact ⟨RealNum.real_of_all x _ _ _ _ _ _ hx, RealNum.real_of_all g _ _ _ _ _ _ hg, RealNum.real_of_all w _ _ _ _ _ _ hw,
    RealNum.real_of_all p _ _ _ _ _ _ hp⟩

section
open Cert.FrontIdeal Cert.FrontIdeal.Value

variable (m : (ℓ : Loc FrontIdeal.nD FrontIdeal.τ FrontIdeal.sig) → Buf (Elt Ideal) ℓ)

/-- The gradient of the input: the kernel's text against the reference's. -/
theorem gx_ref (hm : Pre_FrontIdeal_front_finite m) (c : Dev FrontIdeal.nD) :
    (fun i => gx m c (i 0) (i 1) : FVec Ideal S4096x1024 .f32)
      = FrontRefIdeal.Read.val_main_v43 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  obtain ⟨hx, hg, hw, hp⟩ := reals _ _ _ _ _ (hm c)
  choose x hx using hx
  choose g hg using hg
  choose w hw using hw
  choose p hp using hp
  have hX : ∀ s d, aX m c s d = (x (ix3 0 s d) : EReal) := fun s d => hx _
  have hG : ∀ d, aG m c d = (g (ix2 0 d) : EReal) := fun d => hg _
  have hH : ∀ s d, dh m c s d = ((∑ k : Fin 5664, p (ix3 0 s k) * w (ix3 0 d k) : ℝ) : EReal) := fun s d => by
    rw [← RealNum.sum_coe]
    exact Finset.sum_congr rfl fun k _ => (Ideal.mul_congr (hp _) (hw _)).trans (EReal.coe_mul _ _).symm
  obtain ⟨e, he, hE⟩ := FrontRefIdeal.Read.k_eps
  funext i
  idx_vars i
  refine Eq.trans ?_ (FrontRefIdeal.Read.v43_at ..).symm
  rw [FrontRefIdeal.Read.v34_at, FrontRefIdeal.Read.v11_at, FrontRefIdeal.Read.v7_at, FrontRefIdeal.Read.k_1024, FrontRefIdeal.Read.k_mhalf, hE]
  simp only [FrontRefIdeal.Read.v19_at]
  refine Eq.trans ?_ ((NormGrad.grad_eq (aO m c i0 i1) (fun d => x (ix3 0 i0 d)) (fun d => g (ix2 0 d))
    (fun d => ∑ k : Fin 5664, p (ix3 0 i0 k) * w (ix3 0 d k)) 1024 e (by norm_num) he i1).trans ?_)
  · simp only [gx, rs, hX, hG, hH, FrontRefIdeal.Read.k_1024, hE]
  · simp only [← hX, ← hG, ← hH]
    rfl

/-- The gradient of the scale. -/
theorem gg_ref (c : Dev FrontIdeal.nD) :
    (fun i => gg m c (i 1) : FVec Ideal S1x1024 .f32)
      = FrontRefIdeal.Read.val_main_v42 (F := Ideal) (m ((c.tc : Thread nD τ).loc main_arg0)) (m ((c.tc : Thread nD τ).loc main_arg2))
        (m ((c.tc : Thread nD τ).loc main_arg4)) := by
  funext i
  idx_vars i
  obtain rfl : i0 = 0 := Subsingleton.elim _ _
  refine Eq.trans ?_ (FrontRefIdeal.Read.v42_at ..).symm
  refine Finset.sum_congr rfl fun s _ => ?_
  rw [FrontRefIdeal.Read.v7_at, FrontRefIdeal.Read.v19_at]
  exact mul_comm _ _

end

/-- The two programs leave equal results from memories that agree on the arguments. -/
theorem algebraic : algebraic_FrontIdeal_FrontRefIdeal_pre_front_finite (hFrontIdeal := FrontIdeal.Gen.facts) (hFrontRefIdeal := FrontRefIdeal.Gen.facts)
    (hPre_front_finite := Pre_front_finite.Gen.facts) := fun m ρ m' ρ' hm hag =>
  ⟨_, _, (θ_run _ _ _).mono (fun _ h c => ⟨(h c).1.trans (FrontIdeal.Value.final12 m c), (h c).2.1.trans (FrontIdeal.Value.final13 m c), (h c).2.2⟩)
      (FrontIdeal.Value.run_blocks m ρ),
    (θ_run _ _ _).mono (fun _ h c => ⟨(h c).1.trans (by
        obtain ⟨h0, h1, h2, h3, h4⟩ := hag c
        rw [FrontRefIdeal.Read.val_main_v43_eq, h0, h1, h2, h3, h4]; exact (gx_ref m hm c).symm), (h c).2.1.trans (by
        obtain ⟨h0, h1, h2, h3, h4⟩ := hag c
        rw [FrontRefIdeal.Read.val_main_v42_eq, h0, h2, h4]; exact (gg_ref m c).symm), (h c).2.2⟩)
      (FrontRefIdeal.Value.run m' ρ')⟩

/-- The reference's frame: it owns no semaphore, so none is off zero. -/
theorem frame_ref : quiescent_FrontRefIdeal (hFrontRefIdeal := FrontRefIdeal.Gen.facts) := fun m ρ _ =>
  (θ_run _ _ _).mono (fun r h => ⟨fun c => (h c).2.2, sem_eq_zero_of_no_sems (by decide) _⟩) (FrontRefIdeal.Value.run m ρ)

end Cert.FrontClaim
-- ==== Proof.AttnFrame.lean ====
module

public import proofs.«01_k».proof.Proof.Gen.Attn.Frame
public import proofs.«01_k».proof.Proof.Gen.Attn.Loops
public import Idealize.ShloMosaic.Lib.Claim

@[expose] public section

set_option maxRecDepth 16384

/-! The frame of `attn_kernel` as printed: every point runs, whatever the floats; nothing is said of what the results hold. -/

noncomputable section

namespace Cert.Attn.Value

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section One
variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)

/-- What the body does at a head pair's first tile: the query gradient cleared and the scratch filled. -/
def start : Prog (TpuEff nD τ sig (Elt F) Λ₀ .tc) Unit := do
  if k0_h1 : k0_cond1 i = 1#1 then do
    let v497 : Vec F S2x4096x128 .f32 ← Prog.lift (.load arg9 (Rect.unit (s := S2x4096x128) ![0, 0, 0] S2x4096x128.size inb_S2x4096x128_S2x4096x128_0_0_0).toLoadRect (View.loadsAt_vmem h_S2x4096x128))
    Prog.lift (.store arg9 (Rect.unit (s := S2x4096x128) ![0, 0, 0] S2x4096x128.size inb_S2x4096x128_S2x4096x128_0_0_0) (k0_pay42 (F := F)) Finset.univ (View.stores_vmem_bits_univ h_S2x4096x128 rfl) (.inl rfl))
    have v498 : IVec S1024x128 32 := iota .tc S1024x128 32 [1] iota_S1024x128_d1_w32
    Scf.Loop.for k0_t1_loop (k0_t1_ok i k0_h1) () (k0_t1_body i arg2 harg2 arg3 harg3 arg4 harg4 arg5 harg5 arg6 harg6 arg7 harg7 arg8 harg8 arg9 harg9 arg10 harg10 arg11 harg11 arg12 harg12 arg13 harg13 k0_h1 v498)
    pure ()
  else do
    pure ()

/-- The loads that follow. -/
def loads :
    Prog (TpuEff nD τ sig (Elt F) Λ₀ .tc) (Σ' (arg1 : BitVec 32) (v4 : FVec F S1024x128 .bf16) (v6 : FVec F S1024x128 .bf16) (v8 : FVec F S1024x128 .bf16) (v10 : FVec F S1024x128 .bf16) (v11 : BitVec 32) (v12 : FVec F S512x128 .bf16) (v13 : FVec F S512x128 .bf16) (v14 : FVec F S512x128 .bf16) (v15 : FVec F S512x128 .bf16) (v17 : BitVec 32) (v20 : FVec F S512x128 .bf16) (v23 : FVec F S512x128 .bf16) (v25 : FVec F S512x512 .f32) (v27 : FVec F S512x512 .f32), FVec F S512x512 .f32) := do
  let arg1 : BitVec 32 := BitVec.ofNat 32 (i 1).val
  let v3 : Vec F S1x1024x128 .bf16 ← Prog.lift (.load arg3 (Rect.unit (s := S2x1024x128) ![0, 0, 0] S1x1024x128.size inb_S2x1024x128_S1x1024x128_0_0_0).toLoadRect (View.loadsAt_vmem h_S1x1024x128))
  let v5 : Vec F S1x1024x128 .bf16 ← Prog.lift (.load arg3 (Rect.unit (s := S2x1024x128) ![1, 0, 0] S1x1024x128.size inb_S2x1024x128_S1x1024x128_1_0_0).toLoadRect (View.loadsAt_vmem h_S1x1024x128))
  let v7 : Vec F S1x1024x128 .bf16 ← Prog.lift (.load arg4 (Rect.unit (s := S2x1024x128) ![0, 0, 0] S1x1024x128.size inb_S2x1024x128_S1x1024x128_0_0_0).toLoadRect (View.loadsAt_vmem h_S1x1024x128))
  let v9 : Vec F S1x1024x128 .bf16 ← Prog.lift (.load arg4 (Rect.unit (s := S2x1024x128) ![1, 0, 0] S1x1024x128.size inb_S2x1024x128_S1x1024x128_1_0_0).toLoadRect (View.loadsAt_vmem h_S1x1024x128))
  let v11 : BitVec 32 := Scalar.addi arg1 1#32
  let v16 : BitVec 32 := Scalar.muli arg1 1024#32
  let v17 : BitVec 32 := v16
  let v19 : Vec F S1x512x128 .bf16 ← Prog.lift (.load arg2 (Rect.unit (s := S2x4096x128) (k0_off4 i) S1x512x128.size (k0_off4_inb i)).toLoadRect (View.loadsAt_vmem h_S1x512x128))
  let v22 : Vec F S1x512x128 .bf16 ← Prog.lift (.load arg12 (Rect.unit (s := S2x4096x128) (k0_off4 i) S1x512x128.size (k0_off4_inb i)).toLoadRect (View.loadsAt_vmem h_S1x512x128))
  let v29 : Vec F S1x512x128 .f32 ← Prog.lift (.load arg7 (Rect.unit (s := S2x4096x128) (k0_off4 i) S1x512x128.size (k0_off4_inb i)).toLoadRect (View.loadsAt_vmem h_S1x512x128))
  pure ⟨arg1, k0_pay44 v3, k0_pay45 v5, k0_pay46 v7, k0_pay47 v9, v11, k0_pay48 v3, k0_pay49 v3, k0_pay50 v7, k0_pay51 v7, v17, k0_pay52 v19, k0_pay53 v22, k0_pay54 v7 v22, k0_pay55 v3 v19, k0_pay56 v29⟩

theorem start_loads : k0_part6_skel (F := F) i arg2 harg2 arg3 harg3 arg4 harg4 arg5 harg5 arg6 harg6 arg7 harg7 arg8 harg8 arg9 harg9 arg10 harg10 arg11 harg11 arg12 harg12 arg13 harg13
    = start i arg2 harg2 arg3 harg3 arg4 harg4 arg5 harg5 arg6 harg6 arg7 harg7 arg8 harg8 arg9 harg9 arg10 harg10 arg11 harg11 arg12 harg12 arg13 harg13 >>= fun _ => loads i arg2 arg3 arg4 arg7 arg12 := by
  unfold k0_part6_skel start loads
  by_cases h : k0_cond1 i = 1#1
  · simp only [dif_pos h, bind_assoc, pure_bind]
  · simp only [dif_neg h, bind_assoc, pure_bind]

variable (x0 : Vec F S2x4096x128 .bf16) (x1 : Vec F S2x1024x128 .bf16) (x2 : Vec F S2x1024x128 .bf16) (x3 : Vec F S4096x128 .f32) (x4 : Vec F S4096x128 .f32) (x5 : Vec F S2x4096x128 .f32) (x6 : Vec F S8x128 .f32)

set_option maxHeartbeats 4000000 in
/-- The first part keeps what it is given, the results and the scratch at anything. -/
theorem start_keeps (E : Set ℕ) (Q : sProp 𝕄) : iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ Q))
    ⊢ wp frame (wpE (defs₀ (F := F)) Variants.none c none) E (start (F := F) i arg2 harg2 arg3 harg3 arg4 harg4 arg5 harg5 arg6 harg6 arg7 harg7 arg8 harg8 arg9 harg9 arg10 harg10 arg11 harg11 arg12 harg12 arg13 harg13) (fun _ => Q) := by
  unfold start
  by_cases hc : k0_cond1 i = 1#1
  · rw [dif_pos hc]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩, Hk⟩
    sl_exec
    sl_step
    iapply Hk
    isplitl [H0]
    · iexists _; isplitr
      swap; · iexact H0
      ipureintro; exact hf0
    isplitl [H1]
    · iexists _; isplitr
      swap; · iexact H1
      ipureintro; exact hf1
    isplitl [H2]
    · iexists _; isplitr
      swap; · iexact H2
      ipureintro; exact hf2
    isplitl [H3]
    · iexists _; isplitr
      swap; · iexact H3
      ipureintro; exact hf3
    isplitl [H4]
    · iexists _; isplitr
      swap; · iexact H4
      ipureintro; exact hf4
    isplitl [H5]
    · iexists _; isplitr
      swap; · iexact H5
      ipureintro; exact hf5
    isplitl [H6]
    · iexists _; isplitr
      swap; · iexact H6
      ipureintro; exact hf6
    isplitl [H7]
    · iexists _
      iexists _; isplitr
      swap; · iexact H7
      ipureintro; rfl
    isplitl [H8]
    · iexists _
      iexists _; isplitr
      swap; · iexact H8
      ipureintro; rfl
    isplitl [H9]
    · iexists _
      iexists _; isplitr
      swap; · iexact H9
      ipureintro; rfl
    isplitl [H10]
    · iexists _
      iexists _; isplitr
      swap; · iexact H10
      ipureintro; rfl
    iexists _
    iexists _; isplitr
    swap; · iexact H11
    ipureintro; rfl
  · rw [dif_neg hc]
    iintro ⟨H, Hk⟩
    sl_step
    iapply Hk
    iexact H

set_option maxHeartbeats 4000000 in
/-- So does the whole body. -/
theorem body_keeps (E : Set ℕ) (Q : sProp 𝕄) : iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ Q))
    ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13) (fun _ => Q) := by
  simp only [cc0_attn_bwd_eq_skeleton]; unfold cc0_attn_bwd_skel
  simp only [k0_part6_eq_skeleton, start_loads, bind_assoc]
  rw [wp_bind]
  refine BIBase.Entails.trans (sep_mono .rfl (wand_intro (sep_comm.1.trans ?_))) (start_keeps c i arg2 harg2 arg3 harg3 arg4 harg4 arg5 harg5 arg6 harg6 arg7 harg7 arg8 harg8 arg9 harg9 arg10 harg10 arg11 harg11 arg12 harg12 arg13 harg13 x0 x1 x2 x3 x4 x5 x6 E _)
  simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, loads]
  unfold owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩, Hk⟩
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact hf3
  isplitl [H4]
  · iexists _; isplitr
    swap; · iexact H4
    ipureintro; exact hf4
  isplitl [H5]
  · iexists _; isplitr
    swap; · iexact H5
    ipureintro; exact hf5
  isplitl [H6]
  · iexists _; isplitr
    swap; · iexact H6
    ipureintro; exact hf6
  isplitl [H7]
  · iexists _
    iexists _; isplitr
    swap; · iexact H7
    ipureintro; rfl
  isplitl [H8]
  · iexists _
    iexists _; isplitr
    swap; · iexact H8
    ipureintro; rfl
  isplitl [H9]
  · iexists _
    iexists _; isplitr
    swap; · iexact H9
    ipureintro; rfl
  isplitl [H10]
  · iexists _
    iexists _; isplitr
    swap; · iexact H10
    ipureintro; rfl
  iexists _
  iexists _; isplitr
  swap; · iexact H11
  ipureintro; rfl

end One

variable (m : (ℓ : Loc nD τ sig) → Buf (Elt F) ℓ) (ρ : Dev nD → PrngReg)

abbrev ms0 (t : Fin cfg0.N) : Memref sig .tc .vmem S2x4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4096x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1024x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1024x128 .f32 := win0_9.stage (cfg0.slots t 9)
abbrev hs9 (t : Fin cfg0.N) : (ms9 t).IsWhole := hstage0_9 ((cfg0.slots t 9).cast nbuf0_9)
abbrev sm0 : Memref sig .tc .vmem S2x4096x128 .bf16 := Memref.whole cc0_scratch0
abbrev sm1 : Memref sig .tc .vmem S2x4096x128 .f32 := Memref.whole cc0_scratch1

theorem PhiA_eq (c : Dev nD) : (Pipeline.ΦA spec0 c : sProp 𝕄)
    = iprop(iprop((∃ d, owns (c : Thread nD τ) sm0 fullShare d) ∗ (∃ d, owns (c : Thread nD τ) sm1 fullShare d)) ∗ (∃ r, prngReg c r)) := by
  unfold Pipeline.ΦA; rw [scopedRest0_eq]; simp only [sm0, sm1, owns_whole]; try rfl

/-- The results' windows, of which nothing is said. -/
def unsaid : Fin 10 → Bool := fun w => 7 ≤ w.val

/-- The proof data: inputs keep their blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare d)
    ∗ (∃ d, owns (c : Thread nD τ) (ms8 t) fullShare d)
    ∗ (∃ d, owns (c : Thread nD τ) (ms9 t) fullShare d))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ (∃ d, owns (c : Thread nD τ) (ms7 t) fullShare d)
    ∗ (∃ d, owns (c : Thread nD τ) (ms8 t) fullShare d)
    ∗ (∃ d, owns (c : Thread nD τ) (ms9 t) fullShare d))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl, after0, after1, after2, after3, after4, after5, after6,
    show (dats m 0 c).Φ t.castSucc = Pipeline.ΦA spec0 c from rfl, show (dats m 0 c).Φ t.succ = Pipeline.ΦA spec0 c from rfl, PhiA_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, H7, H8, H9⟩
  iapply (body_keeps c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) (iblk m c 0 t) (iblk m c 1 t) (iblk m c 2 t) (iblk m c 3 t) (iblk m c 4 t) (iblk m c 5 t) (iblk m c 6 t) Set.univ _)
  isplitl [H0 H1 H2 H3 H4 H5 H6 H7 H8 H9 HS0 HS1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1
  iintro ⟨H0, H1, H2, H3, H4, H5, H6, H7, H8, H9, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ unsaid := fun t => by
  rw [bigSep_W0, bigSep_W0, defs_row]
  exact triple_restated (sound_body m c t) rfl .rfl fun _ => .rfl

-- the implicit arguments are found by unifying the statement, which takes unfolding plain definitions in types
set_option backward.isDefEq.respectTransparency.types false in
/-- The launch. -/
theorem launched : θ_run defs (onTc (τ := τ) (main (F := F))) (s₀ m ρ) (fun r => (Pipeline.RDat.FramePost (cfgs 0) (fun c => (dats m 0 c).toRForget unsaid) (V m)) r ∧ r.2.sem = fun _ => 0) :=
  Pipeline.θ_run_frame_track_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := A_eq m) (hin := fun _ => .rfl) (hout := fun _ => .rfl)

/-- The frame: the arguments end as they began, and no counter is off zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (launched m ρ)

end Cert.Attn.Value
-- ==== Proof.AttnBody.lean ====
module

public import proofs.«01_k».proof.Proof.Gen.AttnIdeal.Frame
public import proofs.«01_k».proof.Proof.Gen.AttnIdeal.Loops
public import Idealize.ShloMosaic.Lib.Claim

@[expose] public section

set_option maxRecDepth 16384

noncomputable section

namespace Cert.AttnIdeal.Value

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

abbrev cond0_0 (i : grid0.Coords) : Prop := k0_cond1 i = 1#1
abbrev cond0_1 (i : grid0.Coords) : Prop := (Scalar.cmpi .ne (Scalar.extui (Scalar.cmpi .eq (BitVec.ofNat 32 (i 1).val) 3#32)) 0#32) = 1#1

variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)

/-- What the body does at a head pair's first tile: the running query gradient cleared, the masked output cotangent and its row sums stored. -/
def start : Prog (TpuEff nD τ sig (Elt Ideal) Λ₀ .tc) Unit := do
  if k0_h1 : k0_cond1 i = 1#1 then do
    let v497 : Vec Ideal S2x4096x128 .f32 ← Prog.lift (.load arg9 (Rect.unit (s := S2x4096x128) ![0, 0, 0] S2x4096x128.size inb_S2x4096x128_S2x4096x128_0_0_0).toLoadRect (View.loadsAt_vmem h_S2x4096x128))
    Prog.lift (.store arg9 (Rect.unit (s := S2x4096x128) ![0, 0, 0] S2x4096x128.size inb_S2x4096x128_S2x4096x128_0_0_0) (k0_pay42 (F := Ideal)) Finset.univ (View.stores_vmem_bits_univ h_S2x4096x128 rfl) (.inl rfl))
    have v498 : IVec S1024x128 32 := iota .tc S1024x128 32 [1] iota_S1024x128_d1_w32
    Scf.Loop.for k0_t1_loop (k0_t1_ok i k0_h1) () (k0_t1_body i arg2 harg2 arg3 harg3 arg4 harg4 arg5 harg5 arg6 harg6 arg7 harg7 arg8 harg8 arg9 harg9 arg10 harg10 arg11 harg11 arg12 harg12 arg13 harg13 k0_h1 v498)
    pure ()
  else do
    pure ()

/-- The loads that follow. -/
def loads :
    Prog (TpuEff nD τ sig (Elt Ideal) Λ₀ .tc) (Σ' (arg1 : BitVec 32) (v4 : FVec Ideal S1024x128 .bf16) (v6 : FVec Ideal S1024x128 .bf16) (v8 : FVec Ideal S1024x128 .bf16) (v10 : FVec Ideal S1024x128 .bf16) (v11 : BitVec 32) (v12 : FVec Ideal S512x128 .bf16) (v13 : FVec Ideal S512x128 .bf16) (v14 : FVec Ideal S512x128 .bf16) (v15 : FVec Ideal S512x128 .bf16) (v17 : BitVec 32) (v20 : FVec Ideal S512x128 .bf16) (v23 : FVec Ideal S512x128 .bf16) (v25 : FVec Ideal S512x512 .f32) (v27 : FVec Ideal S512x512 .f32), FVec Ideal S512x512 .f32) := do
  let arg1 : BitVec 32 := BitVec.ofNat 32 (i 1).val
  let v3 : Vec Ideal S1x1024x128 .bf16 ← Prog.lift (.load arg3 (Rect.unit (s := S2x1024x128) ![0, 0, 0] S1x1024x128.size inb_S2x1024x128_S1x1024x128_0_0_0).toLoadRect (View.loadsAt_vmem h_S1x1024x128))
  let v5 : Vec Ideal S1x1024x128 .bf16 ← Prog.lift (.load arg3 (Rect.unit (s := S2x1024x128) ![1, 0, 0] S1x1024x128.size inb_S2x1024x128_S1x1024x128_1_0_0).toLoadRect (View.loadsAt_vmem h_S1x1024x128))
  let v7 : Vec Ideal S1x1024x128 .bf16 ← Prog.lift (.load arg4 (Rect.unit (s := S2x1024x128) ![0, 0, 0] S1x1024x128.size inb_S2x1024x128_S1x1024x128_0_0_0).toLoadRect (View.loadsAt_vmem h_S1x1024x128))
  let v9 : Vec Ideal S1x1024x128 .bf16 ← Prog.lift (.load arg4 (Rect.unit (s := S2x1024x128) ![1, 0, 0] S1x1024x128.size inb_S2x1024x128_S1x1024x128_1_0_0).toLoadRect (View.loadsAt_vmem h_S1x1024x128))
  let v11 : BitVec 32 := Scalar.addi arg1 1#32
  let v16 : BitVec 32 := Scalar.muli arg1 1024#32
  let v17 : BitVec 32 := v16
  let v19 : Vec Ideal S1x512x128 .bf16 ← Prog.lift (.load arg2 (Rect.unit (s := S2x4096x128) (k0_off4 i) S1x512x128.size (k0_off4_inb i)).toLoadRect (View.loadsAt_vmem h_S1x512x128))
  let v22 : Vec Ideal S1x512x128 .bf16 ← Prog.lift (.load arg12 (Rect.unit (s := S2x4096x128) (k0_off4 i) S1x512x128.size (k0_off4_inb i)).toLoadRect (View.loadsAt_vmem h_S1x512x128))
  let v29 : Vec Ideal S1x512x128 .f32 ← Prog.lift (.load arg7 (Rect.unit (s := S2x4096x128) (k0_off4 i) S1x512x128.size (k0_off4_inb i)).toLoadRect (View.loadsAt_vmem h_S1x512x128))
  pure ⟨arg1, k0_pay44 v3, k0_pay45 v5, k0_pay46 v7, k0_pay47 v9, v11, k0_pay48 v3, k0_pay49 v3, k0_pay50 v7, k0_pay51 v7, v17, k0_pay52 v19, k0_pay53 v22, k0_pay54 v7 v22, k0_pay55 v3 v19, k0_pay56 v29⟩

theorem start_loads : k0_part6_skel (F := Ideal) i arg2 harg2 arg3 harg3 arg4 harg4 arg5 harg5 arg6 harg6 arg7 harg7 arg8 harg8 arg9 harg9 arg10 harg10 arg11 harg11 arg12 harg12 arg13 harg13
    = start i arg2 harg2 arg3 harg3 arg4 harg4 arg5 harg5 arg6 harg6 arg7 harg7 arg8 harg8 arg9 harg9 arg10 harg10 arg11 harg11 arg12 harg12 arg13 harg13 >>= fun _ => loads i arg2 arg3 arg4 arg7 arg12 := by
  unfold k0_part6_skel start loads
  by_cases h : k0_cond1 i = 1#1
  · simp only [dif_pos h, bind_assoc, pure_bind]
  · simp only [dif_neg h, bind_assoc, pure_bind]

variable (x0 : Vec Ideal S2x4096x128 .bf16) (x1 : Vec Ideal S2x1024x128 .bf16) (x2 : Vec Ideal S2x1024x128 .bf16) (x3 : Vec Ideal S4096x128 .f32) (x4 : Vec Ideal S4096x128 .f32) (x5 : Vec Ideal S2x4096x128 .f32) (x6 : Vec Ideal S8x128 .f32) (x7 : Vec Ideal S2x4096x128 .f32) (x8 : Vec Ideal S2x1024x128 .f32) (x9 : Vec Ideal S2x1024x128 .f32) (s0 : Vec Ideal S2x4096x128 .bf16) (s1 : Vec Ideal S2x4096x128 .f32) (z7 : Vec Ideal S2x4096x128 .f32) (t0 : Vec Ideal S2x4096x128 .bf16) (t1 : Vec Ideal S2x4096x128 .f32)

omit c in
theorem wp_two {X : Prog (TpuEff nD τ sig (Elt Ideal) Λ₀ .tc) Unit} {β : Type} {Y : Unit → Prog (TpuEff nD τ sig (Elt Ideal) Λ₀ .tc) β}
    {c : Dev nD} {E : Set ℕ} {R R' K' : sProp 𝕄} {K : β → sProp 𝕄}
    (hY : ∀ a, iprop(R' ∗ K') ⊢ wp frame (wpE (defs₀ (F := Ideal)) Variants.none c none) E (Y a) K)
    (hX : ∀ Q : sProp 𝕄, iprop(R ∗ (R' -∗ Q)) ⊢ wp frame (wpE (defs₀ (F := Ideal)) Variants.none c none) E X (fun _ => Q)) :
    iprop(R ∗ K') ⊢ wp frame (wpE (defs₀ (F := Ideal)) Variants.none c none) E (X >>= Y) K := by
  rw [wp_bind]
  exact (sep_mono .rfl (wand_intro (sep_comm.1.trans (hY ())))).trans (hX _)

set_option maxHeartbeats 4000000 in
/-- One point of the kernel, its first part given: what the three results' buffers hold at the end is found by the run. -/
def run : Σ' (W7 : BufTy.Contents (Elt Ideal) arg9.view.ty) (W8 : BufTy.Contents (Elt Ideal) arg10.view.ty) (W9 : BufTy.Contents (Elt Ideal) arg11.view.ty), ∀ (E : Set ℕ) (K : PUnit → sProp 𝕄)
    (hstart : ∀ Q : sProp 𝕄, iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare s0 ∗ owns (c : Thread nD τ) arg13 fullShare s1) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z7 ∗ owns (c : Thread nD τ) arg10 fullShare x8 ∗ owns (c : Thread nD τ) arg11 fullShare x9 ∗ owns (c : Thread nD τ) arg12 fullShare t0 ∗ owns (c : Thread nD τ) arg13 fullShare t1) -∗ Q))
      ⊢ wp frame (wpE (defs₀ (F := Ideal)) Variants.none c none) E (start i arg2 harg2 arg3 harg3 arg4 harg4 arg5 harg5 arg6 harg6 arg7 harg7 arg8 harg8 arg9 harg9 arg10 harg10 arg11 harg11 arg12 harg12 arg13 harg13) (fun _ => Q)),
        iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare s0 ∗ owns (c : Thread nD τ) arg13 fullShare s1)
            ∗ (((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg7.view.loc (c : Thread nD τ) ↦[arg7.view.set]{fullShare} harg7.unread x5) ∗ (arg8.view.loc (c : Thread nD τ) ↦[arg8.view.set]{fullShare} harg8.unread x6) ∗ (arg9.view.loc (c : Thread nD τ) ↦[arg9.view.set]{fullShare} W7) ∗ (arg10.view.loc (c : Thread nD τ) ↦[arg10.view.set]{fullShare} W8) ∗ (arg11.view.loc (c : Thread nD τ) ↦[arg11.view.set]{fullShare} W9) ∗ (arg12.view.loc (c : Thread nD τ) ↦[arg12.view.set]{fullShare} harg12.unread t0) ∗ (arg13.view.loc (c : Thread nD τ) ↦[arg13.view.set]{fullShare} harg13.unread t1)) -∗ K ⟨⟩))
          ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13) K := by
    refine ⟨?_, ?_, ?_, fun E K hstart => ?run⟩
    case run =>
    simp only [cc0_attn_bwd_eq_skeleton]; unfold cc0_attn_bwd_skel
    simp only [k0_part6_eq_skeleton, start_loads, bind_assoc]
    refine wp_two (R' := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare z7 ∗ owns (c : Thread nD τ) arg10 fullShare x8 ∗ owns (c : Thread nD τ) arg11 fullShare x9 ∗ owns (c : Thread nD τ) arg12 fullShare t0 ∗ owns (c : Thread nD τ) arg13 fullShare t1)) ?_ hstart
    intro a
    simp only [k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, loads]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, HS0⟩, ⟨%g1, %hg1, HS1⟩⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    obtain rfl := harg9.eq_unread hf7; obtain rfl := harg10.eq_unread hf8; obtain rfl := harg11.eq_unread hf9
    obtain rfl := harg12.eq_unread hg0; obtain rfl := harg13.eq_unread hg1
    sl_exec
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iexact HS1

end Cert.AttnIdeal.Value
end
-- ==== Proof.AttnPay.lean ====
module

public import proofs.«01_k».proof.Proof.Gen.AttnIdeal.Frame
public import proofs.«01_k».proof.Proof.Gen.AttnIdeal.Loops
public import Idealize.ShloMosaic.Lib.Claim
public import proofs.«01_k».proof.Proof.FrontPoint

@[expose] public section

set_option maxRecDepth 16384

/-! The attention kernel's payloads read at one index. -/

noncomputable section

namespace Cert.AttnIdeal.Value

open Cert.AttnIdeal Cert.AttnIdeal.Gen Idealize.ShloMosaic Idealize.ShloMosaic.TcCoe Idealize.SL.Sem

/-- The scale of the logarithm-two softmax, as the kernel holds it. -/
abbrev sc2 : EReal := Named.named (F := Ideal) (φ := .f32) κ "scale2" 1041680192#32

/-- A column of the 128-lane copies that the kernel repeats along a tile. -/
abbrev lane {n : ℕ} (k : Fin n) : Fin 128 := ⟨k.val % 128, Nat.mod_lt _ (by decide)⟩

theorem lane4 {α : Type} (f : Fin 128 → α) (k : ℕ) (hk : k < 512) :
    (if h : k < 128 then f ⟨k, h⟩ else if h : k - 128 < 128 then f ⟨k - 128, h⟩ else
      if h : k - 128 - 128 < 128 then f ⟨k - 128 - 128, h⟩ else f ⟨k - 128 - 128 - 128, by omega⟩)
      = f ⟨k % 128, Nat.mod_lt _ (by decide)⟩ := by
  split_ifs <;> (congr 2; omega)

theorem lane8 {α : Type} (f : Fin 128 → α) (k : ℕ) (hk : k < 1024) :
    (if h : k < 128 then f ⟨k, h⟩ else if h : k - 128 < 128 then f ⟨k - 128, h⟩ else
      if h : k - 128 - 128 < 128 then f ⟨k - 128 - 128, h⟩ else
      if h : k - 128 - 128 - 128 < 128 then f ⟨k - 128 - 128 - 128, h⟩ else
      if h : k - 128 - 128 - 128 - 128 < 128 then f ⟨k - 128 - 128 - 128 - 128, h⟩ else
      if h : k - 128 - 128 - 128 - 128 - 128 < 128 then f ⟨k - 128 - 128 - 128 - 128 - 128, h⟩ else
      if h : k - 128 - 128 - 128 - 128 - 128 - 128 < 128 then f ⟨k - 128 - 128 - 128 - 128 - 128 - 128, h⟩ else
      f ⟨k - 128 - 128 - 128 - 128 - 128 - 128 - 128, by omega⟩)
      = f ⟨k % 128, Nat.mod_lt _ (by decide)⟩ := by
  split_ifs <;> (congr 2; omega)

/-- A probability of a tile from a query's row, a key's row and the saved logarithm. -/
def pE (q k : Fin 128 → EReal) (l : EReal) : EReal := FloatOps.exp2 (F := Ideal) (φ := .f32) ((∑ x, q x * k x) * sc2 - l)

set_option maxHeartbeats 1000000 in
theorem pay109_at (K : FVec Ideal S512x128 .bf16) (Q : Vec Ideal S1x512x128 .bf16) (L : Vec Ideal S1x512x128 .f32) (r k : Fin 512) :
    k0_pay109 K Q L (ix2 r k) = pE (fun x => Q (ix3 0 r x)) (fun x => K (ix2 k x)) (L (ix3 0 r (lane k))) := by
  pointwise [k0_pay109, k0_pay107]
  exact congrArg (fun l : EReal => FloatOps.exp2 (F := Ideal) (φ := .f32) ((∑ x, Q (ix3 0 r x) * K (ix2 k x)) * sc2 - l)) (lane4 (fun x => L (ix3 0 r x)) k.val k.isLt)

/-- The floored division of a row or column number by the chunk length, as the kernel spells it. -/
def chunkOf (n : BitVec 32) : BitVec 32 :=
  Scalar.select (α := BitVec 32)
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt 64#32 0#32)) (Scalar.extui (Scalar.cmpi .slt 64#32 0#32))))
      (IntOp.cmpi .ne (IntOp.remsi .vector n 64#32) 0#32))
    (IntOp.subi (IntOp.divsi .vector n 64#32) 1#32)
    (IntOp.divsi .vector n 64#32)

theorem chunkOf_eq : ∀ n : Fin 512, chunkOf (BitVec.ofNat 32 n.val) = BitVec.ofNat 32 (n.val / 64) := by
  decide +kernel

theorem sle_eq : ∀ a b : Fin 8, IntOp.cmpi .sle (BitVec.ofNat 32 a.val) (BitVec.ofNat 32 b.val) = if a.val ≤ b.val then 1#1 else 0#1 := by
  decide +kernel

/-- The rows of a tile, numbered. -/
abbrev rows : IVec S512x512 32 := iota .tc S512x512 32 [0] iota_S512x512_d0_w32

set_option maxHeartbeats 1000000 in
theorem pay119_at (v : FVec Ideal S512x512 .f32) (r k : Fin 512) :
    k0_pay119 v rows k0_pay118 (ix2 r k) = if k.val / 64 ≤ r.val / 64 then v (ix2 r k) else (0 : EReal) := by
  pointwise [k0_pay119, k0_pay118]
  change Scalar.select (IntOp.cmpi .sle (chunkOf (BitVec.ofNat 32 k.val)) (chunkOf (BitVec.ofNat 32 r.val))) (v (ix2 r k)) (0 : EReal) = _
  rw [chunkOf_eq, chunkOf_eq, sle_eq ⟨k.val / 64, by omega⟩ ⟨r.val / 64, by omega⟩]
  split_ifs <;> rfl

theorem pay116_at (V : FVec Ideal S512x128 .bf16) (O : Vec Ideal S1x512x128 .bf16) (r k : Fin 512) :
    k0_pay116 V O (ix2 r k) = ∑ x, O (ix3 0 r x) * V (ix2 k x) := by
  pointwise [k0_pay116, k0_pay115]

set_option maxHeartbeats 1000000 in
theorem pay120_at (v381 v : FVec Ideal S512x512 .f32) (T : Vec Ideal S1x512x128 .f32) (r k : Fin 512) :
    k0_pay120 v381 v rows k0_pay118 T (ix2 r k) = k0_pay119 v rows k0_pay118 (ix2 r k) * (v381 (ix2 r k) - T (ix3 0 r (lane k))) := by
  pointwise [k0_pay120]
  exact congrArg (fun l : EReal => k0_pay119 v rows k0_pay118 (ix2 r k) * (v381 (ix2 r k) - l)) (lane4 (fun x => T (ix3 0 r x)) k.val k.isLt)

set_option maxHeartbeats 1000000 in
theorem pay110_at (K V : FVec Ideal S512x128 .bf16) (Q O : Vec Ideal S1x512x128 .bf16) (L T : Vec Ideal S1x512x128 .f32) (r k : Fin 512) :
    k0_pay110 K V Q O L T (ix2 r k) = k0_pay109 K Q L (ix2 r k) * ((∑ x, O (ix3 0 r x) * V (ix2 k x)) - T (ix3 0 r (lane k))) := by
  pointwise [k0_pay110, k0_pay108]
  exact congrArg (fun l : EReal => k0_pay109 K Q L (ix2 r k) * ((∑ x, O (ix3 0 r x) * V (ix2 k x)) - l)) (lane4 (fun x => T (ix3 0 r x)) k.val k.isLt)

theorem pay121_at (O : FVec Ideal S512x128 .bf16) (v : FVec Ideal S512x512 .f32) (d : Fin 128) (k : Fin 512) :
    k0_pay121 O v rows k0_pay118 (ix2 d k) = ∑ r, O (ix2 r d) * k0_pay119 v rows k0_pay118 (ix2 r k) := by
  pointwise [k0_pay121]

theorem pay122_at (Q : FVec Ideal S512x128 .bf16) (v381 v : FVec Ideal S512x512 .f32) (T : Vec Ideal S1x512x128 .f32) (d : Fin 128) (k : Fin 512) :
    k0_pay122 Q v381 v rows k0_pay118 T (ix2 d k) = ∑ r, Q (ix2 r d) * k0_pay120 v381 v rows k0_pay118 T (ix2 r k) := by
  pointwise [k0_pay122]

theorem pay123_at (K : FVec Ideal S512x128 .bf16) (v381 v : FVec Ideal S512x512 .f32) (T : Vec Ideal S1x512x128 .f32) (z : Vec Ideal S1x512x128 .f32) (r : Fin 512) (d : Fin 128) :
    k0_pay124 (k0_pay123 K v381 v rows k0_pay118 T z) (ix3 0 r d) = z (ix3 0 r d) + ∑ k, k0_pay120 v381 v rows k0_pay118 T (ix2 r k) * K (ix2 k d) := by
  pointwise [k0_pay124, k0_pay123]

theorem pay111_at (K : FVec Ideal S512x128 .bf16) (Q O : Vec Ideal S1x512x128 .bf16) (L : Vec Ideal S1x512x128 .f32) (d : Fin 128) (k : Fin 512) :
    k0_pay111 K Q O L (ix2 d k) = ∑ r, O (ix3 0 r d) * k0_pay109 K Q L (ix2 r k) := by
  pointwise [k0_pay111, k0_pay108]

theorem pay112_at (K V : FVec Ideal S512x128 .bf16) (Q O : Vec Ideal S1x512x128 .bf16) (L T : Vec Ideal S1x512x128 .f32) (d : Fin 128) (k : Fin 512) :
    k0_pay112 K V Q O L T (ix2 d k) = ∑ r, Q (ix3 0 r d) * k0_pay110 K V Q O L T (ix2 r k) := by
  pointwise [k0_pay112, k0_pay107]

theorem pay113_at (K V : FVec Ideal S512x128 .bf16) (Q O : Vec Ideal S1x512x128 .bf16) (L T z : Vec Ideal S1x512x128 .f32) (r : Fin 512) (d : Fin 128) :
    k0_pay113 K V Q O L T z (ix3 0 r d) = z (ix3 0 r d) + ∑ k, k0_pay110 K V Q O L T (ix2 r k) * K (ix2 k d) := by
  pointwise [k0_pay113]

theorem pay114_at (Q : Vec Ideal S1x512x128 .bf16) (r : Fin 512) (d : Fin 128) : k0_pay114 Q (ix2 r d) = Q (ix3 0 r d) := by
  pointwise [k0_pay114]

theorem pay115_at (Q : Vec Ideal S1x512x128 .bf16) (r : Fin 512) (d : Fin 128) : k0_pay115 Q (ix2 r d) = Q (ix3 0 r d) := by
  pointwise [k0_pay115]

/-- The upper and the lower half of a tile of keys or values. -/
theorem pay48_at (v : Vec Ideal S1x1024x128 .bf16) (k : Fin 512) (d : Fin 128) : k0_pay48 v (ix2 k d) = v (ix3 0 ⟨k.val, by omega⟩ d) := by
  pointwise [k0_pay48, k0_pay44]

theorem pay49_at (v : Vec Ideal S1x1024x128 .bf16) (k : Fin 512) (d : Fin 128) : k0_pay49 v (ix2 k d) = v (ix3 0 ⟨512 + k.val, by omega⟩ d) := by
  pointwise [k0_pay49, k0_pay44]

theorem pay44_at (v : Vec Ideal S1x1024x128 .bf16) (k : Fin 1024) (d : Fin 128) : k0_pay44 v (ix2 k d) = v (ix3 0 k d) := by
  pointwise [k0_pay44]

set_option maxHeartbeats 1000000 in
theorem pay125_at (a b e : FVec Ideal S128x512 .f32) (d : Fin 128) (k : Fin 1024) :
    k0_pay125 a b e (ix2 d k) = if h : k.val < 512 then a (ix2 d ⟨k.val, h⟩) + b (ix2 d ⟨k.val, h⟩) else e (ix2 d ⟨k.val - 512, by omega⟩) := by
  pointwise [k0_pay125]

set_option maxHeartbeats 1000000 in
theorem pay12_at (K : FVec Ideal S1024x128 .bf16) (Q : Vec Ideal S1x1024x128 .bf16) (L : Vec Ideal S1x1024x128 .f32) (r k : Fin 1024) :
    k0_pay12 K Q L (ix2 r k) = pE (fun x => Q (ix3 0 r x)) (fun x => K (ix2 k x)) (L (ix3 0 r (lane k))) := by
  pointwise [k0_pay12, k0_pay10]
  exact congrArg (fun l : EReal => FloatOps.exp2 (F := Ideal) (φ := .f32) ((∑ x, Q (ix3 0 r x) * K (ix2 k x)) * sc2 - l)) (lane8 (fun x => L (ix3 0 r x)) k.val k.isLt)

set_option maxHeartbeats 1000000 in
theorem pay13_at (K V : FVec Ideal S1024x128 .bf16) (Q O : Vec Ideal S1x1024x128 .bf16) (L T : Vec Ideal S1x1024x128 .f32) (r k : Fin 1024) :
    k0_pay13 K V Q O L T (ix2 r k) = k0_pay12 K Q L (ix2 r k) * ((∑ x, O (ix3 0 r x) * V (ix2 k x)) - T (ix3 0 r (lane k))) := by
  pointwise [k0_pay13, k0_pay11]
  exact congrArg (fun l : EReal => k0_pay12 K Q L (ix2 r k) * ((∑ x, O (ix3 0 r x) * V (ix2 k x)) - l)) (lane8 (fun x => T (ix3 0 r x)) k.val k.isLt)

theorem pay14_at (K : FVec Ideal S1024x128 .bf16) (Q O : Vec Ideal S1x1024x128 .bf16) (L : Vec Ideal S1x1024x128 .f32) (d : Fin 128) (k : Fin 1024) :
    k0_pay14 K Q O L (ix2 d k) = ∑ r, O (ix3 0 r d) * k0_pay12 K Q L (ix2 r k) := by
  pointwise [k0_pay14, k0_pay11]

theorem pay15_at (K V : FVec Ideal S1024x128 .bf16) (Q O : Vec Ideal S1x1024x128 .bf16) (L T : Vec Ideal S1x1024x128 .f32) (d : Fin 128) (k : Fin 1024) :
    k0_pay15 K V Q O L T (ix2 d k) = ∑ r, Q (ix3 0 r d) * k0_pay13 K V Q O L T (ix2 r k) := by
  pointwise [k0_pay15, k0_pay10]

theorem pay16_at (K V : FVec Ideal S1024x128 .bf16) (Q O : Vec Ideal S1x1024x128 .bf16) (L T z : Vec Ideal S1x1024x128 .f32) (r : Fin 1024) (d : Fin 128) :
    k0_pay16 K V Q O L T z (ix3 0 r d) = z (ix3 0 r d) + ∑ k, k0_pay13 K V Q O L T (ix2 r k) * K (ix2 k d) := by
  pointwise [k0_pay16]

theorem pay22_at (a b : FVec Ideal S128x1024 .f32) (d : Fin 128) (k : Fin 1024) : k0_pay22 a b (ix2 d k) = a (ix2 d k) + b (ix2 d k) := by
  pointwise [k0_pay22]

theorem pay127_at (v : FVec Ideal S128x1024 .f32) (k : Fin 1024) (d : Fin 128) :
    k0_pay127 v (ix3 0 k d) = v (ix2 d k) * Named.named (F := Ideal) (φ := .f32) κ "scale" 0x3DD105EC#32 := by
  pointwise [k0_pay127]

theorem pay128_at (v : FVec Ideal S128x1024 .f32) (k : Fin 1024) (d : Fin 128) : k0_pay128 v (ix3 0 k d) = v (ix2 d k) := by
  pointwise [k0_pay128]

theorem pay1_at (v : Vec Ideal S2x4096x128 .f32) (h : Fin 2) (r : Fin 4096) (d : Fin 128) :
    k0_pay1 v (ix3 h r d) = v (ix3 h r d) * Named.named (F := Ideal) (φ := .f32) κ "scale" 0x3DD105EC#32 := by
  pointwise [k0_pay1]

end Cert.AttnIdeal.Value
end
-- ==== Proof.AttnTile.lean ====
module

public import proofs.«01_k».proof.Proof.AttnPay
public import proofs.«01_k».proof.Proof.SumPieces

@[expose] public section

set_option maxRecDepth 16384

/-! One head's tiles of the attention gradient: the diagonal's three and the full ones, as sums over rows and columns. -/

noncomputable section

namespace Cert.AttnIdeal.Value

open Cert.AttnIdeal Cert.AttnIdeal.Gen Cert.SumPieces Idealize.ShloMosaic Idealize.ShloMosaic.TcCoe Idealize.SL.Sem

section Spec

variable (j : ℕ) (q O L T : Fin 4096 → Fin 128 → EReal) (K V : Fin 1024 → Fin 128 → EReal)

/-- The probability of query row `r` and of key `k` of the tile, before the mask. -/
def P (r : Fin 4096) (k : Fin 1024) : EReal := pE (q r) (K k) (L r (lane k))
/-- Its score's gradient. -/
def D (r : Fin 4096) (k : Fin 1024) : EReal := P q L K r k * ((∑ x, O r x * V k x) - T r (lane k))
/-- The key's chunk is not after the query's. -/
abbrev on (r : Fin 4096) (k : Fin 1024) : Prop := (1024 * j + k.val) / 64 ≤ r.val / 64
def PM (r : Fin 4096) (k : Fin 1024) : EReal := if on j r k then P q L K r k else 0
def DM (r : Fin 4096) (k : Fin 1024) : EReal := if on j r k then D q O L T K V r k else 0
/-- What the rows before `n` add to a key's gradient, to a value's, and what the tile adds to a query's. -/
def dkS (n : ℕ) (d : Fin 128) (k : Fin 1024) : EReal := ∑ r ∈ Finset.Ico 0 n, onNat (fun r => q r d * DM j q O L T K V r k) r
def dvS (n : ℕ) (d : Fin 128) (k : Fin 1024) : EReal := ∑ r ∈ Finset.Ico 0 n, onNat (fun r => O r d * PM j q L K r k) r
def dqS (r : Fin 4096) (d : Fin 128) : EReal := ∑ k, DM j q O L T K V r k * K k d

end Spec

/-- Rows before the tile's own vanish. -/
theorem ico_from {f : Fin 4096 → EReal} {a b : ℕ} (hab : a ≤ b) (hf : ∀ r : Fin 4096, r.val < a → f r = 0) :
    ∑ r ∈ Finset.Ico 0 b, onNat f r = ∑ r ∈ Finset.Ico a b, onNat f r := by
  rw [← Finset.sum_Ico_consecutive _ (Nat.zero_le a) hab, Finset.sum_eq_zero (fun r hr => ?_), zero_add]
  rw [Finset.mem_Ico] at hr
  unfold onNat
  split
  · exact hf _ hr.2
  · rfl

/-- A diagonal tile of two halves of 512 rows, the second one's last 512 keys included or not. -/
theorem two_halves {f : Fin 4096 → EReal} {j : ℕ} (hj : j < 4) (hf : ∀ r : Fin 4096, r.val < 1024 * j → f r = 0) :
    ∑ r ∈ Finset.Ico 0 (1024 * j + 1024), onNat f r
      = (∑ r : Fin 512, f ⟨1024 * j + r.val, by omega⟩) + ∑ r : Fin 512, f ⟨1024 * j + 512 + r.val, by omega⟩ := by
  rw [ico_from (a := 1024 * j) (by omega) hf, piece f (1024 * j) 512 (by omega), piece f (1024 * j + 512) 512 (by omega),
    Finset.sum_Ico_consecutive _ (by omega) (by omega)]

theorem second_half {f : Fin 4096 → EReal} {j : ℕ} (hj : j < 4) (hf : ∀ r : Fin 4096, r.val < 1024 * j + 512 → f r = 0) :
    ∑ r ∈ Finset.Ico 0 (1024 * j + 1024), onNat f r = ∑ r : Fin 512, f ⟨1024 * j + 512 + r.val, by omega⟩ := by
  rw [ico_from (a := 1024 * j + 512) (by omega) hf, piece f (1024 * j + 512) 512 (by omega)]

/-- The keys of a tile, in halves. -/
theorem key_halves (f : Fin 1024 → EReal) :
    ∑ k, f k = (∑ k : Fin 512, f ⟨k.val, by omega⟩) + ∑ k : Fin 512, f ⟨512 + k.val, by omega⟩ := by
  have := piece f 0 512 (by omega)
  simp only [zero_add] at this
  rw [whole f, this, piece f 512 512 (by omega), Finset.sum_Ico_consecutive _ (by omega) (by omega)]

theorem lane_shift (k : Fin 512) : lane (⟨512 + k.val, by omega⟩ : Fin 1024) = lane k := by
  simp only [lane, Fin.mk.injEq]; omega

section Diagonal

variable (K1 K2 V1 V2 : FVec Ideal S512x128 .bf16) (Q1 O1 Q2 O2 : Vec Ideal S1x512x128 .bf16) (L1 T1 L2 T2 z : Vec Ideal S1x512x128 .f32)

/-- The masked probabilities and score gradients of a diagonal tile. -/
def mP (K : FVec Ideal S512x128 .bf16) (Q : Vec Ideal S1x512x128 .bf16) (L : Vec Ideal S1x512x128 .f32) : FVec Ideal S512x512 .f32 :=
  k0_pay119 (k0_pay109 K Q L) rows k0_pay118
def mD (K V : FVec Ideal S512x128 .bf16) (Q O : Vec Ideal S1x512x128 .bf16) (L T : Vec Ideal S1x512x128 .f32) : FVec Ideal S512x512 .bf16 :=
  k0_pay120 (k0_pay116 V O) (k0_pay109 K Q L) rows k0_pay118 T

/-- The key and value gradients that the diagonal's three tiles give, the query rows' two halves' updates. -/
def dkD : FVec Ideal S128x1024 .f32 :=
  k0_pay125 (k0_pay122 (k0_pay114 Q1) (k0_pay116 V1 O1) (k0_pay109 K1 Q1 L1) rows k0_pay118 T1) (k0_pay112 K1 V1 Q2 O2 L2 T2)
    (k0_pay122 (k0_pay114 Q2) (k0_pay116 V2 O2) (k0_pay109 K2 Q2 L2) rows k0_pay118 T2)
def dvD : FVec Ideal S128x1024 .f32 :=
  k0_pay125 (k0_pay121 (k0_pay115 O1) (k0_pay109 K1 Q1 L1) rows k0_pay118) (k0_pay111 K1 Q2 O2 L2)
    (k0_pay121 (k0_pay115 O2) (k0_pay109 K2 Q2 L2) rows k0_pay118)
def dqA : Vec Ideal S1x512x128 .f32 := k0_pay124 (k0_pay123 K1 (k0_pay116 V1 O1) (k0_pay109 K1 Q1 L1) rows k0_pay118 T1 z)

variable {j : ℕ} (hj : j < 4) {q O L T : Fin 4096 → Fin 128 → EReal} {K V : Fin 1024 → Fin 128 → EReal}
  (hK1 : ∀ k x, K1 (ix2 k x) = K ⟨k.val, by omega⟩ x) (hK2 : ∀ k x, K2 (ix2 k x) = K ⟨512 + k.val, by omega⟩ x)
  (hV1 : ∀ k x, V1 (ix2 k x) = V ⟨k.val, by omega⟩ x) (hV2 : ∀ k x, V2 (ix2 k x) = V ⟨512 + k.val, by omega⟩ x)
  (hQ1 : ∀ r x, Q1 (ix3 0 r x) = q ⟨1024 * j + r.val, by omega⟩ x) (hQ2 : ∀ r x, Q2 (ix3 0 r x) = q ⟨1024 * j + 512 + r.val, by omega⟩ x)
  (hO1 : ∀ r x, O1 (ix3 0 r x) = O ⟨1024 * j + r.val, by omega⟩ x) (hO2 : ∀ r x, O2 (ix3 0 r x) = O ⟨1024 * j + 512 + r.val, by omega⟩ x)
  (hL1 : ∀ r x, L1 (ix3 0 r x) = L ⟨1024 * j + r.val, by omega⟩ x) (hL2 : ∀ r x, L2 (ix3 0 r x) = L ⟨1024 * j + 512 + r.val, by omega⟩ x)
  (hT1 : ∀ r x, T1 (ix3 0 r x) = T ⟨1024 * j + r.val, by omega⟩ x) (hT2 : ∀ r x, T2 (ix3 0 r x) = T ⟨1024 * j + 512 + r.val, by omega⟩ x)

include hK1 hQ1 hL1 in
theorem P1 (r k : Fin 512) : k0_pay109 K1 Q1 L1 (ix2 r k) = P q L K ⟨1024 * j + r.val, by omega⟩ ⟨k.val, by omega⟩ := by
  simp only [pay109_at, hK1, hQ1, hL1]; rfl

include hK1 hQ2 hL2 in
theorem P2 (r k : Fin 512) : k0_pay109 K1 Q2 L2 (ix2 r k) = P q L K ⟨1024 * j + 512 + r.val, by omega⟩ ⟨k.val, by omega⟩ := by
  simp only [pay109_at, hK1, hQ2, hL2]; rfl

include hK2 hQ2 hL2 in
theorem P3 (r k : Fin 512) : k0_pay109 K2 Q2 L2 (ix2 r k) = P q L K ⟨1024 * j + 512 + r.val, by omega⟩ ⟨512 + k.val, by omega⟩ := by
  unfold P; rw [lane_shift]; simp only [pay109_at, hK2, hQ2, hL2]

include hK1 hQ1 hL1 in
theorem PM1 (r k : Fin 512) : k0_pay119 (k0_pay109 K1 Q1 L1) rows k0_pay118 (ix2 r k) = PM j q L K ⟨1024 * j + r.val, by omega⟩ ⟨k.val, by omega⟩ := by
  rw [pay119_at, P1 K1 Q1 L1 hj hK1 hQ1 hL1]
  exact if_congr (by simp only [on]; omega) rfl rfl

include hK1 hQ2 hL2 in
theorem PM2 (r k : Fin 512) : k0_pay109 K1 Q2 L2 (ix2 r k) = PM j q L K ⟨1024 * j + 512 + r.val, by omega⟩ ⟨k.val, by omega⟩ := by
  rw [P2 K1 Q2 L2 hj hK1 hQ2 hL2, PM, if_pos (by simp only [on]; omega)]

include hK2 hQ2 hL2 in
theorem PM3 (r k : Fin 512) : k0_pay119 (k0_pay109 K2 Q2 L2) rows k0_pay118 (ix2 r k) = PM j q L K ⟨1024 * j + 512 + r.val, by omega⟩ ⟨512 + k.val, by omega⟩ := by
  rw [pay119_at, P3 K2 Q2 L2 hj hK2 hQ2 hL2]
  exact if_congr (by simp only [on]; omega) rfl rfl

/-- The masked score's gradient is the masked probability times the bracket. -/
theorem DM_eq (j : ℕ) (q O L T : Fin 4096 → Fin 128 → EReal) (K V : Fin 1024 → Fin 128 → EReal) (r : Fin 4096) (k : Fin 1024) :
    DM j q O L T K V r k = PM j q L K r k * ((∑ x, O r x * V k x) - T r (lane k)) := by
  unfold DM PM D
  split_ifs
  · rfl
  · rw [zero_mul]

include hK1 hV1 hQ1 hO1 hL1 hT1 in
theorem DM1 (r k : Fin 512) : k0_pay120 (k0_pay116 V1 O1) (k0_pay109 K1 Q1 L1) rows k0_pay118 T1 (ix2 r k) = DM j q O L T K V ⟨1024 * j + r.val, by omega⟩ ⟨k.val, by omega⟩ := by
  rw [pay120_at, PM1 K1 Q1 L1 hj hK1 hQ1 hL1, pay116_at, DM_eq, hT1]
  simp only [hO1, hV1]

include hK1 hV1 hQ2 hO2 hL2 hT2 in
theorem DM2 (r k : Fin 512) : k0_pay110 K1 V1 Q2 O2 L2 T2 (ix2 r k) = DM j q O L T K V ⟨1024 * j + 512 + r.val, by omega⟩ ⟨k.val, by omega⟩ := by
  rw [pay110_at, PM2 K1 Q2 L2 hj hK1 hQ2 hL2, DM_eq, hT2]
  simp only [hO2, hV1]

include hK2 hV2 hQ2 hO2 hL2 hT2 in
theorem DM3 (r k : Fin 512) : k0_pay120 (k0_pay116 V2 O2) (k0_pay109 K2 Q2 L2) rows k0_pay118 T2 (ix2 r k) = DM j q O L T K V ⟨1024 * j + 512 + r.val, by omega⟩ ⟨512 + k.val, by omega⟩ := by
  rw [pay120_at, PM3 K2 Q2 L2 hj hK2 hQ2 hL2, pay116_at, DM_eq, hT2, lane_shift]
  simp only [hO2, hV2]

/-- Query rows before the tile see none of its keys. -/
theorem PM_before {r : Fin 4096} {k : Fin 1024} (h : r.val < 1024 * j) : PM j q L K r k = 0 := if_neg (by simp only [on]; omega)
theorem DM_before {r : Fin 4096} {k : Fin 1024} (h : r.val < 1024 * j) : DM j q O L T K V r k = 0 := if_neg (by simp only [on]; omega)
theorem PM_before' {r : Fin 4096} {k : Fin 1024} (hk : 512 ≤ k.val) (h : r.val < 1024 * j + 512) : PM j q L K r k = 0 := if_neg (by simp only [on]; omega)
theorem DM_before' {r : Fin 4096} {k : Fin 1024} (hk : 512 ≤ k.val) (h : r.val < 1024 * j + 512) : DM j q O L T K V r k = 0 := if_neg (by simp only [on]; omega)

include hj hK1 hK2 hV1 hV2 hQ1 hQ2 hO1 hO2 hL1 hL2 hT1 hT2 in
theorem dkD_at (d : Fin 128) (k : Fin 1024) : dkD K1 K2 V1 V2 Q1 O1 Q2 O2 L1 T1 L2 T2 (ix2 d k) = dkS j q O L T K V (1024 * j + 1024) d k := by
  unfold dkD dkS
  rw [pay125_at]
  split_ifs with h
  · rw [two_halves hj (fun r hr => by rw [DM_before hr, mul_zero]), pay122_at, pay112_at]
    refine congrArg₂ (· + ·) (Finset.sum_congr rfl fun r _ => ?_) (Finset.sum_congr rfl fun r _ => ?_)
    · rw [pay114_at, hQ1, DM1 K1 V1 Q1 O1 L1 T1 hj hK1 hV1 hQ1 hO1 hL1 hT1]
    · rw [hQ2, DM2 K1 V1 Q2 O2 L2 T2 hj hK1 hV1 hQ2 hO2 hL2 hT2]
  · rw [second_half hj (fun r hr => by rw [DM_before' (by omega) hr, mul_zero]), pay122_at]
    refine Finset.sum_congr rfl fun r _ => ?_
    rw [pay114_at, hQ2, DM3 K2 V2 Q2 O2 L2 T2 hj hK2 hV2 hQ2 hO2 hL2 hT2]
    have e : (⟨512 + (k.val - 512), by omega⟩ : Fin 1024) = k := Fin.ext (by simp only; omega)
    simp only [e]

include hj hK1 hK2 hQ1 hQ2 hO1 hO2 hL1 hL2 in
theorem dvD_at (d : Fin 128) (k : Fin 1024) : dvD K1 K2 Q1 O1 Q2 O2 L1 L2 (ix2 d k) = dvS j q O L K (1024 * j + 1024) d k := by
  unfold dvD dvS
  rw [pay125_at]
  split_ifs with h
  · rw [two_halves hj (fun r hr => by rw [PM_before hr, mul_zero]), pay121_at, pay111_at]
    refine congrArg₂ (· + ·) (Finset.sum_congr rfl fun r _ => ?_) (Finset.sum_congr rfl fun r _ => ?_)
    · rw [pay115_at, hO1, PM1 K1 Q1 L1 hj hK1 hQ1 hL1]
    · rw [hO2, PM2 K1 Q2 L2 hj hK1 hQ2 hL2]
  · rw [second_half hj (fun r hr => by rw [PM_before' (by omega) hr, mul_zero]), pay121_at]
    refine Finset.sum_congr rfl fun r _ => ?_
    rw [pay115_at, hO2, PM3 K2 Q2 L2 hj hK2 hQ2 hL2]
    have e : (⟨512 + (k.val - 512), by omega⟩ : Fin 1024) = k := Fin.ext (by simp only; omega)
    simp only [e]

include hj hK1 hV1 hQ1 hO1 hL1 hT1 in
/-- The first half of the query rows: the keys of the first half are all they see. -/
theorem dqA_at (r : Fin 512) (d : Fin 128) :
    dqA K1 V1 Q1 O1 L1 T1 z (ix3 0 r d) = z (ix3 0 r d) + dqS j q O L T K V ⟨1024 * j + r.val, by omega⟩ d := by
  unfold dqA dqS
  rw [pay123_at, key_halves, Finset.sum_eq_zero (s := Finset.univ) (f := fun k : Fin 512 => DM j q O L T K V ⟨1024 * j + r.val, by omega⟩ ⟨512 + k.val, by omega⟩ * K ⟨512 + k.val, by omega⟩ d)
    (fun k _ => by rw [DM_before' (by simp only; omega) (by simp only; omega), zero_mul]), add_zero]
  refine congrArg₂ (· + ·) rfl (Finset.sum_congr rfl fun k _ => ?_)
  rw [hK1, DM1 K1 V1 Q1 O1 L1 T1 hj hK1 hV1 hQ1 hO1 hL1 hT1]

include hj hK1 hK2 hV1 hV2 hQ2 hO2 hL2 hT2 in
/-- The second half, which sees both halves of the keys, one after the other. -/
theorem dqBC_at (w : Vec Ideal S1x512x128 .f32) (hw : w = k0_pay113 K1 V1 Q2 O2 L2 T2 z) (r : Fin 512) (d : Fin 128) :
    dqA K2 V2 Q2 O2 L2 T2 w (ix3 0 r d) = z (ix3 0 r d) + dqS j q O L T K V ⟨1024 * j + 512 + r.val, by omega⟩ d := by
  unfold dqA dqS
  rw [pay123_at, hw, pay113_at, key_halves, add_assoc]
  refine congrArg₂ (· + ·) rfl (congrArg₂ (· + ·) (Finset.sum_congr rfl fun k _ => ?_) (Finset.sum_congr rfl fun k _ => ?_))
  · rw [hK1, DM2 K1 V1 Q2 O2 L2 T2 hj hK1 hV1 hQ2 hO2 hL2 hT2]
  · rw [hK2, DM3 K2 V2 Q2 O2 L2 T2 hj hK2 hV2 hQ2 hO2 hL2 hT2]

end Diagonal

section Full

variable (Kt Vt : FVec Ideal S1024x128 .bf16) (Qt Ot : Vec Ideal S1x1024x128 .bf16) (Lt Tt z : Vec Ideal S1x1024x128 .f32)

variable {j : ℕ} {o : ℕ} (ho : o + 1024 ≤ 4096) (hjo : 1024 * j + 1024 ≤ o) {q O L T : Fin 4096 → Fin 128 → EReal} {K V : Fin 1024 → Fin 128 → EReal}
  (hK : ∀ k x, Kt (ix2 k x) = K k x) (hV : ∀ k x, Vt (ix2 k x) = V k x)
  (hQ : ∀ r x, Qt (ix3 0 r x) = q ⟨o + r.val, by omega⟩ x) (hO : ∀ r x, Ot (ix3 0 r x) = O ⟨o + r.val, by omega⟩ x)
  (hL : ∀ r x, Lt (ix3 0 r x) = L ⟨o + r.val, by omega⟩ x) (hT : ∀ r x, Tt (ix3 0 r x) = T ⟨o + r.val, by omega⟩ x)

include hjo hK hQ hL in
theorem PF (r k : Fin 1024) : k0_pay12 Kt Qt Lt (ix2 r k) = PM j q L K ⟨o + r.val, by omega⟩ k := by
  rw [PM, if_pos (by simp only [on]; omega)]
  simp only [pay12_at, hK, hQ, hL]; rfl

include hjo hK hV hQ hO hL hT in
theorem DF (r k : Fin 1024) : k0_pay13 Kt Vt Qt Ot Lt Tt (ix2 r k) = DM j q O L T K V ⟨o + r.val, by omega⟩ k := by
  rw [pay13_at, PF Kt Qt Lt ho hjo hK hQ hL, DM_eq, hT]
  simp only [hO, hV]

include hjo hK hV hQ hO hL hT in
theorem dkF_at (a : FVec Ideal S128x1024 .f32) (d : Fin 128) (k : Fin 1024) (ha : a (ix2 d k) = dkS j q O L T K V o d k) :
    k0_pay22 a (k0_pay15 Kt Vt Qt Ot Lt Tt) (ix2 d k) = dkS j q O L T K V (o + 1024) d k := by
  rw [pay22_at, ha, pay15_at]
  unfold dkS
  rw [← Finset.sum_Ico_consecutive _ (Nat.zero_le o) (Nat.le_add_right o 1024), ← piece _ o 1024 ho]
  refine congrArg₂ (· + ·) rfl (Finset.sum_congr rfl fun r _ => ?_)
  rw [hQ, DF Kt Vt Qt Ot Lt Tt ho hjo hK hV hQ hO hL hT]

include hjo hK hQ hO hL in
theorem dvF_at (a : FVec Ideal S128x1024 .f32) (d : Fin 128) (k : Fin 1024) (ha : a (ix2 d k) = dvS j q O L K o d k) :
    k0_pay22 a (k0_pay14 Kt Qt Ot Lt) (ix2 d k) = dvS j q O L K (o + 1024) d k := by
  rw [pay22_at, ha, pay14_at]
  unfold dvS
  rw [← Finset.sum_Ico_consecutive _ (Nat.zero_le o) (Nat.le_add_right o 1024), ← piece _ o 1024 ho]
  refine congrArg₂ (· + ·) rfl (Finset.sum_congr rfl fun r _ => ?_)
  rw [hO, PF Kt Qt Lt ho hjo hK hQ hL]

include hjo hK hV hQ hO hL hT in
theorem dqF_at (r : Fin 1024) (d : Fin 128) :
    k0_pay16 Kt Vt Qt Ot Lt Tt z (ix3 0 r d) = z (ix3 0 r d) + dqS j q O L T K V ⟨o + r.val, by omega⟩ d := by
  rw [pay16_at]
  unfold dqS
  refine congrArg₂ (· + ·) rfl (Finset.sum_congr rfl fun k _ => ?_)
  rw [hK, DF Kt Vt Qt Ot Lt Tt ho hjo hK hV hQ hO hL hT]

end Full

end Cert.AttnIdeal.Value
end
-- ==== Proof.AttnLoop.lean ====
module

public import proofs.«01_k».proof.Proof.AttnTile
import all proofs.«01_k».proof.Proof.AttnTile
public import Idealize.ShloMosaic.Lib.WritesUnit

@[expose] public section

set_option maxRecDepth 16384

/-! The loop over the query row tiles after the diagonal: what one trip carries on and stores, and all of them. -/

noncomputable section

namespace Cert.AttnIdeal.Value

open Cert.AttnIdeal Cert.AttnIdeal.Gen Cert.SumPieces Idealize.ShloMosaic Idealize.ShloMosaic.TcCoe Idealize.SL.Sem

/-- A stored piece of 512 rows of one head, read back at an index. -/
theorem read_512 {κ : Kind} {sp : Space} (v : View sig κ sp S2x4096x128 .f32) (f : v.ty.Contents (Elt Ideal)) {off : Fin 3 → ℕ} (inb : ∀ a, off a + S1x512x128.size a ≤ S2x4096x128.size a)
    (w : Vec Ideal S1x512x128 .f32) (L : List (View.Piece (Elt Ideal) S2x4096x128 .f32)) {a o : ℕ} (e : off = ![a, o, 0]) (h : Fin 2) (r : Fin 4096) (d : Fin 128) :
    v.read (Elt Ideal) (v.writes (Elt Ideal) f (⟨Rect.unit (s := S2x4096x128) off S1x512x128.size inb, w⟩ :: L)) (ix3 h r d)
      = if hh : h.val = a ∧ o ≤ r.val ∧ r.val < o + 512 then w (ix3 0 ⟨r.val - o, by omega⟩ d) else v.read (Elt Ideal) (v.writes (Elt Ideal) f L) (ix3 h r d) := by
  split_ifs with hh
  · refine View.read_writes_cons_unit_of_mem v f inb w L (ix3 h r d) (ix3 0 ⟨r.val - o, by omega⟩ d) e fun x => ?_
    fin_cases x
    · exact hh.1
    · change r.val = o + (r.val - o); omega
    · exact (Nat.zero_add _).symm
  · by_cases h0 : h.val = a
    · exact View.read_writes_cons_unit_of_not_mem v f inb w L (ix3 h r d) e 1 (by change r.val < o ∨ o + 512 ≤ r.val; omega)
    · exact View.read_writes_cons_unit_of_not_mem v f inb w L (ix3 h r d) e 0 (by change h.val < a ∨ a + 1 ≤ h.val; omega)

/-- A stored piece of 1024 rows of one head, read back at an index. -/
theorem read_1024 {κ : Kind} {sp : Space} {φ : EltTy} (v : View sig κ sp S2x4096x128 φ) (f : v.ty.Contents (Elt Ideal)) {off : Fin 3 → ℕ} (inb : ∀ a, off a + S1x1024x128.size a ≤ S2x4096x128.size a)
    (w : Vec Ideal S1x1024x128 φ) (L : List (View.Piece (Elt Ideal) S2x4096x128 φ)) {a o : ℕ} (e : off = ![a, o, 0]) (h : Fin 2) (r : Fin 4096) (d : Fin 128) :
    v.read (Elt Ideal) (v.writes (Elt Ideal) f (⟨Rect.unit (s := S2x4096x128) off S1x1024x128.size inb, w⟩ :: L)) (ix3 h r d)
      = if hh : h.val = a ∧ o ≤ r.val ∧ r.val < o + 1024 then w (ix3 0 ⟨r.val - o, by omega⟩ d) else v.read (Elt Ideal) (v.writes (Elt Ideal) f L) (ix3 h r d) := by
  split_ifs with hh
  · refine View.read_writes_cons_unit_of_mem v f inb w L (ix3 h r d) (ix3 0 ⟨r.val - o, by omega⟩ d) e fun x => ?_
    fin_cases x
    · exact hh.1
    · change r.val = o + (r.val - o); omega
    · exact (Nat.zero_add _).symm
  · by_cases h0 : h.val = a
    · exact View.read_writes_cons_unit_of_not_mem v f inb w L (ix3 h r d) e 1 (by change r.val < o ∨ o + 1024 ≤ r.val; omega)
    · exact View.read_writes_cons_unit_of_not_mem v f inb w L (ix3 h r d) e 0 (by change h.val < a ∨ a + 1 ≤ h.val; omega)

/-- A load of rows of one head, at an index. -/
theorem load_512 {κ : Kind} {sp : Space} {φ : EltTy} (v : View sig κ sp S2x4096x128 φ) (f : v.ty.Contents (Elt Ideal)) {off : Fin 3 → ℕ} (inb : ∀ a, off a + S1x512x128.size a ≤ S2x4096x128.size a)
    {a : Fin 2} {o : ℕ} (ho : o + 512 ≤ 4096) (e : off = ![a.val, o, 0]) (r : Fin 512) (d : Fin 128) :
    v.readAt (Elt Ideal) (Rect.unit (s := S2x4096x128) off S1x512x128.size inb).toLoadRect f (ix3 0 r d) = v.read (Elt Ideal) f (ix3 a ⟨o + r.val, by omega⟩ d) := by
  subst e
  refine congrArg (v.read (Elt Ideal) f) (funext fun x => Fin.ext ?_)
  fin_cases x
  · change a.val + 1 * 0 = a.val; omega
  · change o + 1 * r.val = o + r.val; omega
  · change 0 + 1 * d.val = d.val; omega

theorem load_1024 {κ : Kind} {sp : Space} {φ : EltTy} (v : View sig κ sp S2x4096x128 φ) (f : v.ty.Contents (Elt Ideal)) {off : Fin 3 → ℕ} (inb : ∀ a, off a + S1x1024x128.size a ≤ S2x4096x128.size a)
    {a : Fin 2} {o : ℕ} (ho : o + 1024 ≤ 4096) (e : off = ![a.val, o, 0]) (r : Fin 1024) (d : Fin 128) :
    v.readAt (Elt Ideal) (Rect.unit (s := S2x4096x128) off S1x1024x128.size inb).toLoadRect f (ix3 0 r d) = v.read (Elt Ideal) f (ix3 a ⟨o + r.val, by omega⟩ d) := by
  subst e
  refine congrArg (v.read (Elt Ideal) f) (funext fun x => Fin.ext ?_)
  fin_cases x
  · change a.val + 1 * 0 = a.val; omega
  · change o + 1 * r.val = o + r.val; omega
  · change 0 + 1 * d.val = d.val; omega

abbrev Carry : Type := FVec Ideal S128x1024 .f32 × FVec Ideal S128x1024 .f32 × FVec Ideal S128x1024 .f32 × FVec Ideal S128x1024 .f32

section Trip

variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)
  (arg1 : BitVec 32) (v4 v6 v8 v10 : FVec Ideal S1024x128 .bf16) (v11 : BitVec 32) (v236 v238 : FVec Ideal S128x1024 .f32) (v322 v323 v360 v361 v451 v452 : FVec Ideal S128x512 .f32) (v457 : FVec Ideal S512x128 .f32)
  (X2 : BufTy.Contents (Elt Ideal) arg2.view.ty) (X7 : BufTy.Contents (Elt Ideal) arg7.view.ty) (X12 : BufTy.Contents (Elt Ideal) arg12.view.ty) (X13 : BufTy.Contents (Elt Ideal) arg13.view.ty)
  (G : BufTy.Contents (Elt Ideal) arg9.view.ty) (init : Carry)

/-- The rows of one head that trip `k` loads. -/
abbrev at8 {φ : EltTy} (v : View sig .tc .vmem S2x4096x128 φ) (f : v.ty.Contents (Elt Ideal)) (k : Fin (k0_t2_loop i).trips) : Vec Ideal S1x1024x128 φ :=
  v.readAt (Elt Ideal) (Rect.unit (s := S2x4096x128) (k0_off8 i k) S1x1024x128.size (k0_off8_inb i k)).toLoadRect f
abbrev at9 {φ : EltTy} (v : View sig .tc .vmem S2x4096x128 φ) (f : v.ty.Contents (Elt Ideal)) (k : Fin (k0_t2_loop i).trips) : Vec Ideal S1x1024x128 φ :=
  v.readAt (Elt Ideal) (Rect.unit (s := S2x4096x128) (k0_off9 i k) S1x1024x128.size (k0_off9_inb i k)).toLoadRect f

theorem tripR_eq (k : Fin (k0_t2_loop i).trips) (acc : Carry) (f : BufTy.Contents (Elt Ideal) arg9.view.ty) :
    tripR_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 k acc f
      = (k0_pay22 acc.1 (k0_pay15 v4 v8 (at8 i arg2.view X2 k) (at8 i arg12.view X12 k) (at8 i arg7.view X7 k) (at8 i arg13.view X13 k)),
         k0_pay22 acc.2.1 (k0_pay14 v4 (at8 i arg2.view X2 k) (at8 i arg12.view X12 k) (at8 i arg7.view X7 k)),
         k0_pay22 acc.2.2.1 (k0_pay15 v6 v10 (at9 i arg2.view X2 k) (at9 i arg12.view X12 k) (at9 i arg7.view X7 k) (at9 i arg13.view X13 k)),
         k0_pay22 acc.2.2.2 (k0_pay14 v6 (at9 i arg2.view X2 k) (at9 i arg12.view X12 k) (at9 i arg7.view X7 k))) := by
  unfold tripR_k0_t2 trip_k0_t2
  rfl

theorem tripL_eq (k : Fin (k0_t2_loop i).trips) (acc : Carry) (f : BufTy.Contents (Elt Ideal) arg9.view.ty) :
    tripL_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 k acc f
      = [⟨Rect.unit (s := S2x4096x128) (k0_off9 i k) S1x1024x128.size (k0_off9_inb i k), k0_pay16 v6 v10 (at9 i arg2.view X2 k) (at9 i arg12.view X12 k) (at9 i arg7.view X7 k) (at9 i arg13.view X13 k) (at9 i arg9.view f k)⟩,
         ⟨Rect.unit (s := S2x4096x128) (k0_off8 i k) S1x1024x128.size (k0_off8_inb i k), k0_pay16 v4 v8 (at8 i arg2.view X2 k) (at8 i arg12.view X12 k) (at8 i arg7.view X7 k) (at8 i arg13.view X13 k) (at8 i arg9.view f k)⟩] := by
  unfold tripL_k0_t2 trip_k0_t2
  rfl

theorem trip_le : ∀ (i : grid0.Coords) (k : Fin (k0_t2_loop i).trips), 1024 * (i 1).val + 1024 * k.val + 1024 + 1024 ≤ 4096 := by decide +kernel
theorem trips_eq : ∀ i : grid0.Coords, (k0_t2_loop i).trips = 3 - (i 1).val := by decide +kernel

variable (q O L T : Fin 2 → Fin 4096 → Fin 128 → EReal) (K V : Fin 2 → Fin 1024 → Fin 128 → EReal) (z : Fin 2 → Fin 4096 → Fin 128 → EReal)

/-- What is known of the carried sums and of the query gradient once the rows before `n` are done. -/
structure Done (n : ℕ) (acc : Carry) (f : BufTy.Contents (Elt Ideal) arg9.view.ty) : Prop where
  dk0 : ∀ d k, acc.1 (ix2 d k) = dkS (i 1).val (q 0) (O 0) (L 0) (T 0) (K 0) (V 0) n d k
  dv0 : ∀ d k, acc.2.1 (ix2 d k) = dvS (i 1).val (q 0) (O 0) (L 0) (K 0) n d k
  dk1 : ∀ d k, acc.2.2.1 (ix2 d k) = dkS (i 1).val (q 1) (O 1) (L 1) (T 1) (K 1) (V 1) n d k
  dv1 : ∀ d k, acc.2.2.2 (ix2 d k) = dvS (i 1).val (q 1) (O 1) (L 1) (K 1) n d k
  dq : ∀ h r d, arg9.view.read (Elt Ideal) f (ix3 h r d) = if r.val < n then z h r d + dqS (i 1).val (q h) (O h) (L h) (T h) (K h) (V h) r d else z h r d

variable {q O L T K V z}
  (hv4 : ∀ k x, v4 (ix2 k x) = K 0 k x) (hv6 : ∀ k x, v6 (ix2 k x) = K 1 k x) (hv8 : ∀ k x, v8 (ix2 k x) = V 0 k x) (hv10 : ∀ k x, v10 (ix2 k x) = V 1 k x)
  (hX2 : ∀ h r x, arg2.view.read (Elt Ideal) X2 (ix3 h r x) = q h r x) (hX12 : ∀ h r x, arg12.view.read (Elt Ideal) X12 (ix3 h r x) = O h r x)
  (hX7 : ∀ h r x, arg7.view.read (Elt Ideal) X7 (ix3 h r x) = L h r x) (hX13 : ∀ h r x, arg13.view.read (Elt Ideal) X13 (ix3 h r x) = T h r x)

include hv4 hv6 hv8 hv10 hX2 hX12 hX7 hX13 in
/-- One trip does the next 1024 rows. -/
theorem trip_done (k : Fin (k0_t2_loop i).trips) (acc : Carry) (f : BufTy.Contents (Elt Ideal) arg9.view.ty)
    (hd : Done i arg9 q O L T K V z (1024 * (i 1).val + 1024 * k.val + 1024) acc f) :
    Done i arg9 q O L T K V z (1024 * (i 1).val + 1024 * k.val + 1024 + 1024)
      (tripR_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 k acc f)
      (arg9.view.writes (Elt Ideal) f (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 k acc f)) := by
  have ho := trip_le i k
  have hjo : 1024 * (i 1).val + 1024 ≤ 1024 * (i 1).val + 1024 * k.val + 1024 := by omega
  have e8 := k0_off8_eq i k
  have e9 := k0_off9_eq i k
  have q0 : ∀ r x, at8 i arg2.view X2 k (ix3 0 r x) = q 0 ⟨1024 * (i 1).val + 1024 * k.val + 1024 + r.val, by omega⟩ x := fun r x => (load_1024 _ _ _ (a := 0) ho e8 r x).trans (hX2 ..)
  have O0 : ∀ r x, at8 i arg12.view X12 k (ix3 0 r x) = O 0 ⟨1024 * (i 1).val + 1024 * k.val + 1024 + r.val, by omega⟩ x := fun r x => (load_1024 _ _ _ (a := 0) ho e8 r x).trans (hX12 ..)
  have L0 : ∀ r x, at8 i arg7.view X7 k (ix3 0 r x) = L 0 ⟨1024 * (i 1).val + 1024 * k.val + 1024 + r.val, by omega⟩ x := fun r x => (load_1024 _ _ _ (a := 0) ho e8 r x).trans (hX7 ..)
  have T0 : ∀ r x, at8 i arg13.view X13 k (ix3 0 r x) = T 0 ⟨1024 * (i 1).val + 1024 * k.val + 1024 + r.val, by omega⟩ x := fun r x => (load_1024 _ _ _ (a := 0) ho e8 r x).trans (hX13 ..)
  have q1 : ∀ r x, at9 i arg2.view X2 k (ix3 0 r x) = q 1 ⟨1024 * (i 1).val + 1024 * k.val + 1024 + r.val, by omega⟩ x := fun r x => (load_1024 _ _ _ (a := 1) ho e9 r x).trans (hX2 ..)
  have O1 : ∀ r x, at9 i arg12.view X12 k (ix3 0 r x) = O 1 ⟨1024 * (i 1).val + 1024 * k.val + 1024 + r.val, by omega⟩ x := fun r x => (load_1024 _ _ _ (a := 1) ho e9 r x).trans (hX12 ..)
  have L1 : ∀ r x, at9 i arg7.view X7 k (ix3 0 r x) = L 1 ⟨1024 * (i 1).val + 1024 * k.val + 1024 + r.val, by omega⟩ x := fun r x => (load_1024 _ _ _ (a := 1) ho e9 r x).trans (hX7 ..)
  have T1 : ∀ r x, at9 i arg13.view X13 k (ix3 0 r x) = T 1 ⟨1024 * (i 1).val + 1024 * k.val + 1024 + r.val, by omega⟩ x := fun r x => (load_1024 _ _ _ (a := 1) ho e9 r x).trans (hX13 ..)
  rw [tripR_eq, tripL_eq]
  refine ⟨fun d k' => ?_, fun d k' => ?_, fun d k' => ?_, fun d k' => ?_, fun h r d => ?_⟩
  · exact dkF_at v4 v8 _ _ _ _ ho hjo hv4 hv8 q0 O0 L0 T0 _ d k' (hd.dk0 d k')
  · exact dvF_at v4 _ _ _ ho hjo hv4 q0 O0 L0 _ d k' (hd.dv0 d k')
  · exact dkF_at v6 v10 _ _ _ _ ho hjo hv6 hv10 q1 O1 L1 T1 _ d k' (hd.dk1 d k')
  · exact dvF_at v6 _ _ _ ho hjo hv6 q1 O1 L1 _ d k' (hd.dv1 d k')
  · rw [read_1024 arg9.view f _ _ _ e9, read_1024 arg9.view f _ _ _ e8]
    have hf : arg9.view.read (Elt Ideal) (arg9.view.writes (Elt Ideal) f []) = arg9.view.read (Elt Ideal) f := rfl
    by_cases h1 : h.val = 1 ∧ 1024 * (i 1).val + 1024 * k.val + 1024 ≤ r.val ∧ r.val < 1024 * (i 1).val + 1024 * k.val + 1024 + 1024
    · obtain rfl : h = 1 := Fin.ext h1.1
      rw [dif_pos h1, if_pos h1.2.2, (dqF_at v6 v10 _ _ _ _ _ ho hjo hv6 hv10 q1 O1 L1 T1 ⟨_, _⟩ d)]
      refine congrArg₂ (· + ·) ?_ (congrArg (fun x => dqS _ _ _ _ _ _ _ x d) (Fin.ext (by simp only; omega)))
      refine (load_1024 _ _ _ (a := 1) ho e9 _ d).trans ((hd.dq ..).trans ((if_neg (by simp only; omega)).trans (congrArg (fun x => z 1 x d) (Fin.ext (by simp only; omega)))))
    · rw [dif_neg h1]
      by_cases h2 : h.val = 0 ∧ 1024 * (i 1).val + 1024 * k.val + 1024 ≤ r.val ∧ r.val < 1024 * (i 1).val + 1024 * k.val + 1024 + 1024
      · obtain rfl : h = 0 := Fin.ext h2.1
        rw [dif_pos h2, if_pos h2.2.2, (dqF_at v4 v8 _ _ _ _ _ ho hjo hv4 hv8 q0 O0 L0 T0 ⟨_, _⟩ d)]
        refine congrArg₂ (· + ·) ?_ (congrArg (fun x => dqS _ _ _ _ _ _ _ x d) (Fin.ext (by simp only; omega)))
        refine (load_1024 _ _ _ (a := 0) ho e8 _ d).trans ((hd.dq ..).trans ((if_neg (by simp only; omega)).trans (congrArg (fun x => z 0 x d) (Fin.ext (by simp only; omega)))))
      · rw [dif_neg h2, hf, hd.dq]
        by_cases h3 : r.val < 1024 * (i 1).val + 1024 * k.val + 1024
        · rw [if_pos h3, if_pos (by omega)]
        · rw [if_neg h3, if_neg (by omega)]

include hv4 hv6 hv8 hv10 hX2 hX12 hX7 hX13 in
/-- All trips together do the rows after the diagonal tile. -/
theorem loop_done (G : BufTy.Contents (Elt Ideal) arg9.view.ty) (init : Carry) (hd : Done i arg9 q O L T K V z (1024 * (i 1).val + 1024) init G) :
    let S := st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 G init (k0_t2_loop i).trips
    Done i arg9 q O L T K V z 4096 S.1 (arg9.view.writes (Elt Ideal) G S.2) := by
  have key : ∀ n, n ≤ (k0_t2_loop i).trips →
      Done i arg9 q O L T K V z (1024 * (i 1).val + 1024 * n + 1024) (st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 G init n).1
        (arg9.view.writes (Elt Ideal) G (st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 G init n).2) := by
    intro n
    induction n with
    | zero => intro _; rw [st_k0_t2_zero]; exact hd
    | succ n ih =>
      intro hn
      have h := trip_done c i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 hv4 hv6 hv8 hv10 hX2 hX12 hX7 hX13 ⟨n, hn⟩ _ _ (ih (by omega))
      rw [show n + 1 = (⟨n, hn⟩ : Fin (k0_t2_loop i).trips).val + 1 from rfl, st_k0_t2_succ]
      simp only [View.writes_append]
      exact h
  have h := key _ le_rfl
  have e : 1024 * (i 1).val + 1024 * (k0_t2_loop i).trips + 1024 = 4096 := by
    rw [trips_eq]; have := (i 1).isLt; change (i 1).val < 4 at this; omega
  rw [e] at h
  exact h

end Trip

end Cert.AttnIdeal.Value
end
-- ==== Proof.AttnDiag.lean ====
module

public import proofs.«01_k».proof.Proof.AttnBody
public import proofs.«01_k».proof.Proof.AttnLoop
import all proofs.«01_k».proof.Proof.AttnTile
import all proofs.«01_k».proof.Proof.AttnLoop
import all proofs.«01_k».proof.Proof.AttnBody

@[expose] public section

set_option maxRecDepth 16384

/-! What one grid point of the attention gradient leaves in its three results, given its scratch. -/

noncomputable section

namespace Cert.AttnIdeal.Value

open Cert.AttnIdeal Cert.AttnIdeal.Gen Idealize.ShloMosaic

/-- The half tiles of one head that a point loads. -/
abbrev at4 (i : grid0.Coords) {φ : EltTy} (v : View sig .tc .vmem S2x4096x128 φ) (f : v.ty.Contents (Elt Ideal)) : Vec Ideal S1x512x128 φ :=
  v.readAt (Elt Ideal) (Rect.unit (s := S2x4096x128) (k0_off4 i) S1x512x128.size (k0_off4_inb i)).toLoadRect f
abbrev at5 (i : grid0.Coords) {φ : EltTy} (v : View sig .tc .vmem S2x4096x128 φ) (f : v.ty.Contents (Elt Ideal)) : Vec Ideal S1x512x128 φ :=
  v.readAt (Elt Ideal) (Rect.unit (s := S2x4096x128) (k0_off5 i) S1x512x128.size (k0_off5_inb i)).toLoadRect f
abbrev at6 (i : grid0.Coords) {φ : EltTy} (v : View sig .tc .vmem S2x4096x128 φ) (f : v.ty.Contents (Elt Ideal)) : Vec Ideal S1x512x128 φ :=
  v.readAt (Elt Ideal) (Rect.unit (s := S2x4096x128) (k0_off6 i) S1x512x128.size (k0_off6_inb i)).toLoadRect f
abbrev at7 (i : grid0.Coords) {φ : EltTy} (v : View sig .tc .vmem S2x4096x128 φ) (f : v.ty.Contents (Elt Ideal)) : Vec Ideal S1x512x128 φ :=
  v.readAt (Elt Ideal) (Rect.unit (s := S2x4096x128) (k0_off7 i) S1x512x128.size (k0_off7_inb i)).toLoadRect f
abbrev hd0 (v : View sig .tc .vmem S2x1024x128 .bf16) (f : v.ty.Contents (Elt Ideal)) : Vec Ideal S1x1024x128 .bf16 :=
  v.readAt (Elt Ideal) (Rect.unit (s := S2x1024x128) ![0, 0, 0] S1x1024x128.size inb_S2x1024x128_S1x1024x128_0_0_0).toLoadRect f
abbrev hd1 (v : View sig .tc .vmem S2x1024x128 .bf16) (f : v.ty.Contents (Elt Ideal)) : Vec Ideal S1x1024x128 .bf16 :=
  v.readAt (Elt Ideal) (Rect.unit (s := S2x1024x128) ![1, 0, 0] S1x1024x128.size inb_S2x1024x128_S1x1024x128_1_0_0).toLoadRect f
abbrev pc4 (i : grid0.Coords) (w : Vec Ideal S1x512x128 .f32) : View.Piece (Elt Ideal) S2x4096x128 .f32 := ⟨Rect.unit (s := S2x4096x128) (k0_off4 i) S1x512x128.size (k0_off4_inb i), w⟩
abbrev pc5 (i : grid0.Coords) (w : Vec Ideal S1x512x128 .f32) : View.Piece (Elt Ideal) S2x4096x128 .f32 := ⟨Rect.unit (s := S2x4096x128) (k0_off5 i) S1x512x128.size (k0_off5_inb i), w⟩
abbrev pc6 (i : grid0.Coords) (w : Vec Ideal S1x512x128 .f32) : View.Piece (Elt Ideal) S2x4096x128 .f32 := ⟨Rect.unit (s := S2x4096x128) (k0_off6 i) S1x512x128.size (k0_off6_inb i), w⟩
abbrev pc7 (i : grid0.Coords) (w : Vec Ideal S1x512x128 .f32) : View.Piece (Elt Ideal) S2x4096x128 .f32 := ⟨Rect.unit (s := S2x4096x128) (k0_off7 i) S1x512x128.size (k0_off7_inb i), w⟩

variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)
  (x0 : Vec Ideal S2x4096x128 .bf16) (x1 x2 : Vec Ideal S2x1024x128 .bf16) (x3 x4 : Vec Ideal S4096x128 .f32) (x5 : Vec Ideal S2x4096x128 .f32) (x6 : Vec Ideal S8x128 .f32) (x7 : Vec Ideal S2x4096x128 .f32) (x8 x9 : Vec Ideal S2x1024x128 .f32) (s0 : Vec Ideal S2x4096x128 .bf16) (s1 z7 : Vec Ideal S2x4096x128 .f32) (t0 : Vec Ideal S2x4096x128 .bf16) (t1 : Vec Ideal S2x4096x128 .f32)

variable (X2 : BufTy.Contents (Elt Ideal) arg2.view.ty) (X3 : BufTy.Contents (Elt Ideal) arg3.view.ty) (X4 : BufTy.Contents (Elt Ideal) arg4.view.ty) (X7 : BufTy.Contents (Elt Ideal) arg7.view.ty) (X9 : BufTy.Contents (Elt Ideal) arg9.view.ty) (X12 : BufTy.Contents (Elt Ideal) arg12.view.ty) (X13 : BufTy.Contents (Elt Ideal) arg13.view.ty)

/-- The sums carried out of the diagonal. -/
def diagC : Carry :=
  (dkD (k0_pay48 (hd0 arg3.view X3)) (k0_pay49 (hd0 arg3.view X3)) (k0_pay48 (hd0 arg4.view X4)) (k0_pay49 (hd0 arg4.view X4)) (at4 i arg2.view X2) (at4 i arg12.view X12) (at5 i arg2.view X2) (at5 i arg12.view X12) (at4 i arg7.view X7) (at4 i arg13.view X13) (at5 i arg7.view X7) (at5 i arg13.view X13),
   dvD (k0_pay48 (hd0 arg3.view X3)) (k0_pay49 (hd0 arg3.view X3)) (at4 i arg2.view X2) (at4 i arg12.view X12) (at5 i arg2.view X2) (at5 i arg12.view X12) (at4 i arg7.view X7) (at5 i arg7.view X7),
   dkD (k0_pay48 (hd1 arg3.view X3)) (k0_pay49 (hd1 arg3.view X3)) (k0_pay48 (hd1 arg4.view X4)) (k0_pay49 (hd1 arg4.view X4)) (at6 i arg2.view X2) (at6 i arg12.view X12) (at7 i arg2.view X2) (at7 i arg12.view X12) (at6 i arg7.view X7) (at6 i arg13.view X13) (at7 i arg7.view X7) (at7 i arg13.view X13),
   dvD (k0_pay48 (hd1 arg3.view X3)) (k0_pay49 (hd1 arg3.view X3)) (at6 i arg2.view X2) (at6 i arg12.view X12) (at7 i arg2.view X2) (at7 i arg12.view X12) (at6 i arg7.view X7) (at7 i arg7.view X7))

/-- The pieces of the query gradient that the diagonal stores: each half of the rows, the second half in two steps. -/
def pcs4 : List (View.Piece (Elt Ideal) S2x4096x128 .f32) :=
  [pc5 i (k0_pay113 (k0_pay48 (hd0 arg3.view X3)) (k0_pay48 (hd0 arg4.view X4)) (at5 i arg2.view X2) (at5 i arg12.view X12) (at5 i arg7.view X7) (at5 i arg13.view X13) (at5 i arg9.view X9)),
   pc4 i (dqA (k0_pay48 (hd0 arg3.view X3)) (k0_pay48 (hd0 arg4.view X4)) (at4 i arg2.view X2) (at4 i arg12.view X12) (at4 i arg7.view X7) (at4 i arg13.view X13) (at4 i arg9.view X9))]
def pcs6 : List (View.Piece (Elt Ideal) S2x4096x128 .f32) :=
  pc7 i (k0_pay113 (k0_pay48 (hd1 arg3.view X3)) (k0_pay48 (hd1 arg4.view X4)) (at7 i arg2.view X2) (at7 i arg12.view X12) (at7 i arg7.view X7) (at7 i arg13.view X13) (at7 i arg9.view X9)) ::
  pc6 i (dqA (k0_pay48 (hd1 arg3.view X3)) (k0_pay48 (hd1 arg4.view X4)) (at6 i arg2.view X2) (at6 i arg12.view X12) (at6 i arg7.view X7) (at6 i arg13.view X13) (at6 i arg9.view X9)) ::
  pc5 i (dqA (k0_pay49 (hd0 arg3.view X3)) (k0_pay49 (hd0 arg4.view X4)) (at5 i arg2.view X2) (at5 i arg12.view X12) (at5 i arg7.view X7) (at5 i arg13.view X13) (at5 i arg9.view (arg9.view.writes (Elt Ideal) arg9.view.junk (pcs4 i arg2 arg3 arg4 arg7 arg9 arg12 arg13 X2 X3 X4 X7 X9 X12 X13)))) ::
  pcs4 i arg2 arg3 arg4 arg7 arg9 arg12 arg13 X2 X3 X4 X7 X9 X12 X13
def diagL : List (View.Piece (Elt Ideal) S2x4096x128 .f32) :=
  pc7 i (dqA (k0_pay49 (hd1 arg3.view X3)) (k0_pay49 (hd1 arg4.view X4)) (at7 i arg2.view X2) (at7 i arg12.view X12) (at7 i arg7.view X7) (at7 i arg13.view X13) (at7 i arg9.view (arg9.view.writes (Elt Ideal) arg9.view.junk (pcs6 i arg2 arg3 arg4 arg7 arg9 arg12 arg13 X2 X3 X4 X7 X9 X12 X13)))) ::
  pcs6 i arg2 arg3 arg4 arg7 arg9 arg12 arg13 X2 X3 X4 X7 X9 X12 X13

theorem trips3 : ∀ i : grid0.Coords, Scf.trips (k0_t3_loop i).lb (k0_t3_loop i).ub (k0_t3_loop i).st = 0 := by decide +kernel

theorem t3_zero (arg1 : BitVec 32) (v4 v6 v8 v10 : FVec Ideal S1024x128 .bf16) (v11 : BitVec 32) (v236 v238 : FVec Ideal S128x1024 .f32) (v322 v323 v360 v361 v451 v452 : FVec Ideal S128x512 .f32) (v457 : FVec Ideal S512x128 .f32) (v470 : BitVec 32)
    (G : BufTy.Contents (Elt Ideal) arg9.view.ty) (init : Carry) (n : ℕ) (hn : n = 0) :
    st_k0_t3 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 v470 X2 X7 X12 X13 G init n = (init, []) := by
  subst hn; rw [st_k0_t3.eq_1]

theorem t2_trips (arg1 : BitVec 32) (v4 v6 v8 v10 : FVec Ideal S1024x128 .bf16) (v11 : BitVec 32) (v236 v238 : FVec Ideal S128x1024 .f32) (v322 v323 v360 v361 v451 v452 : FVec Ideal S128x512 .f32) (v457 : FVec Ideal S512x128 .f32)
    (G : BufTy.Contents (Elt Ideal) arg9.view.ty) (a : Carry) (n : ℕ) (hn : n = (k0_t2_loop i).trips) :
    st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 G (a.1, a.2.1, a.2.2.1, a.2.2.2) n
      = st_k0_t2 (F := Ideal) Variants.none c none i arg2 harg2 arg3 harg3 arg4 harg4 arg5 harg5 arg6 harg6 arg7 harg7 arg8 harg8 arg9 harg9 arg10 harg10 arg11 harg11 arg12 harg12 arg13 harg13 arg1 v4 v6 v8 v10 v11 v236 v238 v322 v323 v360 v361 v451 v452 v457 X2 X7 X12 X13 G a (k0_t2_loop i).trips := by
  subst hn; rfl
theorem t2_ok : Scf.trips (k0_t2_loop i).lb (k0_t2_loop i).ub (k0_t2_loop i).st = (k0_t2_loop i).trips := rfl

theorem r14_eq : run.sl.r_14 c i arg2 harg2 arg3 harg3 arg4 harg4 arg7 harg7 arg12 harg12 arg13 harg13 x0 x1 x2 x5 t0 t1 = (diagC i arg2 arg3 arg4 arg7 arg12 arg13 (harg2.unread x0) (harg3.unread x1) (harg4.unread x2) (harg7.unread x5) (harg12.unread t0) (harg13.unread t1)).1 := rfl
theorem r15_eq : run.sl.r_15 c i arg2 harg2 arg3 harg3 arg4 harg4 arg7 harg7 arg12 harg12 x0 x1 x2 x5 t0 = (diagC i arg2 arg3 arg4 arg7 arg12 arg13 (harg2.unread x0) (harg3.unread x1) (harg4.unread x2) (harg7.unread x5) (harg12.unread t0) (harg13.unread t1)).2.1 := rfl
theorem r28_eq : k0_pay125 (run.sl.r_26 c i arg2 harg2 arg3 harg3 arg4 harg4 arg7 harg7 arg12 harg12 arg13 harg13 x0 x1 x2 x5 t0 t1) (run.sl.r_28 c i arg2 harg2 arg3 harg3 arg4 harg4 arg7 harg7 arg12 harg12 arg13 harg13 x0 x1 x2 x5 t0 t1) (run.sl.r_34 c i arg2 harg2 arg3 harg3 arg4 harg4 arg7 harg7 arg12 harg12 arg13 harg13 x0 x1 x2 x5 t0 t1) = (diagC i arg2 arg3 arg4 arg7 arg12 arg13 (harg2.unread x0) (harg3.unread x1) (harg4.unread x2) (harg7.unread x5) (harg12.unread t0) (harg13.unread t1)).2.2.1 := rfl
theorem r27_eq : k0_pay126 (run.sl.r_25 c i arg2 harg2 arg3 harg3 arg7 harg7 arg12 harg12 x0 x1 x5 t0) (run.sl.r_27 c i arg2 harg2 arg3 harg3 arg7 harg7 arg12 harg12 x0 x1 x5 t0) (run.sl.r_33 c i arg2 harg2 arg3 harg3 arg7 harg7 arg12 harg12 x0 x1 x5 t0) = (diagC i arg2 arg3 arg4 arg7 arg12 arg13 (harg2.unread x0) (harg3.unread x1) (harg4.unread x2) (harg7.unread x5) (harg12.unread t0) (harg13.unread t1)).2.2.2 := rfl
theorem H2_eq : run.sl.H7_2 c i arg2 harg2 arg3 harg3 arg4 harg4 arg7 harg7 arg9 harg9 arg12 harg12 arg13 harg13 x0 x1 x2 x5 z7 t0 t1 = pcs4 i arg2 arg3 arg4 arg7 arg9 arg12 arg13 (harg2.unread x0) (harg3.unread x1) (harg4.unread x2) (harg7.unread x5) (harg9.unread z7) (harg12.unread t0) (harg13.unread t1) := rfl
theorem H5_eq : run.sl.H7_5 c i arg2 harg2 arg3 harg3 arg4 harg4 arg7 harg7 arg9 harg9 arg12 harg12 arg13 harg13 x0 x1 x2 x5 z7 t0 t1 = pcs6 i arg2 arg3 arg4 arg7 arg9 arg12 arg13 (harg2.unread x0) (harg3.unread x1) (harg4.unread x2) (harg7.unread x5) (harg9.unread z7) (harg12.unread t0) (harg13.unread t1) := by
  unfold run.sl.H7_5 run.sl.v227
  rw [H2_eq]
  rfl
theorem H6_eq : (pc7 i (k0_pay124 (run.sl.r_35 c i arg2 harg2 arg3 harg3 arg4 harg4 arg7 harg7 arg9 harg9 arg12 harg12 arg13 harg13 x0 x1 x2 x5 z7 t0 t1)) :: run.sl.H7_5 c i arg2 harg2 arg3 harg3 arg4 harg4 arg7 harg7 arg9 harg9 arg12 harg12 arg13 harg13 x0 x1 x2 x5 z7 t0 t1) = diagL i arg2 arg3 arg4 arg7 arg9 arg12 arg13 (harg2.unread x0) (harg3.unread x1) (harg4.unread x2) (harg7.unread x5) (harg9.unread z7) (harg12.unread t0) (harg13.unread t1) := by
  unfold run.sl.r_35 run.sl.v454
  rw [H5_eq]
  rfl

/-- The shape of what a point leaves: the diagonal's pieces, those of the full tiles, and at the last tile the scale. -/
theorem run_shape : ∃ (v322 v323 v360 v361 v451 v452 : FVec Ideal S128x512 .f32) (v457 : FVec Ideal S512x128 .f32) (S : Carry × List (View.Piece (Elt Ideal) S2x4096x128 .f32)),
    S = st_k0_t2 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (k0_pay44 (hd0 arg3.view (harg3.unread x1))) (k0_pay45 (hd1 arg3.view (harg3.unread x1))) (k0_pay46 (hd0 arg4.view (harg4.unread x2))) (k0_pay47 (hd1 arg4.view (harg4.unread x2))) (Scalar.addi (BitVec.ofNat 32 (i 1).val) 1#32)
          (diagC i arg2 arg3 arg4 arg7 arg12 arg13 (harg2.unread x0) (harg3.unread x1) (harg4.unread x2) (harg7.unread x5) (harg12.unread t0) (harg13.unread t1)).1
          (diagC i arg2 arg3 arg4 arg7 arg12 arg13 (harg2.unread x0) (harg3.unread x1) (harg4.unread x2) (harg7.unread x5) (harg12.unread t0) (harg13.unread t1)).2.1
          v322 v323 v360 v361 v451 v452 v457 (harg2.unread x0) (harg7.unread x5) (harg12.unread t0) (harg13.unread t1)
          (arg9.view.writes (Elt Ideal) (harg9.unread z7) (diagL i arg2 arg3 arg4 arg7 arg9 arg12 arg13 (harg2.unread x0) (harg3.unread x1) (harg4.unread x2) (harg7.unread x5) (harg9.unread z7) (harg12.unread t0) (harg13.unread t1)))
          (diagC i arg2 arg3 arg4 arg7 arg12 arg13 (harg2.unread x0) (harg3.unread x1) (harg4.unread x2) (harg7.unread x5) (harg12.unread t0) (harg13.unread t1)) (k0_t2_loop i).trips
    ∧ (run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1).1
        = (let L := S.2 ++ diagL i arg2 arg3 arg4 arg7 arg9 arg12 arg13 (harg2.unread x0) (harg3.unread x1) (harg4.unread x2) (harg7.unread x5) (harg9.unread z7) (harg12.unread t0) (harg13.unread t1)
           if cond0_1 i then arg9.view.writes (Elt Ideal) (harg9.unread z7) (⟨Rect.unit (s := S2x4096x128) ![0, 0, 0] S2x4096x128.size inb_S2x4096x128_S2x4096x128_0_0_0,
              k0_pay1 (arg9.view.readAt (Elt Ideal) (Rect.unit (s := S2x4096x128) ![0, 0, 0] S2x4096x128.size inb_S2x4096x128_S2x4096x128_0_0_0).toLoadRect (arg9.view.writes (Elt Ideal) (harg9.unread z7) L))⟩ :: L)
           else arg9.view.writes (Elt Ideal) (harg9.unread z7) L)
    ∧ (run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1).2.1
        = arg10.view.writes (Elt Ideal) (harg10.unread x8) [⟨Rect.unit (s := S2x1024x128) ![1, 0, 0] S1x1024x128.size inb_S2x1024x128_S1x1024x128_1_0_0, k0_pay129 S.1.2.2.1⟩, ⟨Rect.unit (s := S2x1024x128) ![0, 0, 0] S1x1024x128.size inb_S2x1024x128_S1x1024x128_0_0_0, k0_pay127 S.1.1⟩]
    ∧ (run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1).2.2.1
        = arg11.view.writes (Elt Ideal) (harg11.unread x9) [⟨Rect.unit (s := S2x1024x128) ![1, 0, 0] S1x1024x128.size inb_S2x1024x128_S1x1024x128_1_0_0, k0_pay130 S.1.2.2.2⟩, ⟨Rect.unit (s := S2x1024x128) ![0, 0, 0] S1x1024x128.size inb_S2x1024x128_S1x1024x128_0_0_0, k0_pay128 S.1.2.1⟩] := by
  obtain ⟨S, hS⟩ : ∃ S : Carry × List (View.Piece (Elt Ideal) S2x4096x128 .f32), S = st_k0_t2 (F := Ideal) Variants.none c none i arg2 harg2 arg3 harg3 arg4 harg4 arg5 harg5 arg6 harg6 arg7 harg7 arg8 harg8 arg9 harg9 arg10 harg10 arg11 harg11 arg12 harg12 arg13 harg13 (BitVec.ofNat 32 (i 1).val) (k0_pay44 (hd0 arg3.view (harg3.unread x1))) (k0_pay45 (hd1 arg3.view (harg3.unread x1))) (k0_pay46 (hd0 arg4.view (harg4.unread x2))) (k0_pay47 (hd1 arg4.view (harg4.unread x2))) (Scalar.addi (BitVec.ofNat 32 (i 1).val) 1#32)
          (diagC i arg2 arg3 arg4 arg7 arg12 arg13 (harg2.unread x0) (harg3.unread x1) (harg4.unread x2) (harg7.unread x5) (harg12.unread t0) (harg13.unread t1)).1
          (diagC i arg2 arg3 arg4 arg7 arg12 arg13 (harg2.unread x0) (harg3.unread x1) (harg4.unread x2) (harg7.unread x5) (harg12.unread t0) (harg13.unread t1)).2.1
          (run.sl.r_25 c i arg2 harg2 arg3 harg3 arg7 harg7 arg12 harg12 x0 x1 x5 t0) (run.sl.r_26 c i arg2 harg2 arg3 harg3 arg4 harg4 arg7 harg7 arg12 harg12 arg13 harg13 x0 x1 x2 x5 t0 t1) (run.sl.r_27 c i arg2 harg2 arg3 harg3 arg7 harg7 arg12 harg12 x0 x1 x5 t0) (run.sl.r_28 c i arg2 harg2 arg3 harg3 arg4 harg4 arg7 harg7 arg12 harg12 arg13 harg13 x0 x1 x2 x5 t0 t1) (run.sl.r_33 c i arg2 harg2 arg3 harg3 arg7 harg7 arg12 harg12 x0 x1 x5 t0) (run.sl.r_34 c i arg2 harg2 arg3 harg3 arg4 harg4 arg7 harg7 arg12 harg12 arg13 harg13 x0 x1 x2 x5 t0 t1) (run.sl.r_35 c i arg2 harg2 arg3 harg3 arg4 harg4 arg7 harg7 arg9 harg9 arg12 harg12 arg13 harg13 x0 x1 x2 x5 z7 t0 t1) (harg2.unread x0) (harg7.unread x5) (harg12.unread t0) (harg13.unread t1)
          (arg9.view.writes (Elt Ideal) (harg9.unread z7) (diagL i arg2 arg3 arg4 arg7 arg9 arg12 arg13 (harg2.unread x0) (harg3.unread x1) (harg4.unread x2) (harg7.unread x5) (harg9.unread z7) (harg12.unread t0) (harg13.unread t1)))
          (diagC i arg2 arg3 arg4 arg7 arg12 arg13 (harg2.unread x0) (harg3.unread x1) (harg4.unread x2) (harg7.unread x5) (harg12.unread t0) (harg13.unread t1)) (k0_t2_loop i).trips := ⟨_, rfl⟩
  refine ⟨run.sl.r_25 c i arg2 harg2 arg3 harg3 arg7 harg7 arg12 harg12 x0 x1 x5 t0, run.sl.r_26 c i arg2 harg2 arg3 harg3 arg4 harg4 arg7 harg7 arg12 harg12 arg13 harg13 x0 x1 x2 x5 t0 t1, run.sl.r_27 c i arg2 harg2 arg3 harg3 arg7 harg7 arg12 harg12 x0 x1 x5 t0, run.sl.r_28 c i arg2 harg2 arg3 harg3 arg4 harg4 arg7 harg7 arg12 harg12 arg13 harg13 x0 x1 x2 x5 t0 t1, run.sl.r_33 c i arg2 harg2 arg3 harg3 arg7 harg7 arg12 harg12 x0 x1 x5 t0, run.sl.r_34 c i arg2 harg2 arg3 harg3 arg4 harg4 arg7 harg7 arg12 harg12 arg13 harg13 x0 x1 x2 x5 t0 t1, run.sl.r_35 c i arg2 harg2 arg3 harg3 arg4 harg4 arg7 harg7 arg9 harg9 arg12 harg12 arg13 harg13 x0 x1 x2 x5 z7 t0 t1, S, hS, ?_, ?_, ?_⟩
  · unfold run
    dsimp only
    unfold run.sl.v496
    rw [t3_zero (hn := ?h), r14_eq, r15_eq (harg13 := harg13) (t1 := t1), r28_eq, r27_eq (harg4 := harg4) (x2 := x2) (harg13 := harg13) (t1 := t1), H6_eq, t2_trips (hn := ?h2), ← hS]
    case h => exact trips3 i
    case h2 => exact t2_ok i
    rfl
  · unfold run
    dsimp only
    unfold run.sl.H8_2
    rw [t3_zero (hn := ?h), r14_eq, r15_eq (harg13 := harg13) (t1 := t1), r28_eq, r27_eq (harg4 := harg4) (x2 := x2) (harg13 := harg13) (t1 := t1), H6_eq, t2_trips (hn := ?h2), ← hS]
    case h => exact trips3 i
    case h2 => exact t2_ok i
  · unfold run
    dsimp only
    unfold run.sl.H9_2
    rw [t3_zero (hn := ?h), r14_eq, r15_eq (harg13 := harg13) (t1 := t1), r28_eq, r27_eq (harg4 := harg4) (x2 := x2) (harg13 := harg13) (t1 := t1), H6_eq, t2_trips (hn := ?h2), ← hS]
    case h => exact trips3 i
    case h2 => exact t2_ok i

theorem load_head (v : View sig .tc .vmem S2x1024x128 .bf16) (f : v.ty.Contents (Elt Ideal)) (k : Fin 1024) (d : Fin 128) :
    hd0 v f (ix3 0 k d) = v.read (Elt Ideal) f (ix3 0 k d) ∧ hd1 v f (ix3 0 k d) = v.read (Elt Ideal) f (ix3 1 k d) := by
  constructor <;> refine congrArg (v.read (Elt Ideal) f) (funext fun x => Fin.ext ?_) <;> fin_cases x
  · rfl
  · change 0 + 1 * k.val = k.val; omega
  · change 0 + 1 * d.val = d.val; omega
  · rfl
  · change 0 + 1 * k.val = k.val; omega
  · change 0 + 1 * d.val = d.val; omega

/-- A piece of 512 rows loaded back where it was stored. -/
theorem reload_512 (v : View sig .tc .vmem S2x4096x128 .f32) (f : v.ty.Contents (Elt Ideal)) {off : Fin 3 → ℕ} (inb : ∀ a, off a + S1x512x128.size a ≤ S2x4096x128.size a)
    (w : Vec Ideal S1x512x128 .f32) (L : List (View.Piece (Elt Ideal) S2x4096x128 .f32)) {a : Fin 2} {o : ℕ} (ho : o + 512 ≤ 4096) (e : off = ![a.val, o, 0]) :
    v.readAt (Elt Ideal) (Rect.unit (s := S2x4096x128) off S1x512x128.size inb).toLoadRect (v.writes (Elt Ideal) f (⟨Rect.unit (s := S2x4096x128) off S1x512x128.size inb, w⟩ :: L)) = w := by
  funext y
  obtain ⟨x, r, d, rfl⟩ : ∃ (x : Fin 1) (r : Fin 512) (d : Fin 128), y = ix3 x r d := by idx_vars y; exact ⟨_, _, _, rfl⟩
  obtain rfl : x = 0 := Subsingleton.elim _ _
  rw [load_512 v _ inb ho e, read_512 v f inb w L e, dif_pos ⟨rfl, by simp only; omega⟩]
  exact congrArg (fun r => w (ix3 0 r d)) (Fin.ext (by simp only; omega))

/-- The whole block stored over everything else, and loaded. -/
theorem read_whole (v : View sig .tc .vmem S2x4096x128 .f32) (f : v.ty.Contents (Elt Ideal)) (w : Vec Ideal S2x4096x128 .f32) (L : List (View.Piece (Elt Ideal) S2x4096x128 .f32)) (h : Fin 2) (r : Fin 4096) (d : Fin 128) :
    v.read (Elt Ideal) (v.writes (Elt Ideal) f (⟨Rect.unit (s := S2x4096x128) ![0, 0, 0] S2x4096x128.size inb_S2x4096x128_S2x4096x128_0_0_0, w⟩ :: L)) (ix3 h r d) = w (ix3 h r d) := by
  refine View.read_writes_cons_unit_of_mem v f _ w L (ix3 h r d) (ix3 h r d) rfl fun x => ?_
  fin_cases x <;> exact (Nat.zero_add _).symm
theorem load_whole (v : View sig .tc .vmem S2x4096x128 .f32) (f : v.ty.Contents (Elt Ideal)) (h : Fin 2) (r : Fin 4096) (d : Fin 128) :
    v.readAt (Elt Ideal) (Rect.unit (s := S2x4096x128) ![0, 0, 0] S2x4096x128.size inb_S2x4096x128_S2x4096x128_0_0_0).toLoadRect f (ix3 h r d) = v.read (Elt Ideal) f (ix3 h r d) := by
  refine congrArg (v.read (Elt Ideal) f) (funext fun x => Fin.ext ?_)
  fin_cases x
  · change 0 + 1 * h.val = h.val; omega
  · change 0 + 1 * r.val = r.val; omega
  · change 0 + 1 * d.val = d.val; omega

/-- Both heads' blocks, stored one after the other. -/
theorem read_heads (v : View sig .tc .vmem S2x1024x128 .f32) (f : v.ty.Contents (Elt Ideal)) (a b : Vec Ideal S1x1024x128 .f32) (h : Fin 2) (k : Fin 1024) (d : Fin 128) :
    v.read (Elt Ideal) (v.writes (Elt Ideal) f [⟨Rect.unit (s := S2x1024x128) ![1, 0, 0] S1x1024x128.size inb_S2x1024x128_S1x1024x128_1_0_0, b⟩, ⟨Rect.unit (s := S2x1024x128) ![0, 0, 0] S1x1024x128.size inb_S2x1024x128_S1x1024x128_0_0_0, a⟩]) (ix3 h k d)
      = if h = 0 then a (ix3 0 k d) else b (ix3 0 k d) := by
  split_ifs with h0
  · subst h0
    refine (View.read_writes_cons_unit_of_not_mem v f _ b _ (ix3 0 k d) rfl 0 (.inl Nat.zero_lt_one)).trans ?_
    refine View.read_writes_cons_unit_of_mem v f _ a [] (ix3 0 k d) (ix3 0 k d) rfl fun x => ?_
    fin_cases x <;> exact (Nat.zero_add _).symm
  · obtain rfl : h = 1 := by omega
    refine View.read_writes_cons_unit_of_mem v f _ b _ (ix3 1 k d) (ix3 0 k d) rfl fun x => ?_
    fin_cases x
    · rfl
    · exact (Nat.zero_add _).symm
    · exact (Nat.zero_add _).symm

section Done

variable {q O L T : Fin 2 → Fin 4096 → Fin 128 → EReal} {K V : Fin 2 → Fin 1024 → Fin 128 → EReal} {z : Fin 2 → Fin 4096 → Fin 128 → EReal}
  (hX2 : ∀ h r x, arg2.view.read (Elt Ideal) X2 (ix3 h r x) = q h r x) (hX12 : ∀ h r x, arg12.view.read (Elt Ideal) X12 (ix3 h r x) = O h r x)
  (hX7 : ∀ h r x, arg7.view.read (Elt Ideal) X7 (ix3 h r x) = L h r x) (hX13 : ∀ h r x, arg13.view.read (Elt Ideal) X13 (ix3 h r x) = T h r x)
  (hX3 : ∀ h k x, arg3.view.read (Elt Ideal) X3 (ix3 h k x) = K h k x) (hX4 : ∀ h k x, arg4.view.read (Elt Ideal) X4 (ix3 h k x) = V h k x)
  (hX9 : ∀ h r x, arg9.view.read (Elt Ideal) X9 (ix3 h r x) = z h r x)

include hX2 hX12 hX7 hX13 hX3 hX4 hX9 in
/-- The diagonal does the rows up to its end. -/
theorem diag_done : Done i arg9 q O L T K V z (1024 * (i 1).val + 1024) (diagC i arg2 arg3 arg4 arg7 arg12 arg13 X2 X3 X4 X7 X12 X13)
    (arg9.view.writes (Elt Ideal) X9 (diagL i arg2 arg3 arg4 arg7 arg9 arg12 arg13 X2 X3 X4 X7 X9 X12 X13)) := by
  have hj : (i 1).val < 4 := (i 1).isLt
  have e4 := k0_off4_eq i
  have e5 := k0_off5_eq i
  have e6 := k0_off6_eq i
  have e7 := k0_off7_eq i
  have ho : 1024 * (i 1).val + 512 ≤ 4096 := by omega
  have ho' : 1024 * (i 1).val + 512 + 512 ≤ 4096 := by omega
  have hK1 : ∀ k x, k0_pay48 (hd0 arg3.view X3) (ix2 k x) = K 0 ⟨k.val, by omega⟩ x := fun k x => (pay48_at ..).trans ((load_head ..).1.trans (hX3 ..))
  have hK2 : ∀ k x, k0_pay49 (hd0 arg3.view X3) (ix2 k x) = K 0 ⟨512 + k.val, by omega⟩ x := fun k x => (pay49_at ..).trans ((load_head ..).1.trans (hX3 ..))
  have hV1 : ∀ k x, k0_pay48 (hd0 arg4.view X4) (ix2 k x) = V 0 ⟨k.val, by omega⟩ x := fun k x => (pay48_at ..).trans ((load_head ..).1.trans (hX4 ..))
  have hV2 : ∀ k x, k0_pay49 (hd0 arg4.view X4) (ix2 k x) = V 0 ⟨512 + k.val, by omega⟩ x := fun k x => (pay49_at ..).trans ((load_head ..).1.trans (hX4 ..))
  have gK1 : ∀ k x, k0_pay48 (hd1 arg3.view X3) (ix2 k x) = K 1 ⟨k.val, by omega⟩ x := fun k x => (pay48_at ..).trans ((load_head ..).2.trans (hX3 ..))
  have gK2 : ∀ k x, k0_pay49 (hd1 arg3.view X3) (ix2 k x) = K 1 ⟨512 + k.val, by omega⟩ x := fun k x => (pay49_at ..).trans ((load_head ..).2.trans (hX3 ..))
  have gV1 : ∀ k x, k0_pay48 (hd1 arg4.view X4) (ix2 k x) = V 1 ⟨k.val, by omega⟩ x := fun k x => (pay48_at ..).trans ((load_head ..).2.trans (hX4 ..))
  have gV2 : ∀ k x, k0_pay49 (hd1 arg4.view X4) (ix2 k x) = V 1 ⟨512 + k.val, by omega⟩ x := fun k x => (pay49_at ..).trans ((load_head ..).2.trans (hX4 ..))
  have hQ1 : ∀ r x, at4 i arg2.view X2 (ix3 0 r x) = q 0 ⟨1024 * (i 1).val + r.val, by omega⟩ x := fun r x => (load_512 _ _ _ (a := 0) ho e4 r x).trans (hX2 ..)
  have hQ2 : ∀ r x, at5 i arg2.view X2 (ix3 0 r x) = q 0 ⟨1024 * (i 1).val + 512 + r.val, by omega⟩ x := fun r x => (load_512 _ _ _ (a := 0) ho' e5 r x).trans (hX2 ..)
  have gQ1 : ∀ r x, at6 i arg2.view X2 (ix3 0 r x) = q 1 ⟨1024 * (i 1).val + r.val, by omega⟩ x := fun r x => (load_512 _ _ _ (a := 1) ho e6 r x).trans (hX2 ..)
  have gQ2 : ∀ r x, at7 i arg2.view X2 (ix3 0 r x) = q 1 ⟨1024 * (i 1).val + 512 + r.val, by omega⟩ x := fun r x => (load_512 _ _ _ (a := 1) ho' e7 r x).trans (hX2 ..)
  have hO1 : ∀ r x, at4 i arg12.view X12 (ix3 0 r x) = O 0 ⟨1024 * (i 1).val + r.val, by omega⟩ x := fun r x => (load_512 _ _ _ (a := 0) ho e4 r x).trans (hX12 ..)
  have hO2 : ∀ r x, at5 i arg12.view X12 (ix3 0 r x) = O 0 ⟨1024 * (i 1).val + 512 + r.val, by omega⟩ x := fun r x => (load_512 _ _ _ (a := 0) ho' e5 r x).trans (hX12 ..)
  have gO1 : ∀ r x, at6 i arg12.view X12 (ix3 0 r x) = O 1 ⟨1024 * (i 1).val + r.val, by omega⟩ x := fun r x => (load_512 _ _ _ (a := 1) ho e6 r x).trans (hX12 ..)
  have gO2 : ∀ r x, at7 i arg12.view X12 (ix3 0 r x) = O 1 ⟨1024 * (i 1).val + 512 + r.val, by omega⟩ x := fun r x => (load_512 _ _ _ (a := 1) ho' e7 r x).trans (hX12 ..)
  have hL1 : ∀ r x, at4 i arg7.view X7 (ix3 0 r x) = L 0 ⟨1024 * (i 1).val + r.val, by omega⟩ x := fun r x => (load_512 _ _ _ (a := 0) ho e4 r x).trans (hX7 ..)
  have hL2 : ∀ r x, at5 i arg7.view X7 (ix3 0 r x) = L 0 ⟨1024 * (i 1).val + 512 + r.val, by omega⟩ x := fun r x => (load_512 _ _ _ (a := 0) ho' e5 r x).trans (hX7 ..)
  have gL1 : ∀ r x, at6 i arg7.view X7 (ix3 0 r x) = L 1 ⟨1024 * (i 1).val + r.val, by omega⟩ x := fun r x => (load_512 _ _ _ (a := 1) ho e6 r x).trans (hX7 ..)
  have gL2 : ∀ r x, at7 i arg7.view X7 (ix3 0 r x) = L 1 ⟨1024 * (i 1).val + 512 + r.val, by omega⟩ x := fun r x => (load_512 _ _ _ (a := 1) ho' e7 r x).trans (hX7 ..)
  have hT1 : ∀ r x, at4 i arg13.view X13 (ix3 0 r x) = T 0 ⟨1024 * (i 1).val + r.val, by omega⟩ x := fun r x => (load_512 _ _ _ (a := 0) ho e4 r x).trans (hX13 ..)
  have hT2 : ∀ r x, at5 i arg13.view X13 (ix3 0 r x) = T 0 ⟨1024 * (i 1).val + 512 + r.val, by omega⟩ x := fun r x => (load_512 _ _ _ (a := 0) ho' e5 r x).trans (hX13 ..)
  have gT1 : ∀ r x, at6 i arg13.view X13 (ix3 0 r x) = T 1 ⟨1024 * (i 1).val + r.val, by omega⟩ x := fun r x => (load_512 _ _ _ (a := 1) ho e6 r x).trans (hX13 ..)
  have gT2 : ∀ r x, at7 i arg13.view X13 (ix3 0 r x) = T 1 ⟨1024 * (i 1).val + 512 + r.val, by omega⟩ x := fun r x => (load_512 _ _ _ (a := 1) ho' e7 r x).trans (hX13 ..)
  refine ⟨fun d k => ?_, fun d k => ?_, fun d k => ?_, fun d k => ?_, fun h r d => ?_⟩
  · exact dkD_at (hj := hj) (hK1 := hK1) (hK2 := hK2) (hV1 := hV1) (hV2 := hV2) (hQ1 := hQ1) (hQ2 := hQ2) (hO1 := hO1) (hO2 := hO2) (hL1 := hL1) (hL2 := hL2) (hT1 := hT1) (hT2 := hT2) ..
  · exact dvD_at (hj := hj) (hK1 := hK1) (hK2 := hK2) (hQ1 := hQ1) (hQ2 := hQ2) (hO1 := hO1) (hO2 := hO2) (hL1 := hL1) (hL2 := hL2) ..
  · exact dkD_at (hj := hj) (hK1 := gK1) (hK2 := gK2) (hV1 := gV1) (hV2 := gV2) (hQ1 := gQ1) (hQ2 := gQ2) (hO1 := gO1) (hO2 := gO2) (hL1 := gL1) (hL2 := gL2) (hT1 := gT1) (hT2 := gT2) ..
  · exact dvD_at (hj := hj) (hK1 := gK1) (hK2 := gK2) (hQ1 := gQ1) (hQ2 := gQ2) (hO1 := gO1) (hO2 := gO2) (hL1 := gL1) (hL2 := gL2) ..
  · have w7 : at7 i arg9.view (arg9.view.writes (Elt Ideal) arg9.view.junk (pcs6 i arg2 arg3 arg4 arg7 arg9 arg12 arg13 X2 X3 X4 X7 X9 X12 X13)) = _ := reload_512 _ _ _ _ _ (a := 1) ho' e7
    have w5 : at5 i arg9.view (arg9.view.writes (Elt Ideal) arg9.view.junk (pcs4 i arg2 arg3 arg4 arg7 arg9 arg12 arg13 X2 X3 X4 X7 X9 X12 X13)) = _ := reload_512 _ _ _ _ _ (a := 0) ho' e5
    unfold diagL
    rw [read_512 arg9.view _ _ _ _ e7]
    unfold pcs6
    rw [read_512 arg9.view _ _ _ _ e7, read_512 arg9.view _ _ _ _ e6, read_512 arg9.view _ _ _ _ e5]
    unfold pcs4
    rw [read_512 arg9.view _ _ _ _ e5, read_512 arg9.view _ _ _ _ e4]
    by_cases c7 : h.val = 1 ∧ 1024 * (i 1).val + 512 ≤ r.val ∧ r.val < 1024 * (i 1).val + 512 + 512
    · obtain rfl : h = 1 := Fin.ext c7.1
      rw [dif_pos c7, if_pos (by omega)]
      refine (dqBC_at (hj := hj) (hw := w7) (hK1 := gK1) (hK2 := gK2) (hV1 := gV1) (hV2 := gV2) (hQ2 := gQ2) (hO2 := gO2) (hL2 := gL2) (hT2 := gT2) (r := ⟨r.val - (1024 * (i 1).val + 512), by omega⟩) (d := d) ..).trans ?_
      refine congrArg₂ (· + ·) ((load_512 _ _ _ (a := 1) ho' e7 _ d).trans ((hX9 ..).trans (congrArg (fun x => z 1 x d) (Fin.ext (by simp only; omega))))) (congrArg (fun x => dqS _ _ _ _ _ _ _ x d) (Fin.ext (by simp only; omega)))
    rw [dif_neg c7, dif_neg c7]
    by_cases c6 : h.val = 1 ∧ 1024 * (i 1).val ≤ r.val ∧ r.val < 1024 * (i 1).val + 512
    · obtain rfl : h = 1 := Fin.ext c6.1
      rw [dif_pos c6, if_pos (by omega)]
      refine (dqA_at (hj := hj) (hK1 := gK1) (hV1 := gV1) (hQ1 := gQ1) (hO1 := gO1) (hL1 := gL1) (hT1 := gT1) (r := ⟨r.val - 1024 * (i 1).val, by omega⟩) (d := d) ..).trans ?_
      refine congrArg₂ (· + ·) ((load_512 _ _ _ (a := 1) ho e6 _ d).trans ((hX9 ..).trans (congrArg (fun x => z 1 x d) (Fin.ext (by simp only; omega))))) (congrArg (fun x => dqS _ _ _ _ _ _ _ x d) (Fin.ext (by simp only; omega)))
    rw [dif_neg c6]
    by_cases c5 : h.val = 0 ∧ 1024 * (i 1).val + 512 ≤ r.val ∧ r.val < 1024 * (i 1).val + 512 + 512
    · obtain rfl : h = 0 := Fin.ext c5.1
      rw [dif_pos c5, if_pos (by omega)]
      refine (dqBC_at (hj := hj) (hw := w5) (hK1 := hK1) (hK2 := hK2) (hV1 := hV1) (hV2 := hV2) (hQ2 := hQ2) (hO2 := hO2) (hL2 := hL2) (hT2 := hT2) (r := ⟨r.val - (1024 * (i 1).val + 512), by omega⟩) (d := d) ..).trans ?_
      refine congrArg₂ (· + ·) ((load_512 _ _ _ (a := 0) ho' e5 _ d).trans ((hX9 ..).trans (congrArg (fun x => z 0 x d) (Fin.ext (by simp only; omega))))) (congrArg (fun x => dqS _ _ _ _ _ _ _ x d) (Fin.ext (by simp only; omega)))
    rw [dif_neg c5, dif_neg c5]
    by_cases c4 : h.val = 0 ∧ 1024 * (i 1).val ≤ r.val ∧ r.val < 1024 * (i 1).val + 512
    · obtain rfl : h = 0 := Fin.ext c4.1
      rw [dif_pos c4, if_pos (by omega)]
      refine (dqA_at (hj := hj) (hK1 := hK1) (hV1 := hV1) (hQ1 := hQ1) (hO1 := hO1) (hL1 := hL1) (hT1 := hT1) (r := ⟨r.val - 1024 * (i 1).val, by omega⟩) (d := d) ..).trans ?_
      refine congrArg₂ (· + ·) ((load_512 _ _ _ (a := 0) ho e4 _ d).trans ((hX9 ..).trans (congrArg (fun x => z 0 x d) (Fin.ext (by simp only; omega))))) (congrArg (fun x => dqS _ _ _ _ _ _ _ x d) (Fin.ext (by simp only; omega)))
    rw [dif_neg c4]
    refine (hX9 ..).trans ?_
    split_ifs with c
    · unfold dqS
      rw [Finset.sum_eq_zero (fun k _ => by rw [DM_before (by omega), zero_mul]), add_zero]
    · rfl

end Done

/-- What a point leaves: every row's query gradient with this key tile's part added, and both heads' key and value gradients. -/
theorem run_vals (q O L T : Fin 2 → Fin 4096 → Fin 128 → EReal) (K V : Fin 2 → Fin 1024 → Fin 128 → EReal) (z : Fin 2 → Fin 4096 → Fin 128 → EReal)
    (h0 : ∀ h r x, x0 (ix3 h r x) = q h r x) (h1 : ∀ h k x, x1 (ix3 h k x) = K h k x) (h2 : ∀ h k x, x2 (ix3 h k x) = V h k x) (h5 : ∀ h r x, x5 (ix3 h r x) = L h r x)
    (hz : ∀ h r x, z7 (ix3 h r x) = z h r x) (ht0 : ∀ h r x, t0 (ix3 h r x) = O h r x) (ht1 : ∀ h r x, t1 (ix3 h r x) = T h r x) :
    let R := run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1
    (∀ h r d, arg9.view.read (Elt Ideal) R.1 (ix3 h r d) = if cond0_1 i then (z h r d + dqS (i 1).val (q h) (O h) (L h) (T h) (K h) (V h) r d) * Named.named (F := Ideal) (φ := .f32) κ "scale" 0x3DD105EC#32 else z h r d + dqS (i 1).val (q h) (O h) (L h) (T h) (K h) (V h) r d)
    ∧ (∀ h k d, arg10.view.read (Elt Ideal) R.2.1 (ix3 h k d) = dkS (i 1).val (q h) (O h) (L h) (T h) (K h) (V h) 4096 d k * Named.named (F := Ideal) (φ := .f32) κ "scale" 0x3DD105EC#32)
    ∧ (∀ h k d, arg11.view.read (Elt Ideal) R.2.2.1 (ix3 h k d) = dvS (i 1).val (q h) (O h) (L h) (K h) 4096 d k) := by
  intro R
  obtain ⟨v1, v2, v3, v4, v5, v6, v7, S, hS, r1, r2, r3⟩ := run_shape c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1
  have hX2 : ∀ h r x, arg2.view.read (Elt Ideal) (harg2.unread x0) (ix3 h r x) = q h r x := fun h r x => (congrFun (harg2.read_unread (Val := Elt Ideal) x0) _).trans (h0 ..)
  have hX3 : ∀ h r x, arg3.view.read (Elt Ideal) (harg3.unread x1) (ix3 h r x) = K h r x := fun h r x => (congrFun (harg3.read_unread (Val := Elt Ideal) x1) _).trans (h1 ..)
  have hX4 : ∀ h r x, arg4.view.read (Elt Ideal) (harg4.unread x2) (ix3 h r x) = V h r x := fun h r x => (congrFun (harg4.read_unread (Val := Elt Ideal) x2) _).trans (h2 ..)
  have hX7 : ∀ h r x, arg7.view.read (Elt Ideal) (harg7.unread x5) (ix3 h r x) = L h r x := fun h r x => (congrFun (harg7.read_unread (Val := Elt Ideal) x5) _).trans (h5 ..)
  have hX9 : ∀ h r x, arg9.view.read (Elt Ideal) (harg9.unread z7) (ix3 h r x) = z h r x := fun h r x => (congrFun (harg9.read_unread (Val := Elt Ideal) z7) _).trans (hz ..)
  have hX12 : ∀ h r x, arg12.view.read (Elt Ideal) (harg12.unread t0) (ix3 h r x) = O h r x := fun h r x => (congrFun (harg12.read_unread (Val := Elt Ideal) t0) _).trans (ht0 ..)
  have hX13 : ∀ h r x, arg13.view.read (Elt Ideal) (harg13.unread t1) (ix3 h r x) = T h r x := fun h r x => (congrFun (harg13.read_unread (Val := Elt Ideal) t1) _).trans (ht1 ..)
  have hd := diag_done i arg2 arg3 arg4 arg7 arg9 arg12 arg13 _ _ _ _ _ _ _ hX2 hX12 hX7 hX13 hX3 hX4 hX9
  have hl : Done i arg9 q O L T K V z 4096 S.1 (arg9.view.writes (Elt Ideal) (harg9.unread z7) (S.2 ++ diagL i arg2 arg3 arg4 arg7 arg9 arg12 arg13 (harg2.unread x0) (harg3.unread x1) (harg4.unread x2) (harg7.unread x5) (harg9.unread z7) (harg12.unread t0) (harg13.unread t1))) := by
    rw [View.writes_append, hS]
    exact loop_done c i arg2 harg2 arg3 harg3 arg4 harg4 arg5 harg5 arg6 harg6 arg7 harg7 arg8 harg8 arg9 harg9 arg10 harg10 arg11 harg11 arg12 harg12 arg13 harg13 (BitVec.ofNat 32 (i 1).val) _ _ _ _ (Scalar.addi (BitVec.ofNat 32 (i 1).val) 1#32) _ _ v1 v2 v3 v4 v5 v6 v7 _ _ _ _
      (fun k x => (pay44_at ..).trans ((load_head ..).1.trans (hX3 ..))) (fun k x => (pay44_at ..).trans ((load_head ..).2.trans (hX3 ..)))
      (fun k x => (pay44_at ..).trans ((load_head ..).1.trans (hX4 ..))) (fun k x => (pay44_at ..).trans ((load_head ..).2.trans (hX4 ..))) hX2 hX12 hX7 hX13 _ _ hd
  refine ⟨fun h r d => ?_, fun h k d => ?_, fun h k d => ?_⟩
  · have hq := hl.dq h r d
    rw [if_pos r.isLt] at hq
    rw [show R.1 = _ from r1]
    dsimp only
    split_ifs with hc
    · rw [read_whole, pay1_at, load_whole, hq]
    · exact hq
  · rw [show R.2.1 = _ from r2, read_heads]
    split_ifs with h0
    · subst h0; exact (pay127_at ..).trans (congrArg (· * _) (hl.dk0 ..))
    · obtain rfl : h = 1 := by omega
      exact (pay127_at ..).trans (congrArg (· * _) (hl.dk1 ..))
  · rw [show R.2.2.1 = _ from r3, read_heads]
    split_ifs with h0
    · subst h0; exact (pay128_at ..).trans (hl.dv0 ..)
    · obtain rfl : h = 1 := by omega
      exact (pay128_at ..).trans (hl.dv1 ..)

end Cert.AttnIdeal.Value
end
end
-- ==== Proof.AttnStart.lean ====
module

public import proofs.«01_k».proof.Proof.AttnDiag
import all proofs.«01_k».proof.Proof.AttnLoop
import all proofs.«01_k».proof.Proof.AttnBody

@[expose] public section

set_option maxRecDepth 16384

/-! What a head pair's first tile does: zero the query gradient, fill the scratch with the output gradient by head and with the row sums. -/

noncomputable section

namespace Cert.AttnIdeal.Value

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The columns of head `h` of a pair of two. -/
def mine (h : Fin 2) (x : Fin 128) : Prop := if h = 0 then x.val < 64 else 64 ≤ x.val
instance (h : Fin 2) (x : Fin 128) : Decidable (mine h x) := by unfold mine; infer_instance
/-- The output gradient's rows with the other head's columns at zero. -/
def doS (x4 : Vec Ideal S4096x128 .f32) (h : Fin 2) (r : Fin 4096) (x : Fin 128) : EReal := if mine h x then x4 (ix2 r x) else 0
/-- The row sums of gradient times output. -/
def delS (x3 x4 : Vec Ideal S4096x128 .f32) (h : Fin 2) (r : Fin 4096) : EReal := ∑ x, doS x4 h r x * x3 (ix2 r x)
def doV (x4 : Vec Ideal S4096x128 .f32) : Vec Ideal S2x4096x128 .bf16 := fun y => doS x4 (y 0) (y 1) (y 2)
def delV (x3 x4 : Vec Ideal S4096x128 .f32) : Vec Ideal S2x4096x128 .f32 := fun y => delS x3 x4 (y 0) (y 1)

abbrev cols : IVec S1024x128 32 := iota .tc S1024x128 32 [1] iota_S1024x128_d1_w32

theorem pay4_at (v : Vec Ideal S1024x128 .f32) (r : Fin 1024) (x : Fin 128) : k0_pay4 cols v (ix2 r x) = if x.val < 64 then v (ix2 r x) else 0 := by
  pointwise [k0_pay4, k0_pay2]
  have e : ∀ x : Fin 128, IntOp.cmpi .slt (BitVec.ofNat 32 x.val) 64#32 = if x.val < 64 then 1#1 else 0#1 := by decide
  rw [e]; split_ifs <;> rfl
theorem pay7_at (v : Vec Ideal S1024x128 .f32) (r : Fin 1024) (x : Fin 128) : k0_pay7 cols v (ix2 r x) = if 64 ≤ x.val then v (ix2 r x) else 0 := by
  pointwise [k0_pay7, k0_pay2]
  have e : ∀ x : Fin 128, IntOp.cmpi .sge (BitVec.ofNat 32 x.val) 64#32 = if 64 ≤ x.val then 1#1 else 0#1 := by decide
  rw [e]; split_ifs <;> rfl
theorem pay5_at (v : Vec Ideal S1024x128 .f32) (r : Fin 1024) (x : Fin 128) : k0_pay5 cols v (ix3 0 r x) = if x.val < 64 then v (ix2 r x) else 0 := by
  refine Eq.trans ?_ (pay4_at v r x)
  pointwise [k0_pay5]
theorem pay8_at (v : Vec Ideal S1024x128 .f32) (r : Fin 1024) (x : Fin 128) : k0_pay8 cols v (ix3 0 r x) = if 64 ≤ x.val then v (ix2 r x) else 0 := by
  refine Eq.trans ?_ (pay7_at v r x)
  pointwise [k0_pay8]
theorem pay6_at (v w : Vec Ideal S1024x128 .f32) (r : Fin 1024) (l : Fin 128) : k0_pay6 cols v w (ix3 0 r l) = ∑ x : Fin 128, (if x.val < 64 then v (ix2 r x) else 0) * w (ix2 r x) := by
  refine Eq.trans ?_ (Finset.sum_congr rfl fun x _ => congrArg (· * _) (pay4_at v r x))
  pointwise [k0_pay6, k0_pay3]
theorem pay9_at (v w : Vec Ideal S1024x128 .f32) (r : Fin 1024) (l : Fin 128) : k0_pay43 (k0_pay9 cols v w) (ix3 0 r l) = ∑ x : Fin 128, (if 64 ≤ x.val then v (ix2 r x) else 0) * w (ix2 r x) := by
  refine Eq.trans ?_ (Finset.sum_congr rfl fun x _ => congrArg (· * _) (pay7_at v r x))
  pointwise [k0_pay43, k0_pay9, k0_pay3]

variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)
  (k0_h1 : k0_cond1 i = 1#1)
  (x0 : Vec Ideal S2x4096x128 .bf16) (x1 x2 : Vec Ideal S2x1024x128 .bf16) (x3 x4 : Vec Ideal S4096x128 .f32) (x5 : Vec Ideal S2x4096x128 .f32) (x6 : Vec Ideal S8x128 .f32) (x7 : Vec Ideal S2x4096x128 .f32) (x8 x9 : Vec Ideal S2x1024x128 .f32) (s0 : Vec Ideal S2x4096x128 .bf16) (s1 : Vec Ideal S2x4096x128 .f32)
  (X5 : BufTy.Contents (Elt Ideal) arg5.view.ty) (X6 : BufTy.Contents (Elt Ideal) arg6.view.ty)

/-- The rows of one trip. -/
abbrev at1 (v : View sig .tc .vmem S4096x128 .f32) (f : v.ty.Contents (Elt Ideal)) (k : Fin k0_t1_loop.trips) : Vec Ideal S1024x128 .f32 :=
  v.readAt (Elt Ideal) (Rect.unit (s := S4096x128) (k0_off1 k) S1024x128.size (k0_off1_inb i k k0_h1)).toLoadRect f

theorem tripL1_eq (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 cols X5 X6 k
      = ([⟨Rect.unit (s := S2x4096x128) (k0_off3 k) S1x1024x128.size (k0_off3_inb i k k0_h1), k0_pay8 cols (at1 i k0_h1 arg6.view X6 k)⟩,
          ⟨Rect.unit (s := S2x4096x128) (k0_off2 k) S1x1024x128.size (k0_off2_inb i k k0_h1), k0_pay5 cols (at1 i k0_h1 arg6.view X6 k)⟩],
         [⟨Rect.unit (s := S2x4096x128) (k0_off3 k) S1x1024x128.size (k0_off3_inb i k k0_h1), k0_pay43 (k0_pay9 cols (at1 i k0_h1 arg6.view X6 k) (at1 i k0_h1 arg5.view X5 k))⟩,
          ⟨Rect.unit (s := S2x4096x128) (k0_off2 k) S1x1024x128.size (k0_off2_inb i k k0_h1), k0_pay6 cols (at1 i k0_h1 arg6.view X6 k) (at1 i k0_h1 arg5.view X5 k)⟩]) := by
  unfold tripL_k0_t1 trip_k0_t1
  rfl

theorem load_rows (v : View sig .tc .vmem S4096x128 .f32) (f : v.ty.Contents (Elt Ideal)) {off : Fin 2 → ℕ} (inb : ∀ a, off a + S1024x128.size a ≤ S4096x128.size a)
    {o : ℕ} (ho : o + 1024 ≤ 4096) (e : off = ![o, 0]) (r : Fin 1024) (d : Fin 128) :
    v.readAt (Elt Ideal) (Rect.unit (s := S4096x128) off S1024x128.size inb).toLoadRect f (ix2 r d) = v.read (Elt Ideal) f (ix2 ⟨o + r.val, by omega⟩ d) := by
  subst e
  refine congrArg (v.read (Elt Ideal) f) (funext fun x => Fin.ext ?_)
  fin_cases x
  · change o + 1 * r.val = o + r.val; omega
  · change 0 + 1 * d.val = d.val; omega

theorem mine_zero (x : Fin 128) : mine 0 x ↔ x.val < 64 := by simp [mine]
theorem mine_one (x : Fin 128) : mine 1 x ↔ 64 ≤ x.val := by simp [mine]
theorem trips1_le (k : Fin k0_t1_loop.trips) : 1024 * k.val + 1024 ≤ 4096 := by
  have := Nat.lt_of_lt_of_le k.isLt k0_t1_abs.2.1
  omega
theorem trips1_eq : k0_t1_loop.trips = 4 := by decide +kernel

variable (G12 : BufTy.Contents (Elt Ideal) arg12.view.ty) (G13 : BufTy.Contents (Elt Ideal) arg13.view.ty)
  (hX5 : ∀ r x, arg5.view.read (Elt Ideal) X5 (ix2 r x) = x3 (ix2 r x)) (hX6 : ∀ r x, arg6.view.read (Elt Ideal) X6 (ix2 r x) = x4 (ix2 r x))

include hX5 hX6 in
theorem fill_done (n : ℕ) (hn : n ≤ k0_t1_loop.trips) :
    (∀ h r x, r.val < 1024 * n → arg12.view.read (Elt Ideal) (arg12.view.writes (Elt Ideal) G12 (pb_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 cols X5 X6 n).1) (ix3 h r x) = doS x4 h r x)
    ∧ (∀ h r x, r.val < 1024 * n → arg13.view.read (Elt Ideal) (arg13.view.writes (Elt Ideal) G13 (pb_k0_t1 (F := Ideal) Variants.none c none i arg2 harg2 arg3 harg3 arg4 harg4 arg5 harg5 arg6 harg6 arg7 harg7 arg8 harg8 arg9 harg9 arg10 harg10 arg11 harg11 arg12 harg12 arg13 harg13 k0_h1 cols X5 X6 n).2) (ix3 h r x) = delS x3 x4 h r) := by
  induction n with
  | zero => exact ⟨fun h r x hr => absurd hr (by omega), fun h r x hr => absurd hr (by omega)⟩
  | succ n ih =>
    obtain ⟨ih1, ih2⟩ := ih (by omega)
    let k : Fin k0_t1_loop.trips := ⟨n, hn⟩
    have ho := trips1_le k
    have e1 := k0_off1_eq k
    have e2 := k0_off2_eq k
    have e3 := k0_off3_eq k
    have l6 : ∀ r x, at1 i k0_h1 arg6.view X6 k (ix2 r x) = x4 (ix2 ⟨1024 * n + r.val, by have : 1024 * n + 1024 ≤ 4096 := ho; omega⟩ x) := fun r x => (load_rows _ _ _ ho e1 r x).trans (hX6 ..)
    have l5 : ∀ r x, at1 i k0_h1 arg5.view X5 k (ix2 r x) = x3 (ix2 ⟨1024 * n + r.val, by have : 1024 * n + 1024 ≤ 4096 := ho; omega⟩ x) := fun r x => (load_rows _ _ _ ho e1 r x).trans (hX5 ..)
    rw [show n + 1 = k.val + 1 from rfl, pb_k0_t1_succ, tripL1_eq]
    have ek : ∀ r : Fin 4096, ∀ a, (⟨1024 * n + (r.val - 1024 * k.val), a⟩ : Fin 4096) = r ∨ ¬ 1024 * n ≤ r.val := fun r a => by
      by_cases h : 1024 * n ≤ r.val
      · exact .inl (Fin.ext (by change 1024 * n + (r.val - 1024 * n) = r.val; omega))
      · exact .inr h
    refine ⟨fun h r x hr => ?_, fun h r x hr => ?_⟩
    · simp only [List.cons_append, List.nil_append]
      rw [read_1024 arg12.view _ _ _ _ e3, read_1024 arg12.view _ _ _ _ e2]
      by_cases c1 : h.val = 1 ∧ 1024 * k.val ≤ r.val ∧ r.val < 1024 * k.val + 1024
      · obtain rfl : h = 1 := Fin.ext c1.1
        rw [dif_pos c1, pay8_at]
        simp only [doS, mine_one, l6]
        rw [(ek r _).resolve_right (not_not.2 c1.2.1)]
      rw [dif_neg c1]
      by_cases c2 : h.val = 0 ∧ 1024 * k.val ≤ r.val ∧ r.val < 1024 * k.val + 1024
      · obtain rfl : h = 0 := Fin.ext c2.1
        rw [dif_pos c2, pay5_at]
        simp only [doS, mine_zero, l6]
        rw [(ek r _).resolve_right (not_not.2 c2.2.1)]
      rw [dif_neg c2]
      exact ih1 h r x (by change ¬ (h.val = 0 ∧ 1024 * n ≤ r.val ∧ r.val < 1024 * n + 1024) at c2; change ¬ (h.val = 1 ∧ 1024 * n ≤ r.val ∧ r.val < 1024 * n + 1024) at c1; change r.val < 1024 * (n + 1) at hr; omega)
    · simp only [List.cons_append, List.nil_append]
      rw [read_1024 arg13.view _ _ _ _ e3, read_1024 arg13.view _ _ _ _ e2]
      by_cases c1 : h.val = 1 ∧ 1024 * k.val ≤ r.val ∧ r.val < 1024 * k.val + 1024
      · obtain rfl : h = 1 := Fin.ext c1.1
        rw [dif_pos c1, pay9_at]
        simp only [delS, doS, mine_one, l6, l5]
        rw [(ek r _).resolve_right (not_not.2 c1.2.1)]
      rw [dif_neg c1]
      by_cases c2 : h.val = 0 ∧ 1024 * k.val ≤ r.val ∧ r.val < 1024 * k.val + 1024
      · obtain rfl : h = 0 := Fin.ext c2.1
        rw [dif_pos c2, pay6_at]
        simp only [delS, doS, mine_zero, l6, l5]
        rw [(ek r _).resolve_right (not_not.2 c2.2.1)]
      rw [dif_neg c2]
      exact ih2 h r x (by change ¬ (h.val = 0 ∧ 1024 * n ≤ r.val ∧ r.val < 1024 * n + 1024) at c2; change ¬ (h.val = 1 ∧ 1024 * n ≤ r.val ∧ r.val < 1024 * n + 1024) at c1; change r.val < 1024 * (n + 1) at hr; omega)

include k0_h1 in
/-- At a pair's first tile. -/
theorem start_first (E : Set ℕ) (Q : sProp 𝕄) : iprop((owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (s0) ∗ owns (c : Thread nD τ) arg13 fullShare (s1)) ∗ ((owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (k0_pay42 (F := Ideal)) ∗ owns (c : Thread nD τ) arg10 fullShare (x8) ∗ owns (c : Thread nD τ) arg11 fullShare (x9) ∗ owns (c : Thread nD τ) arg12 fullShare (doV x4) ∗ owns (c : Thread nD τ) arg13 fullShare (delV x3 x4)) -∗ Q))
    ⊢ wp frame (wpE (defs₀ (F := Ideal)) Variants.none c none) E (start i arg2 harg2 arg3 harg3 arg4 harg4 arg5 harg5 arg6 harg6 arg7 harg7 arg8 harg8 arg9 harg9 arg10 harg10 arg11 harg11 arg12 harg12 arg13 harg13) (fun _ => Q) := by
  unfold start owns
  rw [dif_pos k0_h1]
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g0, %hg0, HS0⟩, ⟨%g1, %hg1, HS1⟩⟩, Hk⟩
  obtain rfl := harg5.eq_unread hf3; obtain rfl := harg6.eq_unread hf4
  sl_exec
  sl_step
  iapply Hk
  isplitl [H0]
  · iexists _; isplitr
    swap; · iexact H0
    ipureintro; exact hf0
  isplitl [H1]
  · iexists _; isplitr
    swap; · iexact H1
    ipureintro; exact hf1
  isplitl [H2]
  · iexists _; isplitr
    swap; · iexact H2
    ipureintro; exact hf2
  isplitl [H3]
  · iexists _; isplitr
    swap; · iexact H3
    ipureintro; exact harg5.read_unread x3
  isplitl [H4]
  · iexists _; isplitr
    swap; · iexact H4
    ipureintro; exact harg6.read_unread x4
  isplitl [H5]
  · iexists _; isplitr
    swap; · iexact H5
    ipureintro; exact hf5
  isplitl [H6]
  · iexists _; isplitr
    swap; · iexact H6
    ipureintro; exact hf6
  isplitl [H7]
  · iexists _; isplitr
    swap; · iexact H7
    ipureintro
    funext y
    obtain ⟨h, r, x, rfl⟩ : ∃ (h : Fin 2) (r : Fin 4096) (x : Fin 128), y = ix3 h r x := by idx_vars y; exact ⟨_, _, _, rfl⟩
    exact read_whole ..
  isplitl [H8]
  · iexists _; isplitr
    swap; · iexact H8
    ipureintro; exact hf8
  isplitl [H9]
  · iexists _; isplitr
    swap; · iexact H9
    ipureintro; exact hf9
  isplitl [HS0]
  · iexists _; isplitr
    swap; · iexact HS0
    ipureintro
    funext y
    obtain ⟨h, r, x, rfl⟩ : ∃ (h : Fin 2) (r : Fin 4096) (x : Fin 128), y = ix3 h r x := by idx_vars y; exact ⟨_, _, _, rfl⟩
    exact (fill_done c i arg2 harg2 arg3 harg3 arg4 harg4 arg5 harg5 arg6 harg6 arg7 harg7 arg8 harg8 arg9 harg9 arg10 harg10 arg11 harg11 arg12 harg12 arg13 harg13 k0_h1 x3 x4 (harg5.unread x3) (harg6.unread x4) g0 g1 (fun r x => congrFun (harg5.read_unread (Val := Elt Ideal) x3) _) (fun r x => congrFun (harg6.read_unread (Val := Elt Ideal) x4) _) k0_t1_loop.trips le_rfl).1 h r x (by rw [trips1_eq]; omega)
  iexists _; isplitr
  swap; · iexact HS1
  ipureintro
  funext y
  obtain ⟨h, r, x, rfl⟩ : ∃ (h : Fin 2) (r : Fin 4096) (x : Fin 128), y = ix3 h r x := by idx_vars y; exact ⟨_, _, _, rfl⟩
  exact (fill_done c i arg2 harg2 arg3 harg3 arg4 harg4 arg5 harg5 arg6 harg6 arg7 harg7 arg8 harg8 arg9 harg9 arg10 harg10 arg11 harg11 arg12 harg12 arg13 harg13 k0_h1 x3 x4 (harg5.unread x3) (harg6.unread x4) g0 g1 (fun r x => congrFun (harg5.read_unread (Val := Elt Ideal) x3) _) (fun r x => congrFun (harg6.read_unread (Val := Elt Ideal) x4) _) k0_t1_loop.trips le_rfl).2 h r x (by rw [trips1_eq]; omega)

/-- At its other tiles the scratch and the query gradient stay. -/
theorem start_later (hc : ¬ k0_cond1 i = 1#1) (E : Set ℕ) (Q : sProp 𝕄) : iprop((owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (s0) ∗ owns (c : Thread nD τ) arg13 fullShare (s1)) ∗ ((owns (c : Thread nD τ) arg2 fullShare (x0) ∗ owns (c : Thread nD τ) arg3 fullShare (x1) ∗ owns (c : Thread nD τ) arg4 fullShare (x2) ∗ owns (c : Thread nD τ) arg5 fullShare (x3) ∗ owns (c : Thread nD τ) arg6 fullShare (x4) ∗ owns (c : Thread nD τ) arg7 fullShare (x5) ∗ owns (c : Thread nD τ) arg8 fullShare (x6) ∗ owns (c : Thread nD τ) arg9 fullShare (x7) ∗ owns (c : Thread nD τ) arg10 fullShare (x8) ∗ owns (c : Thread nD τ) arg11 fullShare (x9) ∗ owns (c : Thread nD τ) arg12 fullShare (s0) ∗ owns (c : Thread nD τ) arg13 fullShare (s1)) -∗ Q))
    ⊢ wp frame (wpE (defs₀ (F := Ideal)) Variants.none c none) E (start i arg2 harg2 arg3 harg3 arg4 harg4 arg5 harg5 arg6 harg6 arg7 harg7 arg8 harg8 arg9 harg9 arg10 harg10 arg11 harg11 arg12 harg12 arg13 harg13) (fun _ => Q) := by
  unfold start
  rw [dif_neg hc]
  iintro ⟨H, Hk⟩
  sl_step
  iapply Hk
  iexact H

end Cert.AttnIdeal.Value
end
end
-- ==== Proof.AttnPoint.lean ====
module

public import proofs.«01_k».proof.Proof.AttnStart
import all proofs.«01_k».proof.Proof.AttnLoop
import all proofs.«01_k».proof.Proof.AttnBody
import all proofs.«01_k».proof.Proof.AttnDiag

@[expose] public section

set_option maxRecDepth 16384

/-! One point of the kernel, and from it the whole run: what every block of the three results ends as. -/

noncomputable section

namespace Cert.AttnIdeal.Value

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The scale of the scores. -/
abbrev sc : EReal := Named.named (F := Ideal) (φ := .f32) κ "scale" 0x3DD105EC#32

section One
variable (c : Dev nD) (i : grid0.Coords)
  (arg2 : Memref sig .tc .vmem S2x4096x128 .bf16) (harg2 : arg2.IsWhole)
  (arg3 : Memref sig .tc .vmem S2x1024x128 .bf16) (harg3 : arg3.IsWhole)
  (arg4 : Memref sig .tc .vmem S2x1024x128 .bf16) (harg4 : arg4.IsWhole)
  (arg5 : Memref sig .tc .vmem S4096x128 .f32) (harg5 : arg5.IsWhole)
  (arg6 : Memref sig .tc .vmem S4096x128 .f32) (harg6 : arg6.IsWhole)
  (arg7 : Memref sig .tc .vmem S2x4096x128 .f32) (harg7 : arg7.IsWhole)
  (arg8 : Memref sig .tc .vmem S8x128 .f32) (harg8 : arg8.IsWhole)
  (arg9 : Memref sig .tc .vmem S2x4096x128 .f32) (harg9 : arg9.IsWhole)
  (arg10 : Memref sig .tc .vmem S2x1024x128 .f32) (harg10 : arg10.IsWhole)
  (arg11 : Memref sig .tc .vmem S2x1024x128 .f32) (harg11 : arg11.IsWhole)
  (arg12 : Memref sig .tc .vmem S2x4096x128 .bf16) (harg12 : arg12.IsWhole)
  (arg13 : Memref sig .tc .vmem S2x4096x128 .f32) (harg13 : arg13.IsWhole)
  (x0 : Vec Ideal S2x4096x128 .bf16) (x1 : Vec Ideal S2x1024x128 .bf16) (x2 : Vec Ideal S2x1024x128 .bf16) (x3 : Vec Ideal S4096x128 .f32) (x4 : Vec Ideal S4096x128 .f32) (x5 : Vec Ideal S2x4096x128 .f32) (x6 : Vec Ideal S8x128 .f32) (x7 : Vec Ideal S2x4096x128 .f32) (x8 : Vec Ideal S2x1024x128 .f32) (x9 : Vec Ideal S2x1024x128 .f32) (s0 : Vec Ideal S2x4096x128 .bf16) (s1 : Vec Ideal S2x4096x128 .f32)
  (z7 : Vec Ideal S2x4096x128 .f32) (t0 : Vec Ideal S2x4096x128 .bf16) (t1 : Vec Ideal S2x4096x128 .f32)

/-- The query gradient after the point. -/
def gq : Vec Ideal S2x4096x128 .f32 := fun y =>
  if cond0_1 i then ((show EReal from z7 y) + dqS (i 1).val (fun r x => x0 (ix3 (y 0) r x)) (fun r x => t0 (ix3 (y 0) r x)) (fun r x => x5 (ix3 (y 0) r x)) (fun r x => t1 (ix3 (y 0) r x)) (fun k x => x1 (ix3 (y 0) k x)) (fun k x => x2 (ix3 (y 0) k x)) (y 1) (y 2)) * sc
  else (show EReal from z7 y) + dqS (i 1).val (fun r x => x0 (ix3 (y 0) r x)) (fun r x => t0 (ix3 (y 0) r x)) (fun r x => x5 (ix3 (y 0) r x)) (fun r x => t1 (ix3 (y 0) r x)) (fun k x => x1 (ix3 (y 0) k x)) (fun k x => x2 (ix3 (y 0) k x)) (y 1) (y 2)
/-- The key gradient. -/
def gk : Vec Ideal S2x1024x128 .f32 := fun y =>
  dkS (i 1).val (fun r x => x0 (ix3 (y 0) r x)) (fun r x => t0 (ix3 (y 0) r x)) (fun r x => x5 (ix3 (y 0) r x)) (fun r x => t1 (ix3 (y 0) r x)) (fun k x => x1 (ix3 (y 0) k x)) (fun k x => x2 (ix3 (y 0) k x)) 4096 (y 2) (y 1) * sc
/-- The value gradient. -/
def gv : Vec Ideal S2x1024x128 .f32 := fun y =>
  dvS (i 1).val (fun r x => x0 (ix3 (y 0) r x)) (fun r x => t0 (ix3 (y 0) r x)) (fun r x => x5 (ix3 (y 0) r x)) (fun k x => x1 (ix3 (y 0) k x)) 4096 (y 2) (y 1)

set_option maxHeartbeats 4000000 in
/-- One point, from what its first part leaves. -/
theorem point (hc : (k0_cond1 i = 1#1 ∧ z7 = k0_pay42 (F := Ideal) ∧ t0 = doV x4 ∧ t1 = delV x3 x4) ∨ (¬ k0_cond1 i = 1#1 ∧ z7 = x7 ∧ t0 = s0 ∧ t1 = s1)) (E : Set ℕ) (Q : sProp 𝕄) :
    iprop((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare s0 ∗ owns (c : Thread nD τ) arg13 fullShare s1) ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (gq i x0 x1 x2 x5 z7 t0 t1) ∗ owns (c : Thread nD τ) arg10 fullShare (gk i x0 x1 x2 x5 t0 t1) ∗ owns (c : Thread nD τ) arg11 fullShare (gv i x0 x1 x5 t0) ∗ owns (c : Thread nD τ) arg12 fullShare t0 ∗ owns (c : Thread nD τ) arg13 fullShare t1) -∗ Q))
    ⊢ wp frame (wpE (defs₀ (F := Ideal)) Variants.none c none) E (cc0_attn_bwd i arg2 harg2 arg3 harg3 arg4 harg4 arg5 harg5 arg6 harg6 arg7 harg7 arg8 harg8 arg9 harg9 arg10 harg10 arg11 harg11 arg12 harg12 arg13 harg13) (fun _ => Q) := by
  have rv := run_vals c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1 _ _ _ _ _ _ _ (fun _ _ _ => rfl) (fun _ _ _ => rfl) (fun _ _ _ => rfl) (fun _ _ _ => rfl) (fun _ _ _ => rfl) (fun _ _ _ => rfl) (fun _ _ _ => rfl)
  dsimp only at rv
  refine BIBase.Entails.trans ?_ ((run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1).2.2.2 E (fun _ => Q) ?_)
  · generalize run c i arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 s0 s1 z7 t0 t1 = R at rv ⊢
    refine sep_mono .rfl (wand_mono ?_ .rfl)
    unfold owns
    iintro ⟨H0, H1, H2, H3, H4, H5, H6, H7, H8, H9, HS0, HS1⟩
    isplitl [H0]
    · iexists _; isplitr
      swap; · iexact H0
      ipureintro; exact harg2.read_unread x0
    isplitl [H1]
    · iexists _; isplitr
      swap; · iexact H1
      ipureintro; exact harg3.read_unread x1
    isplitl [H2]
    · iexists _; isplitr
      swap; · iexact H2
      ipureintro; exact harg4.read_unread x2
    isplitl [H3]
    · iexists _; isplitr
      swap; · iexact H3
      ipureintro; exact harg5.read_unread x3
    isplitl [H4]
    · iexists _; isplitr
      swap; · iexact H4
      ipureintro; exact harg6.read_unread x4
    isplitl [H5]
    · iexists _; isplitr
      swap; · iexact H5
      ipureintro; exact harg7.read_unread x5
    isplitl [H6]
    · iexists _; isplitr
      swap; · iexact H6
      ipureintro; exact harg8.read_unread x6
    isplitl [H7]
    · iexists _; isplitr
      swap; · iexact H7
      ipureintro; funext y; idx_vars y; exact rv.1 ..
    isplitl [H8]
    · iexists _; isplitr
      swap; · iexact H8
      ipureintro; funext y; idx_vars y; exact rv.2.1 ..
    isplitl [H9]
    · iexists _; isplitr
      swap; · iexact H9
      ipureintro; funext y; idx_vars y; exact rv.2.2 ..
    isplitl [HS0]
    · iexists _; isplitr
      swap; · iexact HS0
      ipureintro; exact harg12.read_unread t0
    iexists _; isplitr
    swap; · iexact HS1
    ipureintro; exact harg13.read_unread t1
  · intro Q
    rcases hc with ⟨h, rfl, rfl, rfl⟩ | ⟨h, rfl, rfl, rfl⟩
    · exact start_first c i arg2 harg2 arg3 harg3 arg4 harg4 arg5 harg5 arg6 harg6 arg7 harg7 arg8 harg8 arg9 harg9 arg10 harg10 arg11 harg11 arg12 harg12 arg13 harg13 h x0 x1 x2 x3 x4 x5 x6 x7 x8 x9 s0 s1 E Q
    · exact start_later c i arg2 harg2 arg3 harg3 arg4 harg4 arg5 harg5 arg6 harg6 arg7 harg7 arg8 harg8 arg9 harg9 arg10 harg10 arg11 harg11 arg12 harg12 arg13 harg13 _ _ _ _ _ _ _ _ _ _ _ _ h E Q

end One

end Cert.AttnIdeal.Value
-- ==== Proof.AttnRun.lean ====
module

public import proofs.«01_k».proof.Proof.Gen.AttnIdeal.Frame
public import proofs.«01_k».proof.Proof.AttnPoint

@[expose] public section

set_option maxRecDepth 16384

/-! The whole run: the contents point by point, and the launch. -/

noncomputable section

namespace Cert.AttnIdeal.Value

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem coord0 (t : Fin cfg0.N) : (grid0.coords t 0).val = t.val / 4 := by
  have ht : t.val < 16 := Nat.lt_of_lt_of_eq t.isLt N_0
  have e : (grid0.coords t 0).val = t.val / 4 % 4 := Pipeline.Grid.coords_val t 0 (by decide) rfl
  omega
theorem coord1 (t : Fin cfg0.N) : (grid0.coords t 1).val = t.val % 4 := by
  have e : (grid0.coords t 1).val = t.val / 1 % 4 := Pipeline.Grid.coords_val t 1 (by decide) rfl
  omega

/-- Which points are a pair's first, and which its last. -/
theorem first_iff (t : Fin cfg0.N) : k0_cond1 (grid0.coords t) = 1#1 ↔ t.val % 4 = 0 := by
  have ht : t.val < 16 := Nat.lt_of_lt_of_eq t.isLt N_0
  have e0 := coord0 t
  have e1 := coord1 t
  simp only [k0_cond1, e0, e1]
  word_cmp
theorem last_iff (t : Fin cfg0.N) : cond0_1 (grid0.coords t) ↔ t.val % 4 = 3 := by
  have ht : t.val < 16 := Nat.lt_of_lt_of_eq t.isLt N_0
  have e0 := coord0 t
  have e1 := coord1 t
  simp only [cond0_1, e0, e1]
  word_cmp

abbrev ms0 (t : Fin cfg0.N) : Memref sig .tc .vmem S2x4096x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S2x1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S2x1024x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S4096x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S4096x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2x4096x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S8x128 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2x4096x128 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S2x1024x128 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S2x1024x128 .f32 := win0_9.stage (cfg0.slots t 9)
abbrev hs9 (t : Fin cfg0.N) : (ms9 t).IsWhole := hstage0_9 ((cfg0.slots t 9).cast nbuf0_9)
abbrev sm0 : Memref sig .tc .vmem S2x4096x128 .bf16 := Memref.whole cc0_scratch0
abbrev sm1 : Memref sig .tc .vmem S2x4096x128 .f32 := Memref.whole cc0_scratch1

/-- What the running query gradient and the scratch hold between points. -/
abbrev Held := Vec Ideal S2x4096x128 .f32 × Vec Ideal S2x4096x128 .bf16 × Vec Ideal S2x4096x128 .f32

/-- What a pair's first tile starts from. -/
def fresh (c : Dev nD) (t : Fin cfg0.N) : Held := (k0_pay42 (F := Ideal), doV (iblk m c 4 t), delV (iblk m c 3 t) (iblk m c 4 t))
/-- One point's step. -/
def step (c : Dev nD) (t : Fin cfg0.N) (e : Held) : Held :=
  (gq (grid0.coords t) (iblk m c 0 t) (iblk m c 1 t) (iblk m c 2 t) (iblk m c 5 t) e.1 e.2.1 e.2.2, e.2.1, e.2.2)
/-- What is held after point `n`. -/
def held (c : Dev nD) : (n : ℕ) → n < cfg0.N → Held
  | 0, h => step m c ⟨0, h⟩ (fresh m c ⟨0, h⟩)
  | n + 1, h => step m c ⟨n + 1, h⟩ (if (n + 1) % 4 = 0 then fresh m c ⟨n + 1, h⟩ else held c n (Nat.lt_of_succ_lt h))
/-- What a point works from. -/
def ent (c : Dev nD) (t : Fin cfg0.N) : Held :=
  if t.val % 4 = 0 then fresh m c t else held m c (t.val - 1) (Nat.lt_of_le_of_lt (Nat.sub_le _ _) t.isLt)

theorem held_eq (c : Dev nD) (t : Fin cfg0.N) : held m c t.val t.isLt = step m c t (ent m c t) := by
  obtain ⟨n, hn⟩ := t
  cases n with
  | zero => rfl
  | succ n => rfl

/-- The scratch between points. -/
def Phi (c : Dev nD) : (n : ℕ) → n ≤ cfg0.N → sProp 𝕄
  | 0, _ => Pipeline.ΦA spec0 c
  | n + 1, hn => iprop(iprop(owns (c : Thread nD τ) sm0 fullShare (held m c n hn).2.1 ∗ owns (c : Thread nD τ) sm1 fullShare (held m c n hn).2.2) ∗ (∃ r, prngReg c r))

theorem PhiA_eq (c : Dev nD) : (Pipeline.ΦA spec0 c : sProp 𝕄)
    = iprop(iprop((∃ d, owns (c : Thread nD τ) sm0 fullShare d) ∗ (∃ d, owns (c : Thread nD τ) sm1 fullShare d)) ∗ (∃ r, prngReg c r)) := by
  unfold Pipeline.ΦA; rw [scopedRest0_eq]; simp only [sm0, sm1, owns_whole]; try rfl

theorem Phi_pos (c : Dev nD) (n : ℕ) (h : n ≤ cfg0.N) (hz : n ≠ 0) :
    Phi m c n h = iprop(iprop(owns (c : Thread nD τ) sm0 fullShare (held m c (n - 1) (by omega)).2.1 ∗ owns (c : Thread nD τ) sm1 fullShare (held m c (n - 1) (by omega)).2.2) ∗ (∃ r, prngReg c r)) := by
  cases n with
  | zero => exact absurd rfl hz
  | succ n => rfl

/-- The scratch's contents forgotten. -/
theorem Phi_any (c : Dev nD) (n : ℕ) (h : n ≤ cfg0.N) : Phi m c n h ⊢ Pipeline.ΦA spec0 c := by
  by_cases hz : n = 0
  · subst hz; exact .rfl
  · rw [Phi_pos m c n h hz, PhiA_eq]
    iintro ⟨⟨HS0, HS1⟩, Hg⟩
    isplitl [HS0 HS1]
    · isplitl [HS0]
      · iexists _; iexact HS0
      iexists _; iexact HS1
    iexact Hg

/-- The proof data: inputs keep their blocks, the three results hold what the point's step leaves. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (held m c t.val t.isLt).1
    | ⟨8, _⟩ => gk (grid0.coords t) (iblk m c 0 t) (iblk m c 1 t) (iblk m c 2 t) (iblk m c 5 t) (ent m c t).2.1 (ent m c t).2.2
    | ⟨9, _⟩ => gv (grid0.coords t) (iblk m c 0 t) (iblk m c 1 t) (iblk m c 5 t) (ent m c t).2.1
  Φ t := Phi m c t.val (Nat.le_of_lt_succ t.isLt)
  q _ := fullShare
  owed _ := 0

theorem A_eq (c : Dev nD) (w : Fin cfg0.W) : (dats m 0 c).A w = V m c (Pipeline.arrRef spec0 w) := by dsimp only [dats]
theorem Phi_start (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = (held m c t.val t.isLt).1 := by dsimp only [dats]
theorem after8 (c : Dev nD) (t : Fin cfg0.N) : (dats m 0 c).after 8 t = gk (grid0.coords t) (iblk m c 0 t) (iblk m c 1 t) (iblk m c 2 t) (iblk m c 5 t) (ent m c t).2.1 (ent m c t).2.2 := by dsimp only [dats]
theorem after9 (c : Dev nD) (t : Fin cfg0.N) : (dats m 0 c).after 9 t = gv (grid0.coords t) (iblk m c 0 t) (iblk m c 1 t) (iblk m c 5 t) (ent m c t).2.1 := by dsimp only [dats]
theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
/-- Within a pair the query gradient's buffer still holds what the tile before left. -/
theorem before7 (c : Dev nD) (t : Fin cfg0.N) (h0 : ¬ t.val % 4 = 0) (d) :
    (dats m 0 c).before 7 t d = (held m c (t.val - 1) (Nat.lt_of_le_of_lt (Nat.sub_le _ _) t.isLt)).1 := by
  have hN : t.val < 16 := lt_of_lt_of_eq t.isLt N_0
  rw [Dat.before_out_kept _ 7 rfl t (by omega) (Bool.eq_false_iff.mpr fun h => by have := (flush0_7 _).mp h; dsimp only at this; omega)
    (fun _ => rfl) (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8, after9,
    show (dats m 0 c).Φ t.succ = iprop(iprop(owns (c : Thread nD τ) sm0 fullShare (held m c t.val t.isLt).2.1 ∗ owns (c : Thread nD τ) sm1 fullShare (held m c t.val t.isLt).2.2) ∗ (∃ r, prngReg c r)) from rfl,
    held_eq m c t, Phi_start m c t]
  unfold step
  by_cases h0 : t.val % 4 = 0
  · have he : ent m c t = fresh m c t := if_pos h0
    refine BIBase.Entails.trans (sep_mono (Phi_any m c _ _) .rfl) ?_
    rw [PhiA_eq]
    iintro ⟨⟨⟨⟨%e0, HS0⟩, ⟨%e1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) (iblk m c 0 t) (iblk m c 1 t) (iblk m c 2 t) (iblk m c 3 t) (iblk m c 4 t) (iblk m c 5 t) (iblk m c 6 t) ((dats m 0 c).before 7 t d7) _ _ e0 e1 (ent m c t).1 (ent m c t).2.1 (ent m c t).2.2 (.inl ⟨(first_iff t).2 h0, congrArg (·.1) he, congrArg (·.2.1) he, congrArg (·.2.2) he⟩) Set.univ _)
    isplitl [H0 H1 H2 H3 H4 H5 H6 H7 H8 H9 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have he : ent m c t = held m c (t.val - 1) (Nat.lt_of_le_of_lt (Nat.sub_le _ _) t.isLt) := if_neg h0
    rw [Phi_pos m c _ _ (fun h => h0 (by rw [h]))]
    simp only [before7 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (point c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sm0 (Memref.isWhole_whole _) sm1 (Memref.isWhole_whole _) (iblk m c 0 t) (iblk m c 1 t) (iblk m c 2 t) (iblk m c 3 t) (iblk m c 4 t) (iblk m c 5 t) (iblk m c 6 t) _ _ _ _ _ (ent m c t).1 (ent m c t).2.1 (ent m c t).2.2 (.inr ⟨fun h => h0 ((first_iff t).1 h), congrArg (·.1) he, congrArg (·.2.1) he, congrArg (·.2.2) he⟩) Set.univ _)
    isplitl [H0 H1 H2 H3 H4 H5 H6 H7 H8 H9 HS0 HS1]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      iexact HS1
    iintro ⟨H0, H1, H2, H3, H4, H5, H6, H7, H8, H9, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs_row (t : Fin cfg0.N) : defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 := .rfl
theorem hout (c : Dev nD) : (dats m 0 c).Φ (Fin.last cfg0.N) ⊢ Pipeline.ΦA spec0 c := by
  rw [show (dats m 0 c).Φ (Fin.last cfg0.N) = Phi m c cfg0.N (le_refl _) from rfl]
  exact Phi_any m c _ _

-- the implicit arguments are found by unifying the statement, which takes unfolding plain definitions in types
set_option backward.isDefEq.respectTransparency.types false in
/-- The launch. -/
theorem launched : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := hin m) (hout := hout m)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (launched m ρ)))
    ((θ_run defs _ _).mono (fun _ h => h.2) (launched m ρ))

end Cert.AttnIdeal.Value
-- ==== Proof.AttnFinal.lean ====
module

public import proofs.«01_k».proof.Proof.AttnRun
public import Idealize.ShloMosaic.Lib.Pipeline.ValueKit
public import Idealize.ShloMosaic.Lib.Pointwise

@[expose] public section

set_option maxRecDepth 16384

/-! The three results as whole arrays, by head, from the arrays the call is given. -/

noncomputable section

namespace Cert.AttnIdeal.Value

open Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

theorem idx_val : ∀ t : Fin cfg0.N, win0_0.index t = ![t.val / 4, 0, 0] ∧ win0_1.index t = ![t.val / 4, t.val % 4, 0] ∧ win0_2.index t = ![t.val / 4, t.val % 4, 0]
    ∧ win0_3.index t = ![0, t.val / 4] ∧ win0_4.index t = ![0, t.val / 4] ∧ win0_5.index t = ![t.val / 4, 0, 0]
    ∧ win0_7.index t = ![t.val / 4, 0, 0] ∧ win0_8.index t = ![t.val / 4, t.val % 4, 0] ∧ win0_9.index t = ![t.val / 4, t.val % 4, 0] :=
  (by decide +kernel : ∀ t : Fin grid0.N, _)

/-- The head, the key row and the column that a point's coordinates are in the arrays. -/
def headOf (t : Fin cfg0.N) (h : Fin 2) : Fin 8 := ⟨t.val / 4 * 2 + h.val, by have := lt_of_lt_of_eq t.isLt N_0; omega⟩
def keyOf (j : ℕ) (k : Fin 1024) : Fin 4096 := ⟨j % 4 * 1024 + k.val, by omega⟩
def colOf (n : Fin 8) (x : Fin 128) : Fin 512 := ⟨n.val / 2 * 128 + x.val, by omega⟩
def half (n : Fin 8) : Fin 2 := ⟨n.val % 2, by omega⟩

/-- One head's queries, keys, values, row logarithms, output gradient and row sums. -/
def hq (c : Dev nD) (n : Fin 8) (r : Fin 4096) (x : Fin 128) : EReal := V m c main_v54 (ix3 n r x)
def hk (c : Dev nD) (n : Fin 8) (r : Fin 4096) (x : Fin 128) : EReal := V m c main_v58 (ix3 n r x)
def hv (c : Dev nD) (n : Fin 8) (r : Fin 4096) (x : Fin 128) : EReal := V m c main_v50 (ix3 n r x)
def hl (c : Dev nD) (n : Fin 8) (r : Fin 4096) (x : Fin 128) : EReal := V m c main_v31 (ix3 n r x)
def hd (c : Dev nD) (n : Fin 8) (r : Fin 4096) (x : Fin 128) : EReal := if mine (half n) x then (show EReal from V m c main_v59 (ix2 r (colOf n x))) else 0
def ht (c : Dev nD) (n : Fin 8) (r : Fin 4096) (_ : Fin 128) : EReal := ∑ x, hd m c n r x * (show EReal from V m c main_v24 (ix2 r (colOf n x)))

theorem half_head (t : Fin cfg0.N) (h : Fin 2) : half (headOf t h) = h := Fin.ext (by simp only [half, headOf]; omega)

theorem iblk0 (c : Dev nD) (t : Fin cfg0.N) (h : Fin 2) (r : Fin 4096) (x : Fin 128) : iblk m c 0 t (ix3 h r x) = hq m c (headOf t h) r x := by
  unfold hq; blk_ext [iblk, headOf, idx_val t]
theorem iblk1 (c : Dev nD) (t : Fin cfg0.N) (h : Fin 2) (k : Fin 1024) (x : Fin 128) : iblk m c 1 t (ix3 h k x) = hk m c (headOf t h) (keyOf t.val k) x := by
  unfold hk; blk_ext [iblk, headOf, keyOf, idx_val t]
theorem iblk2 (c : Dev nD) (t : Fin cfg0.N) (h : Fin 2) (k : Fin 1024) (x : Fin 128) : iblk m c 2 t (ix3 h k x) = hv m c (headOf t h) (keyOf t.val k) x := by
  unfold hv; blk_ext [iblk, headOf, keyOf, idx_val t]
theorem iblk3 (c : Dev nD) (t : Fin cfg0.N) (h : Fin 2) (r : Fin 4096) (x : Fin 128) : iblk m c 3 t (ix2 r x) = V m c main_v24 (ix2 r (colOf (headOf t h) x)) := by
  have e : (headOf t h).val / 2 = t.val / 4 := by simp only [headOf]; omega
  blk_ext [iblk, colOf, e, idx_val t]
theorem iblk4 (c : Dev nD) (t : Fin cfg0.N) (h : Fin 2) (r : Fin 4096) (x : Fin 128) : iblk m c 4 t (ix2 r x) = V m c main_v59 (ix2 r (colOf (headOf t h) x)) := by
  have e : (headOf t h).val / 2 = t.val / 4 := by simp only [headOf]; omega
  blk_ext [iblk, colOf, e, idx_val t]
theorem iblk5 (c : Dev nD) (t : Fin cfg0.N) (h : Fin 2) (r : Fin 4096) (x : Fin 128) : iblk m c 5 t (ix3 h r x) = hl m c (headOf t h) r x := by
  unfold hl; blk_ext [iblk, headOf, idx_val t]

/-- What the first tile puts in the scratch. -/
theorem fresh_at (c : Dev nD) (t : Fin cfg0.N) (h : Fin 2) (r : Fin 4096) (x : Fin 128) :
    (fresh m c t).2.1 (ix3 h r x) = hd m c (headOf t h) r x ∧ (fresh m c t).2.2 (ix3 h r x) = ht m c (headOf t h) r x := by
  have e : ∀ x, doS (iblk m c 4 t) h r x = hd m c (headOf t h) r x := fun x => by
    unfold doS hd; rw [half_head, iblk4 m c t h]
  refine ⟨e x, ?_⟩
  change delS (iblk m c 3 t) (iblk m c 4 t) h r = _
  unfold delS ht
  exact Finset.sum_congr rfl fun x _ => Ideal.mul_congr (e x) (iblk3 m c t h r x)

/-- The scratch after every point is its pair's. -/
theorem held_at (c : Dev nD) : ∀ (n : ℕ) (hn : n < cfg0.N) (h : Fin 2) (r : Fin 4096) (x : Fin 128),
    (held m c n hn).2.1 (ix3 h r x) = hd m c (headOf ⟨n, hn⟩ h) r x ∧ (held m c n hn).2.2 (ix3 h r x) = ht m c (headOf ⟨n, hn⟩ h) r x
  | 0, hn, h, r, x => fresh_at m c ⟨0, hn⟩ h r x
  | n + 1, hn, h, r, x => by
    change (if (n + 1) % 4 = 0 then fresh m c ⟨n + 1, hn⟩ else held m c n _).2.1 _ = _ ∧ (if (n + 1) % 4 = 0 then fresh m c ⟨n + 1, hn⟩ else held m c n _).2.2 _ = _
    split_ifs with h0
    · exact fresh_at m c ⟨n + 1, hn⟩ h r x
    · have e : headOf ⟨n + 1, hn⟩ h = headOf ⟨n, Nat.lt_of_succ_lt hn⟩ h := Fin.ext (by simp only [headOf]; omega)
      rw [e]; exact held_at c n (Nat.lt_of_succ_lt hn) h r x

theorem ent_at (c : Dev nD) (t : Fin cfg0.N) (h : Fin 2) (r : Fin 4096) (x : Fin 128) :
    (ent m c t).2.1 (ix3 h r x) = hd m c (headOf t h) r x ∧ (ent m c t).2.2 (ix3 h r x) = ht m c (headOf t h) r x := by
  have e := held_at m c t.val t.isLt h r x
  rw [held_eq] at e
  exact e

/-- What key tile `j` adds to a query's gradient, and the key and value gradients of that tile. -/
def dqT (c : Dev nD) (n : Fin 8) (j : ℕ) (r : Fin 4096) (d : Fin 128) : EReal :=
  dqS j (hq m c n) (hd m c n) (hl m c n) (ht m c n) (fun k => hk m c n (keyOf j k)) (fun k => hv m c n (keyOf j k)) r d
def dkT (c : Dev nD) (n : Fin 8) (j : ℕ) (k : Fin 1024) (d : Fin 128) : EReal :=
  dkS j (hq m c n) (hd m c n) (hl m c n) (ht m c n) (fun k => hk m c n (keyOf j k)) (fun k => hv m c n (keyOf j k)) 4096 d k
def dvT (c : Dev nD) (n : Fin 8) (j : ℕ) (k : Fin 1024) (d : Fin 128) : EReal :=
  dvS j (hq m c n) (hd m c n) (hl m c n) (fun k => hk m c n (keyOf j k)) 4096 d k

theorem blocks (c : Dev nD) (t : Fin cfg0.N) (h : Fin 2) :
    (fun r x => iblk m c 0 t (ix3 h r x)) = hq m c (headOf t h) ∧ (fun k x => iblk m c 1 t (ix3 h k x)) = (fun k => hk m c (headOf t h) (keyOf (t.val % 4) k))
    ∧ (fun k x => iblk m c 2 t (ix3 h k x)) = (fun k => hv m c (headOf t h) (keyOf (t.val % 4) k)) ∧ (fun r x => iblk m c 5 t (ix3 h r x)) = hl m c (headOf t h)
    ∧ (fun r x => (ent m c t).2.1 (ix3 h r x)) = hd m c (headOf t h) ∧ (fun r x => (ent m c t).2.2 (ix3 h r x)) = ht m c (headOf t h) := by
  have e : ∀ k, keyOf (t.val % 4) k = keyOf t.val k := fun k => Fin.ext (by simp only [keyOf]; omega)
  simp only [e]
  exact ⟨funext₂ fun r x => iblk0 m c t h r x, funext₂ fun r x => iblk1 m c t h r x, funext₂ fun r x => iblk2 m c t h r x, funext₂ fun r x => iblk5 m c t h r x,
    funext₂ fun r x => (ent_at m c t h r x).1, funext₂ fun r x => (ent_at m c t h r x).2⟩

theorem gq_step (c : Dev nD) (t : Fin cfg0.N) (h : Fin 2) (r : Fin 4096) (d : Fin 128) :
    (held m c t.val t.isLt).1 (ix3 h r d) = if t.val % 4 = 3 then ((show EReal from (ent m c t).1 (ix3 h r d)) + dqT m c (headOf t h) (t.val % 4) r d) * sc
      else (show EReal from (ent m c t).1 (ix3 h r d)) + dqT m c (headOf t h) (t.val % 4) r d := by
  obtain ⟨b0, b1, b2, b5, b8, b9⟩ := blocks m c t h
  rw [held_eq]
  unfold step gq dqT
  dsimp only
  simp only [ix3_0, ix3_1, ix3_2, b0, b1, b2, b5, b8, b9, coord1]
  by_cases h3 : t.val % 4 = 3
  · rw [if_pos h3, if_pos ((last_iff t).2 h3)]
  · rw [if_neg h3, if_neg (fun h => h3 ((last_iff t).1 h))]

/-- The query gradient a pair ends with. -/
theorem held_last (c : Dev nD) (t : Fin cfg0.N) (h3 : t.val % 4 = 3) (h : Fin 2) (r : Fin 4096) (d : Fin 128) :
    (held m c t.val t.isLt).1 (ix3 h r d) = (∑ j : Fin 4, dqT m c (headOf t h) j.val r d) * sc := by
  obtain ⟨n, hn⟩ := t
  dsimp only at h3
  obtain ⟨p, rfl⟩ : ∃ p, n = p + 3 := ⟨n - 3, by omega⟩
  have e : ∀ i (hi : p + i < cfg0.N), i < 4 → headOf ⟨p + i, hi⟩ h = headOf ⟨p + 3, hn⟩ h := fun i hi h4 => Fin.ext (by simp only [headOf]; omega)
  have s3 := gq_step m c ⟨p + 3, hn⟩ h r d
  have s2 := gq_step m c ⟨p + 2, by omega⟩ h r d
  have s1 := gq_step m c ⟨p + 1, by omega⟩ h r d
  have s0 := gq_step m c ⟨p + 0, by omega⟩ h r d
  rw [e 2 _ (by omega)] at s2; rw [e 1 _ (by omega)] at s1; rw [e 0 _ (by omega)] at s0
  unfold ent at s0 s1 s2 s3
  dsimp only at s0 s1 s2 s3
  have m0 : (p + 0) % 4 = 0 := by omega
  have m1 : (p + 1) % 4 = 1 := by omega
  have m2 : (p + 2) % 4 = 2 := by omega
  simp only [m0, m1, m2, h3, if_true, if_false, Nat.reduceEqDiff, OfNat.ofNat_ne_zero, OfNat.zero_ne_ofNat, one_ne_zero, OfNat.one_ne_ofNat, Nat.add_one_sub_one, Nat.add_sub_cancel] at s0 s1 s2 s3
  have z : (show EReal from (fresh m c ⟨p + 0, by omega⟩).1 (ix3 h r d)) = 0 := by
    change k0_pay42 (F := Ideal) (ix3 h r d) = 0
    pointwise [k0_pay42]
  rw [Ideal.add_congr z rfl, zero_add] at s0
  change (held m c p _).1 _ = _ at s0
  refine s3.trans (congrArg (· * sc) ?_)
  rw [Fin.sum_univ_four]
  exact Ideal.add_congr (s2.trans (Ideal.add_congr (s1.trans (Ideal.add_congr s0 rfl)) rfl)) rfl

/-- Where a point's blocks of the results lie. -/
theorem emb7 (t : Fin cfg0.N) (h : Fin 2) (r : Fin 4096) (d : Fin 128) :
    ((View.whole main_v61_0).slice (win0_7.rect t)).emb (ix3 h r d) = (ix3 (headOf t h) r d : S8x4096x128.Idx) := by
  blk_ext [headOf, idx_val t]
theorem emb8 (t : Fin cfg0.N) (h : Fin 2) (k : Fin 1024) (d : Fin 128) :
    ((View.whole main_v61_1).slice (win0_8.rect t)).emb (ix3 h k d) = (ix3 (headOf t h) (keyOf t.val k) d : S8x4096x128.Idx) := by
  blk_ext [headOf, keyOf, idx_val t]
theorem emb9 (t : Fin cfg0.N) (h : Fin 2) (k : Fin 1024) (d : Fin 128) :
    ((View.whole main_v61_2).slice (win0_9.rect t)).emb (ix3 h k d) = (ix3 (headOf t h) (keyOf t.val k) d : S8x4096x128.Idx) := by
  blk_ext [headOf, keyOf, idx_val t]

/-- The tile of a key row and its place there. -/
def place (s : Fin 4096) : Fin 1024 := ⟨s.val % 1024, by omega⟩

/-- The three results at a head, a row and a column. -/
def rq (c : Dev nD) (n : Fin 8) (r : Fin 4096) (d : Fin 128) : EReal := (∑ j : Fin 4, dqT m c n j.val r d) * sc
def rk (c : Dev nD) (n : Fin 8) (s : Fin 4096) (d : Fin 128) : EReal := dkT m c n (s.val / 1024) (place s) d * sc
def rv (c : Dev nD) (n : Fin 8) (s : Fin 4096) (d : Fin 128) : EReal := dvT m c n (s.val / 1024) (place s) d

theorem key_split (t : Fin cfg0.N) (k : Fin 1024) : (keyOf t.val k).val / 1024 = t.val % 4 ∧ place (keyOf t.val k) = k :=
  ⟨by simp only [keyOf]; omega, Fin.ext (by simp only [place, keyOf]; omega)⟩

theorem gk_at (c : Dev nD) (t : Fin cfg0.N) (h : Fin 2) (k : Fin 1024) (d : Fin 128) :
    gk (grid0.coords t) (iblk m c 0 t) (iblk m c 1 t) (iblk m c 2 t) (iblk m c 5 t) (ent m c t).2.1 (ent m c t).2.2 (ix3 h k d) = rk m c (headOf t h) (keyOf t.val k) d := by
  obtain ⟨b0, b1, b2, b5, b8, b9⟩ := blocks m c t h
  unfold gk rk dkT
  rw [(key_split t k).1, (key_split t k).2]
  simp only [ix3_0, ix3_1, ix3_2, b0, b1, b2, b5, b8, b9, coord1]
theorem gv_at (c : Dev nD) (t : Fin cfg0.N) (h : Fin 2) (k : Fin 1024) (d : Fin 128) :
    gv (grid0.coords t) (iblk m c 0 t) (iblk m c 1 t) (iblk m c 5 t) (ent m c t).2.1 (ix3 h k d) = rv m c (headOf t h) (keyOf t.val k) d := by
  obtain ⟨b0, b1, b2, b5, b8, b9⟩ := blocks m c t h
  unfold gv rv dvT
  rw [(key_split t k).1, (key_split t k).2]
  simp only [ix3_0, ix3_1, ix3_2, b0, b1, b5, b8, coord1]

theorem held_rq (c : Dev nD) (t : Fin cfg0.N) (h3 : t.val % 4 = 3) (h : Fin 2) (r : Fin 4096) (d : Fin 128) :
    (held m c t.val t.isLt).1 (ix3 h r d) = rq m c (headOf t h) r d := held_last m c t h3 h r d

attribute [local irreducible] rq rk rv

set_option maxHeartbeats 1000000 in
theorem final7 (c : Dev nD) : (dats m 0 c).arrAt 7 (cfgs 0).N = (fun i => rq m c (i 0) (i 1) (i 2) : FVec Ideal S8x4096x128 .f32) := by
  refine (dats m 0 c).arrAt_eq_of_covers 7 _ (by decide +kernel) fun t ht y => ?_
  blk_simp
  rw [after7]
  obtain ⟨h, r, d, rfl⟩ : ∃ (h : Fin 2) (r : Fin 4096) (d : Fin 128), y = ix3 h r d := by idx_vars y; exact ⟨_, _, _, rfl⟩
  exact (held_rq m c t ((flush0_7 t).1 ht) h r d).trans (congrArg (fun i : S8x4096x128.Idx => rq m c (i 0) (i 1) (i 2)) (emb7 t h r d).symm)
set_option maxHeartbeats 1000000 in
theorem final8 (c : Dev nD) : (dats m 0 c).arrAt 8 (cfgs 0).N = (fun i => rk m c (i 0) (i 1) (i 2) : FVec Ideal S8x4096x128 .f32) := by
  refine (dats m 0 c).arrAt_eq_of_covers 8 _ (by decide +kernel) fun t _ y => ?_
  blk_simp
  rw [after8]
  obtain ⟨h, k, d, rfl⟩ : ∃ (h : Fin 2) (k : Fin 1024) (d : Fin 128), y = ix3 h k d := by idx_vars y; exact ⟨_, _, _, rfl⟩
  exact (gk_at m c t h k d).trans (congrArg (fun i : S8x4096x128.Idx => rk m c (i 0) (i 1) (i 2)) (emb8 t h k d).symm)
set_option maxHeartbeats 1000000 in
theorem final9 (c : Dev nD) : (dats m 0 c).arrAt 9 (cfgs 0).N = (fun i => rv m c (i 0) (i 1) (i 2) : FVec Ideal S8x4096x128 .f32) := by
  refine (dats m 0 c).arrAt_eq_of_covers 9 _ (by decide +kernel) fun t _ y => ?_
  blk_simp
  rw [after9]
  obtain ⟨h, k, d, rfl⟩ : ∃ (h : Fin 2) (k : Fin 1024) (d : Fin 128), y = ix3 h k d := by idx_vars y; exact ⟨_, _, _, rfl⟩
  exact (gv_at m c t h k d).trans (congrArg (fun i : S8x4096x128.Idx => rv m c (i 0) (i 1) (i 2)) (emb9 t h k d).symm)

variable (ρ : Dev nD → PrngReg)

/-- The run, its three results named. -/
theorem run_results : θ_run defs (onTc (τ := τ) (main (F := Ideal))) ⟨m, fun _ => 0, ρ⟩ fun r => ∀ c : Dev nD,
      r.2.mem ((c : Thread nD τ).loc main_v61_0) = (fun i => rq m c (i 0) (i 1) (i 2) : FVec Ideal S8x4096x128 .f32)
      ∧ r.2.mem ((c : Thread nD τ).loc main_v61_1) = (fun i => rk m c (i 0) (i 1) (i 2) : FVec Ideal S8x4096x128 .f32)
      ∧ r.2.mem ((c : Thread nD τ).loc main_v61_2) = (fun i => rv m c (i 0) (i 1) (i 2) : FVec Ideal S8x4096x128 .f32) :=
  (θ_run defs _ _).mono (fun _ h c => ⟨((h.1 c).1 7).trans (final7 m c), ((h.1 c).1 8).trans (final8 m c), ((h.1 c).1 9).trans (final9 m c)⟩) (launched m ρ)

end Cert.AttnIdeal.Value
-- ==== Proof.SoftRow.lean ====
/- A row of scores over the extended reals: its maximum, its exponentials and their sum, and what they are where the visible scores are real numbers. -/
module

public import proofs.«01_k».proof.Proof.RealNum

@[expose] public section

noncomputable section

namespace Cert.SoftRow

open Idealize.ShloMosaic

variable {n : ℕ}

/-- A fold of an operation that is the maximum. -/
theorem fold_max {ι : Type} (s : Finset ι) (op : EReal → EReal → EReal) [Std.Commutative op] [Std.Associative op] (h : ∀ a b, op a b = max a b)
    (b : EReal) (f g : ι → EReal) (hf : ∀ i, f i = g i) : s.fold op b f = s.fold max b g := by
  obtain rfl : f = g := funext hf
  classical
  induction s using Finset.induction_on with
  | empty => rw [Finset.fold_empty, Finset.fold_empty]
  | insert a s ha ih => rw [Finset.fold_insert ha, Finset.fold_insert ha, ih, h]

/-- The row's maximum, each score's exponential below it, and their sum. -/
def top (s : Fin n → EReal) : EReal := (Finset.univ : Finset (Fin n)).fold max ⊥ s
def ex (s : Fin n → EReal) (j : Fin n) : EReal := Ideal.exp (s j - top s)
def tot (s : Fin n → EReal) : EReal := ∑ j, ex s j

/-- A fold of maxima is its start or one of its entries, and it is below none of them. -/
theorem fold_mem {ι : Type} (s : Finset ι) (f : ι → EReal) : (s.fold max ⊥ f = ⊥ ∨ ∃ i ∈ s, s.fold max ⊥ f = f i) ∧ ∀ i ∈ s, f i ≤ s.fold max ⊥ f := by
  classical
  induction s using Finset.induction_on with
  | empty => simp
  | insert a s ha ih =>
    rw [Finset.fold_insert ha]
    refine ⟨?_, fun i hi => ?_⟩
    · rcases max_choice (f a) (s.fold max ⊥ f) with h | h
      · exact .inr ⟨a, Finset.mem_insert_self _ _, h⟩
      · rcases ih.1 with h' | ⟨i, hi, h'⟩
        · exact .inl (h.trans h')
        · exact .inr ⟨i, Finset.mem_insert_of_mem hi, h.trans h'⟩
    · rcases Finset.mem_insert.1 hi with rfl | hi
      · exact le_max_left _ _
      · exact (ih.2 i hi).trans (le_max_right _ _)

/-- The visible scores' exponentials below a bound. -/
def exr (p : Fin n → Prop) [DecidablePred p] (s : Fin n → ℝ) (M : ℝ) (j : Fin n) : ℝ := if p j then Real.exp (s j - M) else 0

/-- A row whose visible scores are real and whose others are minus infinity, where one is visible. -/
theorem real_row (p : Fin n → Prop) [DecidablePred p] (s : Fin n → ℝ) (S : Fin n → EReal) (hS : ∀ j, S j = if p j then ((s j : ℝ) : EReal) else ⊥)
    (j₀ : Fin n) (h₀ : p j₀) : ∃ M : ℝ, top S = (M : EReal) ∧ (∀ j, ex S j = (exr p s M j : ℝ)) ∧ tot S = ((∑ j, exr p s M j : ℝ) : EReal)
      ∧ 0 < ∑ j, exr p s M j := by
  have hm : ∃ M : ℝ, top S = (M : EReal) := by
    obtain ⟨h1, h2⟩ := fold_mem Finset.univ S
    have h3 : ((s j₀ : ℝ) : EReal) ≤ top S := by
      have := h2 j₀ (Finset.mem_univ _)
      rwa [hS, if_pos h₀] at this
    rcases h1 with h1 | ⟨i, _, h1⟩
    · rw [top, h1] at h3
      exact absurd (le_bot_iff.1 h3) (EReal.coe_ne_bot _)
    · rw [hS] at h1
      by_cases hp : p i
      · exact ⟨s i, by rw [top, h1, if_pos hp]⟩
      · rw [if_neg hp] at h1
        rw [top, h1] at h3
        exact absurd (le_bot_iff.1 h3) (EReal.coe_ne_bot _)
  obtain ⟨M, hM⟩ := hm
  have he : ∀ j, ex S j = ((exr p s M j : ℝ) : EReal) := by
    intro j
    rw [ex, hM, hS, exr]
    by_cases hp : p j
    · rw [if_pos hp, if_pos hp, ← EReal.coe_sub, Ideal.exp_coe]
    · rw [if_neg hp, if_neg hp, EReal.bot_sub, Ideal.exp_bot, EReal.coe_zero]
  refine ⟨M, hM, he, ?_, ?_⟩
  · rw [tot, ← RealNum.sum_coe]
    exact Finset.sum_congr rfl fun j _ => he j
  · refine Finset.sum_pos' (fun j _ => ?_) ⟨j₀, Finset.mem_univ _, ?_⟩
    · unfold exr
      split
      · exact (Real.exp_pos _).le
      · exact le_refl _
    · rw [exr, if_pos h₀]
      exact Real.exp_pos _

/-- The exponential to the base two of a score in halvings, less the row's log-sum in halvings, is the row's weight. -/
theorem exp2_weight (s M L : ℝ) (hL : 0 < L) : Real.rpow 2 (s * (Real.log 2)⁻¹ - (M + Real.log L) / Real.log 2) = Real.exp (s - M) / L := by
  have h2 : Real.log 2 ≠ 0 := (Real.log_pos one_lt_two).ne'
  show (2 : ℝ) ^ (_ : ℝ) = _
  rw [Real.rpow_def_of_pos two_pos, show Real.log 2 * (s * (Real.log 2)⁻¹ - (M + Real.log L) / Real.log 2) = (s - M) - Real.log L by field_simp; ring,
    Real.exp_sub, Real.exp_log hL]

end Cert.SoftRow
-- ==== Proof.AttnRefPoint.lean ====
/- The attention gradients of the reference read at coordinates over the extended reals. -/
module

public import proofs.«01_k».proof.Proof.Gen.AttnRefIdeal.Read
public import proofs.«01_k».proof.Proof.SoftRow
public import Idealize.ShloMosaic.Lib.Pipeline.ValueKit
public import Idealize.ShloMosaic.Lib.Pointwise

@[expose] public section

set_option maxRecDepth 16384

noncomputable section

namespace Cert.AttnRefIdeal.Value

open Cert.SoftRow Cert.AttnRefIdeal Cert.AttnRefIdeal.Gen Cert.AttnRefIdeal.Read Idealize.ShloMosaic Idealize.ShloMosaic.TcCoe Idealize.SL.Sem

variable (q k : FVec Ideal S1x8x4096x96 .f32) (v : FVec Ideal S1x8x4096x64 .f32) (d : FVec Ideal S1x4096x512 .f32)

/-- Minus infinity and the head's width as the text writes them. -/
theorem k_bot : Ideal.ofBits .f32 0xFF800000#32 = (⊥ : EReal) := by simp [Ideal.ofBits, Ideal.ieee]
theorem k_96 : Ideal.ofBits .f32 0x42C00000#32 = ((96 : ℝ) : EReal) := by simp [Ideal.ofBits, Ideal.ieee, -EReal.coe_mul]; norm_num

/-- A position's chunk is its quotient by 64. -/
theorem chunk_at (r : Fin 4096) : val_main_v1 (F := Ideal) (ix1 r) = BitVec.ofNat 32 (r.val / 64) := by
  pointwise [val_main_v1, val_main_call0_v0, val_main_call0_v1, val_main_call0_v2, val_main_call0_v3, val_main_call0_v4, val_main_call0_v5, val_main_call0_v6, val_main_call0_v7, val_main_call0_v8, val_main_call0_v9, val_main_call0_v10, val_main_call0_v11, val_main_call0_v12, val_main_call0_v13, val_main_call0_c, val_main_call0_c_0, val_main_c, val_main_v0]
  simp only [id_eq, constantI_apply]
  revert r
  decide +kernel

/-- The comparison of two chunks. -/
theorem le_iff (a b : Fin 64) : IntOp.cmpi CmpIPredicate.sle (BitVec.ofNat 32 a.val) (BitVec.ofNat 32 b.val) = if a.val ≤ b.val then 1#1 else 0#1 := by
  revert a b
  decide +kernel

theorem visible_iff (r j : Fin 4096) : IntOp.cmpi CmpIPredicate.sle (BitVec.ofNat 32 (j.val / 64)) (BitVec.ofNat 32 (r.val / 64)) = if j.val / 64 ≤ r.val / 64 then 1#1 else 0#1 :=
  le_iff ⟨j.val / 64, by omega⟩ ⟨r.val / 64, by omega⟩

theorem select_if {α : Type} (p : Prop) [Decidable p] (a b : α) : Scalar.select (if p then 1#1 else 0#1) a b = if p then a else b := by
  by_cases h : p <;> simp [h, Scalar.select]

theorem score_at (n : Fin 8) (r j : Fin 4096) : val_main_v12_0 (F := Ideal) q k (ix4 0 n r j)
    = if j.val / 64 ≤ r.val / 64 then (∑ x : Fin 96, q (ix4 0 n r x) * k (ix4 0 n j x)) * Ideal.div 1 (Ideal.sqrt ((96 : ℝ) : EReal)) else ⊥ := by
  pointwise [val_main_v12_0, val_main_v12_1, val_main_v6, val_main_call1_v0, val_main_call1_v2, val_main_v11, val_main_v10, val_main_v9, val_main_v8, val_main_v7, val_main_v5, val_main_v4, val_main_v3, val_main_v2, val_main_cst, val_main_cst_0, val_main_cst_1, chunk_at, visible_iff, select_if, k_96, id_eq, constant_apply, k_bot]

/-- A row's scores. -/
def row (n : Fin 8) (r : Fin 4096) (j : Fin 4096) : EReal := val_main_v12_0 (F := Ideal) q k (ix4 0 n r j)

/-- A row's maximum. -/
theorem max_row (w : FVec Ideal S1x8x4096x4096 .f32) (i : FVec Ideal S_ .f32) (n : Fin 8) (r : Fin 4096) :
    Host.reduce (FloatOps.maximumf (F := Ideal) (φ := .f32)) w i reducesTo_S1x8x4096x4096_S1x8x4096_d3 h_S_ (ix3 0 n r)
      = (Finset.univ : Finset (Fin 4096)).fold max (i ix0) (fun j => w (ix4 0 n r j)) := by
  refine (Host.reduce_eq_fold (s := ⟨4, ![1, 8, 4096, 4096]⟩) _ w i _ _ _).trans ?_
  refine (Shape.ReducesTo.fold_fiber_r4_a3 _ _ _ _ _).trans ?_
  rw [show Shape.Idx.first h_S_ = ix0 from funext fun k => k.elim0]
  exact fold_max _ _ (fun _ _ => rfl) _ _ _ fun _ => rfl

theorem top_at (n : Fin 8) (r : Fin 4096) : val_main_v13 (F := Ideal) q k (ix3 0 n r) = top (row q k n r) := by
  have h := max_row (val_main_v12_0 (F := Ideal) q k) (val_main_cst_2 (F := Ideal)) n r
  rw [show val_main_cst_2 (F := Ideal) ix0 = (⊥ : EReal) from k_bot] at h
  exact h

theorem m_at (n : Fin 8) (r : Fin 4096) : val_main_v20 (F := Ideal) q k (ix3 0 n r) = top (row q k n r) := by
  rw [← top_at]
  unfold val_main_v20
  generalize val_main_v13 (F := Ideal) q k = w
  have h : val_main_v19 (F := Ideal) (ix3 0 n r) = (⊥ : EReal) := by pointwise [val_main_v19, val_main_cst_4, k_bot]
  rw [maximumf_apply, h]
  exact max_eq_right bot_le

theorem e_at (n : Fin 8) (r j : Fin 4096) : val_main_v33 (F := Ideal) q k (ix4 0 n r j) = ex (row q k n r) j := by
  pointwise [val_main_v33, val_main_v32, val_main_v31, val_main_v30, m_at, ← row.eq_1, ex]

theorem l_at (n : Fin 8) (r : Fin 4096) : val_main_v35 (F := Ideal) q k (ix4 0 n r 0) = tot (row q k n r) := by
  pointwise [val_main_v35, val_main_v34, val_main_cst_10, e_at, tot]

/-- The output's cotangent of a head. -/
def out (n : Fin 8) (r : Fin 4096) (x : Fin 64) : EReal := d (ix3 0 r ⟨n.val * 64 + x.val, by omega⟩)

theorem o_at (n : Fin 8) (r : Fin 4096) (x : Fin 64) : val_main_v45 (F := Ideal) d (ix4 0 n r x) = out d n r x := by
  pointwise [val_main_v45, val_main_v44, out]

/-- The weights' cotangent. -/
def dwt (n : Fin 8) (r j : Fin 4096) : EReal := ∑ x : Fin 64, out d n r x * v (ix4 0 n j x)

theorem dp_at (n : Fin 8) (r j : Fin 4096) : val_main_v48 (F := Ideal) v d (ix4 0 n r j) = dwt v d n r j := by
  pointwise [val_main_v48, o_at, dwt]

theorem dn_at (n : Fin 8) (r : Fin 4096) : val_main_v54 (F := Ideal) q k v d (ix4 0 n r 0)
    = -∑ j : Fin 4096, dwt v d n r j * Ideal.div 1 (tot (row q k n r) * tot (row q k n r)) * ex (row q k n r) j := by
  pointwise [val_main_v54, val_main_v53, val_main_v52, val_main_v51, val_main_v50, val_main_v49, val_main_v40, val_main_v39, val_main_v38, val_main_cst_11, val_main_cst_12, e_at, l_at, dp_at]

/-- A reduction over two axes of length one keeps the one entry. -/
theorem reduce_03 (v : S1x8x4096x1.Idx → EReal) (i : EReal) (n : Fin 8) (r : Fin 4096) :
    Ideal.hostReduceAdd reducesTo_S1x8x4096x1_S8x4096_d0_3 v i (ix2 n r) = i + v (ix4 0 n r 0) := by
  unfold Ideal.hostReduceAdd
  congr 1
  refine Finset.sum_eq_single_of_mem (ix4 0 n r 0) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b3 = 0 := Subsingleton.elim _ _
    have h1 : b1.val = n.val := congrArg Fin.val (congrFun hd 0)
    have h2 : b2.val = r.val := congrArg Fin.val (congrFun hd 1)
    obtain rfl : b1 = n := Fin.ext h1
    obtain rfl : b2 = r := Fin.ext h2
    exact absurd rfl hne

/-- The scores' cotangent. -/
def dsc (n : Fin 8) (r j : Fin 4096) : EReal :=
  (if j.val / 64 ≤ r.val / 64 then
        (Ideal.div (dwt v d n r j) (tot (row q k n r)) + -∑ j : Fin 4096, dwt v d n r j * Ideal.div 1 (tot (row q k n r) * tot (row q k n r)) * ex (row q k n r) j) *
          ex (row q k n r) j
      else 0) * Ideal.div 1 (Ideal.sqrt ((96 : ℝ) : EReal))

theorem ds_at (n : Fin 8) (r j : Fin 4096) : val_main_v64 (F := Ideal) q k v d (ix4 0 n r j) = dsc q k v d n r j := by
  pointwise [val_main_v64, val_main_v63, val_main_v62, val_main_v61, val_main_v60, val_main_v59, val_main_v58, val_main_v57, val_main_v56, val_main_v55, val_main_call2_v0, val_main_call2_cst, val_main_v12_1, val_main_v11, val_main_v10, val_main_v9, val_main_v8, val_main_v7, val_main_v3, val_main_v2, val_main_cst, val_main_cst_0, val_main_cst_13, chunk_at, visible_iff, select_if, k_96, reduce_03, dn_at, dp_at, e_at, l_at, zero_add, dsc]

/-- Whether a head is the second of its pair. -/
theorem odd_at (n : Fin 8) : val_main_v70 (F := Ideal) (ix1 n) = if n.val % 2 = 1 then 1#1 else 0#1 := by
  pointwise [val_main_v70, val_main_v69, val_main_v68, val_main_v67, val_main_call3_v0, val_main_call3_v1, val_main_call3_v2, val_main_call3_v3, val_main_call3_v4, val_main_call3_v5, val_main_call3_v6, val_main_call3_v7, val_main_call3_v8, val_main_call3_v9, val_main_call3_v10, val_main_call3_v11, val_main_call3_v12, val_main_call3_v13, val_main_call3_v14, val_main_call3_c, val_main_call3_c_0, val_main_call3_c_1, val_main_call3_c_2, val_main_call3_c_3, val_main_c_14, val_main_c_15]
  simp only [id_eq, constantI_apply]
  revert n
  decide +kernel

theorem dk_at (n : Fin 8) (r : Fin 4096) (x : Fin 96) : val_main_v65 (F := Ideal) q k v d (ix4 0 n r x) = ∑ i : Fin 4096, dsc q k v d n i r * q (ix4 0 n i x) := by
  pointwise [val_main_v65, ds_at]
theorem dq_at (n : Fin 8) (r : Fin 4096) (x : Fin 96) : val_main_v66 (F := Ideal) q k v d (ix4 0 n r x) = ∑ j : Fin 4096, dsc q k v d n r j * k (ix4 0 n j x) := by
  pointwise [val_main_v66, ds_at]
theorem dv_at (n : Fin 8) (r : Fin 4096) (x : Fin 64) : val_main_v47 (F := Ideal) q k d (ix4 0 n r x)
    = ∑ i : Fin 4096, out d n i x * Ideal.div (ex (row q k n i) r) (tot (row q k n i)) := by
  pointwise [val_main_v47, val_main_v46, val_main_v37, val_main_v36, e_at, l_at, o_at]

/-- The query's gradient in its 128 lanes. -/
theorem wq_at (n : Fin 8) (r : Fin 4096) (x : Fin 128) : val_main_v78 (F := Ideal) q k v d (ix3 n r x)
    = if h : x.val < 96 then ∑ j : Fin 4096, dsc q k v d n r j * k (ix4 0 n j ⟨x.val, h⟩) else 0 := by
  pointwise [val_main_v78, val_main_v77, val_main_v76, val_main_cst_18, dq_at]
/-- The key's gradient in its 128 lanes. -/
theorem wk_at (n : Fin 8) (r : Fin 4096) (x : Fin 128) : val_main_v81 (F := Ideal) q k v d (ix3 n r x)
    = if h : x.val < 96 then ∑ i : Fin 4096, dsc q k v d n i r * q (ix4 0 n i ⟨x.val, h⟩) else 0 := by
  pointwise [val_main_v81, val_main_v80, val_main_v79, val_main_cst_19, dk_at]
/-- A head's 64 columns in the half of 128 lanes that its parity says. -/
theorem halves (f : Fin 64 → EReal) (x : Fin 128) (n : Fin 8) :
    (if h : x.val < 64 then (if n.val % 2 = 1 then 0 else f ⟨x.val, h⟩) else if n.val % 2 = 1 then f ⟨x.val - 64, by omega⟩ else 0)
      = if x.val / 64 = n.val % 2 then f ⟨x.val % 64, by omega⟩ else 0 := by
  have e : ∀ y : Fin 64, y.val = x.val % 64 → f y = f ⟨x.val % 64, by omega⟩ := fun y hy => congrArg f (Fin.ext hy)
  split_ifs
  all_goals first
    | omega
    | rfl
    | exact e _ (by first | (show x.val = _; omega) | (show x.val - 64 = _; omega))

/-- The value's gradient in its head's half of 128 lanes. -/
theorem wv_at (n : Fin 8) (r : Fin 4096) (x : Fin 128) : val_main_v82 (F := Ideal) q k d (ix3 n r x)
    = if x.val / 64 = n.val % 2 then ∑ i : Fin 4096, out d n i ⟨x.val % 64, by omega⟩ * Ideal.div (ex (row q k n i) r) (tot (row q k n i)) else 0 := by
  pointwise [val_main_v82, val_main_v73, val_main_v75, val_main_call4_v0, val_main_call4_v1, val_main_call4_v2, val_main_call5_v0, val_main_call5_v1, val_main_call5_v2, val_main_cst_16, val_main_cst_17, val_main_v72, val_main_v74, val_main_v71, odd_at, select_if, dv_at, id_eq, constant_apply]
  exact halves (fun y => ∑ i : Fin 4096, out d n i y * Ideal.div (ex (row q k n i) r) (tot (row q k n i))) x n

end Cert.AttnRefIdeal.Value
-- ==== Proof.AttnHost.lean ====
/- What the attention backward kernel's host code hands to the region, read at coordinates over the extended reals. -/
module

public import proofs.«01_k».proof.Proof.AttnFinal
import all proofs.«01_k».proof.Proof.AttnFinal
public import proofs.«01_k».proof.Proof.AttnRefPoint
public import Idealize.ShloMosaic.Lib.Pipeline.ValueKit
public import Idealize.ShloMosaic.Lib.Pointwise
public import Idealize.ShloMosaic.Lib.StableHlo.RunRead

@[expose] public section

set_option maxRecDepth 16384

noncomputable section

namespace Cert.AttnIdeal.Value

open Cert.SoftRow Cert.AttnIdeal Cert.AttnIdeal.Gen Idealize.ShloMosaic Idealize.ShloMosaic.TcCoe Idealize.SL.Sem
open Idealize.ShloMosaic.Pipeline (Dat)

variable (m : (ℓ : Loc nD τ sig) → Buf (Elt Ideal) ℓ)

/-- A device's buffers once each position's chunk is there. -/
def chunked (c : Dev nD) : Valuation τ sig (Elt Ideal) :=
  StableHlo.after (List.flatten [hostOps0, hostOps0_1]) (fun b => m (c, b))

/-- A device's buffers once the masked scores are there. -/
def scored (c : Dev nD) : Valuation τ sig (Elt Ideal) :=
  StableHlo.after (List.flatten [hostOps0, hostOps0_1, hostOps0_2, hostOps0_3]) (fun b => m (c, b))

theorem scored_chunked (c : Dev nD) : scored m c = StableHlo.after (List.flatten [hostOps0_2, hostOps0_3]) (chunked m c) := by
  unfold scored chunked
  simp only [List.flatten_cons, List.flatten_nil, List.append_nil, StableHlo.after_append]

theorem V_scored (c : Dev nD) (b : Ref sig .tc) : V m c b = StableHlo.after (List.flatten [hostOps0_4, hostOps0_5, hostOps0_6, hostOps0_7, hostOps0_8, hostOps0_9, hostOps0_10, hostOps0_11, hostOps0_12, hostOps0_13, hostOps0_14]) (scored m c) b := by
  unfold V scored
  simp only [List.flatten_cons, List.flatten_nil, List.append_nil, StableHlo.after_append]

set_option maxHeartbeats 4000000 in
theorem v59_at (c : Dev nD) (r : Fin 4096) (x : Fin 512) :
    V m c main_v59 (ix2 r x) = m ((c : Thread nD τ).loc main_arg3) (ix3 0 r x) := by
  unfold V
  simp only [List.flatten_cons, List.flatten_nil, List.append_nil]
  after_reads_simp
  pointwise

set_option maxHeartbeats 4000000 in
theorem hq_at (c : Dev nD) (n : Fin 8) (r : Fin 4096) (x : Fin 128) :
    hq m c n r x = if h : x.val < 96 then m ((c : Thread nD τ).loc main_arg0) (ix4 0 n r ⟨x.val, h⟩) else (0 : EReal) := by
  unfold hq V
  simp only [List.flatten_cons, List.flatten_nil, List.append_nil]
  after_reads_simp
  pointwise
  split
  · after_reads_simp
    pointwise
  · after_reads_simp
    pointwise

set_option maxHeartbeats 4000000 in
theorem hk_at (c : Dev nD) (n : Fin 8) (r : Fin 4096) (x : Fin 128) :
    hk m c n r x = if h : x.val < 96 then m ((c : Thread nD τ).loc main_arg1) (ix4 0 n r ⟨x.val, h⟩) else (0 : EReal) := by
  unfold hk V
  simp only [List.flatten_cons, List.flatten_nil, List.append_nil]
  after_reads_simp
  pointwise
  split
  · after_reads_simp
    pointwise
  · after_reads_simp
    pointwise

set_option maxHeartbeats 4000000 in
theorem chunk_eq (c : Dev nD) :
    chunked m c (Proc.tc.devRef main_v1) = AttnRefIdeal.Read.val_main_v1 (F := Ideal) := by
  unfold chunked
  simp only [List.flatten_cons, List.flatten_nil, List.append_nil]
  after_reads_simp
  rfl

set_option maxHeartbeats 4000000 in
theorem score_eq (c : Dev nD) :
    scored m c (Proc.tc.devRef main_v12) = AttnRefIdeal.Read.val_main_v12_0 (F := Ideal) (m ((c : Thread nD τ).loc main_arg0)) (m ((c : Thread nD τ).loc main_arg1)) := by
  have h1 := chunk_eq m c
  have h2 : chunked m c (Proc.tc.devRef main_arg0) = m ((c : Thread nD τ).loc main_arg0) := by
    unfold chunked
    simp only [List.flatten_cons, List.flatten_nil, List.append_nil]
    after_reads_simp
  have h3 : chunked m c (Proc.tc.devRef main_arg1) = m ((c : Thread nD τ).loc main_arg1) := by
    unfold chunked
    simp only [List.flatten_cons, List.flatten_nil, List.append_nil]
    after_reads_simp
  rw [scored_chunked, ← h2, ← h3]
  generalize chunked m c = W at *
  simp only [List.flatten_cons, List.flatten_nil, List.append_nil]
  after_reads_simp
  rw [h1]
  rfl

/-- The scores are the reference's. -/
theorem row_eq (c : Dev nD) (n : Fin 8) (r j : Fin 4096) : scored m c (Proc.tc.devRef main_v12) (ix4 0 n r j)
    = AttnRefIdeal.Value.row (m ((c : Thread nD τ).loc main_arg0)) (m ((c : Thread nD τ).loc main_arg1)) n r j := by
  rw [score_eq]
  rfl

/-- The row of scores of a valuation. -/
def rowOf (W : Valuation τ sig (Elt Ideal)) (n : Fin 8) (r j : Fin 4096) : EReal := W (Proc.tc.devRef main_v12) (ix4 0 n r j)

theorem max_at (w : FVec Ideal S1x8x4096x4096 .f32) (n : Fin 8) (r : Fin 4096) :
    Host.reduce (FloatOps.maximumf (F := Ideal) (φ := .f32)) w (constant S_ .f32 0xFF800000#32) reducesTo_S1x8x4096x4096_S1x8x4096_d3 h_S_ (ix3 0 n r)
      = top (fun j => w (ix4 0 n r j)) := by
  have h := AttnRefIdeal.Value.max_row w (constant S_ .f32 0xFF800000#32) n r
  rw [show (constant S_ .f32 0xFF800000#32 : FVec Ideal S_ .f32) ix0 = (⊥ : EReal) from AttnRefIdeal.Value.k_bot] at h
  exact h

/-- Two as the text writes it. -/
theorem k_2 : Ideal.ofBits .f32 0x40000000#32 = ((2 : ℝ) : EReal) := by simp [Ideal.ofBits, Ideal.ieee, -EReal.coe_mul]; norm_num

set_option maxHeartbeats 4000000 in
/-- The attention's output. -/
theorem v24_at (c : Dev nD) (n : Fin 8) (r : Fin 4096) (x : Fin 64) :
    V m c main_v24 (ix2 r ⟨n.val * 64 + x.val, by omega⟩) = ∑ j : Fin 4096, Ideal.div (ex (rowOf (scored m c) n r) j) (tot (rowOf (scored m c) n r)) * scored m c (Proc.tc.devRef main_arg2) (ix4 0 n j x) := by
  rw [V_scored]
  generalize scored m c = W
  simp only [List.flatten_cons, List.flatten_nil, List.append_nil]
  after_reads_simp
  have h := max_at (W (Proc.tc.devRef main_v12)) n r
  generalize Host.reduce (FloatOps.maximumf (F := Ideal) (φ := .f32)) (W (Proc.tc.devRef main_v12)) (constant S_ .f32 0xFF800000#32) reducesTo_S1x8x4096x4096_S1x8x4096_d3 h_S_ = w at h ⊢
  pointwise [h, ← rowOf.eq_1, ex, tot]

/-- A device's buffers once each head's parity is there. -/
def parted (c : Dev nD) : Valuation τ sig (Elt Ideal) :=
  StableHlo.after (List.flatten [hostOps0_4, hostOps0_5, hostOps0_6]) (scored m c)

theorem V_parted (c : Dev nD) (b : Ref sig .tc) : V m c b = StableHlo.after (List.flatten [hostOps0_7, hostOps0_8, hostOps0_9, hostOps0_10, hostOps0_11, hostOps0_12, hostOps0_13, hostOps0_14]) (parted m c) b := by
  rw [V_scored]
  unfold parted
  simp only [List.flatten_cons, List.flatten_nil, List.append_nil, StableHlo.after_append]

set_option maxHeartbeats 4000000 in
theorem odd_eq (c : Dev nD) :
    parted m c (Proc.tc.devRef main_v35) = AttnRefIdeal.Read.val_main_v70 (F := Ideal) := by
  unfold parted
  generalize scored m c = W
  simp only [List.flatten_cons, List.flatten_nil, List.append_nil]
  after_reads_simp
  rfl

/-- A device's buffers once the value's two halves are there. -/
def zeroed (c : Dev nD) : Valuation τ sig (Elt Ideal) :=
  StableHlo.after (List.flatten [hostOps0_7, hostOps0_8, hostOps0_9]) (parted m c)

theorem V_zeroed (c : Dev nD) (b : Ref sig .tc) : V m c b = StableHlo.after (List.flatten [hostOps0_10, hostOps0_11, hostOps0_12, hostOps0_13, hostOps0_14]) (zeroed m c) b := by
  rw [V_parted]
  unfold zeroed
  simp only [List.flatten_cons, List.flatten_nil, List.append_nil, StableHlo.after_append]

/-- A value that no operation before it has written. -/
theorem scored_arg2 (c : Dev nD) : scored m c (Proc.tc.devRef main_arg2) = m ((c : Thread nD τ).loc main_arg2) := by
  unfold scored
  simp only [List.flatten_cons, List.flatten_nil, List.append_nil]
  after_reads_simp

set_option maxHeartbeats 4000000 in
theorem parted_v36 (c : Dev nD) (n : Fin 8) : parted m c (Proc.tc.devRef main_v36) (ix3 n 0 0) = if n.val % 2 = 1 then 1#1 else 0#1 := by
  rw [← AttnRefIdeal.Value.odd_at n, ← odd_eq m c]
  unfold parted
  generalize scored m c = W
  simp only [List.flatten_cons, List.flatten_nil, List.append_nil]
  after_reads_simp
  pointwise

set_option maxHeartbeats 4000000 in
theorem parted_v39 (c : Dev nD) (n : Fin 8) (r : Fin 4096) (x : Fin 64) : parted m c (Proc.tc.devRef main_v39) (ix3 n r x) = m ((c : Thread nD τ).loc main_arg2) (ix4 0 n r x) := by
  rw [← scored_arg2 m c]
  unfold parted
  generalize scored m c = W
  simp only [List.flatten_cons, List.flatten_nil, List.append_nil]
  after_reads_simp
  pointwise

set_option maxHeartbeats 4000000 in
theorem parted_arg2 (c : Dev nD) : parted m c (Proc.tc.devRef main_arg2) = m ((c : Thread nD τ).loc main_arg2) := by
  rw [← scored_arg2 m c]
  unfold parted
  generalize scored m c = W
  simp only [List.flatten_cons, List.flatten_nil, List.append_nil]
  after_reads_simp

set_option maxHeartbeats 4000000 in
theorem parted_v38 (c : Dev nD) (x : Fin 128) : parted m c (Proc.tc.devRef main_v38) (ix3 0 0 x) = BitVec.ofNat 32 x.val := by
  unfold parted
  generalize scored m c = W
  simp only [List.flatten_cons, List.flatten_nil, List.append_nil]
  after_reads_simp
  pointwise

set_option maxHeartbeats 4000000 in
theorem zeroed_v40 (c : Dev nD) : zeroed m c (Proc.tc.devRef main_v40) = select (broadcastInDim S8x4096x64 ![0, 1, 2] bcast_S8x1x1_S8x4096x64_0_1_2 (parted m c (Proc.tc.devRef main_v36)))
    (broadcastInDim S8x4096x64 ![] bcast_S_S8x4096x64 (parted m c (Proc.tc.devRef main_cst_7))) (parted m c (Proc.tc.devRef main_v39)) := by
  unfold zeroed
  generalize parted m c = W
  simp only [List.flatten_cons, List.flatten_nil, List.append_nil]
  after_reads_simp
  rfl

set_option maxHeartbeats 4000000 in
theorem zeroed_v42 (c : Dev nD) : zeroed m c (Proc.tc.devRef main_v42) = select (broadcastInDim S8x4096x64 ![0, 1, 2] bcast_S8x1x1_S8x4096x64_0_1_2 (parted m c (Proc.tc.devRef main_v36)))
    (shapeCast S8x4096x64 (parted m c (Proc.tc.devRef main_arg2)) shapeCasts_S1x8x4096x64_S8x4096x64) (broadcastInDim S8x4096x64 ![] bcast_S_S8x4096x64 (constant (F := Ideal) S_ .f32 0x00000000#32)) := by
  unfold zeroed
  generalize parted m c = W
  simp only [List.flatten_cons, List.flatten_nil, List.append_nil]
  after_reads_simp
  rfl

theorem zeroed_v36 (c : Dev nD) : zeroed m c (Proc.tc.devRef main_v36) = parted m c (Proc.tc.devRef main_v36) := by
  unfold zeroed
  generalize parted m c = W
  simp only [List.flatten_cons, List.flatten_nil, List.append_nil]
  after_reads_simp

theorem zeroed_v38 (c : Dev nD) : zeroed m c (Proc.tc.devRef main_v38) = parted m c (Proc.tc.devRef main_v38) := by
  unfold zeroed
  generalize parted m c = W
  simp only [List.flatten_cons, List.flatten_nil, List.append_nil]
  after_reads_simp

set_option maxHeartbeats 4000000 in
theorem v50_eq (c : Dev nD) : V m c main_v50 = truncf .bf16 (select (broadcastInDim S8x4096x128 ![0, 1, 2] bcast_S8x1x128_S8x4096x128_0_1_2
      (cmpi .eq (broadcastInDim S8x1x128 ![0, 1, 2] bcast_S1x1x128_S8x1x128_0_1_2 (zeroed m c (Proc.tc.devRef main_v38)))
        (broadcastInDim S8x1x128 ![0, 1, 2] bcast_S8x1x1_S8x1x128_0_1_2 (select (zeroed m c (Proc.tc.devRef main_v36))
          (broadcastInDim S8x1x1 ![] bcast_S_S8x1x1 (constantI S_ 32 0#32)) (broadcastInDim S8x1x1 ![] bcast_S_S8x1x1 (constantI S_ 32 127#32))))))
      (broadcastInDim S8x4096x128 ![] bcast_S_S8x4096x128 (constant (F := Ideal) S_ .f32 0x3F800000#32))
      (concatenate S8x4096x128 2 [⟨S8x4096x64, (zeroed m c (Proc.tc.devRef main_v40) : FVec Ideal S8x4096x64 .f32)⟩, ⟨S8x4096x64, (zeroed m c (Proc.tc.devRef main_v42) : FVec Ideal S8x4096x64 .f32)⟩] concatenates_S8x4096x64_S8x4096x64_S8x4096x128_d2)) bitsLt_bf16_f32 := by
  rw [V_zeroed]
  generalize zeroed m c = W
  simp only [List.flatten_cons, List.flatten_nil, List.append_nil]
  after_reads_simp
  rfl

/-- Where the lane is not the one of the ones and lies in the head's half, the value's entry. -/
theorem hv_at (c : Dev nD) (n : Fin 8) (r : Fin 4096) (x : Fin 128) (hx : mine (half n) x) :
    hv m c n r x = m ((c : Thread nD τ).loc main_arg2) (ix4 0 n r ⟨x.val % 64, by omega⟩) := by
  unfold hv
  rw [v50_eq, zeroed_v40, zeroed_v42, zeroed_v36, zeroed_v38, parted_arg2]
  have h36 := parted_v36 m c n
  have h38 := parted_v38 m c x
  have h39 := parted_v39 m c n r
  generalize parted m c = W at *
  pointwise [h36, h38, h39]
  have e128 := x.isLt
  unfold mine half at hx
  rcases Nat.mod_two_eq_zero_or_one n.val with hn | hn
  · have hx' : x.val < 64 := by simpa [hn] using hx
    have hne : (BitVec.ofNat 32 x.val == 127#32) = false := beq_eq_false_iff_ne.2 fun e => by
      have := congrArg BitVec.toNat e
      simp only [BitVec.toNat_ofNat] at this
      omega
    have e : (⟨x.val % 64, by omega⟩ : Fin 64) = ⟨x.val, hx'⟩ := Fin.ext (by show x.val % 64 = x.val; omega)
    rw [e]
    simp [hn, hx', Scalar.select, IntOp.cmpi, hne]
  · have hx' : 64 ≤ x.val := by simpa [hn] using hx
    have hne : (BitVec.ofNat 32 x.val == 0#32) = false := beq_eq_false_iff_ne.2 fun e => by
      have := congrArg BitVec.toNat e
      simp only [BitVec.toNat_ofNat] at this
      omega
    have e : (⟨x.val % 64, by omega⟩ : Fin 64) = ⟨x.val - 64, by omega⟩ := Fin.ext (by show x.val % 64 = x.val - 64; omega)
    rw [e]
    simp [hn, Nat.not_lt.2 hx', Scalar.select, IntOp.cmpi, hne]

/-- A row's number, on every lane. -/
theorem lane_at (y : FVec Ideal S1x8x4096x1 .f32) (n : Fin 8) (r : Fin 4096) (x : Fin 128) : broadcastInDim S8x4096x128 ![0, 1, 2] bcast_S8x4096x1_S8x4096x128_0_1_2
      (shapeCast S8x4096x1 y shapeCasts_S1x8x4096x1_S8x4096x1) (ix3 n r x) = y (ix4 0 n r 0) := by
  pointwise

/-- A maximum and a sum, in halvings. -/
theorem halvings_at (w u : FVec Ideal S1x8x4096 .f32) (n : Fin 8) (r : Fin 4096) : (Host.divf
            (addf (broadcastInDim S1x8x4096x1 ![0, 1, 2] bcast_S1x8x4096_S1x8x4096x1_0_1_2 w)
              (Host.log
                (broadcastInDim S1x8x4096x1 ![0, 1, 2] bcast_S1x8x4096_S1x8x4096x1_0_1_2
                  u)))
            (broadcastInDim S1x8x4096x1 ![] bcast_S_S1x8x4096x1 (Host.log (constant (F := Ideal) S_ FTy.f32 1073741824#32)))) (ix4 0 n r 0) = Ideal.div (w (ix3 0 n r) + Ideal.log (u (ix3 0 n r))) (Ideal.log (Ideal.ofBits .f32 1073741824#32)) := by
  pointwise

set_option maxHeartbeats 4000000 in
/-- The log-sum of a row's scores, in halvings, on every lane. -/
theorem hl_at (c : Dev nD) (n : Fin 8) (r : Fin 4096) (x : Fin 128) :
    hl m c n r x = Ideal.div (top (rowOf (scored m c) n r) + Ideal.log (tot (rowOf (scored m c) n r))) (Ideal.log ((2 : ℝ) : EReal)) := by
  unfold hl
  rw [V_scored]
  generalize scored m c = W
  simp only [List.flatten_cons, List.flatten_nil, List.append_nil]
  after_reads_simp
  have h := max_at (W (Proc.tc.devRef main_v12)) n r
  generalize Host.reduce (FloatOps.maximumf (F := Ideal) (φ := .f32)) (W (Proc.tc.devRef main_v12)) (constant S_ .f32 0xFF800000#32) reducesTo_S1x8x4096x4096_S1x8x4096_d3 h_S_ = w at h ⊢
  have ht : Host.reduceAdd (Host.exp (subf (W (Proc.tc.devRef main_v12)) (broadcastInDim S1x8x4096x4096 ![0, 1, 2, 3] bcast_S1x8x4096x1_S1x8x4096x4096_0_1_2_3
      (broadcastInDim S1x8x4096x1 ![0, 1, 2] bcast_S1x8x4096_S1x8x4096x1_0_1_2 w)))) (constant (F := Ideal) S_ .f32 0#32) reducesTo_S1x8x4096x4096_S1x8x4096_d3 h_S_ (ix3 0 n r) = tot (rowOf W n r) := by
    pointwise [h, ← rowOf.eq_1, ex, tot]
  revert ht
  generalize Host.reduceAdd (Host.exp (subf (W (Proc.tc.devRef main_v12)) (broadcastInDim S1x8x4096x4096 ![0, 1, 2, 3] bcast_S1x8x4096x1_S1x8x4096x4096_0_1_2_3
      (broadcastInDim S1x8x4096x1 ![0, 1, 2] bcast_S1x8x4096_S1x8x4096x1_0_1_2 w)))) (constant (F := Ideal) S_ .f32 0#32) reducesTo_S1x8x4096x4096_S1x8x4096_d3 h_S_ = u
  intro ht
  generalize tot (rowOf W n r) = T at *
  have h' : w (ix3 0 n r) = top (rowOf W n r) := h
  generalize top (rowOf W n r) = M at *
  refine (lane_at _ n r x).trans ((halvings_at w u n r).trans ?_)
  rw [h', ht, k_2]

end Cert.AttnIdeal.Value
-- ==== Proof.AttnMath.lean ====
/- The attention gradient over the real numbers: the kernel's tiles from the saved row sums, against the softmax's gradient. -/
module

public import proofs.«01_k».proof.Proof.AttnHost
public import proofs.«01_k».proof.Proof.RealNum
import all proofs.«01_k».proof.Proof.AttnFinal
import all proofs.«01_k».proof.Proof.AttnHost
import all proofs.«01_k».proof.Proof.AttnTile
import all proofs.«01_k».proof.Proof.SumPieces

@[expose] public section

set_option maxRecDepth 16384

noncomputable section

namespace Cert.AttnIdeal.Value

open Cert.SoftRow Cert.SumPieces Cert.AttnIdeal Cert.AttnIdeal.Gen Idealize.ShloMosaic Idealize.ShloMosaic.TcCoe Idealize.SL.Sem
open Cert.AttnRefIdeal.Value (row dsc dwt out)

/-- The query's chunk is not before the key's. -/
abbrev seen (r j : Fin 4096) : Prop := j.val / 64 ≤ r.val / 64

/-- The scale of the scores, the text's reciprocal root. -/
theorem div_sqrt : Ideal.div 1 (Ideal.sqrt ((96 : ℝ) : EReal)) = (((Real.sqrt 96)⁻¹ : ℝ) : EReal) := by
  rw [Ideal.sqrt_coe, if_neg (by norm_num), show (1 : EReal) = ((1 : ℝ) : EReal) from rfl, RealNum.div_coe _ _ (by positivity), one_div]

/-- A sum over 128 lanes of a product whose first factor is padded from 96 lanes. -/
theorem sum_96 (f g : Fin 96 → EReal) : ∑ x : Fin 128, (if h : x.val < 96 then f ⟨x.val, h⟩ else 0) * (if h : x.val < 96 then g ⟨x.val, h⟩ else 0) = ∑ x : Fin 96, f x * g x := by
  rw [middle _ 0 96 (by omega) (fun k hk => by rw [dif_neg (by omega), zero_mul])]
  refine Finset.sum_congr rfl fun x _ => ?_
  rw [dif_pos (by simp only; omega), dif_pos (by simp only; omega)]
  simp only [zero_add]

section Reals

variable (qr kr : S1x8x4096x96.Idx → ℝ) (vr : S1x8x4096x64.Idx → ℝ) (dr : S1x4096x512.Idx → ℝ)

/-- A score, a weight's cotangent. -/
def sR (n : Fin 8) (r j : Fin 4096) : ℝ := (∑ x : Fin 96, qr (ix4 0 n r x) * kr (ix4 0 n j x)) * (Real.sqrt 96)⁻¹
def pR (n : Fin 8) (r j : Fin 4096) : ℝ := ∑ x : Fin 64, dr (ix3 0 r ⟨n.val * 64 + x.val, by omega⟩) * vr (ix4 0 n j x)
/-- A score's cotangent from the row's weights. -/
def gR (w p : Fin 4096 → ℝ) (j : Fin 4096) : ℝ := w j * (p j - ∑ i, w i * p i)

theorem row_real (q k : FVec Ideal S1x8x4096x96 .f32) (hq : ∀ i, q i = (qr i : EReal)) (hk : ∀ i, k i = (kr i : EReal)) (n : Fin 8) (r j : Fin 4096) :
    row q k n r j = if seen r j then ((sR qr kr n r j : ℝ) : EReal) else ⊥ := by
  unfold row
  rw [AttnRefIdeal.Value.score_at, div_sqrt]
  simp only [hq, hk, ← EReal.coe_mul, RealNum.sum_coe]
  rfl

theorem dwt_real (v : FVec Ideal S1x8x4096x64 .f32) (d : FVec Ideal S1x4096x512 .f32) (hv : ∀ i, v i = (vr i : EReal)) (hd : ∀ i, d i = (dr i : EReal)) (n : Fin 8) (r j : Fin 4096) :
    dwt v d n r j = ((pR vr dr n r j : ℝ) : EReal) := by
  unfold dwt out
  simp only [hv, hd, ← EReal.coe_mul, RealNum.sum_coe]
  rfl

/-- A softmax row's gradient, by the quotient's rule and by the row sums. -/
theorem quotient_rule (e p : Fin 4096 → ℝ) (c : ℝ) (h : 0 < ∑ j, e j) (j : Fin 4096) :
    (p j / (∑ i, e i) + -∑ i, p i * (1 / ((∑ i, e i) * ∑ i, e i)) * e i) * e j * c = gR (fun i => e i / ∑ i, e i) p j * c := by
  unfold gR
  generalize (∑ i, e i) = L at *
  have h0 : L ≠ 0 := h.ne'
  have e1 : ∑ i, p i * (1 / (L * L)) * e i = L⁻¹ * ∑ i, e i / L * p i := by
    rw [Finset.mul_sum]
    refine Finset.sum_congr rfl fun i _ => ?_
    field_simp
  rw [e1]
  field_simp
  ring

end Reals

variable (m : (ℓ : Loc nD τ sig) → Buf (Elt Ideal) ℓ) (c : Dev nD)

/-- The arguments: query, key, value, the output's gradient. -/
abbrev aq : FVec Ideal S1x8x4096x96 .f32 := m ((c : Thread nD τ).loc main_arg0)
abbrev ak : FVec Ideal S1x8x4096x96 .f32 := m ((c : Thread nD τ).loc main_arg1)
abbrev av : FVec Ideal S1x8x4096x64 .f32 := m ((c : Thread nD τ).loc main_arg2)
abbrev ad : FVec Ideal S1x4096x512 .f32 := m ((c : Thread nD τ).loc main_arg3)

/-- The real weights: the softmax's, the kernel's from the saved log-sums, and the reference's score gradients in them. -/
theorem weights (qr kr : S1x8x4096x96.Idx → ℝ) (vr : S1x8x4096x64.Idx → ℝ) (dr : S1x4096x512.Idx → ℝ) (hqr : ∀ i, aq m c i = (qr i : EReal)) (hkr : ∀ i, ak m c i = (kr i : EReal))
    (hvr : ∀ i, av m c i = (vr i : EReal)) (hdr : ∀ i, ad m c i = (dr i : EReal)) : ∃ w : Fin 8 → Fin 4096 → Fin 4096 → ℝ,
    (∀ n r j, Ideal.div (ex (row (aq m c) (ak m c) n r) j) (tot (row (aq m c) (ak m c) n r)) = (w n r j : EReal))
    ∧ (∀ n r j x, (if seen r j then pE (hq m c n r) (hk m c n j) (hl m c n r x) else 0) = (w n r j : EReal))
    ∧ ∀ n r j, dsc (aq m c) (ak m c) (av m c) (ad m c) n r j = ((gR (w n r) (pR vr dr n r) j * (Real.sqrt 96)⁻¹ : ℝ) : EReal) := by
  have hs := fun n r => real_row (seen r) (sR qr kr n r) (row (aq m c) (ak m c) n r) (fun j => row_real qr kr _ _ hqr hkr n r j) r le_rfl
  choose M hM hE hT hL using hs
  refine ⟨fun n r j => exr (seen r) (sR qr kr n r) (M n r) j / ∑ i, exr (seen r) (sR qr kr n r) (M n r) i, fun n r j => ?_, fun n r j x => ?_, fun n r j => ?_⟩
  · rw [hE, hT, RealNum.div_coe _ _ (hL n r).ne']
  · have e1 : rowOf (scored m c) n r = row (aq m c) (ak m c) n r := funext fun j => row_eq m c n r j
    have e2 : hl m c n r x = (((M n r + Real.log (∑ i, exr (seen r) (sR qr kr n r) (M n r) i)) / Real.log 2 : ℝ) : EReal) := by
      rw [hl_at, e1, hM, hT, Ideal.log_coe, if_neg (not_le.2 (hL n r)), Ideal.log_coe, if_neg (by norm_num), ← EReal.coe_add, RealNum.div_coe _ _ (Real.log_pos one_lt_two).ne']
    by_cases hj : seen r j
    · rw [if_pos hj, pE, e2]
      simp only [hq_at, hk_at]
      rw [sum_96 (fun x => m ((c : Thread nD τ).loc main_arg0) (ix4 0 n r x)) (fun x => m ((c : Thread nD τ).loc main_arg1) (ix4 0 n j x))]
      simp only [hqr, hkr]
      simp only [← EReal.coe_mul, RealNum.sum_coe]
      rw [show sc2 = (((Real.log 2)⁻¹ * (Real.sqrt 96)⁻¹ : ℝ) : EReal) from rfl, ← EReal.coe_mul, ← EReal.coe_sub]
      show Ideal.exp2 _ = _
      rw [Ideal.exp2_coe, show (∑ x : Fin 96, qr (ix4 0 n r x) * kr (ix4 0 n j x)) * ((Real.log 2)⁻¹ * (Real.sqrt 96)⁻¹) = sR qr kr n r j * (Real.log 2)⁻¹ by unfold sR; ring,
        exp2_weight _ _ _ (hL n r)]
      simp only [exr, if_pos hj]
    · rw [if_neg hj]
      simp only [exr, if_neg hj, zero_div]
      rfl
  · unfold dsc
    simp only [hE, hT, dwt_real vr dr _ _ hvr hdr, div_sqrt]
    rw [← quotient_rule _ _ _ (hL n r)]
    have h0 := (hL n r).ne'
    by_cases hj : seen r j
    · rw [if_pos hj, show (1 : EReal) = ((1 : ℝ) : EReal) from rfl, ← EReal.coe_mul, RealNum.div_coe _ _ h0, RealNum.div_coe _ _ (mul_ne_zero h0 h0)]
      simp only [← EReal.coe_mul, RealNum.sum_coe, ← EReal.coe_neg, ← EReal.coe_add]
    · rw [if_neg hj, zero_mul]
      have : exr (seen r) (sR qr kr n r) (M n r) j = 0 := if_neg hj
      rw [this, mul_zero, zero_mul]
      rfl

/-! ## The head's half of the lanes -/

theorem mine_iff (n : Fin 8) (x : Fin 128) : mine (half n) x ↔ x.val / 64 = n.val % 2 := by
  have := x.isLt
  unfold mine half
  rcases Nat.mod_two_eq_zero_or_one n.val with h | h
  · simp only [h, Fin.mk_zero, if_true]; omega
  · rw [if_neg (by simp [h])]; omega

theorem hd_at (n : Fin 8) (r : Fin 4096) (x : Fin 128) : hd m c n r x = if x.val / 64 = n.val % 2 then out (ad m c) n r ⟨x.val % 64, by omega⟩ else 0 := by
  unfold hd out
  refine if_ctx_congr (mine_iff n x) (fun hx => ?_) (fun _ => rfl)
  rw [v59_at]
  exact congrArg (fun y => ad m c (ix3 0 r y)) (Fin.ext (by simp only [colOf]; omega))

/-- A sum over the lanes of the output's gradient is one over the head's columns. -/
theorem sum_half (n : Fin 8) (r : Fin 4096) (f : Fin 128 → EReal) (g : Fin 64 → EReal) (hf : ∀ x : Fin 128, x.val / 64 = n.val % 2 → f x = g ⟨x.val % 64, by omega⟩) :
    ∑ x, hd m c n r x * f x = ∑ x : Fin 64, out (ad m c) n r x * g x := by
  rw [middle _ (n.val % 2 * 64) 64 (by omega) (fun k hk => by rw [hd_at, if_neg (by omega), zero_mul])]
  refine Finset.sum_congr rfl fun x _ => ?_
  have e : (n.val % 2 * 64 + x.val) / 64 = n.val % 2 := by omega
  have e' : (⟨(n.val % 2 * 64 + x.val) % 64, by omega⟩ : Fin 64) = x := Fin.ext (by simp only; omega)
  rw [hd_at, hf _ e, if_pos e]
  simp only [e']

section Weights

variable (qr kr : S1x8x4096x96.Idx → ℝ) (vr : S1x8x4096x64.Idx → ℝ) (dr : S1x4096x512.Idx → ℝ) (hqr : ∀ i, aq m c i = (qr i : EReal)) (hkr : ∀ i, ak m c i = (kr i : EReal))
    (hvr : ∀ i, av m c i = (vr i : EReal)) (hdr : ∀ i, ad m c i = (dr i : EReal)) (w : Fin 8 → Fin 4096 → Fin 4096 → ℝ)
    (hA : ∀ n r j, Ideal.div (ex (row (aq m c) (ak m c) n r) j) (tot (row (aq m c) (ak m c) n r)) = (w n r j : EReal))
    (hB : ∀ n r j x, (if seen r j then pE (hq m c n r) (hk m c n j) (hl m c n r x) else 0) = (w n r j : EReal))

include hvr hdr in
/-- The product of the output's gradient and of a value row. -/
theorem ov_real (n : Fin 8) (r j : Fin 4096) : ∑ x, hd m c n r x * hv m c n j x = ((pR vr dr n r j : ℝ) : EReal) := by
  rw [sum_half m c n r _ (fun x => av m c (ix4 0 n j x)) fun x hx => hv_at m c n j x ((mine_iff n x).2 hx)]
  exact dwt_real vr dr _ _ hvr hdr n r j

include hvr hdr hA in
/-- The product of the output's gradient and of the output is the row's weighted sum. -/
theorem ht_real (n : Fin 8) (r : Fin 4096) (x : Fin 128) : ht m c n r x = ((∑ i, w n r i * pR vr dr n r i : ℝ) : EReal) := by
  have e1 : rowOf (scored m c) n r = row (aq m c) (ak m c) n r := funext fun j => row_eq m c n r j
  unfold ht
  rw [sum_half m c n r _ (fun x => ((∑ j, w n r j * vr (ix4 0 n j x) : ℝ) : EReal)) fun x hx => ?_]
  · unfold out
    simp only [hdr, ← EReal.coe_mul, RealNum.sum_coe]
    congr 1
    unfold pR
    simp only [Finset.mul_sum]
    rw [Finset.sum_comm]
    exact Finset.sum_congr rfl fun j _ => Finset.sum_congr rfl fun x _ => by ring
  · have e2 : colOf n x = ⟨n.val * 64 + x.val % 64, by omega⟩ := Fin.ext (by simp only [colOf]; omega)
    rw [e2]
    refine (v24_at m c n r ⟨x.val % 64, by omega⟩).trans ?_
    rw [e1, scored_arg2]
    simp only [hA, hvr]
    exact (Finset.sum_congr rfl fun i _ => (EReal.coe_mul _ _).symm).trans (RealNum.sum_coe _ _)

/-- A sum over the keys, tile by tile. -/
theorem tiles (f : Fin 4096 → EReal) : ∑ s, f s = ∑ j : Fin 4, ∑ k : Fin 1024, f (keyOf j.val k) := by
  rw [Fin.sum_univ_tiles 4 1024 (by norm_num)]
  refine Finset.sum_congr rfl fun j _ => Finset.sum_congr rfl fun k _ => congrArg f (Fin.ext ?_)
  have := j.isLt
  simp only [keyOf]
  omega

theorem keyOf_split (s : Fin 4096) : keyOf (s.val / 1024) (place s) = s := Fin.ext (by simp only [keyOf, place]; omega)

include hB in
/-- The masked weight of a tile. -/
theorem pm_real (n : Fin 8) (r : Fin 4096) (j : ℕ) (hj : j < 4) (k : Fin 1024) :
    PM j (hq m c n) (hl m c n) (fun k => hk m c n (keyOf j k)) r k = ((w n r (keyOf j k) : ℝ) : EReal) := by
  rw [← hB n r (keyOf j k) (lane k)]
  unfold PM P
  exact if_congr (by simp only [on, seen, keyOf]; omega) rfl rfl

include hvr hdr hA hB in
/-- The masked score's gradient of a tile. -/
theorem dm_real (n : Fin 8) (r : Fin 4096) (j : ℕ) (hj : j < 4) (k : Fin 1024) :
    DM j (hq m c n) (hd m c n) (hl m c n) (ht m c n) (fun k => hk m c n (keyOf j k)) (fun k => hv m c n (keyOf j k)) r k
      = ((gR (w n r) (pR vr dr n r) (keyOf j k) : ℝ) : EReal) := by
  rw [DM_eq, pm_real m c w hB n r j hj k, ov_real m c vr dr hvr hdr, ht_real m c vr dr hvr hdr w hA, ← EReal.coe_sub, ← EReal.coe_mul]
  rfl

variable (hC : ∀ n r j, dsc (aq m c) (ak m c) (av m c) (ad m c) n r j = ((gR (w n r) (pR vr dr n r) j * (Real.sqrt 96)⁻¹ : ℝ) : EReal))

theorem sc_eq : sc = (((Real.sqrt 96)⁻¹ : ℝ) : EReal) := rfl

include hkr hvr hdr hA hB hC in
/-- The query's gradient. -/
theorem rq_eq (n : Fin 8) (r : Fin 4096) (x : Fin 128) :
    rq m c n r x = AttnRefIdeal.Read.val_main_v78 (F := Ideal) (aq m c) (ak m c) (av m c) (ad m c) (ix3 n r x) := by
  rw [AttnRefIdeal.Value.wq_at]
  unfold rq dqT dqS
  simp only [dm_real m c vr dr hvr hdr w hA hB n r _ (Fin.isLt _)]
  rw [← tiles fun s => ((gR (w n r) (pR vr dr n r) s : ℝ) : EReal) * hk m c n s x]
  simp only [hk_at]
  by_cases h : x.val < 96
  · simp only [dif_pos h, hkr, hC, sc_eq, ← EReal.coe_mul, RealNum.sum_coe]
    rw [Finset.sum_mul]
    congr 1
    exact Finset.sum_congr rfl fun s _ => by ring
  · simp only [dif_neg h, mul_zero, Finset.sum_const_zero, zero_mul]

include hqr hvr hdr hA hB hC in
/-- The key's gradient. -/
theorem rk_eq (n : Fin 8) (s : Fin 4096) (x : Fin 128) :
    rk m c n s x = AttnRefIdeal.Read.val_main_v81 (F := Ideal) (aq m c) (ak m c) (av m c) (ad m c) (ix3 n s x) := by
  rw [AttnRefIdeal.Value.wk_at]
  unfold rk dkT dkS
  rw [← whole]
  simp only [dm_real m c vr dr hvr hdr w hA hB n _ _ (show s.val / 1024 < 4 by omega), keyOf_split, hq_at]
  by_cases h : x.val < 96
  · simp only [dif_pos h, hqr, hC, sc_eq, ← EReal.coe_mul, RealNum.sum_coe]
    rw [Finset.sum_mul]
    congr 1
    exact Finset.sum_congr rfl fun s _ => by ring
  · simp only [dif_neg h, zero_mul, Finset.sum_const_zero]

include hA hB in
/-- The value's gradient. -/
theorem rv_eq (n : Fin 8) (s : Fin 4096) (x : Fin 128) :
    rv m c n s x = AttnRefIdeal.Read.val_main_v82 (F := Ideal) (aq m c) (ak m c) (ad m c) (ix3 n s x) := by
  rw [AttnRefIdeal.Value.wv_at]
  unfold rv dvT dvS
  rw [← whole]
  simp only [pm_real m c w hB n _ _ (show s.val / 1024 < 4 by omega), keyOf_split, hd_at, hA]
  split_ifs
  · rfl
  · simp only [zero_mul, Finset.sum_const_zero]

end Weights

end Cert.AttnIdeal.Value
-- ==== Proof.AttnClaim.lean ====
/- The value claim of the attention's backward kernel: on finite arguments it leaves what the reference leaves. -/
module

public import proofs.«01_k».proof.Defs
public import proofs.«01_k».proof.Proof.Gen.Pre_attn_finite
public import proofs.«01_k».proof.Proof.Gen.AttnRefIdeal.Run
public import proofs.«01_k».proof.Proof.AttnRun
public import proofs.«01_k».proof.Proof.AttnMath

@[expose] public section

set_option maxRecDepth 16384

noncomputable section

namespace Cert.AttnClaim

open Idealize.ShloMosaic Idealize.ShloMosaic.TcCoe Idealize.SL.Sem

/-- What the precondition says of the arguments. -/
theorem reals (q k : FVec Ideal Pre_attn_finite.S1x8x4096x96 .f32) (v : FVec Ideal Pre_attn_finite.S1x8x4096x64 .f32) (d : FVec Ideal Pre_attn_finite.S1x4096x512 .f32)
    (h : Pre_attn_finite.fn (F := Ideal) q k v d = fun _ => 1#1) :
    (∀ i, ∃ r : ℝ, q i = (r : EReal)) ∧ (∀ i, ∃ r : ℝ, k i = (r : EReal)) ∧ (∀ i, ∃ r : ℝ, v i = (r : EReal)) ∧ ∀ i, ∃ r : ℝ, d i = (r : EReal) := by
  haveI : Subsingleton Pre_attn_finite.S_.Idx := ⟨fun a b => funext fun k => k.elim0⟩
  have h1 := congrFun h (fun k => k.elim0)
  obtain ⟨h2, hd⟩ := IntOp.andi_eq_one.1 h1
  obtain ⟨h3, hv⟩ := IntOp.andi_eq_one.1 h2
  obtain ⟨hq, hk⟩ := IntOp.andi_eq_one.1 h3
  exact ⟨RealNum.real_of_all q _ _ _ _ _ _ hq, RealNum.real_of_all k _ _ _ _ _ _ hk, RealNum.real_of_all v _ _ _ _ _ _ hv,
    RealNum.real_of_all d _ _ _ _ _ _ hd⟩

section
open Cert.AttnIdeal Cert.AttnIdeal.Value

variable (m : (ℓ : Loc AttnIdeal.nD AttnIdeal.τ AttnIdeal.sig) → Buf (Elt Ideal) ℓ)

attribute [local irreducible] rq rk rv

/-- The three gradients: the kernel's text against the reference's. -/
theorem grads_ref (hm : Pre_AttnIdeal_attn_finite m) (c : Dev AttnIdeal.nD) :
    (fun i => rq m c (i 0) (i 1) (i 2) : FVec Ideal S8x4096x128 .f32) = AttnRefIdeal.Read.val_main_v78 (F := Ideal) (aq m c) (ak m c) (av m c) (ad m c)
    ∧ (fun i => rk m c (i 0) (i 1) (i 2) : FVec Ideal S8x4096x128 .f32) = AttnRefIdeal.Read.val_main_v81 (F := Ideal) (aq m c) (ak m c) (av m c) (ad m c)
    ∧ (fun i => rv m c (i 0) (i 1) (i 2) : FVec Ideal S8x4096x128 .f32) = AttnRefIdeal.Read.val_main_v82 (F := Ideal) (aq m c) (ak m c) (ad m c) := by
  obtain ⟨hq, hk, hv, hd⟩ := reals _ _ _ _ (hm c)
  choose q hq using hq
  choose k hk using hk
  choose v hv using hv
  choose d hd using hd
  obtain ⟨w, hA, hB, hC⟩ := weights m c q k v d hq hk hv hd
  have at3 : ∀ f g : S8x4096x128.Idx → EReal, (∀ (n : Fin 8) (r : Fin 4096) (x : Fin 128), f (ix3 n r x) = g (ix3 n r x)) → f = g := fun f g h => by
    funext y
    obtain ⟨n, r, x, rfl⟩ : ∃ (n : Fin 8) (r : Fin 4096) (x : Fin 128), y = ix3 n r x := by idx_vars y; exact ⟨_, _, _, rfl⟩
    exact h n r x
  exact ⟨at3 _ _ fun n r x => rq_eq m c k v d hk hv hd w hA hB hC n r x, at3 _ _ fun n r x => rk_eq m c q v d hq hv hd w hA hB hC n r x,
    at3 _ _ fun n r x => rv_eq m c w hA hB n r x⟩

end

/-- The two programs leave equal results from memories that agree on the arguments. -/
theorem algebraic : algebraic_AttnIdeal_AttnRefIdeal_pre_attn_finite (hAttnIdeal := AttnIdeal.Gen.facts) (hAttnRefIdeal := AttnRefIdeal.Gen.facts)
    (hPre_attn_finite := Pre_attn_finite.Gen.facts) := fun m ρ m' ρ' hm hag =>
  ⟨_, _, _, (θ_run _ _ _).mono (fun _ h c => ⟨(h.1 c).1, (h.1 c).2.1, (h.1 c).2.2, h.2.1 c⟩)
      (θ_run_and (AttnIdeal.Value.run_results m ρ) (AttnIdeal.Value.frame m ρ)),
    (θ_run _ _ _).mono (fun _ h c => by
        obtain ⟨h0, h1, h2, h3⟩ := hag c
        obtain ⟨eq, ek, ev⟩ := grads_ref m hm c
        refine ⟨(h c).1.trans ?_, (h c).2.1.trans ?_, (h c).2.2.1.trans ?_, (h c).2.2.2⟩
        · rw [AttnRefIdeal.Read.val_main_v78_eq, h0, h1, h2, h3]; exact eq.symm
        · rw [AttnRefIdeal.Read.val_main_v81_eq, h0, h1, h2, h3]; exact ek.symm
        · rw [AttnRefIdeal.Read.val_main_v82_eq, h0, h1, h3]; exact ev.symm)
      (AttnRefIdeal.Value.run m' ρ')⟩

/-- The reference's frame: it owns no semaphore, so none is off zero. -/
theorem frame_ref : quiescent_AttnRefIdeal (hAttnRefIdeal := AttnRefIdeal.Gen.facts) := fun m ρ _ =>
  (θ_run _ _ _).mono (fun r h => ⟨fun c => (h c).2.2.2, sem_eq_zero_of_no_sems (by decide) _⟩) (AttnRefIdeal.Value.run m ρ)

/-- The two rounded constants stand for their named values. -/
theorem preserves : preserves_Attn_AttnIdeal :=
  ⟨IdealRules.named_const.statement AttnIdeal.κ "scale2" .f32 0x3E16C740#32 _ rfl, IdealRules.named_const.statement AttnIdeal.κ "scale" .f32 0x3DD105EC#32 _ rfl⟩

end Cert.AttnClaim
-- ==== Proof.QkvRefPoint.lean ====
/- What the reference of `qkv_bwd` leaves, entry by entry, over the extended reals. -/
module

public import proofs.«01_k».proof.Proof.RealNum
public import proofs.«01_k».proof.Proof.Gen.QkvRefIdeal.Read
public import Idealize.ShloMosaic.Lib.Pipeline.ValueKit
public import Idealize.ShloMosaic.Lib.Pointwise

@[expose] public section

set_option maxRecDepth 16384

noncomputable section

namespace Cert.QkvRefIdeal.Read

open Cert.QkvRefIdeal Cert.QkvRefIdeal.Gen Idealize.ShloMosaic Idealize.ShloMosaic.TcCoe Idealize.SL.Sem

variable (x0 : (⟨S1x4096x768, .f32⟩ : BufTy).Contents (Elt Ideal)) (x1 : (⟨S1x4096x256, .f32⟩ : BufTy).Contents (Elt Ideal))
  (x3 : (⟨S1x768, .f32⟩ : BufTy).Contents (Elt Ideal)) (x4 : (⟨S1x256, .f32⟩ : BufTy).Contents (Elt Ideal))
  (x5 : (⟨S1x768x768, .f32⟩ : BufTy).Contents (Elt Ideal)) (x6 : (⟨S1x256x1024, .f32⟩ : BufTy).Contents (Elt Ideal))
  (x7 : (⟨S1x8x4096x96, .f32⟩ : BufTy).Contents (Elt Ideal)) (x8 : (⟨S1x8x4096x96, .f32⟩ : BufTy).Contents (Elt Ideal))
  (x9 : (⟨S1x8x4096x64, .f32⟩ : BufTy).Contents (Elt Ideal))

/-- The rotary embedding's tables. -/
def cosT (s : Fin 4096) (j : Fin 16) : EReal := val_main_v16 (F := Ideal) (ix2 s j)
def sinT (s : Fin 4096) (j : Fin 16) : EReal := val_main_v17 (F := Ideal) (ix2 s j)

/-- The transposed rotary embedding of a head's row. -/
def unrope (y : Fin 96 → EReal) (s : Fin 4096) (l : Fin 96) : EReal :=
  if l.val < 64 then y l
  else if h : l.val < 80 then y l * cosT s ⟨l.val - 64, by omega⟩ + y ⟨l.val + 16, by omega⟩ * sinT s ⟨l.val - 64, by omega⟩
  else y l * cosT s ⟨l.val - 80, by omega⟩ + -(y ⟨l.val - 16, by omega⟩ * sinT s ⟨l.val - 80, by omega⟩)

theorem k_zero : Ideal.ofBits .f32 0x00000000#32 = 0 := by simp [Ideal.ofBits, Ideal.ieee]

/-- Reductions over two axes of which one or both have length one. -/
theorem reduce_heads (v : S1x4096x8x32.Idx → EReal) (i : EReal) (s : Fin 4096) (l : Fin 32) :
    Ideal.hostReduceAdd reducesTo_S1x4096x8x32_S4096x32_d0_2 v i (ix2 s l) = i + ∑ h : Fin 8, v (ix4 0 s h l) := by
  unfold Ideal.hostReduceAdd
  congr 1
  refine Finset.sum_bij' (fun b _ => b 2) (fun h _ => ix4 0 s h l) (fun _ _ => Finset.mem_univ _)
    (fun h _ => by rw [Finset.mem_filter]; exact ⟨Finset.mem_univ _, by idx_ext⟩) ?_ (fun h _ => rfl) ?_
  · intro b hb
    have hd := (Finset.mem_filter.1 hb).2
    idx_vars b
    obtain rfl : b0 = 0 := Subsingleton.elim _ _
    obtain rfl : b1 = s := Fin.ext (congrArg Fin.val (congrFun hd 0))
    obtain rfl : b3 = l := Fin.ext (congrArg Fin.val (congrFun hd 1))
    rfl
  · intro b hb
    have hd := (Finset.mem_filter.1 hb).2
    idx_vars b
    obtain rfl : b0 = 0 := Subsingleton.elim _ _
    obtain rfl : b1 = s := Fin.ext (congrArg Fin.val (congrFun hd 0))
    obtain rfl : b3 = l := Fin.ext (congrArg Fin.val (congrFun hd 1))
    rfl
theorem reduce_one (v : S1x4096x1x32.Idx → EReal) (i : EReal) (s : Fin 4096) (l : Fin 32) :
    Ideal.hostReduceAdd reducesTo_S1x4096x1x32_S4096x32_d0_2 v i (ix2 s l) = i + v (ix4 0 s 0 l) := by
  unfold Ideal.hostReduceAdd
  congr 1
  refine Finset.sum_eq_single_of_mem (ix4 0 s 0 l) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b2 = 0 := Subsingleton.elim _ _
    obtain rfl : b1 = s := Fin.ext (congrArg Fin.val (congrFun hd 0))
    obtain rfl : b3 = l := Fin.ext (congrArg Fin.val (congrFun hd 1))
    exact absurd rfl hne
theorem reduce_row (v : S1x4096x1.Idx → EReal) (i : EReal) (s : Fin 4096) :
    Ideal.hostReduceAdd reducesTo_S1x4096x1_S4096_d0_2 v i (ix1 s) = i + v (ix3 0 s 0) := by
  unfold Ideal.hostReduceAdd
  congr 1
  refine Finset.sum_eq_single_of_mem (ix3 0 s 0) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b2 = 0 := Subsingleton.elim _ _
    obtain rfl : b1 = s := Fin.ext (congrArg Fin.val (congrFun hd 0))
    exact absurd rfl hne
theorem reduce_768 (v : S1x1x768.Idx → EReal) (i : EReal) (d : Fin 768) :
    Ideal.hostReduceAdd reducesTo_S1x1x768_S768_d0_1 v i (ix1 d) = i + v (ix3 0 0 d) := by
  unfold Ideal.hostReduceAdd
  congr 1
  refine Finset.sum_eq_single_of_mem (ix3 0 0 d) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b1 = 0 := Subsingleton.elim _ _
    obtain rfl : b2 = d := Fin.ext (congrArg Fin.val (congrFun hd 0))
    exact absurd rfl hne
theorem reduce_256 (v : S1x1x256.Idx → EReal) (i : EReal) (d : Fin 256) :
    Ideal.hostReduceAdd reducesTo_S1x1x256_S256_d0_1 v i (ix1 d) = i + v (ix3 0 0 d) := by
  unfold Ideal.hostReduceAdd
  congr 1
  refine Finset.sum_eq_single_of_mem (ix3 0 0 d) ?_ ?_
  · rw [Finset.mem_filter]; exact ⟨Finset.mem_univ _, by idx_ext⟩
  · intro b hb hne
    have hd := (Finset.mem_filter.1 hb).2
    idx_vars b
    obtain rfl : b0 = 0 := Subsingleton.elim _ _
    obtain rfl : b1 = 0 := Subsingleton.elim _ _
    obtain rfl : b2 = d := Fin.ext (congrArg Fin.val (congrFun hd 0))
    exact absurd rfl hne

theorem v25_at (s : Fin 4096) : val_main_v25 (F := Ideal) x0 (ix3 0 s 0) = Ideal.div (∑ d : Fin 768, x0 (ix3 0 s d) * x0 (ix3 0 s d)) (Ideal.ofBits .f32 0x44400000#32) + Ideal.ofBits .f32 0x358637BD#32 := by
  pointwise [val_main_v25, val_main_v24, val_main_v23, val_main_v22, val_main_v21, val_main_v20, val_main_v19, val_main_cst_3, val_main_cst_4, val_main_cst_5, k_zero]
theorem v62_at (s : Fin 4096) : val_main_v62 (F := Ideal) x1 (ix3 0 s 0) = Ideal.div (∑ d : Fin 256, x1 (ix3 0 s d) * x1 (ix3 0 s d)) (Ideal.ofBits .f32 0x43800000#32) + Ideal.ofBits .f32 0x358637BD#32 := by
  pointwise [val_main_v62, val_main_v61, val_main_v60, val_main_v59, val_main_v58, val_main_v57, val_main_v56, val_main_cst_7, val_main_cst_8, val_main_cst_9, k_zero]
theorem v34_at (s : Fin 4096) (d : Fin 768) : val_main_v34 (F := Ideal) x0 x3 (ix3 0 s d)
    = x0 (ix3 0 s d) * Ideal.rsqrt (val_main_v25 (F := Ideal) x0 (ix3 0 s 0)) * x3 (ix2 0 d) := by
  pointwise [val_main_v34, val_main_v33, val_main_v32, val_main_v18, val_main_v31, val_main_v30, val_main_v26]
theorem v71_at (s : Fin 4096) (d : Fin 256) : val_main_v71 (F := Ideal) x1 x4 (ix3 0 s d)
    = x1 (ix3 0 s d) * Ideal.rsqrt (val_main_v62 (F := Ideal) x1 (ix3 0 s 0)) * x4 (ix2 0 d) := by
  pointwise [val_main_v71, val_main_v70, val_main_v69, val_main_v55, val_main_v68, val_main_v67, val_main_v63]
theorem v170_at (s : Fin 4096) (d : Fin 768) : val_main_v170 (F := Ideal) x5 x7 (ix3 0 s d)
    = ∑ j : Fin 768, val_main_v167 (F := Ideal) x7 (ix3 0 s j) * x5 (ix3 0 d j) := by
  pointwise [val_main_v170, val_main_v35]
theorem v124_at (s : Fin 4096) (d : Fin 256) : val_main_v124 (F := Ideal) x6 x8 x9 (ix3 0 s d)
    = ∑ j : Fin 1024, val_main_v121 (F := Ideal) x8 x9 (ix3 0 s j) * x6 (ix3 0 d j) := by
  pointwise [val_main_v124, val_main_v72]
theorem join_left {p q : Prop} [Decidable p] [Decidable q] (a : p → EReal) (b : q → EReal) (hp : p) (hq : ¬q) :
    (if h : p then a h else 0) + (if h : q then b h else 0) = a hp := by
  rw [dif_pos hp, dif_neg hq, add_zero]
theorem join_right {p q : Prop} [Decidable p] [Decidable q] (a : p → EReal) (b : q → EReal) (hp : ¬p) (hq : q) :
    (if h : p then a h else 0) + (if h : q then b h else 0) = b hq := by
  rw [dif_neg hp, dif_pos hq, zero_add]
theorem unrope_nope (y : Fin 96 → EReal) (s : Fin 4096) (l : Fin 96) (h : l.val < 64) : unrope y s l = y l := if_pos h
theorem unrope_lo (y : Fin 96 → EReal) (s : Fin 4096) (l : Fin 32) (h : l.val < 16) :
    y ⟨64 + (16 + l.val), by omega⟩ * sinT s ⟨l.val, h⟩ + y ⟨64 + l.val, by omega⟩ * cosT s ⟨l.val, h⟩ = unrope y s ⟨64 + l.val, by omega⟩ := by
  unfold unrope
  rw [if_neg (show ¬(64 + l.val < 64) by omega), dif_pos (show 64 + l.val < 80 by omega), add_comm]
  congr 3 <;> apply Fin.ext <;> simp only <;> omega
theorem unrope_hi (y : Fin 96 → EReal) (s : Fin 4096) (l : Fin 32) (h : 16 ≤ l.val) :
    y ⟨64 + (16 + (l.val - 16)), by omega⟩ * cosT s ⟨l.val - 16, by omega⟩ + -y ⟨64 + (l.val - 16), by omega⟩ * sinT s ⟨l.val - 16, by omega⟩
      = unrope y s ⟨64 + l.val, by omega⟩ := by
  rw [show (⟨64 + (16 + (l.val - 16)), by omega⟩ : Fin 96) = ⟨64 + l.val, by omega⟩ from Fin.ext (by simp only; omega),
    show (⟨l.val - 16, by omega⟩ : Fin 16) = ⟨64 + l.val - 80, by omega⟩ from Fin.ext (by simp only; omega),
    show (⟨64 + (l.val - 16), by omega⟩ : Fin 96) = ⟨64 + l.val - 16, by omega⟩ from Fin.ext (by simp only; omega)]
  unfold unrope
  rw [if_neg (show ¬(64 + l.val < 64) by omega), dif_neg (show ¬(64 + l.val < 80) by omega), EReal.neg_mul]
/-- The angle of the rotary tables: the position times a power of ten thousand. -/
def angle (s : Fin 4096) (k : Fin 16) : EReal :=
  FloatOps.sitofp (F := Ideal) .f32 (BitVec.ofNat 32 s.val) * Ideal.pow (Ideal.ofBits .f32 1176256512#32)
    (Ideal.div (-(Ideal.ofBits .f32 1073741824#32 * FloatOps.sitofp (F := Ideal) .f32 (BitVec.ofNat 32 k.val))) (Ideal.ofBits .f32 1107296256#32))
theorem cos_eq (s : Fin 4096) (k : Fin 16) : cosT s k = Ideal.cos (angle s k) := by
  unfold cosT angle
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, k_zero]
theorem sin_eq (s : Fin 4096) (k : Fin 16) : sinT s k = Ideal.sin (angle s k) := by
  unfold sinT angle
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, k_zero]
theorem k_2 : Ideal.ofBits .f32 1073741824#32 = ((2 : ℝ) : EReal) := by simp [Ideal.ofBits, Ideal.ieee, -EReal.coe_mul]; norm_num
theorem k_32 : Ideal.ofBits .f32 1107296256#32 = ((32 : ℝ) : EReal) := by simp [Ideal.ofBits, Ideal.ieee, -EReal.coe_mul]; norm_num
theorem k_1e4 : Ideal.ofBits .f32 1176256512#32 = ((10000 : ℝ) : EReal) := by simp [Ideal.ofBits, Ideal.ieee, -EReal.coe_mul]; norm_num
theorem k_768 : Ideal.ofBits .f32 0x44400000#32 = ((768 : ℝ) : EReal) := by simp [Ideal.ofBits, Ideal.ieee, -EReal.coe_mul]; norm_num
theorem k_256 : Ideal.ofBits .f32 0x43800000#32 = ((256 : ℝ) : EReal) := by simp [Ideal.ofBits, Ideal.ieee, -EReal.coe_mul]; norm_num
theorem k_mhalf : Ideal.ofBits .f32 0xBF000000#32 = ((-(1 / 2) : ℝ) : EReal) := by simp [Ideal.ofBits, Ideal.ieee, -EReal.coe_mul]; norm_num
theorem k_eps : ∃ e : ℝ, 0 < e ∧ Ideal.ofBits .f32 0x358637BD#32 = ((e : ℝ) : EReal) := by
  refine ⟨_, ?_, by simp [Ideal.ofBits, Ideal.ieee, -EReal.coe_mul]; rfl⟩
  norm_num
theorem angle_real (s : Fin 4096) (k : Fin 16) : ∃ a : ℝ, angle s k = (a : EReal) := by
  unfold angle
  rw [k_2, k_32, k_1e4]
  show ∃ a : ℝ, (((BitVec.ofNat 32 s.val).toInt : ℝ) : EReal) * Ideal.pow _ (Ideal.div (-(_ * (((BitVec.ofNat 32 k.val).toInt : ℝ) : EReal))) _) = _
  rw [← EReal.coe_mul, ← EReal.coe_neg, RealNum.div_coe _ _ (by norm_num)]
  exact ⟨_, (EReal.coe_mul _ _).symm⟩
theorem cos_real (s : Fin 4096) (k : Fin 16) : ∃ a : ℝ, cosT s k = (a : EReal) := by
  obtain ⟨a, h⟩ := angle_real s k
  exact ⟨_, by rw [cos_eq, h]; rfl⟩
theorem sin_real (s : Fin 4096) (k : Fin 16) : ∃ a : ℝ, sinT s k = (a : EReal) := by
  obtain ⟨a, h⟩ := angle_real s k
  exact ⟨_, by rw [sin_eq, h]; rfl⟩
/-- On real entries the transposed rotation is real. -/
theorem unrope_real (y : Fin 96 → EReal) (hy : ∀ l, ∃ a : ℝ, y l = (a : EReal)) (s : Fin 4096) (l : Fin 96) : ∃ a : ℝ, unrope y s l = (a : EReal) := by
  choose r hr using hy
  choose co hco using cos_real s
  choose si hsi using sin_real s
  unfold unrope
  split
  · exact ⟨_, hr l⟩
  · split
    · exact ⟨_, by rw [hr, hr, hco, hsi, ← EReal.coe_mul, ← EReal.coe_mul, ← EReal.coe_add]⟩
    · exact ⟨_, by rw [hr, hr, hco, hsi, ← EReal.coe_mul, ← EReal.coe_mul, ← EReal.coe_neg, ← EReal.coe_add]⟩
theorem v163_at (s : Fin 4096) (h : Fin 8) (l : Fin 32) : val_main_v163 (F := Ideal) x7 (ix4 0 s h l)
    = unrope (fun e => x7 (ix4 0 h s e)) s ⟨64 + l.val, by omega⟩ := by
  pointwise [val_main_v163, val_main_v162, val_main_v161, val_main_v160, val_main_v159, val_main_v158, val_main_v157, val_main_v156, val_main_v155, val_main_v154, val_main_v153, val_main_v152, val_main_v151, val_main_v150, val_main_v149, val_main_v148, val_main_v101, val_main_v99, val_main_v42, val_main_v43, val_main_cst_22, val_main_cst_23, k_zero]
  by_cases h' : l.val < 16
  · exact (join_right _ _ (by omega) h').trans (unrope_lo (fun e => x7 (ix4 0 h s e)) s l h')
  · exact (join_left _ _ (by omega) h').trans (unrope_hi (fun e => x7 (ix4 0 h s e)) s l (by omega))
theorem v166_at (s : Fin 4096) (h : Fin 8) (e : Fin 96) : val_main_v166 (F := Ideal) x7 (ix4 0 s h e) = unrope (fun e => x7 (ix4 0 h s e)) s e := by
  pointwise [val_main_v166, val_main_v165, val_main_v164, val_main_v100, val_main_v99, val_main_cst_24, val_main_cst_25, k_zero]
  by_cases he : e.val < 64
  · refine Eq.trans ?_ (unrope_nope _ s e he).symm
    exact join_right _ _ (by omega) (by omega)
  · refine (join_left _ _ (by omega) (by omega)).trans ((v163_at x7 s _ _).trans ?_)
    congr 1
    apply Fin.ext
    simp only
    omega
theorem v167_at (s : Fin 4096) (j : Fin 768) : val_main_v167 (F := Ideal) x7 (ix3 0 s j)
    = unrope (fun e => x7 (ix4 0 ⟨j.val / 96, by omega⟩ s e)) s ⟨j.val % 96, by omega⟩ := by
  refine Eq.trans ?_ (v166_at x7 s ⟨j.val / 96, by omega⟩ ⟨j.val % 96, by omega⟩)
  pointwise [val_main_v167]
theorem v120_at (s : Fin 4096) (h : Fin 8) (e : Fin 128) : val_main_v120 (F := Ideal) x8 x9 (ix4 0 s h e)
    = if he : e.val < 64 then x8 (ix4 0 h s ⟨e.val, by omega⟩) else x9 (ix4 0 h s ⟨e.val - 64, by omega⟩) := by
  pointwise [val_main_v120, val_main_v119, val_main_v118, val_main_v97, val_main_v96, val_main_v95, val_main_cst_15, val_main_cst_16, k_zero]
  by_cases he : e.val < 64
  · refine Eq.trans ?_ (dif_pos he).symm
    exact join_right _ _ (by omega) (by omega)
  · refine Eq.trans ?_ (dif_neg he).symm
    exact join_left _ _ (by omega) (by omega)
theorem v121_at (s : Fin 4096) (j : Fin 1024) : val_main_v121 (F := Ideal) x8 x9 (ix3 0 s j)
    = if h : j.val % 128 < 64 then x8 (ix4 0 ⟨j.val / 128, by omega⟩ s ⟨j.val % 128, by omega⟩) else x9 (ix4 0 ⟨j.val / 128, by omega⟩ s ⟨j.val % 128 - 64, by omega⟩) := by
  refine Eq.trans ?_ (v120_at x8 x9 s ⟨j.val / 128, by omega⟩ ⟨j.val % 128, by omega⟩)
  pointwise [val_main_v121]
theorem v207_at (d j : Fin 768) : val_main_v207 (F := Ideal) x0 x3 x7 (ix2 d j)
    = ∑ s : Fin 4096, val_main_v167 (F := Ideal) x7 (ix3 0 s j) * val_main_v34 (F := Ideal) x0 x3 (ix3 0 s d) := by
  pointwise [val_main_v207, val_main_v206, val_main_v171, val_main_v169, val_main_v168]
  exact Fin.sum_univ_one _
theorem v208_at (t : Fin 4) (d x : Fin 256) : val_main_v208 (F := Ideal) x1 x4 x8 x9 (ix3 t d x)
    = ∑ s : Fin 4096, val_main_v121 (F := Ideal) x8 x9 (ix3 0 s ⟨t.val * 256 + x.val, by omega⟩) * val_main_v71 (F := Ideal) x1 x4 (ix3 0 s d) := by
  pointwise [val_main_v208, val_main_v200, val_main_v199, val_main_v198, val_main_v125, val_main_v123, val_main_v122]
  exact Fin.sum_univ_one _
theorem v115_at (s : Fin 4096) (l : Fin 32) : val_main_v115 (F := Ideal) x8 (ix4 0 s 0 l)
    = unrope (fun e => ∑ h : Fin 8, x8 (ix4 0 h s e)) s ⟨64 + l.val, by omega⟩ := by
  pointwise [val_main_v115, val_main_v114, val_main_v113, val_main_v112, val_main_v111, val_main_v110, val_main_v109, val_main_v108, val_main_v107, val_main_v106, val_main_v105, val_main_v104, val_main_v103, val_main_v102, val_main_v98, val_main_v96, val_main_v80, val_main_v81, val_main_cst_11, val_main_cst_12, val_main_cst_13, reduce_heads, k_zero]
  by_cases h' : l.val < 16
  · exact (join_right _ _ (by omega) h').trans (unrope_lo (fun e => ∑ h : Fin 8, x8 (ix4 0 h s e)) s l h')
  · exact (join_left _ _ (by omega) h').trans (unrope_hi (fun e => ∑ h : Fin 8, x8 (ix4 0 h s e)) s l (by omega))
theorem v205_at (s : Fin 4096) (l : Fin 128) : val_main_v205 (F := Ideal) x8 (ix2 s l)
    = if h : 64 ≤ l.val ∧ l.val < 96 then val_main_v115 (F := Ideal) x8 (ix4 0 s 0 ⟨l.val - 64, by omega⟩) else (0 : EReal) := by
  pointwise [val_main_v205, val_main_v197, val_main_v196, val_main_v195, val_main_v194, val_main_v117, val_main_v116, reduce_one, val_main_cst_14, val_main_cst_31, val_main_cst_32, k_zero]
  by_cases h : l.val < 64
  · rw [dif_pos h, dif_neg (by omega)]
  · by_cases h' : l.val < 96
    · rw [dif_neg h, dif_pos (by omega), dif_pos (by omega)]
    · rw [dif_neg h, dif_neg (by omega), dif_neg (by omega)]
theorem v193_at (d : Fin 768) : val_main_v193 (F := Ideal) x0 x5 x7 (ix2 0 d)
    = ∑ s : Fin 4096, x0 (ix3 0 s d) * Ideal.rsqrt (val_main_v25 (F := Ideal) x0 (ix3 0 s 0)) * val_main_v170 (F := Ideal) x5 x7 (ix3 0 s d) := by
  pointwise [val_main_v193, val_main_v177, val_main_v174, val_main_v173, val_main_v172, val_main_v31, val_main_v30, val_main_v26, val_main_cst_26, val_main_cst_27, reduce_768, k_zero]
theorem v147_at (d : Fin 256) : val_main_v147 (F := Ideal) x1 x6 x8 x9 (ix2 0 d)
    = ∑ s : Fin 4096, x1 (ix3 0 s d) * Ideal.rsqrt (val_main_v62 (F := Ideal) x1 (ix3 0 s 0)) * val_main_v124 (F := Ideal) x6 x8 x9 (ix3 0 s d) := by
  pointwise [val_main_v147, val_main_v131, val_main_v128, val_main_v127, val_main_v126, val_main_v68, val_main_v67, val_main_v63, val_main_cst_17, val_main_cst_18, reduce_256, k_zero]

theorem v29_at (s : Fin 4096) : val_main_v29 (F := Ideal) x0 (ix3 0 s 0) = Ideal.ofBits .f32 0xBF000000#32 * Ideal.div (Ideal.rsqrt (val_main_v25 (F := Ideal) x0 (ix3 0 s 0))) (val_main_v25 (F := Ideal) x0 (ix3 0 s 0)) := by
  pointwise [val_main_v29, val_main_v28, val_main_v27, val_main_v26, val_main_cst_6]
theorem v66_at (s : Fin 4096) : val_main_v66 (F := Ideal) x1 (ix3 0 s 0) = Ideal.ofBits .f32 0xBF000000#32 * Ideal.div (Ideal.rsqrt (val_main_v62 (F := Ideal) x1 (ix3 0 s 0))) (val_main_v62 (F := Ideal) x1 (ix3 0 s 0)) := by
  pointwise [val_main_v66, val_main_v65, val_main_v64, val_main_v63, val_main_cst_10]
theorem v185_at (s : Fin 4096) : val_main_v185 (F := Ideal) x0 x3 x5 x7 (ix3 0 s 0) = Ideal.div ((∑ d : Fin 768, x0 (ix3 0 s d) * (val_main_v170 (F := Ideal) x5 x7 (ix3 0 s d) * x3 (ix2 0 d)))
    * val_main_v29 (F := Ideal) x0 (ix3 0 s 0)) (Ideal.ofBits .f32 0x44400000#32) := by
  pointwise [val_main_v185, val_main_v184, val_main_v183, val_main_v180, val_main_v179, val_main_v178, val_main_v176, val_main_v175, val_main_v32, val_main_v18, val_main_cst_28, val_main_cst_29, k_zero]
theorem v139_at (s : Fin 4096) : val_main_v139 (F := Ideal) x1 x4 x6 x8 x9 (ix3 0 s 0) = Ideal.div ((∑ d : Fin 256, x1 (ix3 0 s d) * (val_main_v124 (F := Ideal) x6 x8 x9 (ix3 0 s d) * x4 (ix2 0 d)))
    * val_main_v66 (F := Ideal) x1 (ix3 0 s 0)) (Ideal.ofBits .f32 0x43800000#32) := by
  pointwise [val_main_v139, val_main_v138, val_main_v137, val_main_v134, val_main_v133, val_main_v132, val_main_v130, val_main_v129, val_main_v69, val_main_v55, val_main_cst_19, val_main_cst_20, k_zero]
theorem v202_at (s : Fin 4096) (d : Fin 768) : val_main_v202 (F := Ideal) x0 x3 x5 x7 (ix2 s d)
    = val_main_v170 (F := Ideal) x5 x7 (ix3 0 s d) * x3 (ix2 0 d) * Ideal.rsqrt (val_main_v25 (F := Ideal) x0 (ix3 0 s 0))
      + x0 (ix3 0 s d) * val_main_v185 (F := Ideal) x0 x3 x5 x7 (ix3 0 s 0) + val_main_v185 (F := Ideal) x0 x3 x5 x7 (ix3 0 s 0) * x0 (ix3 0 s d) := by
  pointwise [val_main_v202, val_main_v201, val_main_v192, val_main_v191, val_main_v190, val_main_v189, val_main_v188, val_main_v187, val_main_v186, val_main_v182, val_main_v181, val_main_v176, val_main_v175, val_main_v32, val_main_v18, val_main_v26, reduce_row, val_main_cst_30, k_zero]
theorem v204_at (s : Fin 4096) (d : Fin 256) : val_main_v204 (F := Ideal) x1 x4 x6 x8 x9 (ix2 s d)
    = val_main_v124 (F := Ideal) x6 x8 x9 (ix3 0 s d) * x4 (ix2 0 d) * Ideal.rsqrt (val_main_v62 (F := Ideal) x1 (ix3 0 s 0))
      + x1 (ix3 0 s d) * val_main_v139 (F := Ideal) x1 x4 x6 x8 x9 (ix3 0 s 0) + val_main_v139 (F := Ideal) x1 x4 x6 x8 x9 (ix3 0 s 0) * x1 (ix3 0 s d) := by
  pointwise [val_main_v204, val_main_v203, val_main_v146, val_main_v145, val_main_v144, val_main_v143, val_main_v142, val_main_v141, val_main_v140, val_main_v136, val_main_v135, val_main_v130, val_main_v129, val_main_v69, val_main_v55, val_main_v63, reduce_row, val_main_cst_21, k_zero]

end Cert.QkvRefIdeal.Read
-- ==== Proof.QkvHost.lean ====
/- What the qkv backward kernel's host code hands to the region, read at coordinates over the extended reals. -/
module

public import proofs.«01_k».proof.Proof.QkvRefPoint
public import proofs.«01_k».proof.Proof.Gen.QkvIdeal.Value
public import Idealize.ShloMosaic.Lib.Pipeline.ValueKit
public import Idealize.ShloMosaic.Lib.Pointwise
public import Idealize.ShloMosaic.Lib.StableHlo.RunRead

@[expose] public section

set_option maxRecDepth 16384

noncomputable section

namespace Cert.QkvIdeal.Value

open Cert.QkvIdeal Cert.QkvIdeal.Gen Idealize.ShloMosaic Idealize.ShloMosaic.TcCoe Idealize.SL.Sem
open Cert.QkvRefIdeal.Read (cosT sinT cos_eq sin_eq angle)

variable (m : (ℓ : Loc nD τ sig) → Buf (Elt Ideal) ℓ)

/-- The arguments' entries. -/
def aCq (c : Dev nD) (s : Fin 4096) (d : Fin 768) : EReal := m ((c : Thread nD τ).loc main_arg0) (ix3 0 s d)
def aCkv (c : Dev nD) (s : Fin 4096) (d : Fin 256) : EReal := m ((c : Thread nD τ).loc main_arg1) (ix3 0 s d)
def aWq (c : Dev nD) (d j : Fin 768) : EReal := m ((c : Thread nD τ).loc main_arg5) (ix3 0 d j)
def aWkv (c : Dev nD) (d : Fin 256) (j : Fin 1024) : EReal := m ((c : Thread nD τ).loc main_arg6) (ix3 0 d j)
def aDq (c : Dev nD) (h : Fin 8) (s : Fin 4096) (l : Fin 96) : EReal := m ((c : Thread nD τ).loc main_arg7) (ix4 0 h s l)
def aDk (c : Dev nD) (h : Fin 8) (s : Fin 4096) (l : Fin 96) : EReal := m ((c : Thread nD τ).loc main_arg8) (ix4 0 h s l)
def aDv (c : Dev nD) (h : Fin 8) (s : Fin 4096) (l : Fin 64) : EReal := m ((c : Thread nD τ).loc main_arg9) (ix4 0 h s l)

/-- The row of the scale vectors. -/
def aGq (c : Dev nD) (d : Fin 768) : EReal := m ((c : Thread nD τ).loc main_arg3) (ix2 0 d)
def aGkv (c : Dev nD) (d : Fin 256) : EReal := m ((c : Thread nD τ).loc main_arg4) (ix2 0 d)

theorem zero_word : FloatOps.sitofp (F := Ideal) .bf16 0#32 = (0 : EReal) := by
  show (((0#32 : BitVec 32).toInt : ℝ) : EReal) = 0
  simp

theorem odd_head (h : Fin 8) (a b : EReal) :
    Scalar.select (IntOp.cmpi .eq (IntOp.andi (BitVec.ofNat 32 h.val) 1#32) 1#32) a b = if h.val % 2 = 1 then a else b := by
  rw [show IntOp.cmpi .eq (IntOp.andi (BitVec.ofNat 32 h.val) 1#32) 1#32 = if h.val % 2 = 1 then 1#1 else 0#1 by revert h; decide +kernel]
  split <;> rfl

theorem own_half (x : Fin 256) : FloatOps.uitofp (F := Ideal) .bf16
    (IntOp.cmpi .eq (IntOp.addi (BitVec.ofNat 32 (x.val / 128)) 0#32) (BitVec.ofNat 32 (x.val / 64 % 2)))
      = if x.val % 128 / 64 = x.val / 128 then (1 : EReal) else 0 := by
  rw [show IntOp.cmpi .eq (IntOp.addi (BitVec.ofNat 32 (x.val / 128)) 0#32) (BitVec.ofNat 32 (x.val / 64 % 2))
    = if x.val % 128 / 64 = x.val / 128 then 1#1 else 0#1 by revert x; decide +kernel]
  split
  · show (((1#1 : BitVec 1).toNat : ℝ) : EReal) = 1
    simp
  · show (((0#1 : BitVec 1).toNat : ℝ) : EReal) = 0
    simp

set_option maxHeartbeats 1000000 in
theorem v6_q (c : Dev nD) (s : Fin 4096) (d : Fin 768) :
    V m c main_v6 (ix2 s ⟨4608 + d.val, by omega⟩) = aCq m c s d := by
  unfold V
  simp only [List.flatten_cons, List.flatten_nil, List.append_nil]
  after_reads_simp
  pointwise
  after_reads_simp
  pointwise
  rfl
set_option maxHeartbeats 1000000 in
theorem v6_kv (c : Dev nD) (s : Fin 4096) (d : Fin 256) :
    V m c main_v6 (ix2 s ⟨5376 + d.val, by omega⟩) = aCkv m c s d := by
  unfold V
  simp only [List.flatten_cons, List.flatten_nil, List.append_nil]
  after_reads_simp
  pointwise
  split
  · omega
  · split
    · omega
    · split
      · after_reads_simp
        pointwise
        show aCkv m c s ⟨5376 + d.val - 4608 - 768, by omega⟩ = _
        exact congrArg _ (Fin.ext (by simp only; omega))
      · omega
set_option maxHeartbeats 1000000 in
theorem v78_at (c : Dev nD) (h : Fin 8) (s : Fin 4096) (x : Fin 128) :
    V m c main_v78 (ix3 h s x) = if hx : x.val < 96 then aDq m c h s ⟨x.val, hx⟩ else (0 : EReal) := by
  unfold V
  simp only [List.flatten_cons, List.flatten_nil, List.append_nil]
  after_reads_simp
  pointwise
  rfl
set_option maxHeartbeats 1000000 in
theorem v81_at (c : Dev nD) (h : Fin 8) (s : Fin 4096) (x : Fin 128) :
    V m c main_v81 (ix3 h s x) = if hx : x.val < 96 then aDk m c h s ⟨x.val, hx⟩ else (0 : EReal) := by
  unfold V
  simp only [List.flatten_cons, List.flatten_nil, List.append_nil]
  after_reads_simp
  pointwise
  rfl
set_option maxHeartbeats 1000000 in
theorem v75_at (c : Dev nD) (h : Fin 8) (s : Fin 4096) (x : Fin 128) (hx : x.val / 64 = h.val % 2) :
    V m c main_v75 (ix3 h s x) = aDv m c h s ⟨x.val % 64, by omega⟩ := by
  unfold V
  simp only [List.flatten_cons, List.flatten_nil, List.append_nil]
  after_reads_simp
  pointwise
  simp only [StableHlo.TRef.toBuf, StableHlo.TRef.ofBuf, cast_eq]
  pointwise
  have hp := odd_head h
  generalize IntOp.cmpi .eq (IntOp.andi (BitVec.ofNat 32 h.val) 1#32) 1#32 = b at hp
  by_cases hx' : x.val < 64
  · refine (dif_pos hx').trans ((hp _ _).trans ((if_neg (by omega)).trans ?_))
    show aDv m c h s ⟨x.val, by omega⟩ = _
    exact congrArg _ (Fin.ext (by simp only; omega))
  · refine (dif_neg hx').trans ((hp _ _).trans ((if_pos (by omega)).trans ?_))
    show aDv m c h s ⟨x.val - 64, by omega⟩ = _
    exact congrArg _ (Fin.ext (by simp only; omega))
set_option maxHeartbeats 1000000 in
theorem v41_at (c : Dev nD) (d : Fin 768) (j : Fin 1024) :
    V m c main_v41 (ix2 d j) = if hx : j.val % 128 < 96 then aWq m c d ⟨j.val / 128 * 96 + j.val % 128, by omega⟩ else (0 : EReal) := by
  unfold V
  simp only [List.flatten_cons, List.flatten_nil, List.append_nil]
  after_reads_simp
  pointwise
  simp only [StableHlo.TRef.toBuf, StableHlo.TRef.ofBuf, cast_eq]
  pointwise
  by_cases hx : j.val % 128 < 96
  · refine Eq.trans (dif_pos ⟨by omega, hx⟩) (Eq.trans ?_ (dif_pos hx).symm)
    rfl
  · refine Eq.trans ?_ (dif_neg hx).symm
    exact Eq.trans (dif_neg fun h => hx h.2) zero_word
set_option maxHeartbeats 1000000 in
theorem v62_at (c : Dev nD) (t : Fin 4) (d x : Fin 256) :
    V m c main_v62 (ix3 t d x) = if hx : x.val % 128 < 64 then aWkv m c d ⟨t.val * 256 + x.val, by omega⟩ else (0 : EReal) := by
  unfold V
  simp only [List.flatten_cons, List.flatten_nil, List.append_nil]
  after_reads_simp
  pointwise
  simp only [StableHlo.TRef.toBuf, StableHlo.TRef.ofBuf, cast_eq]
  pointwise
  by_cases hx : x.val % 128 < 64
  · refine Eq.trans (dif_pos ⟨by omega, hx⟩) (Eq.trans ?_ (dif_pos hx).symm)
    show aWkv m c d ⟨(t.val * 2 + x.val / 128) * 128 + x.val % 128, by omega⟩ = _
    exact congrArg _ (Fin.ext (by simp only; omega))
  · refine Eq.trans ?_ (dif_neg hx).symm
    exact Eq.trans (dif_neg fun h => hx h.2) zero_word
set_option maxHeartbeats 1000000 in
theorem v64_at (c : Dev nD) (t : Fin 4) (d x : Fin 256) :
    V m c main_v64 (ix3 t d x) = if hx : x.val % 128 / 64 = x.val / 128 then aWkv m c d ⟨t.val * 256 + x.val / 128 * 128 + 64 + x.val % 64, by omega⟩ else (0 : EReal) := by
  unfold V
  simp only [List.flatten_cons, List.flatten_nil, List.append_nil]
  after_reads_simp
  pointwise
  have hw : m (c, Proc.tc.devRef main_arg6) (ix3 0 d ⟨(t.val * 2 + x.val / 128) * 128 + (64 + x.val % 64), by omega⟩)
      = aWkv m c d ⟨t.val * 256 + x.val / 128 * 128 + 64 + x.val % 64, by omega⟩ := by
    show aWkv m c d ⟨(t.val * 2 + x.val / 128) * 128 + (64 + x.val % 64), by omega⟩ = _
    exact congrArg _ (Fin.ext (by simp only; omega))
  generalize m (c, Proc.tc.devRef main_arg6) (ix3 0 d ⟨(t.val * 2 + x.val / 128) * 128 + (64 + x.val % 64), _⟩) = w at hw ⊢
  rw [own_half]
  by_cases hx : x.val % 128 / 64 = x.val / 128
  · rw [if_pos hx, dif_pos hx, mul_one]
    exact hw
  · rw [if_neg hx, dif_neg hx, mul_zero]
set_option maxHeartbeats 1000000 in
theorem v27_at (c : Dev nD) (s : Fin 4096) (x : Fin 128) :
    V m c main_v27 (ix2 s x) = if hx : x.val < 64 then 1 else if hx : x.val < 80 then cosT s ⟨x.val - 64, by omega⟩ else if hx : x.val < 96 then cosT s ⟨x.val - 80, by omega⟩ else (1 : EReal) := by
  unfold V
  simp only [List.flatten_cons, List.flatten_nil, List.append_nil]
  after_reads_simp
  pointwise
  split
  · rename_i h1
    after_reads_simp
    pointwise
  · rename_i h1
    split
    · after_reads_simp
      pointwise
      rw [dif_pos (by omega), cos_eq, angle]
    · split
      · after_reads_simp
        pointwise
        rw [dif_neg (by omega), dif_pos (by omega), cos_eq, angle]
        simp only [Nat.sub_sub]
      · after_reads_simp
        pointwise
        rw [dif_neg (by omega), dif_neg (by omega)]
set_option maxHeartbeats 1000000 in
theorem v32_at (c : Dev nD) (s : Fin 4096) (x : Fin 128) :
    V m c main_v32 (ix2 s x) = if hx : 64 ≤ x.val ∧ x.val < 80 then -sinT s ⟨x.val - 64, by omega⟩ else (0 : EReal) := by
  unfold V
  simp only [List.flatten_cons, List.flatten_nil, List.append_nil]
  after_reads_simp
  pointwise
  split
  · rename_i h1
    after_reads_simp
    pointwise
    rw [dif_neg (by omega)]
  · rename_i h1
    split
    · after_reads_simp
      pointwise
      rw [dif_pos (by omega), sin_eq, angle]
    · split
      · after_reads_simp
        pointwise
        rw [dif_neg (by omega)]
      · after_reads_simp
        pointwise
        rw [dif_neg (by omega)]
set_option maxHeartbeats 1000000 in
theorem v36_at (c : Dev nD) (s : Fin 4096) (x : Fin 128) :
    V m c main_v36 (ix2 s x) = if hx : 80 ≤ x.val ∧ x.val < 96 then sinT s ⟨x.val - 80, by omega⟩ else (0 : EReal) := by
  unfold V
  simp only [List.flatten_cons, List.flatten_nil, List.append_nil]
  after_reads_simp
  pointwise
  split
  · rename_i h1
    after_reads_simp
    pointwise
    rw [dif_neg (by omega)]
  · rename_i h1
    split
    · after_reads_simp
      pointwise
      rw [dif_neg (by omega)]
    · split
      · after_reads_simp
        pointwise
        rw [dif_pos (by omega), sin_eq, angle]
        simp only [Nat.sub_sub]
      · after_reads_simp
        pointwise
        rw [dif_neg (by omega)]

end Cert.QkvIdeal.Value
-- ==== Proof.QkvBlock.lean ====
/- The blocks that one grid point of `qkv_bwd` reads, at coordinates. -/
module

public import proofs.«01_k».proof.Proof.QkvHost
import all proofs.«01_k».proof.Proof.QkvHost

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- The block index of every window at a grid point. -/
theorem idx_val : ∀ t : Fin cfg0.N, win0_0.index t = ![t.val, 6] ∧ win0_1.index t = ![t.val, 21] ∧ win0_2.index t = ![0, t.val, 0]
    ∧ win0_3.index t = ![0, t.val, 0] ∧ win0_4.index t = ![0, t.val, 0] ∧ win0_5.index t = ![0, 0] ∧ win0_6.index t = ![0, 0]
    ∧ win0_7.index t = ![0, 0] ∧ win0_8.index t = ![0, 0, 0] ∧ win0_9.index t = ![0, 0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

/-- The row of the arrays that row `i` of point `t`'s blocks is. -/
def rowOf (t : Fin cfg0.N) (i : Fin 512) : Fin 4096 := ⟨t.val * 512 + i.val, by have := lt_of_lt_of_eq t.isLt N_0; omega⟩

theorem x0_at (c : Dev nD) (t : Fin cfg0.N) (i : Fin 512) (d : Fin 768) : X0_0 m c t (ix2 i d) = aCq m c (rowOf t i) d := by
  refine Eq.trans ?_ (v6_q m c (rowOf t i) d)
  unfold X0_0 Pipeline.Window.fill
  rw [dif_pos (moved0_0 t _)]
  blk_ext [iblk, rowOf, idx_val t]
theorem x1_at (c : Dev nD) (t : Fin cfg0.N) (i : Fin 512) (d : Fin 256) : X0_1 m c t (ix2 i d) = aCkv m c (rowOf t i) d := by
  refine Eq.trans ?_ (v6_kv m c (rowOf t i) d)
  unfold X0_1 Pipeline.Window.fill
  rw [dif_pos (moved0_1 t _)]
  blk_ext [iblk, rowOf, idx_val t]
theorem iblk2 (c : Dev nD) (t : Fin cfg0.N) (h : Fin 8) (i : Fin 512) (l : Fin 128) :
    iblk m c 2 t (ix3 h i l) = V m c main_v78 (ix3 h (rowOf t i) l) := by
  blk_ext [iblk, rowOf, idx_val t]
theorem iblk3 (c : Dev nD) (t : Fin cfg0.N) (h : Fin 8) (i : Fin 512) (l : Fin 128) :
    iblk m c 3 t (ix3 h i l) = V m c main_v81 (ix3 h (rowOf t i) l) := by
  blk_ext [iblk, rowOf, idx_val t]
theorem iblk4 (c : Dev nD) (t : Fin cfg0.N) (h : Fin 8) (i : Fin 512) (l : Fin 128) :
    iblk m c 4 t (ix3 h i l) = V m c main_v75 (ix3 h (rowOf t i) l) := by
  blk_ext [iblk, rowOf, idx_val t]
theorem iblk5 (c : Dev nD) (t : Fin cfg0.N) (d : Fin 768) : iblk m c 5 t (ix2 0 d) = aGq m c d := by
  blk_ext [iblk, V, aGq, idx_val t]
theorem iblk6 (c : Dev nD) (t : Fin cfg0.N) (d : Fin 256) : iblk m c 6 t (ix2 0 d) = aGkv m c d := by
  blk_ext [iblk, V, aGkv, idx_val t]
theorem iblk7 (c : Dev nD) (t : Fin cfg0.N) (d : Fin 768) (j : Fin 1024) : iblk m c 7 t (ix2 d j) = V m c main_v41 (ix2 d j) := by
  blk_ext [iblk, rowOf, idx_val t]
theorem iblk8 (c : Dev nD) (t : Fin cfg0.N) (p : Fin 4) (d x : Fin 256) : iblk m c 8 t (ix3 p d x) = V m c main_v62 (ix3 p d x) := by
  blk_ext [iblk, rowOf, idx_val t]
theorem iblk9 (c : Dev nD) (t : Fin cfg0.N) (p : Fin 4) (d x : Fin 256) : iblk m c 9 t (ix3 p d x) = V m c main_v64 (ix3 p d x) := by
  blk_ext [iblk, rowOf, idx_val t]
theorem iblk10 (c : Dev nD) (t : Fin cfg0.N) (i : Fin 512) (l : Fin 128) : iblk m c 10 t (ix2 i l) = V m c main_v27 (ix2 (rowOf t i) l) := by
  blk_ext [iblk, rowOf, idx_val t]
theorem iblk11 (c : Dev nD) (t : Fin cfg0.N) (i : Fin 512) (l : Fin 128) : iblk m c 11 t (ix2 i l) = V m c main_v32 (ix2 (rowOf t i) l) := by
  blk_ext [iblk, rowOf, idx_val t]
theorem iblk12 (c : Dev nD) (t : Fin cfg0.N) (i : Fin 512) (l : Fin 128) : iblk m c 12 t (ix2 i l) = V m c main_v36 (ix2 (rowOf t i) l) := by
  blk_ext [iblk, rowOf, idx_val t]

end Cert.QkvIdeal.Value
-- ==== Proof.QkvPay.lean ====
/- The block one grid point of `qkv_bwd` computes, on plain vectors over the extended reals. -/
module

public import proofs.«01_k».proof.Proof.Gen.QkvIdeal.Skeleton
public import proofs.«01_k».proof.Proof.SumPieces
public import Idealize.ShloMosaic.Lib.Pipeline.ValueKit
public import Idealize.ShloMosaic.Lib.Pointwise

@[expose] public section

set_option maxRecDepth 16384

noncomputable section

namespace Cert.QkvIdeal.Value

open Cert.QkvIdeal Cert.QkvIdeal.Gen Idealize.ShloMosaic Idealize.ShloMosaic.TcCoe Idealize.SL.Sem

/-- The transposed rotary embedding of a row of 128 lanes as the kernel computes it: two rotations and the three tables. -/
def ropeK (c s1 s2 y : Fin 128 → EReal) (l : Fin 128) : EReal :=
  y l * c l + y ⟨(l.val + 112) % 128, by omega⟩ * s1 ⟨(l.val + 112) % 128, by omega⟩
    + y ⟨(l.val + 16) % 128, by omega⟩ * s2 ⟨(l.val + 16) % 128, by omega⟩

theorem pay24_at (x : Vec Ideal S512x128 .f32) : k0_pay24 (F := Ideal) x = x := by
  funext i; idx_vars i; pointwise [k0_pay24]
theorem pay25_at (x : Vec Ideal S512x128 .f32) : k0_pay25 (F := Ideal) x = x := by
  funext i; idx_vars i; pointwise [k0_pay25]
theorem pay26_at (x : Vec Ideal S512x128 .f32) : k0_pay26 (F := Ideal) x = x := by
  funext i; idx_vars i; pointwise [k0_pay26]
theorem rope_pay (c s1 s2 : FVec Ideal S512x128 .f32) (y : FVec Ideal S1x512x128 .f32) (i : Fin 512) (l : Fin 128) :
    k0_pay35 (F := Ideal) c s1 s2 y (ix2 i l)
      = ropeK (fun k => c (ix2 i k)) (fun k => s1 (ix2 i k)) (fun k => s2 (ix2 i k)) (fun k => y (ix3 0 i k)) l := by
  pointwise [k0_pay35]
  rfl
theorem concat8_at (f : Fin 8 → FVec Ideal S512x128 .f32) (hc) (i : Fin 512) (h : Fin 8) (l : Fin 128) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] hc
      (ix2 i ⟨h.val * 128 + l.val, by omega⟩) = f h (ix2 i l) := by
  have hl := l.isLt
  have e : ∀ (n : ℕ) (hn : n < 128) (g : FVec Ideal S512x128 .f32), n = l.val → g (ix2 i ⟨n, hn⟩) = g (ix2 i l) := fun n hn g h => by
    subst h; rfl
  pointwise
  obtain ⟨h, hh⟩ := h
  simp only
  split_ifs <;> interval_cases h <;> first | omega | exact e _ _ _ (by omega)
theorem concat8_row (g0 g1 g2 g3 g4 g5 g6 g7 : FVec Ideal S512x128 .f32) (hc) (i : Fin 512) (h : Fin 8) (l : Fin 128) (r : Fin 8 → EReal)
    (h0 : g0 (ix2 i l) = r 0) (h1 : g1 (ix2 i l) = r 1) (h2 : g2 (ix2 i l) = r 2) (h3 : g3 (ix2 i l) = r 3)
    (h4 : g4 (ix2 i l) = r 4) (h5 : g5 (ix2 i l) = r 5) (h6 : g6 (ix2 i l) = r 6) (h7 : g7 (ix2 i l) = r 7) :
    concatenate S512x1024 1 [⟨S512x128, g0⟩, ⟨S512x128, g1⟩, ⟨S512x128, g2⟩, ⟨S512x128, g3⟩, ⟨S512x128, g4⟩, ⟨S512x128, g5⟩, ⟨S512x128, g6⟩, ⟨S512x128, g7⟩] hc
      (ix2 i ⟨h.val * 128 + l.val, by omega⟩) = r h := by
  refine (concat8_at ![g0, g1, g2, g3, g4, g5, g6, g7] hc i h l).trans ?_
  fin_cases h
  exacts [h0, h1, h2, h3, h4, h5, h6, h7]
/-- The wide cotangent of the queries that one point forms. -/
abbrev dqf (x2 : Vec Ideal S8x512x128 .f32) (c s1 s2 : FVec Ideal S512x128 .f32) : FVec Ideal S512x1024 .bf16 :=
  k0_pay41 (F := Ideal) c s1 s2 (k0_pay35 c s1 s2 (View.ld x2 (Rect.unit ![0, 0, 0] ![1, 512, 128] inb_S8x512x128_S1x512x128_0_0_0))) (k0_pay36 c s1 s2 (View.ld x2 (Rect.unit ![1, 0, 0] ![1, 512, 128] inb_S8x512x128_S1x512x128_1_0_0))) (k0_pay37 c s1 s2 (View.ld x2 (Rect.unit ![2, 0, 0] ![1, 512, 128] inb_S8x512x128_S1x512x128_2_0_0)))
    (k0_pay39 c s1 (View.ld x2 (Rect.unit ![3, 0, 0] ![1, 512, 128] inb_S8x512x128_S1x512x128_3_0_0))) (k0_pay40 s2 (View.ld x2 (Rect.unit ![3, 0, 0] ![1, 512, 128] inb_S8x512x128_S1x512x128_3_0_0))) (View.ld x2 (Rect.unit ![4, 0, 0] ![1, 512, 128] inb_S8x512x128_S1x512x128_4_0_0)) (View.ld x2 (Rect.unit ![5, 0, 0] ![1, 512, 128] inb_S8x512x128_S1x512x128_5_0_0))
    (View.ld x2 (Rect.unit ![6, 0, 0] ![1, 512, 128] inb_S8x512x128_S1x512x128_6_0_0)) (View.ld x2 (Rect.unit ![7, 0, 0] ![1, 512, 128] inb_S8x512x128_S1x512x128_7_0_0))
theorem dqf_at (x2 : Vec Ideal S8x512x128 .f32) (c s1 s2 : FVec Ideal S512x128 .f32) (i : Fin 512) (h : Fin 8) (l : Fin 128) :
    dqf x2 c s1 s2 (ix2 i ⟨h.val * 128 + l.val, by omega⟩)
      = ropeK (fun k => c (ix2 i k)) (fun k => s1 (ix2 i k)) (fun k => s2 (ix2 i k)) (fun k => x2 (ix3 h i k)) l := by
  unfold dqf k0_pay41
  refine concat8_row _ _ _ _ _ _ _ _ concatenates_S512x128_S512x128_S512x128_S512x128_S512x128_S512x128_S512x128_S512x128_S512x1024_d1 i h l (fun h => ropeK (fun k => c (ix2 i k)) (fun k => s1 (ix2 i k)) (fun k => s2 (ix2 i k)) (fun k => x2 (ix3 h i k)) l)
    ?_ ?_ ?_ ?_ ?_ ?_ ?_ ?_ <;> (pointwise [k0_pay35, k0_pay36, k0_pay37, k0_pay38, k0_pay39, k0_pay40]; rfl)
/-- The wide cotangents of the keys and of the values. -/
abbrev dkf (x3 : Vec Ideal S8x512x128 .f32) : FVec Ideal S512x1024 .bf16 :=
  k0_pay42 (F := Ideal) (View.ld x3 (Rect.unit ![0, 0, 0] ![1, 512, 128] inb_S8x512x128_S1x512x128_0_0_0)) (View.ld x3 (Rect.unit ![1, 0, 0] ![1, 512, 128] inb_S8x512x128_S1x512x128_1_0_0)) (View.ld x3 (Rect.unit ![2, 0, 0] ![1, 512, 128] inb_S8x512x128_S1x512x128_2_0_0)) (View.ld x3 (Rect.unit ![3, 0, 0] ![1, 512, 128] inb_S8x512x128_S1x512x128_3_0_0)) (View.ld x3 (Rect.unit ![4, 0, 0] ![1, 512, 128] inb_S8x512x128_S1x512x128_4_0_0)) (View.ld x3 (Rect.unit ![5, 0, 0] ![1, 512, 128] inb_S8x512x128_S1x512x128_5_0_0)) (View.ld x3 (Rect.unit ![6, 0, 0] ![1, 512, 128] inb_S8x512x128_S1x512x128_6_0_0)) (View.ld x3 (Rect.unit ![7, 0, 0] ![1, 512, 128] inb_S8x512x128_S1x512x128_7_0_0))
abbrev dvf (x4 : Vec Ideal S8x512x128 .f32) : FVec Ideal S512x1024 .bf16 :=
  k0_pay46 (F := Ideal) (k0_pay43 (View.ld x4 (Rect.unit ![0, 0, 0] ![1, 512, 128] inb_S8x512x128_S1x512x128_0_0_0))) (k0_pay44 (View.ld x4 (Rect.unit ![1, 0, 0] ![1, 512, 128] inb_S8x512x128_S1x512x128_1_0_0))) (k0_pay45 (View.ld x4 (Rect.unit ![2, 0, 0] ![1, 512, 128] inb_S8x512x128_S1x512x128_2_0_0))) (View.ld x4 (Rect.unit ![3, 0, 0] ![1, 512, 128] inb_S8x512x128_S1x512x128_3_0_0)) (View.ld x4 (Rect.unit ![4, 0, 0] ![1, 512, 128] inb_S8x512x128_S1x512x128_4_0_0)) (View.ld x4 (Rect.unit ![5, 0, 0] ![1, 512, 128] inb_S8x512x128_S1x512x128_5_0_0)) (View.ld x4 (Rect.unit ![6, 0, 0] ![1, 512, 128] inb_S8x512x128_S1x512x128_6_0_0)) (View.ld x4 (Rect.unit ![7, 0, 0] ![1, 512, 128] inb_S8x512x128_S1x512x128_7_0_0))
theorem dkf_at (x3 : Vec Ideal S8x512x128 .f32) (i : Fin 512) (h : Fin 8) (l : Fin 128) :
    dkf x3 (ix2 i ⟨h.val * 128 + l.val, by omega⟩) = x3 (ix3 h i l) := by
  unfold dkf k0_pay42
  refine concat8_row _ _ _ _ _ _ _ _ concatenates_S512x128_S512x128_S512x128_S512x128_S512x128_S512x128_S512x128_S512x128_S512x1024_d1 i h l (fun h => x3 (ix3 h i l)) ?_ ?_ ?_ ?_ ?_ ?_ ?_ ?_ <;> pointwise [k0_pay43, k0_pay44, k0_pay45]
theorem dvf_at (x4 : Vec Ideal S8x512x128 .f32) (i : Fin 512) (h : Fin 8) (l : Fin 128) :
    dvf x4 (ix2 i ⟨h.val * 128 + l.val, by omega⟩) = x4 (ix3 h i l) := by
  unfold dvf k0_pay46
  refine concat8_row _ _ _ _ _ _ _ _ concatenates_S512x128_S512x128_S512x128_S512x128_S512x128_S512x128_S512x128_S512x128_S512x1024_d1 i h l (fun h => x4 (ix3 h i l)) ?_ ?_ ?_ ?_ ?_ ?_ ?_ ?_ <;> pointwise [k0_pay43, k0_pay44, k0_pay45]
theorem dcqn_at (a : FVec Ideal S512x1024 .bf16) (w : FVec Ideal S768x1024 .bf16) (i : Fin 512) (d : Fin 768) :
    k0_pay49 (F := Ideal) a w (ix2 i d) = ∑ J : Fin 1024, a (ix2 i J) * w (ix2 d J) := by
  pointwise [k0_pay49]
/-- The cotangent of the normed compressed keys that one point forms. -/
abbrev dckvn (a b : FVec Ideal S512x1024 .bf16) (x8 x9 : Vec Ideal S4x256x256 .bf16) : FVec Ideal S512x256 .f32 :=
  k0_pay52 (F := Ideal) a b (k0_pay50 a b (View.ld x8 (Rect.unit ![0, 0, 0] ![1, 256, 256] inb_S4x256x256_S1x256x256_0_0_0)) (View.ld x9 (Rect.unit ![0, 0, 0] ![1, 256, 256] inb_S4x256x256_S1x256x256_0_0_0))) k0_pay51 (View.ld x8 (Rect.unit ![1, 0, 0] ![1, 256, 256] inb_S4x256x256_S1x256x256_1_0_0)) (View.ld x9 (Rect.unit ![1, 0, 0] ![1, 256, 256] inb_S4x256x256_S1x256x256_1_0_0)) (View.ld x8 (Rect.unit ![2, 0, 0] ![1, 256, 256] inb_S4x256x256_S1x256x256_2_0_0)) (View.ld x9 (Rect.unit ![2, 0, 0] ![1, 256, 256] inb_S4x256x256_S1x256x256_2_0_0)) (View.ld x8 (Rect.unit ![3, 0, 0] ![1, 256, 256] inb_S4x256x256_S1x256x256_3_0_0)) (View.ld x9 (Rect.unit ![3, 0, 0] ![1, 256, 256] inb_S4x256x256_S1x256x256_3_0_0))
theorem dckvn_at (a b : FVec Ideal S512x1024 .bf16) (x8 x9 : Vec Ideal S4x256x256 .bf16) (i : Fin 512) (d : Fin 256) :
    dckvn a b x8 x9 (ix2 i d) = ∑ t : Fin 4, (∑ x : Fin 256, a (ix2 i ⟨t.val * 256 + x.val, by omega⟩) * x8 (ix3 t d x)
      + ∑ x : Fin 256, b (ix2 i ⟨t.val * 256 + x.val, by omega⟩) * x9 (ix3 t d x)) := by
  pointwise [k0_pay50, k0_pay51, k0_pay52]
  rw [Fin.sum_univ_four]
  have e : ∀ x : Fin 256, (⟨(0 : Fin 4).val * 256 + x.val, by simp; omega⟩ : Fin 1024) = ⟨x.val, by omega⟩ := fun x => Fin.ext (by simp)
  simp only [e]
  rfl
theorem rq_at (x : FVec Ideal S512x768 .f32) (i : Fin 512) : k0_pay29 (F := Ideal) x (ix2 i 0)
    = Ideal.rsqrt (Ideal.div (∑ d : Fin 768, x (ix2 i d) * x (ix2 i d)) (Ideal.ofBits .f32 0x44400000#32) + Ideal.ofBits .f32 0x358637BD#32) := by
  pointwise [k0_pay29, k0_pay27]
theorem rkv_at (x : FVec Ideal S512x256 .f32) (i : Fin 512) : k0_pay31 (F := Ideal) x (ix2 i 0)
    = Ideal.rsqrt (Ideal.div (∑ d : Fin 256, x (ix2 i d) * x (ix2 i d)) (Ideal.ofBits .f32 0x43800000#32) + Ideal.ofBits .f32 0x358637BD#32) := by
  pointwise [k0_pay31, k0_pay28]
theorem qn_at (x : FVec Ideal S512x768 .f32) (g : FVec Ideal S1x768 .f32) (i : Fin 512) (d : Fin 768) :
    k0_pay33 (F := Ideal) (k0_pay30 x g) (ix2 i d) = x (ix2 i d) * k0_pay29 (F := Ideal) x (ix2 i 0) * g (ix2 0 d) := by
  pointwise [k0_pay33, k0_pay30, k0_pay27]
theorem kvn_at (x : FVec Ideal S512x256 .f32) (g : FVec Ideal S1x256 .f32) (i : Fin 512) (d : Fin 256) :
    k0_pay34 (F := Ideal) (k0_pay28 x) g (k0_pay32 x) (ix2 i d) = x (ix2 i d) * k0_pay31 (F := Ideal) x (ix2 i 0) * g (ix2 0 d) := by
  pointwise [k0_pay34, k0_pay32, k0_pay28]
theorem dcq_at (x : FVec Ideal S512x768 .f32) (g : FVec Ideal S1x768 .f32) (r : FVec Ideal S512x1 .f32) (h : FVec Ideal S512x768 .f32)
    (i : Fin 512) (d : Fin 768) : k0_pay59 (F := Ideal) (k0_pay27 x) g r h (ix2 i d)
    = r (ix2 i 0) * (h (ix2 i d) * g (ix2 0 d)) - x (ix2 i d) * (r (ix2 i 0) * r (ix2 i 0) * r (ix2 i 0))
        * Ideal.div (∑ e : Fin 768, x (ix2 i e) * (h (ix2 i e) * g (ix2 0 e))) (Ideal.ofBits .f32 0x44400000#32) := by
  pointwise [k0_pay59, k0_pay27]
theorem dckv_at (x : FVec Ideal S512x256 .f32) (g : FVec Ideal S1x256 .f32) (r : FVec Ideal S512x1 .f32) (h : FVec Ideal S512x256 .f32)
    (i : Fin 512) (d : Fin 256) : k0_pay60 (F := Ideal) (k0_pay28 x) g r h (ix2 i d)
    = r (ix2 i 0) * (h (ix2 i d) * g (ix2 0 d)) - x (ix2 i d) * (r (ix2 i 0) * r (ix2 i 0) * r (ix2 i 0))
        * Ideal.div (∑ e : Fin 256, x (ix2 i e) * (h (ix2 i e) * g (ix2 0 e))) (Ideal.ofBits .f32 0x43800000#32) := by
  pointwise [k0_pay60, k0_pay28]
theorem dgq_at (x : FVec Ideal S512x768 .f32) (r : FVec Ideal S512x1 .f32) (h : FVec Ideal S512x768 .f32) (p : FVec Ideal S1x768 .f32) (d : Fin 768) :
    k0_pay57 (F := Ideal) (k0_pay27 x) r h p (ix2 0 d) = p (ix2 0 d) + ∑ i : Fin 512, h (ix2 i d) * (x (ix2 i d) * r (ix2 i 0)) := by
  pointwise [k0_pay57, k0_pay27]
theorem dgkv_at (x : FVec Ideal S512x256 .f32) (r : FVec Ideal S512x1 .f32) (h : FVec Ideal S512x256 .f32) (p : FVec Ideal S1x256 .f32) (d : Fin 256) :
    k0_pay58 (F := Ideal) (k0_pay28 x) r h p (ix2 0 d) = p (ix2 0 d) + ∑ i : Fin 512, h (ix2 i d) * (x (ix2 i d) * r (ix2 i 0)) := by
  pointwise [k0_pay58, k0_pay28]
theorem dwq_at (n : FVec Ideal S512x768 .bf16) (a : FVec Ideal S512x1024 .bf16) (p : FVec Ideal S768x1024 .f32) (d : Fin 768) (J : Fin 1024) :
    k0_pay54 (F := Ideal) p (k0_pay53 n a) (ix2 d J) = p (ix2 d J) + ∑ i : Fin 512, n (ix2 i d) * a (ix2 i J) := by
  pointwise [k0_pay54, k0_pay53]
theorem dwk_at (n : FVec Ideal S512x256 .bf16) (a : FVec Ideal S512x1024 .bf16) (p : FVec Ideal S256x1024 .f32) (d : Fin 256) (J : Fin 1024) :
    k0_pay55 (F := Ideal) n a p (ix2 d J) = p (ix2 d J) + ∑ i : Fin 512, n (ix2 i d) * a (ix2 i J) := by
  pointwise [k0_pay55]
theorem dwv_at (n : FVec Ideal S512x256 .bf16) (a : FVec Ideal S512x1024 .bf16) (p : FVec Ideal S256x1024 .f32) (d : Fin 256) (J : Fin 1024) :
    k0_pay56 (F := Ideal) n a p (ix2 d J) = p (ix2 d J) + ∑ i : Fin 512, n (ix2 i d) * a (ix2 i J) := by
  pointwise [k0_pay56]
/-- The cotangent of the shared rotary key that one point forms. -/
abbrev dkpe (x3 : Vec Ideal S8x512x128 .f32) (c s1 s2 : FVec Ideal S512x128 .f32) : FVec Ideal S512x128 .bf16 :=
  k0_pay48 (F := Ideal) c s1 s2 (k0_pay47 (View.ld x3 (Rect.unit ![0, 0, 0] ![1, 512, 128] inb_S8x512x128_S1x512x128_0_0_0)) (View.ld x3 (Rect.unit ![1, 0, 0] ![1, 512, 128] inb_S8x512x128_S1x512x128_1_0_0)) (View.ld x3 (Rect.unit ![2, 0, 0] ![1, 512, 128] inb_S8x512x128_S1x512x128_2_0_0)) (View.ld x3 (Rect.unit ![3, 0, 0] ![1, 512, 128] inb_S8x512x128_S1x512x128_3_0_0)) (View.ld x3 (Rect.unit ![4, 0, 0] ![1, 512, 128] inb_S8x512x128_S1x512x128_4_0_0)) (View.ld x3 (Rect.unit ![5, 0, 0] ![1, 512, 128] inb_S8x512x128_S1x512x128_5_0_0))) (View.ld x3 (Rect.unit ![6, 0, 0] ![1, 512, 128] inb_S8x512x128_S1x512x128_6_0_0)) (View.ld x3 (Rect.unit ![7, 0, 0] ![1, 512, 128] inb_S8x512x128_S1x512x128_7_0_0))
theorem mask_at (n : ℕ) (hn : n < 128) (a b : EReal) :
    Scalar.select (IntOp.andi (IntOp.cmpi .sge (BitVec.ofNat 32 n) 64#32) (IntOp.cmpi .slt (BitVec.ofNat 32 n) 96#32)) a b
      = if 64 ≤ n ∧ n < 96 then a else b := by
  have h : ∀ k : Fin 128, IntOp.andi (IntOp.cmpi .sge (BitVec.ofNat 32 k.val) 64#32) (IntOp.cmpi .slt (BitVec.ofNat 32 k.val) 96#32)
      = if 64 ≤ k.val ∧ k.val < 96 then 1#1 else 0#1 := by decide
  rw [h ⟨n, hn⟩]
  simp only
  split <;> rfl
theorem masked (p : Prop) [Decidable p] (a b : EReal) : (if p then a * b else 0) = (if p then a else 0) * b := by
  split
  · rfl
  · rw [zero_mul]
theorem dkpe_at (x3 : Vec Ideal S8x512x128 .f32) (c s1 s2 : FVec Ideal S512x128 .f32) (i : Fin 512) (l : Fin 128) :
    dkpe x3 c s1 s2 (ix2 i l)
      = ropeK (fun k => c (ix2 i k)) (fun k => s1 (ix2 i k)) (fun k => s2 (ix2 i k))
          (fun k => if 64 ≤ k.val ∧ k.val < 96 then ∑ h : Fin 8, x3 (ix3 h i k) else 0) l := by
  pointwise [k0_pay48, k0_pay47]
  rw [mask_at _ l.isLt, mask_at _ (Nat.mod_lt _ (by decide)), mask_at _ (Nat.mod_lt _ (by decide)), masked, masked, masked]
  unfold ropeK
  simp only [Fin.sum_univ_eight]
  rfl

end Cert.QkvIdeal.Value
-- ==== Proof.QkvMath.lean ====
/- What one grid point of `qkv_bwd` computes from its blocks, as functions of the arguments over the extended reals. -/
module

public import proofs.«01_k».proof.Proof.QkvBlock
public import proofs.«01_k».proof.Proof.QkvPay
import all proofs.«01_k».proof.Proof.QkvHost
import all proofs.«01_k».proof.Proof.QkvPay
import all proofs.«01_k».proof.Proof.QkvRefPoint

@[expose] public section

set_option maxRecDepth 16384

noncomputable section

namespace Cert.QkvIdeal.Value

open Cert.QkvIdeal Cert.QkvIdeal.Gen Idealize.ShloMosaic Idealize.ShloMosaic.TcCoe Idealize.SL.Sem
open Cert.QkvRefIdeal.Read (cosT sinT unrope)

/-- The kernel's rotation on 128 lanes is the rotation of the 96 lanes that hold a head, and zero on the others. -/
theorem ropeK_eq (c s1 s2 y : Fin 128 → EReal) (z : Fin 96 → EReal) (s : Fin 4096)
    (hy : ∀ x, y x = if hx : x.val < 96 then z ⟨x.val, hx⟩ else 0)
    (hc : ∀ x, c x = if hx : x.val < 64 then 1 else if hx : x.val < 80 then cosT s ⟨x.val - 64, by omega⟩ else if hx : x.val < 96 then cosT s ⟨x.val - 80, by omega⟩ else 1)
    (h1 : ∀ x, s1 x = if hx : 64 ≤ x.val ∧ x.val < 80 then -sinT s ⟨x.val - 64, by omega⟩ else 0)
    (h2 : ∀ x, s2 x = if hx : 80 ≤ x.val ∧ x.val < 96 then sinT s ⟨x.val - 80, by omega⟩ else 0) (l : Fin 128) :
    ropeK c s1 s2 y l = if hl : l.val < 96 then unrope z s ⟨l.val, hl⟩ else 0 := by
  have hl := l.isLt
  have z1 : ¬(64 ≤ (l.val + 112) % 128 ∧ (l.val + 112) % 128 < 80) → s1 ⟨(l.val + 112) % 128, by omega⟩ = 0 := fun h => (h1 _).trans (dif_neg h)
  have z2 : ¬(80 ≤ (l.val + 16) % 128 ∧ (l.val + 16) % 128 < 96) → s2 ⟨(l.val + 16) % 128, by omega⟩ = 0 := fun h => (h2 _).trans (dif_neg h)
  unfold ropeK unrope
  by_cases a : l.val < 64
  · rw [z1 (by omega), z2 (by omega), mul_zero, mul_zero, add_zero, add_zero, hc, dif_pos a, mul_one, hy, dif_pos (by omega), dif_pos (by omega), if_pos a]
  by_cases b : l.val < 80
  · have e1 : y ⟨(l.val + 16) % 128, by omega⟩ = z ⟨l.val + 16, by omega⟩ :=
      (hy _).trans ((dif_pos (by simp only; omega)).trans (congrArg z (Fin.ext (by simp only; omega))))
    have e2 : s2 ⟨(l.val + 16) % 128, by omega⟩ = sinT s ⟨l.val - 64, by omega⟩ :=
      (h2 _).trans ((dif_pos (by simp only; omega)).trans (congrArg (sinT s) (Fin.ext (by simp only; omega))))
    have e3 : y l = z ⟨l.val, by omega⟩ := (hy l).trans (dif_pos _)
    have e4 : c l = cosT s ⟨l.val - 64, by omega⟩ := (hc l).trans ((dif_neg a).trans (dif_pos b))
    rw [z1 (by omega), mul_zero, add_zero, e1, e2, e3, e4]
    rw [dif_pos (show l.val < 96 by omega)]
    simp only
    rw [if_neg a, dif_pos b]
  by_cases d : l.val < 96
  · have e1 : y ⟨(l.val + 112) % 128, by omega⟩ = z ⟨l.val - 16, by omega⟩ :=
      (hy _).trans ((dif_pos (by simp only; omega)).trans (congrArg z (Fin.ext (by simp only; omega))))
    have e2 : s1 ⟨(l.val + 112) % 128, by omega⟩ = -sinT s ⟨l.val - 80, by omega⟩ :=
      (h1 _).trans ((dif_pos (by simp only; omega)).trans (congrArg (fun k => -sinT s k) (Fin.ext (by simp only; omega))))
    have e3 : y l = z ⟨l.val, d⟩ := (hy l).trans (dif_pos _)
    have e4 : c l = cosT s ⟨l.val - 80, by omega⟩ := (hc l).trans ((dif_neg a).trans ((dif_neg b).trans (dif_pos d)))
    rw [z2 (by omega), mul_zero, add_zero, e1, e2, e3, e4, mul_neg]
    rw [dif_pos d]
    simp only
    rw [if_neg a, dif_neg b]
  · have e3 : y l = 0 := (hy l).trans (dif_neg d)
    rw [z1 (by omega), z2 (by omega), mul_zero, mul_zero, add_zero, add_zero, e3, zero_mul, dif_neg d]

/-- A pair of heads: the key halves from one product and the value halves from the other make up all 256 lanes. -/
theorem pair_sum (f g k : Fin 256 → EReal) (hf : ∀ x : Fin 256, ¬x.val % 128 < 64 → f x = 0) (hg : ∀ x : Fin 256, ¬x.val % 128 / 64 = x.val / 128 → g x = 0)
    (h1 : ∀ (p : Fin 2) (l : Fin 64), f ⟨p.val * 128 + l.val, by omega⟩ = k ⟨p.val * 128 + l.val, by omega⟩)
    (h2 : ∀ (p : Fin 2) (l : Fin 64), g ⟨p.val * 128 + (p.val * 64 + l.val), by omega⟩ = k ⟨p.val * 128 + (64 + l.val), by omega⟩) :
    ∑ x, f x + ∑ x, g x = ∑ x, k x := by
  rw [Fin.sum_univ_tiles 2 128 rfl f, Fin.sum_univ_tiles 2 128 rfl g, Fin.sum_univ_tiles 2 128 rfl k, ← Finset.sum_add_distrib]
  refine Finset.sum_congr rfl fun p _ => ?_
  rw [SumPieces.middle (fun l : Fin 128 => f ⟨p.val * 128 + l.val, by omega⟩) 0 64 (by omega) (fun l hl => hf _ (by simp only; omega)),
    SumPieces.middle (fun l : Fin 128 => g ⟨p.val * 128 + l.val, by omega⟩) (p.val * 64) 64 (by omega) (fun l hl => hg _ (by simp only; omega)),
    Fin.sum_univ_tiles 2 64 rfl (fun l : Fin 128 => k ⟨p.val * 128 + l.val, by omega⟩), Fin.sum_univ_two]
  refine Ideal.add_congr (Finset.sum_congr rfl fun l _ => ?_) (Finset.sum_congr rfl fun l _ => ?_)
  · refine Eq.trans ?_ ((h1 p l).trans ?_)
    · exact congrArg f (Fin.ext (by simp))
    · exact congrArg k (Fin.ext (by simp))
  · refine (h2 p l).trans ?_
    exact congrArg k (Fin.ext (by simp))

variable (m : (ℓ : Loc nD τ sig) → Buf (Elt Ideal) ℓ)

/-- The cotangents of the heads in the columns of the two projections: rotated back for the queries, keys and values side by side. -/
def cQ (c : Dev nD) (s : Fin 4096) (j : Fin 768) : EReal := unrope (aDq m c ⟨j.val / 96, by omega⟩ s) s ⟨j.val % 96, by omega⟩
def cKV (c : Dev nD) (s : Fin 4096) (j : Fin 1024) : EReal :=
  if h : j.val % 128 < 64 then aDk m c ⟨j.val / 128, by omega⟩ s ⟨j.val % 128, by omega⟩ else aDv m c ⟨j.val / 128, by omega⟩ s ⟨j.val % 128 - 64, by omega⟩

/-- The cotangents of the two normed inputs. -/
def nQ (c : Dev nD) (s : Fin 4096) (d : Fin 768) : EReal := ∑ j : Fin 768, cQ m c s j * aWq m c d j
def nKV (c : Dev nD) (s : Fin 4096) (d : Fin 256) : EReal := ∑ j : Fin 1024, cKV m c s j * aWkv m c d j

/-- The reciprocal roots of the rows' mean squares. -/
def rQ (c : Dev nD) (s : Fin 4096) : EReal :=
  Ideal.rsqrt (Ideal.div (∑ d : Fin 768, aCq m c s d * aCq m c s d) (Ideal.ofBits .f32 0x44400000#32) + Ideal.ofBits .f32 0x358637BD#32)
def rKV (c : Dev nD) (s : Fin 4096) : EReal :=
  Ideal.rsqrt (Ideal.div (∑ d : Fin 256, aCkv m c s d * aCkv m c s d) (Ideal.ofBits .f32 0x43800000#32) + Ideal.ofBits .f32 0x358637BD#32)

/-- The wide cotangent of the queries at a point. -/
theorem wideQ (c : Dev nD) (t : Fin cfg0.N) (i : Fin 512) (h : Fin 8) (l : Fin 128) :
    dqf (iblk m c 2 t) (iblk m c 10 t) (iblk m c 11 t) (iblk m c 12 t) (ix2 i ⟨h.val * 128 + l.val, by omega⟩)
      = if hl : l.val < 96 then unrope (aDq m c h (rowOf t i)) (rowOf t i) ⟨l.val, hl⟩ else 0 :=
  (dqf_at _ _ _ _ i h l).trans (ropeK_eq _ _ _ _ (aDq m c h (rowOf t i)) (rowOf t i) (fun x => (iblk2 m c t h i x).trans (v78_at m c h _ x))
    (fun x => (iblk10 m c t i x).trans (v27_at m c _ x)) (fun x => (iblk11 m c t i x).trans (v32_at m c _ x))
    (fun x => (iblk12 m c t i x).trans (v36_at m c _ x)) l)

theorem wideK (c : Dev nD) (t : Fin cfg0.N) (i : Fin 512) (h : Fin 8) (l : Fin 128) :
    dkf (iblk m c 3 t) (ix2 i ⟨h.val * 128 + l.val, by omega⟩) = if hl : l.val < 96 then aDk m c h (rowOf t i) ⟨l.val, hl⟩ else 0 :=
  (dkf_at _ i h l).trans ((iblk3 m c t h i l).trans (v81_at m c h _ l))

theorem wideV (c : Dev nD) (t : Fin cfg0.N) (i : Fin 512) (h : Fin 8) (l : Fin 128) (hl : l.val / 64 = h.val % 2) :
    dvf (iblk m c 4 t) (ix2 i ⟨h.val * 128 + l.val, by omega⟩) = aDv m c h (rowOf t i) ⟨l.val % 64, by omega⟩ :=
  (dvf_at _ i h l).trans ((iblk4 m c t h i l).trans (v75_at m c h _ l hl))

theorem nQ_block (c : Dev nD) (t : Fin cfg0.N) (i : Fin 512) (d : Fin 768) :
    k0_pay49 (F := Ideal) (dqf (iblk m c 2 t) (iblk m c 10 t) (iblk m c 11 t) (iblk m c 12 t)) (iblk m c 7 t) (ix2 i d) = nQ m c (rowOf t i) d := by
  refine (dcqn_at _ _ i d).trans ?_
  refine (Fin.sum_univ_tiles 8 128 rfl _).trans (Eq.trans ?_ (Fin.sum_univ_tiles 8 96 rfl fun j : Fin 768 => cQ m c (rowOf t i) j * aWq m c d j).symm)
  refine Finset.sum_congr rfl fun h _ => ?_
  refine (SumPieces.middle _ 0 96 (by omega) fun l hl => ?_).trans (Finset.sum_congr rfl fun l _ => ?_)
  · refine (Ideal.mul_congr ((wideQ m c t i h l).trans (dif_neg (by omega))) rfl).trans (zero_mul _)
  · refine Ideal.mul_congr ((wideQ m c t i h ⟨0 + l.val, by omega⟩).trans ((dif_pos (by simp only; omega)).trans ?_))
      ((iblk7 m c t d _).trans ((v41_at m c d _).trans ((dif_pos (by simp only; omega)).trans ?_)))
    · have e1 : (⟨(h.val * 96 + l.val) / 96, by omega⟩ : Fin 8) = h := Fin.ext (by simp only; omega)
      have e2 : (⟨(h.val * 96 + l.val) % 96, by omega⟩ : Fin 96) = ⟨0 + l.val, by omega⟩ := Fin.ext (by simp only; omega)
      unfold cQ
      simp only [e1, e2]
    · exact congrArg (aWq m c d) (Fin.ext (by simp only; omega))

theorem nKV_block (c : Dev nD) (t : Fin cfg0.N) (i : Fin 512) (d : Fin 256) :
    dckvn (dkf (iblk m c 3 t)) (dvf (iblk m c 4 t)) (iblk m c 8 t) (iblk m c 9 t) (ix2 i d) = nKV m c (rowOf t i) d := by
  refine (dckvn_at _ _ _ _ i d).trans ?_
  refine Eq.trans ?_ (Fin.sum_univ_tiles 4 256 rfl fun j : Fin 1024 => cKV m c (rowOf t i) j * aWkv m c d j).symm
  refine Finset.sum_congr rfl fun p _ => ?_
  refine pair_sum _ _ _ (fun x hx => ?_) (fun x hx => ?_) (fun q l => ?_) (fun q l => ?_)
  · exact (Ideal.mul_congr rfl ((iblk8 m c t p d x).trans ((v62_at m c p d x).trans (dif_neg hx)))).trans (mul_zero _)
  · exact (Ideal.mul_congr rfl ((iblk9 m c t p d x).trans ((v64_at m c p d x).trans (dif_neg hx)))).trans (mul_zero _)
  · have e : (⟨p.val * 256 + (q.val * 128 + l.val), by omega⟩ : Fin 1024) = ⟨(2 * p.val + q.val) * 128 + l.val, by omega⟩ := Fin.ext (by simp only; omega)
    refine Ideal.mul_congr ?_ ((iblk8 m c t p d _).trans ((v62_at m c p d _).trans (dif_pos (by simp only; omega))))
    refine (congrArg (fun J => dkf (iblk m c 3 t) (ix2 i J)) e).trans ((wideK m c t i ⟨2 * p.val + q.val, by omega⟩ ⟨l.val, by omega⟩).trans ((dif_pos (by simp only; omega)).trans ?_))
    have e1 : (⟨(p.val * 256 + (q.val * 128 + l.val)) / 128, by omega⟩ : Fin 8) = ⟨2 * p.val + q.val, by omega⟩ := Fin.ext (by simp only; omega)
    have e2 : (⟨(p.val * 256 + (q.val * 128 + l.val)) % 128, by omega⟩ : Fin 96) = ⟨l.val, by omega⟩ := Fin.ext (by simp only; omega)
    refine Eq.trans ?_ (dif_pos (by simp only; omega)).symm
    simp only [e1, e2]
  · have e : (⟨p.val * 256 + (q.val * 128 + (q.val * 64 + l.val)), by omega⟩ : Fin 1024) = ⟨(2 * p.val + q.val) * 128 + (q.val * 64 + l.val), by omega⟩ := Fin.ext (by simp only; omega)
    refine Ideal.mul_congr ?_ ((iblk9 m c t p d _).trans ((v64_at m c p d _).trans ((dif_pos (by simp only; omega)).trans ?_)))
    · refine (congrArg (fun J => dvf (iblk m c 4 t) (ix2 i J)) e).trans ((wideV m c t i ⟨2 * p.val + q.val, by omega⟩ ⟨q.val * 64 + l.val, by omega⟩ (by simp only; omega)).trans ?_)
      have e1 : (⟨(p.val * 256 + (q.val * 128 + (64 + l.val))) / 128, by omega⟩ : Fin 8) = ⟨2 * p.val + q.val, by omega⟩ := Fin.ext (by simp only; omega)
      have e2 : (⟨(p.val * 256 + (q.val * 128 + (64 + l.val))) % 128 - 64, by omega⟩ : Fin 64) = ⟨(q.val * 64 + l.val) % 64, by omega⟩ := Fin.ext (by simp only; omega)
      refine Eq.trans ?_ (dif_neg (by simp only; omega)).symm
      simp only [e1, e2]
    · exact congrArg (aWkv m c d) (Fin.ext (by simp only; omega))

theorem rQ_block (c : Dev nD) (t : Fin cfg0.N) (i : Fin 512) : k0_pay29 (F := Ideal) (X0_0 m c t) (ix2 i 0) = rQ m c (rowOf t i) := by
  refine (rq_at _ i).trans ?_
  unfold rQ
  congr 3
  exact Finset.sum_congr rfl fun d _ => Ideal.mul_congr (x0_at m c t i d) (x0_at m c t i d)
theorem rKV_block (c : Dev nD) (t : Fin cfg0.N) (i : Fin 512) : k0_pay31 (F := Ideal) (X0_1 m c t) (ix2 i 0) = rKV m c (rowOf t i) := by
  refine (rkv_at _ i).trans ?_
  unfold rKV
  congr 3
  exact Finset.sum_congr rfl fun d _ => Ideal.mul_congr (x1_at m c t i d) (x1_at m c t i d)

/-- The two normed inputs. -/
def yQ (c : Dev nD) (s : Fin 4096) (d : Fin 768) : EReal := aCq m c s d * rQ m c s * aGq m c d
def yKV (c : Dev nD) (s : Fin 4096) (d : Fin 256) : EReal := aCkv m c s d * rKV m c s * aGkv m c d
theorem yQ_block (c : Dev nD) (t : Fin cfg0.N) (i : Fin 512) (d : Fin 768) :
    k0_pay33 (F := Ideal) (k0_pay30 (X0_0 m c t) (iblk m c 5 t)) (ix2 i d) = yQ m c (rowOf t i) d :=
  (qn_at _ _ i d).trans (Ideal.mul_congr (Ideal.mul_congr (x0_at m c t i d) (rQ_block m c t i)) (iblk5 m c t d))
theorem yKV_block (c : Dev nD) (t : Fin cfg0.N) (i : Fin 512) (d : Fin 256) :
    k0_pay34 (F := Ideal) (k0_pay28 (X0_1 m c t)) (iblk m c 6 t) (k0_pay32 (X0_1 m c t)) (ix2 i d) = yKV m c (rowOf t i) d :=
  (kvn_at _ _ i d).trans (Ideal.mul_congr (Ideal.mul_congr (x1_at m c t i d) (rKV_block m c t i)) (iblk6 m c t d))

/-- The cotangent of the shared rotary key, in the lanes where it lies. -/
def gKpe (c : Dev nD) (s : Fin 4096) (l : Fin 128) : EReal :=
  if hl : 64 ≤ l.val ∧ l.val < 96 then unrope (fun e => ∑ h : Fin 8, aDk m c h s e) s ⟨l.val, hl.2⟩ else 0

theorem kpe_block (c : Dev nD) (t : Fin cfg0.N) (i : Fin 512) (l : Fin 128) :
    dkpe (iblk m c 3 t) (iblk m c 10 t) (iblk m c 11 t) (iblk m c 12 t) (ix2 i l) = gKpe m c (rowOf t i) l := by
  refine (dkpe_at _ _ _ _ i l).trans ((ropeK_eq _ _ _ _ (fun e => if 64 ≤ e.val then ∑ h : Fin 8, aDk m c h (rowOf t i) e else 0) (rowOf t i) (fun x => ?_)
    (fun x => (iblk10 m c t i x).trans (v27_at m c _ x)) (fun x => (iblk11 m c t i x).trans (v32_at m c _ x))
    (fun x => (iblk12 m c t i x).trans (v36_at m c _ x)) l).trans ?_)
  · by_cases h1 : x.val < 96
    · rw [dif_pos h1]
      simp only [h1, and_true]
      by_cases h2 : 64 ≤ x.val
      · rw [if_pos h2, if_pos h2]
        exact Finset.sum_congr rfl fun h _ => (iblk3 m c t h i x).trans ((v81_at m c h _ x).trans (dif_pos h1))
      · rw [if_neg h2, if_neg h2]
    · rw [dif_neg h1, if_neg (by omega)]
  · unfold gKpe
    by_cases h1 : l.val < 96
    · rw [dif_pos h1]
      by_cases h2 : 64 ≤ l.val
      · rw [dif_pos ⟨h2, h1⟩]
        unfold unrope
        rw [if_neg (by simp only; omega), if_neg (by simp only; omega)]
        simp only
        split
        · rw [if_pos (by omega)]
        · rw [if_pos (by omega)]
      · rw [dif_neg (by omega)]
        unfold unrope
        rw [if_pos (by simp only; omega)]
        exact if_neg h2
    · rw [dif_neg h1, dif_neg (by omega)]

end Cert.QkvIdeal.Value
-- ==== Proof.QkvPoint.lean ====
/- What `qkv_bwd` leaves in the results it writes row by row, as functions of the arguments over the extended reals. -/
module

public import proofs.«01_k».proof.Proof.QkvMath
import all proofs.«01_k».proof.Proof.QkvHost
import all proofs.«01_k».proof.Proof.QkvPay
import all proofs.«01_k».proof.Proof.QkvMath

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- Where a point's blocks of the row results lie. -/
theorem emb13 (t : Fin cfg0.N) (i : Fin 512) (d : Fin 768) :
    ((View.whole main_v82_0).slice (win0_13.rect t)).emb (ix2 i d) = (ix2 (rowOf t i) d : S4096x768.Idx) := by
  blk_ext [rowOf, idx_val t]
theorem emb14 (t : Fin cfg0.N) (i : Fin 512) (d : Fin 256) :
    ((View.whole main_v82_1).slice (win0_14.rect t)).emb (ix2 i d) = (ix2 (rowOf t i) d : S4096x256.Idx) := by
  blk_ext [rowOf, idx_val t]
theorem emb15 (t : Fin cfg0.N) (i : Fin 512) (d : Fin 128) :
    ((View.whole main_v82_2).slice (win0_15.rect t)).emb (ix2 i d) = (ix2 (rowOf t i) d : S4096x128.Idx) := by
  blk_ext [rowOf, idx_val t]

/-- A point's entry of a row result as the entry of the array. -/
theorem row13 (f : Fin 4096 → Fin 768 → EReal) (t : Fin cfg0.N) (i : Fin 512) (d : Fin 768) :
    f (rowOf t i) d = f (((View.whole main_v82_0).slice (win0_13.rect t)).emb (ix2 i d) 0) (((View.whole main_v82_0).slice (win0_13.rect t)).emb (ix2 i d) 1) :=
  (congrArg (fun j : S4096x768.Idx => f (j 0) (j 1)) (emb13 t i d)).symm
theorem row14 (f : Fin 4096 → Fin 256 → EReal) (t : Fin cfg0.N) (i : Fin 512) (d : Fin 256) :
    f (rowOf t i) d = f (((View.whole main_v82_1).slice (win0_14.rect t)).emb (ix2 i d) 0) (((View.whole main_v82_1).slice (win0_14.rect t)).emb (ix2 i d) 1) :=
  (congrArg (fun j : S4096x256.Idx => f (j 0) (j 1)) (emb14 t i d)).symm
theorem row15 (f : Fin 4096 → Fin 128 → EReal) (t : Fin cfg0.N) (i : Fin 512) (d : Fin 128) :
    f (rowOf t i) d = f (((View.whole main_v82_2).slice (win0_15.rect t)).emb (ix2 i d) 0) (((View.whole main_v82_2).slice (win0_15.rect t)).emb (ix2 i d) 1) :=
  (congrArg (fun j : S4096x128.Idx => f (j 0) (j 1)) (emb15 t i d)).symm

/-- The gradients of the two compressed rows. -/
def gQ (c : Dev nD) (s : Fin 4096) (d : Fin 768) : EReal :=
  rQ m c s * (nQ m c s d * aGq m c d)
    - aCq m c s d * (rQ m c s * rQ m c s * rQ m c s) * Ideal.div (∑ e : Fin 768, aCq m c s e * (nQ m c s e * aGq m c e)) (Ideal.ofBits .f32 0x44400000#32)
def gKV (c : Dev nD) (s : Fin 4096) (d : Fin 256) : EReal :=
  rKV m c s * (nKV m c s d * aGkv m c d)
    - aCkv m c s d * (rKV m c s * rKV m c s * rKV m c s) * Ideal.div (∑ e : Fin 256, aCkv m c s e * (nKV m c s e * aGkv m c e)) (Ideal.ofBits .f32 0x43800000#32)

theorem gQ_congr (c : Dev nD) (s : Fin 4096) (d : Fin 768) (r : EReal) (h g xs : Fin 768 → EReal)
    (hr : r = rQ m c s) (hh : ∀ e, h e = nQ m c s e) (hg : ∀ e, g e = aGq m c e) (hx : ∀ e, xs e = aCq m c s e) :
    r * (h d * g d) - xs d * (r * r * r) * Ideal.div (∑ e : Fin 768, xs e * (h e * g e)) (Ideal.ofBits .f32 0x44400000#32) = gQ m c s d := by
  obtain rfl : h = _ := funext hh
  obtain rfl : g = _ := funext hg
  obtain rfl : xs = _ := funext hx
  rw [hr]; rfl
theorem gKV_congr (c : Dev nD) (s : Fin 4096) (d : Fin 256) (r : EReal) (h g xs : Fin 256 → EReal)
    (hr : r = rKV m c s) (hh : ∀ e, h e = nKV m c s e) (hg : ∀ e, g e = aGkv m c e) (hx : ∀ e, xs e = aCkv m c s e) :
    r * (h d * g d) - xs d * (r * r * r) * Ideal.div (∑ e : Fin 256, xs e * (h e * g e)) (Ideal.ofBits .f32 0x43800000#32) = gKV m c s d := by
  obtain rfl : h = _ := funext hh
  obtain rfl : g = _ := funext hg
  obtain rfl : xs = _ := funext hx
  rw [hr]; rfl

theorem q_gen (c : Dev nD) (s : Fin 4096) (x : FVec Ideal S512x768 .f32) (g : FVec Ideal S1x768 .f32) (r : FVec Ideal S512x1 .f32)
    (h : FVec Ideal S512x768 .f32) (i : Fin 512) (d : Fin 768) (hr : r (ix2 i 0) = rQ m c s) (hh : ∀ e, h (ix2 i e) = nQ m c s e)
    (hg : ∀ e, g (ix2 0 e) = aGq m c e) (hx : ∀ e, x (ix2 i e) = aCq m c s e) :
    k0_pay59 (F := Ideal) (k0_pay27 x) g r h (ix2 i d) = gQ m c s d :=
  (dcq_at x g r h i d).trans (gQ_congr m c s d (r (ix2 i 0)) (fun e => h (ix2 i e)) (fun e => g (ix2 0 e)) (fun e => x (ix2 i e)) hr hh hg hx)
theorem kv_gen (c : Dev nD) (s : Fin 4096) (x : FVec Ideal S512x256 .f32) (g : FVec Ideal S1x256 .f32) (r : FVec Ideal S512x1 .f32)
    (h : FVec Ideal S512x256 .f32) (i : Fin 512) (d : Fin 256) (hr : r (ix2 i 0) = rKV m c s) (hh : ∀ e, h (ix2 i e) = nKV m c s e)
    (hg : ∀ e, g (ix2 0 e) = aGkv m c e) (hx : ∀ e, x (ix2 i e) = aCkv m c s e) :
    k0_pay60 (F := Ideal) (k0_pay28 x) g r h (ix2 i d) = gKV m c s d :=
  (dckv_at x g r h i d).trans (gKV_congr m c s d (r (ix2 i 0)) (fun e => h (ix2 i e)) (fun e => g (ix2 0 e)) (fun e => x (ix2 i e)) hr hh hg hx)

set_option maxHeartbeats 1000000 in
theorem out13 (c : Dev nD) : (dats m 0 c).arrAt 13 (cfgs 0).N = (fun i => gQ m c (i 0) (i 1) : FVec Ideal S4096x768 .bf16) := by
  refine (dats m 0 c).arrAt_eq_of_covers 13 _ (by decide +kernel) fun t _ y => ?_
  blk_simp
  rw [after0_13]
  have hN := lt_of_lt_of_eq t.isLt N_0
  by_cases h : t.val % 8 = 0
  · rw [outsAt0_A m c t h (by omega)]; frame_out; idx_vars y
    simp only [pay24_at, pay25_at, pay26_at]
    exact (q_gen m c (rowOf t y0) _ _ _ _ y0 y1 (rQ_block m c t y0) (nQ_block m c t y0) (iblk5 m c t) (x0_at m c t y0)).trans (row13 (gQ m c) t y0 y1)
  · by_cases h' : t.val % 8 = 7
    · rw [outsAt0_C m c t h h']; frame_out; idx_vars y
      simp only [pay24_at, pay25_at, pay26_at]
      exact (q_gen m c (rowOf t y0) _ _ _ _ y0 y1 (rQ_block m c t y0) (nQ_block m c t y0) (iblk5 m c t) (x0_at m c t y0)).trans (row13 (gQ m c) t y0 y1)
    · rw [outsAt0_B m c t h h']; frame_out; idx_vars y
      simp only [pay24_at, pay25_at, pay26_at]
      exact (q_gen m c (rowOf t y0) _ _ _ _ y0 y1 (rQ_block m c t y0) (nQ_block m c t y0) (iblk5 m c t) (x0_at m c t y0)).trans (row13 (gQ m c) t y0 y1)

set_option maxHeartbeats 1000000 in
theorem out14 (c : Dev nD) : (dats m 0 c).arrAt 14 (cfgs 0).N = (fun i => gKV m c (i 0) (i 1) : FVec Ideal S4096x256 .bf16) := by
  refine (dats m 0 c).arrAt_eq_of_covers 14 _ (by decide +kernel) fun t _ y => ?_
  blk_simp
  rw [after0_14]
  have hN := lt_of_lt_of_eq t.isLt N_0
  by_cases h : t.val % 8 = 0
  · rw [outsAt0_A m c t h (by omega)]; frame_out; idx_vars y
    exact (kv_gen m c (rowOf t y0) _ _ _ _ y0 y1 (rKV_block m c t y0) (nKV_block m c t y0) (iblk6 m c t) (x1_at m c t y0)).trans (row14 (gKV m c) t y0 y1)
  · by_cases h' : t.val % 8 = 7
    · rw [outsAt0_C m c t h h']; frame_out; idx_vars y
      exact (kv_gen m c (rowOf t y0) _ _ _ _ y0 y1 (rKV_block m c t y0) (nKV_block m c t y0) (iblk6 m c t) (x1_at m c t y0)).trans (row14 (gKV m c) t y0 y1)
    · rw [outsAt0_B m c t h h']; frame_out; idx_vars y
      exact (kv_gen m c (rowOf t y0) _ _ _ _ y0 y1 (rKV_block m c t y0) (nKV_block m c t y0) (iblk6 m c t) (x1_at m c t y0)).trans (row14 (gKV m c) t y0 y1)

set_option maxHeartbeats 1000000 in
theorem out15 (c : Dev nD) : (dats m 0 c).arrAt 15 (cfgs 0).N = (fun i => gKpe m c (i 0) (i 1) : FVec Ideal S4096x128 .bf16) := by
  refine (dats m 0 c).arrAt_eq_of_covers 15 _ (by decide +kernel) fun t _ y => ?_
  blk_simp
  rw [after0_15]
  have hN := lt_of_lt_of_eq t.isLt N_0
  by_cases h : t.val % 8 = 0
  · rw [outsAt0_A m c t h (by omega)]; frame_out; idx_vars y
    simp only [pay24_at, pay25_at, pay26_at]
    exact (kpe_block m c t y0 y1).trans (row15 (gKpe m c) t y0 y1)
  · by_cases h' : t.val % 8 = 7
    · rw [outsAt0_C m c t h h']; frame_out; idx_vars y
      simp only [pay24_at, pay25_at, pay26_at]
      exact (kpe_block m c t y0 y1).trans (row15 (gKpe m c) t y0 y1)
    · rw [outsAt0_B m c t h h']; frame_out; idx_vars y
      simp only [pay24_at, pay25_at, pay26_at]
      exact (kpe_block m c t y0 y1).trans (row15 (gKpe m c) t y0 y1)

end Cert.QkvIdeal.Value
-- ==== Proof.QkvSums.lean ====
/- The sums over all rows that `qkv_bwd` keeps from point to point. -/
module

public import proofs.«01_k».proof.Proof.QkvMath
public import Idealize.ShloMosaic.Lib.Pipeline.ReadBack
import all proofs.«01_k».proof.Proof.QkvHost
import all proofs.«01_k».proof.Proof.QkvPay
import all proofs.«01_k».proof.Proof.QkvMath

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- What one point adds to each of the five sums. -/
def addGq (c : Dev nD) (t : Fin cfg0.N) (j : S1x768.Idx) : EReal :=
  ∑ i : Fin 512, nQ m c (rowOf t i) (j 1) * (aCq m c (rowOf t i) (j 1) * rQ m c (rowOf t i))
def addGkv (c : Dev nD) (t : Fin cfg0.N) (j : S1x256.Idx) : EReal :=
  ∑ i : Fin 512, nKV m c (rowOf t i) (j 1) * (aCkv m c (rowOf t i) (j 1) * rKV m c (rowOf t i))
def addWq (c : Dev nD) (t : Fin cfg0.N) (j : S768x1024.Idx) : EReal :=
  ∑ i : Fin 512, yQ m c (rowOf t i) (j 0) * dqf (iblk m c 2 t) (iblk m c 10 t) (iblk m c 11 t) (iblk m c 12 t) (ix2 i (j 1))
def addWk (c : Dev nD) (t : Fin cfg0.N) (j : S256x1024.Idx) : EReal :=
  ∑ i : Fin 512, yKV m c (rowOf t i) (j 0) * dkf (iblk m c 3 t) (ix2 i (j 1))
def addWv (c : Dev nD) (t : Fin cfg0.N) (j : S256x1024.Idx) : EReal :=
  ∑ i : Fin 512, yKV m c (rowOf t i) (j 0) * dvf (iblk m c 4 t) (ix2 i (j 1))

theorem gq_gen (c : Dev nD) (t : Fin cfg0.N) (x : FVec Ideal S512x768 .f32) (r : FVec Ideal S512x1 .f32) (h : FVec Ideal S512x768 .f32)
    (p : FVec Ideal S1x768 .f32) (q : EReal) (d : Fin 768) (hp : p (ix2 0 d) = q) (hr : ∀ i, r (ix2 i 0) = rQ m c (rowOf t i))
    (hh : ∀ i, h (ix2 i d) = nQ m c (rowOf t i) d) (hx : ∀ i, x (ix2 i d) = aCq m c (rowOf t i) d) :
    k0_pay57 (F := Ideal) (k0_pay27 x) r h p (ix2 0 d) = q + addGq m c t (ix2 0 d) :=
  (dgq_at x r h p d).trans (Ideal.add_congr hp (Finset.sum_congr rfl fun i _ => Ideal.mul_congr (hh i) (Ideal.mul_congr (hx i) (hr i))))
theorem gkv_gen (c : Dev nD) (t : Fin cfg0.N) (x : FVec Ideal S512x256 .f32) (r : FVec Ideal S512x1 .f32) (h : FVec Ideal S512x256 .f32)
    (p : FVec Ideal S1x256 .f32) (q : EReal) (d : Fin 256) (hp : p (ix2 0 d) = q) (hr : ∀ i, r (ix2 i 0) = rKV m c (rowOf t i))
    (hh : ∀ i, h (ix2 i d) = nKV m c (rowOf t i) d) (hx : ∀ i, x (ix2 i d) = aCkv m c (rowOf t i) d) :
    k0_pay58 (F := Ideal) (k0_pay28 x) r h p (ix2 0 d) = q + addGkv m c t (ix2 0 d) :=
  (dgkv_at x r h p d).trans (Ideal.add_congr hp (Finset.sum_congr rfl fun i _ => Ideal.mul_congr (hh i) (Ideal.mul_congr (hx i) (hr i))))
theorem wq_gen (c : Dev nD) (t : Fin cfg0.N) (n : FVec Ideal S512x768 .bf16) (p : FVec Ideal S768x1024 .f32) (q : EReal) (d : Fin 768) (J : Fin 1024)
    (hp : p (ix2 d J) = q) (hn : ∀ i, n (ix2 i d) = yQ m c (rowOf t i) d) :
    k0_pay54 (F := Ideal) p (k0_pay53 n (dqf (iblk m c 2 t) (iblk m c 10 t) (iblk m c 11 t) (iblk m c 12 t))) (ix2 d J) = q + addWq m c t (ix2 d J) :=
  (dwq_at n _ p d J).trans (Ideal.add_congr hp (Finset.sum_congr rfl fun i _ => Ideal.mul_congr (hn i) rfl))
theorem wk_gen (c : Dev nD) (t : Fin cfg0.N) (n : FVec Ideal S512x256 .bf16) (p : FVec Ideal S256x1024 .f32) (q : EReal) (d : Fin 256) (J : Fin 1024)
    (hp : p (ix2 d J) = q) (hn : ∀ i, n (ix2 i d) = yKV m c (rowOf t i) d) :
    k0_pay55 (F := Ideal) n (dkf (iblk m c 3 t)) p (ix2 d J) = q + addWk m c t (ix2 d J) :=
  (dwk_at n _ p d J).trans (Ideal.add_congr hp (Finset.sum_congr rfl fun i _ => Ideal.mul_congr (hn i) rfl))
theorem wv_gen (c : Dev nD) (t : Fin cfg0.N) (n : FVec Ideal S512x256 .bf16) (p : FVec Ideal S256x1024 .f32) (q : EReal) (d : Fin 256) (J : Fin 1024)
    (hp : p (ix2 d J) = q) (hn : ∀ i, n (ix2 i d) = yKV m c (rowOf t i) d) :
    k0_pay56 (F := Ideal) n (dvf (iblk m c 4 t)) p (ix2 d J) = q + addWv m c t (ix2 d J) :=
  (dwv_at n _ p d J).trans (Ideal.add_congr hp (Finset.sum_congr rfl fun i _ => Ideal.mul_congr (hn i) rfl))

/-- The sums start from zero. -/
theorem start_q (i) : k0_pay22 (F := Ideal) i = 0 := by idx_vars i; pointwise [k0_pay22]
theorem start_kv (i) : k0_pay23 (F := Ideal) i = 0 := by idx_vars i; pointwise [k0_pay23]
theorem start_wq (i) : k0_pay19 (F := Ideal) i = 0 := by idx_vars i; pointwise [k0_pay19]
theorem start_wk (i) : k0_pay20 (F := Ideal) i = 0 := by idx_vars i; pointwise [k0_pay20]
theorem start_wv (i) : k0_pay21 (F := Ideal) i = 0 := by idx_vars i; pointwise [k0_pay21]

set_option maxHeartbeats 1000000 in
/-- The sum kept for the gradient of the scale of the queries. -/
theorem sum18 (c : Dev nD) (j : S1x768.Idx) : (outsAt0 m c t0_7.val t0_7.isLt).2.2.2.2.2.1 j = ∑ t : Fin cfg0.N, addGq m c t j := by
  rw [Pipeline.eq_sum_fin_of_reset_step_apply_last (fun n h => (outsAt0 m c n h).2.2.2.2.2.1) 8 (fun _ => 0) (addGq m c)
    (fun t h j => by
      rw [outsAt0_A m c t h (by have := lt_of_lt_of_eq t.isLt N_0; omega)]; frame_out; idx_vars j
      obtain rfl : j0 = 0 := Subsingleton.elim _ _
      simp only [pay24_at, pay25_at, pay26_at]
      exact gq_gen m c t _ _ _ _ _ j1 (start_q _) (rQ_block m c t) (fun i => nQ_block m c t i j1) (fun i => x0_at m c t i j1))
    (fun t h j => by
      by_cases h' : t.val % 8 = 7
      · rw [outsAt0_C m c t h h']; frame_out; idx_vars j
        obtain rfl : j0 = 0 := Subsingleton.elim _ _
        simp only [pay24_at, pay25_at, pay26_at]
        exact gq_gen m c t _ _ _ _ _ j1 rfl (rQ_block m c t) (fun i => nQ_block m c t i j1) (fun i => x0_at m c t i j1)
      · rw [outsAt0_B m c t h h']; frame_out; idx_vars j
        obtain rfl : j0 = 0 := Subsingleton.elim _ _
        simp only [pay24_at, pay25_at, pay26_at]
        exact gq_gen m c t _ _ _ _ _ j1 rfl (rQ_block m c t) (fun i => nQ_block m c t i j1) (fun i => x0_at m c t i j1)) (le_of_eq N_0) t0_7 rfl j, zero_add]

set_option maxHeartbeats 1000000 in
/-- The sum kept for the gradient of the scale of the keys and values. -/
theorem sum19 (c : Dev nD) (j : S1x256.Idx) : (outsAt0 m c t0_7.val t0_7.isLt).2.2.2.2.2.2.1 j = ∑ t : Fin cfg0.N, addGkv m c t j := by
  rw [Pipeline.eq_sum_fin_of_reset_step_apply_last (fun n h => (outsAt0 m c n h).2.2.2.2.2.2.1) 8 (fun _ => 0) (addGkv m c)
    (fun t h j => by
      rw [outsAt0_A m c t h (by have := lt_of_lt_of_eq t.isLt N_0; omega)]; frame_out; idx_vars j
      obtain rfl : j0 = 0 := Subsingleton.elim _ _
      exact gkv_gen m c t _ _ _ _ _ j1 (start_kv _) (rKV_block m c t) (fun i => nKV_block m c t i j1) (fun i => x1_at m c t i j1))
    (fun t h j => by
      by_cases h' : t.val % 8 = 7
      · rw [outsAt0_C m c t h h']; frame_out; idx_vars j
        obtain rfl : j0 = 0 := Subsingleton.elim _ _
        exact gkv_gen m c t _ _ _ _ _ j1 rfl (rKV_block m c t) (fun i => nKV_block m c t i j1) (fun i => x1_at m c t i j1)
      · rw [outsAt0_B m c t h h']; frame_out; idx_vars j
        obtain rfl : j0 = 0 := Subsingleton.elim _ _
        exact gkv_gen m c t _ _ _ _ _ j1 rfl (rKV_block m c t) (fun i => nKV_block m c t i j1) (fun i => x1_at m c t i j1)) (le_of_eq N_0) t0_7 rfl j, zero_add]

set_option maxHeartbeats 1000000 in
/-- The sums kept for the gradients of the weights. -/
theorem sumWq (c : Dev nD) (j : S768x1024.Idx) : (outsAt0 m c t0_7.val t0_7.isLt).2.2.2.2.2.2.2.1 j = ∑ t : Fin cfg0.N, addWq m c t j := by
  rw [Pipeline.eq_sum_fin_of_reset_step_apply_last (fun n h => (outsAt0 m c n h).2.2.2.2.2.2.2.1) 8 (fun _ => 0) (addWq m c)
    (fun t h j => by
      rw [outsAt0_A m c t h (by have := lt_of_lt_of_eq t.isLt N_0; omega)]; frame_out; idx_vars j
      simp only [pay24_at, pay25_at, pay26_at]
      exact wq_gen m c t _ _ _ j0 j1 (start_wq _) (fun i => yQ_block m c t i j0))
    (fun t h j => by
      by_cases h' : t.val % 8 = 7
      · rw [outsAt0_C m c t h h']; frame_out; idx_vars j
        simp only [pay24_at, pay25_at, pay26_at]
        exact wq_gen m c t _ _ _ j0 j1 (congrFun (read_unread_whole cc0_scratch0 _ _) _) (fun i => yQ_block m c t i j0)
      · rw [outsAt0_B m c t h h']; frame_out; idx_vars j
        simp only [pay24_at, pay25_at, pay26_at]
        exact wq_gen m c t _ _ _ j0 j1 (congrFun (read_unread_whole cc0_scratch0 _ _) _) (fun i => yQ_block m c t i j0)) (le_of_eq N_0) t0_7 rfl j, zero_add]

set_option maxHeartbeats 1000000 in
/-- The key half. -/
theorem sumWk (c : Dev nD) (j : S256x1024.Idx) : (outsAt0 m c t0_7.val t0_7.isLt).2.2.2.2.2.2.2.2.1 j = ∑ t : Fin cfg0.N, addWk m c t j := by
  rw [Pipeline.eq_sum_fin_of_reset_step_apply_last (fun n h => (outsAt0 m c n h).2.2.2.2.2.2.2.2.1) 8 (fun _ => 0) (addWk m c)
    (fun t h j => by
      rw [outsAt0_A m c t h (by have := lt_of_lt_of_eq t.isLt N_0; omega)]; frame_out; idx_vars j
      exact wk_gen m c t _ _ _ j0 j1 (start_wk _) (fun i => yKV_block m c t i j0))
    (fun t h j => by
      by_cases h' : t.val % 8 = 7
      · rw [outsAt0_C m c t h h']; frame_out; idx_vars j
        exact wk_gen m c t _ _ _ j0 j1 (congrFun (read_unread_whole cc0_scratch1 _ _) _) (fun i => yKV_block m c t i j0)
      · rw [outsAt0_B m c t h h']; frame_out; idx_vars j
        exact wk_gen m c t _ _ _ j0 j1 (congrFun (read_unread_whole cc0_scratch1 _ _) _) (fun i => yKV_block m c t i j0)) (le_of_eq N_0) t0_7 rfl j, zero_add]

set_option maxHeartbeats 1000000 in
/-- The value half. -/
theorem sumWv (c : Dev nD) (j : S256x1024.Idx) : (outsAt0 m c t0_7.val t0_7.isLt).2.2.2.2.2.2.2.2.2 j = ∑ t : Fin cfg0.N, addWv m c t j := by
  rw [Pipeline.eq_sum_fin_of_reset_step_apply_last (fun n h => (outsAt0 m c n h).2.2.2.2.2.2.2.2.2) 8 (fun _ => 0) (addWv m c)
    (fun t h j => by
      rw [outsAt0_A m c t h (by have := lt_of_lt_of_eq t.isLt N_0; omega)]; frame_out; idx_vars j
      exact wv_gen m c t _ _ _ j0 j1 (start_wv _) (fun i => yKV_block m c t i j0))
    (fun t h j => by
      by_cases h' : t.val % 8 = 7
      · rw [outsAt0_C m c t h h']; frame_out; idx_vars j
        exact wv_gen m c t _ _ _ j0 j1 (congrFun (read_unread_whole cc0_scratch2 _ _) _) (fun i => yKV_block m c t i j0)
      · rw [outsAt0_B m c t h h']; frame_out; idx_vars j
        exact wv_gen m c t _ _ _ j0 j1 (congrFun (read_unread_whole cc0_scratch2 _ _) _) (fun i => yKV_block m c t i j0)) (le_of_eq N_0) t0_7 rfl j, zero_add]

end Cert.QkvIdeal.Value
-- ==== Proof.QkvEmit.lean ====
/- How `qkv_bwd` packs its weight sums into the results at the last point. -/
module

public import proofs.«01_k».proof.Proof.QkvSums
public import Idealize.ShloMosaic.Lib.Pipeline.ReadBack
import all proofs.«01_k».proof.Proof.QkvSums

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- A choice by the lane. -/
theorem sel_lt (l k : Fin 128) (a b : EReal) :
    Scalar.select (IntOp.cmpi .slt (BitVec.ofNat 32 l.val) (BitVec.ofNat 32 k.val)) a b = if l.val < k.val then a else b := by
  rw [show IntOp.cmpi .slt (BitVec.ofNat 32 l.val) (BitVec.ofNat 32 k.val) = if l.val < k.val then 1#1 else 0#1 by revert l k; decide +kernel]
  split <;> rfl

/-- The six column tiles of the weight of the queries, each from two heads. -/
theorem tile3_at (u v : FVec Ideal S768x128 .f32) (d : Fin 768) (l : Fin 128) :
    k0_pay3 (F := Ideal) u v (ix2 d l) = if l.val < 96 then u (ix2 d l) else v (ix2 d ⟨(l.val + 128 - 96) % 128, by omega⟩) := by
  pointwise [k0_pay3]; exact sel_lt l 96 _ _
theorem tile4_at (u v : FVec Ideal S768x128 .f32) (d : Fin 768) (l : Fin 128) :
    k0_pay4 (F := Ideal) u v (ix2 d l) = if l.val < 64 then u (ix2 d ⟨(l.val + 128 - 96) % 128, by omega⟩) else v (ix2 d ⟨(l.val + 128 - 64) % 128, by omega⟩) := by
  pointwise [k0_pay4]; exact sel_lt l 64 _ _
theorem tile5_at (u v : FVec Ideal S768x128 .f32) (d : Fin 768) (l : Fin 128) :
    k0_pay5 (F := Ideal) u v (ix2 d l) = if l.val < 32 then u (ix2 d ⟨(l.val + 128 - 64) % 128, by omega⟩) else v (ix2 d ⟨(l.val + 128 - 32) % 128, by omega⟩) := by
  pointwise [k0_pay5]; exact sel_lt l 32 _ _
theorem tile6_at (u v : FVec Ideal S768x128 .f32) (d : Fin 768) (l : Fin 128) :
    k0_pay6 (F := Ideal) (iota .tc S768x128 32 [1] iota_S768x128_d1_w32) u v (ix2 d l) = if l.val < 96 then u (ix2 d l) else v (ix2 d ⟨(l.val + 128 - 96) % 128, by omega⟩) := by
  pointwise [k0_pay6]; exact sel_lt l 96 _ _
theorem tile7_at (u v : FVec Ideal S768x128 .f32) (d : Fin 768) (l : Fin 128) :
    k0_pay7 (F := Ideal) (iota .tc S768x128 32 [1] iota_S768x128_d1_w32) u v (ix2 d l) = if l.val < 64 then u (ix2 d ⟨(l.val + 128 - 96) % 128, by omega⟩) else v (ix2 d ⟨(l.val + 128 - 64) % 128, by omega⟩) := by
  pointwise [k0_pay7]; exact sel_lt l 64 _ _
theorem tile8_at (u v : FVec Ideal S768x128 .f32) (d : Fin 768) (l : Fin 128) :
    k0_pay8 (F := Ideal) (iota .tc S768x128 32 [1] iota_S768x128_d1_w32) u v (ix2 d l) = if l.val < 32 then u (ix2 d ⟨(l.val + 128 - 64) % 128, by omega⟩) else v (ix2 d ⟨(l.val + 128 - 32) % 128, by omega⟩) := by
  pointwise [k0_pay8]; exact sel_lt l 32 _ _

theorem ld_wq (Z : FVec Ideal S768x1024 .f32) (o : ℕ) (inb) (d : Fin 768) (l : Fin 128) (J : Fin 1024) (h : J.val = o + l.val) :
    View.ld (Val := Elt Ideal) (e' := EltTy.f32) Z (Rect.unit (s := S768x1024) ![0, o] ![768, 128] inb) (ix2 d l) = Z (ix2 d J) :=
  congrArg Z (funext fun a => Fin.ext ((Rect.idx_unit_val _ _ _ _ a).trans (by
    match a with
    | ⟨0, _⟩ => exact Nat.zero_add _
    | ⟨1, _⟩ => exact h.symm)))

set_option maxHeartbeats 1000000 in
/-- The weight of the queries as the last point packs it: the columns of the heads without their padding. -/
theorem last16 (c : Dev nD) (t : Fin cfg0.N) (h : ¬t.val % 8 = 0) (h' : t.val % 8 = 7) (d j : Fin 768) :
    (outsAt0 m c t.val t.isLt).2.2.2.1 (ix2 d j)
      = (outsAt0 m c t.val t.isLt).2.2.2.2.2.2.2.1 (ix2 d ⟨j.val / 96 * 128 + j.val % 96, by omega⟩) := by
  rw [outsAt0_C m c t h h']
  frame_out
  canon_tiles x hx
  all_goals
    rw [View.readCov_fill _ _ _ _ _ (by decide), View.readCov_fill _ _ _ _ _ (by decide)]
    idx_vars x
    obtain rfl : d = x0 := Fin.ext hx0
    first | rw [tile3_at] | rw [tile4_at] | rw [tile5_at] | rw [tile6_at] | rw [tile7_at] | rw [tile8_at]
    split <;> exact ld_wq _ _ _ d _ _ (by simp only; omega)

/-- The tiles of the weight of the keys and values: a head's keys in its first 64 columns, its values in the others.
An odd head's values lie in the second half of its tile already; an even head's are rolled there. -/
theorem kvTile2_at (u v : FVec Ideal S256x128 .f32) (d : Fin 256) (l : Fin 128) :
    k0_pay2 (F := Ideal) (iota .tc S256x128 32 [1] iota_S256x128_d1_w32) u v (ix3 (0 : Fin 1) d l) = if l.val < 64 then v (ix2 d l) else u (ix2 d l) := by
  pointwise [k0_pay2]; exact sel_lt l 64 _ _
theorem kvTile12_at (u v : FVec Ideal S256x128 .f32) (d : Fin 256) (l : Fin 128) :
    k0_pay12 (F := Ideal) (iota .tc S256x128 32 [1] iota_S256x128_d1_w32) u v (ix3 (0 : Fin 1) d l) = if l.val < 64 then v (ix2 d l) else u (ix2 d l) := by
  pointwise [k0_pay12]; exact sel_lt l 64 _ _
theorem kvTile15_at (u v : FVec Ideal S256x128 .f32) (d : Fin 256) (l : Fin 128) :
    k0_pay15 (F := Ideal) (k0_pay14 (iota .tc S256x128 32 [1] iota_S256x128_d1_w32) u v) (ix3 (0 : Fin 1) d l) = if l.val < 64 then v (ix2 d l) else u (ix2 d l) := by
  pointwise [k0_pay15, k0_pay14]; exact sel_lt l 64 _ _
theorem kvTile17_at (u v : FVec Ideal S256x128 .f32) (d : Fin 256) (l : Fin 128) :
    k0_pay17 (F := Ideal) (iota .tc S256x128 32 [1] iota_S256x128_d1_w32) u v (ix3 (0 : Fin 1) d l) = if l.val < 64 then v (ix2 d l) else u (ix2 d l) := by
  pointwise [k0_pay17]; exact sel_lt l 64 _ _
theorem kvTile1_at (u v : FVec Ideal S256x128 .f32) (d : Fin 256) (l : Fin 128) :
    k0_pay1 (F := Ideal) (k0_pay18 (iota .tc S256x128 32 [1] iota_S256x128_d1_w32) u v) (ix3 (0 : Fin 1) d l) = if l.val < 64 then v (ix2 d l) else u (ix2 d ⟨(l.val + 128 - 64) % 128, by omega⟩) := by
  pointwise [k0_pay1, k0_pay18]; exact sel_lt l 64 _ _
theorem kvTile11_at (u v : FVec Ideal S256x128 .f32) (d : Fin 256) (l : Fin 128) :
    k0_pay11 (F := Ideal) (k0_pay9 u) k0_pay10 v (ix3 (0 : Fin 1) d l) = if l.val < 64 then v (ix2 d l) else u (ix2 d ⟨(l.val + 128 - 64) % 128, by omega⟩) := by
  pointwise [k0_pay11, k0_pay9, k0_pay10]; exact sel_lt l 64 _ _
theorem kvTile13_at (u v : FVec Ideal S256x128 .f32) (d : Fin 256) (l : Fin 128) :
    k0_pay13 (F := Ideal) (iota .tc S256x128 32 [1] iota_S256x128_d1_w32) u v (ix3 (0 : Fin 1) d l) = if l.val < 64 then v (ix2 d l) else u (ix2 d ⟨(l.val + 128 - 64) % 128, by omega⟩) := by
  pointwise [k0_pay13]; exact sel_lt l 64 _ _
theorem kvTile16_at (u v : FVec Ideal S256x128 .f32) (d : Fin 256) (l : Fin 128) :
    k0_pay16 (F := Ideal) (iota .tc S256x128 32 [1] iota_S256x128_d1_w32) u v (ix3 (0 : Fin 1) d l) = if l.val < 64 then v (ix2 d l) else u (ix2 d ⟨(l.val + 128 - 64) % 128, by omega⟩) := by
  pointwise [k0_pay16]; exact sel_lt l 64 _ _

theorem ld_wkv (Z : FVec Ideal S256x1024 .f32) (o : ℕ) (inb) (d : Fin 256) (l : Fin 128) (J : Fin 1024) (h : J.val = o + l.val) :
    View.ld (Val := Elt Ideal) (e' := EltTy.f32) Z (Rect.unit (s := S256x1024) ![0, o] ![256, 128] inb) (ix2 d l) = Z (ix2 d J) :=
  congrArg Z (funext fun a => Fin.ext ((Rect.idx_unit_val _ _ _ _ a).trans (by
    match a with
    | ⟨0, _⟩ => exact Nat.zero_add _
    | ⟨1, _⟩ => exact h.symm)))

set_option maxHeartbeats 1000000 in
/-- The weight of the keys and values as the last point packs it: two heads to a block, a head's keys before its values. -/
theorem last17 (c : Dev nD) (t : Fin cfg0.N) (h : ¬t.val % 8 = 0) (h' : t.val % 8 = 7) (p : Fin 4) (d x : Fin 256) :
    (outsAt0 m c t.val t.isLt).2.2.2.2.1 (ix3 p d x)
      = if x.val % 128 < 64 then (outsAt0 m c t.val t.isLt).2.2.2.2.2.2.2.2.1 (ix2 d ⟨p.val * 256 + x.val, by omega⟩)
        else (outsAt0 m c t.val t.isLt).2.2.2.2.2.2.2.2.2 (ix2 d ⟨p.val * 256 + x.val / 128 * 192 + x.val % 64, by omega⟩) := by
  rw [outsAt0_C m c t h h']
  frame_out
  canon_tiles y hy
  all_goals
    rw [View.readCov_fill _ _ _ _ _ (by decide), View.readCov_fill _ _ _ _ _ (by decide)]
    idx_vars y
    have e1 : d = y1 := Fin.ext (by omega)
    have e2 : y0 = 0 := Subsingleton.elim _ _
    subst e1 e2
    first | rw [kvTile1_at] | rw [kvTile2_at] | rw [kvTile11_at] | rw [kvTile12_at] | rw [kvTile13_at] | rw [kvTile15_at] | rw [kvTile16_at] | rw [kvTile17_at]
    split
    · refine Eq.trans ?_ (if_pos (by omega)).symm
      exact ld_wkv _ _ _ d _ _ (by simp only; omega)
    · refine Eq.trans ?_ (if_neg (by omega)).symm
      exact ld_wkv _ _ _ d _ _ (by simp only; omega)

end Cert.QkvIdeal.Value
-- ==== Proof.QkvFinal.lean ====
/- The last four results of `qkv_bwd`: the sums over all rows, as the arrays hold them after the run. -/
module

public import proofs.«01_k».proof.Proof.QkvEmit
import all proofs.«01_k».proof.Proof.QkvEmit

@[expose] public section

set_option maxRecDepth 16384

noncomputable section

namespace Cert.QkvIdeal.Value

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- The cotangents of the two gains. -/
def gGq (c : Dev nD) (d : Fin 768) : EReal := ∑ s : Fin 4096, nQ m c s d * (aCq m c s d * rQ m c s)
def gGkv (c : Dev nD) (d : Fin 256) : EReal := ∑ s : Fin 4096, nKV m c s d * (aCkv m c s d * rKV m c s)

/-- The cotangents of the two weights. -/
def gWq (c : Dev nD) (d j : Fin 768) : EReal := ∑ s : Fin 4096, yQ m c s d * cQ m c s j
def gWkv (c : Dev nD) (p : Fin 4) (d x : Fin 256) : EReal := ∑ s : Fin 4096, yKV m c s d * cKV m c s ⟨p.val * 256 + x.val, by omega⟩

/-- A sum over the points and the rows of each is the sum over the rows. -/
theorem sum_rows (f : Fin 4096 → EReal) : ∑ t : Fin cfg0.N, ∑ i : Fin 512, f (rowOf t i) = ∑ s, f s :=
  (Fin.sum_univ_tiles 8 512 rfl f).symm

theorem last_not_first : ¬(t0_7 : Fin cfg0.N).val % 8 = 0 := by decide
theorem last_is_last : (t0_7 : Fin cfg0.N).val % 8 = 7 := by decide

theorem sumWq_all (c : Dev nD) (d j : Fin 768) : ∑ t : Fin cfg0.N, addWq m c t (ix2 d ⟨j.val / 96 * 128 + j.val % 96, by omega⟩) = gWq m c d j :=
  (Finset.sum_congr rfl fun t _ => Finset.sum_congr rfl fun i _ =>
    Ideal.mul_congr rfl ((wideQ m c t i ⟨j.val / 96, by omega⟩ ⟨j.val % 96, by omega⟩).trans (dif_pos (Nat.mod_lt _ (by decide))))).trans
    (sum_rows fun s => yQ m c s d * cQ m c s j)

theorem sumWk_all (c : Dev nD) (p : Fin 4) (d x : Fin 256) (h : x.val % 128 < 64) :
    ∑ t : Fin cfg0.N, addWk m c t (ix2 d ⟨p.val * 256 + x.val, by omega⟩) = gWkv m c p d x := by
  refine (Finset.sum_congr rfl fun t _ => Finset.sum_congr rfl fun i _ => Ideal.mul_congr rfl ?_).trans
    (sum_rows fun s => yKV m c s d * cKV m c s ⟨p.val * 256 + x.val, by omega⟩)
  have e : (⟨p.val * 256 + x.val, by omega⟩ : Fin 1024) = ⟨(p.val * 2 + x.val / 128) * 128 + x.val % 128, by omega⟩ := Fin.ext (by simp only; omega)
  refine (congrArg (fun j => dkf (iblk m c 3 t) (ix2 i j)) e).trans ?_
  refine (wideK m c t i ⟨p.val * 2 + x.val / 128, by omega⟩ ⟨x.val % 128, by omega⟩).trans ?_
  refine (dif_pos (show x.val % 128 < 96 by omega)).trans (Eq.trans ?_ (dif_pos (show (p.val * 256 + x.val) % 128 < 64 by omega)).symm)
  have e1 : (⟨p.val * 2 + x.val / 128, by omega⟩ : Fin 8) = ⟨(p.val * 256 + x.val) / 128, by omega⟩ := Fin.ext (by simp only; omega)
  have e2 : (⟨x.val % 128, by omega⟩ : Fin 96) = ⟨(p.val * 256 + x.val) % 128, by omega⟩ := Fin.ext (by simp only; omega)
  exact congrArg₂ (fun a b => aDk m c a (rowOf t i) b) e1 e2

theorem sumWv_all (c : Dev nD) (p : Fin 4) (d x : Fin 256) (h : ¬x.val % 128 < 64) :
    ∑ t : Fin cfg0.N, addWv m c t (ix2 d ⟨p.val * 256 + x.val / 128 * 192 + x.val % 64, by omega⟩) = gWkv m c p d x := by
  refine (Finset.sum_congr rfl fun t _ => Finset.sum_congr rfl fun i _ => Ideal.mul_congr rfl ?_).trans
    (sum_rows fun s => yKV m c s d * cKV m c s ⟨p.val * 256 + x.val, by omega⟩)
  have e : (⟨p.val * 256 + x.val / 128 * 192 + x.val % 64, by omega⟩ : Fin 1024)
      = ⟨(p.val * 2 + x.val / 128) * 128 + (x.val / 128 * 64 + x.val % 64), by omega⟩ := Fin.ext (by simp only; omega)
  refine (congrArg (fun j => dvf (iblk m c 4 t) (ix2 i j)) e).trans ?_
  refine (wideV m c t i ⟨p.val * 2 + x.val / 128, by omega⟩ ⟨x.val / 128 * 64 + x.val % 64, by omega⟩ (by simp only; omega)).trans ?_
  refine Eq.trans ?_ (dif_neg (show ¬(p.val * 256 + x.val) % 128 < 64 by omega)).symm
  have e1 : (⟨p.val * 2 + x.val / 128, by omega⟩ : Fin 8) = ⟨(p.val * 256 + x.val) / 128, by omega⟩ := Fin.ext (by simp only; omega)
  have e2 : (⟨(x.val / 128 * 64 + x.val % 64) % 64, by omega⟩ : Fin 64) = ⟨(p.val * 256 + x.val) % 128 - 64, by omega⟩ := Fin.ext (by simp only; omega)
  exact congrArg₂ (fun a b => aDv m c a (rowOf t i) b) e1 e2

theorem out16 (c : Dev nD) : (dats m 0 c).arrAt 16 (cfgs 0).N = (fun i => gWq m c (i 0) (i 1) : FVec Ideal S768x768 .bf16) := by
  refine (dats m 0 c).arrAt_eq_of_after_last 16 t0_7 (by decide +kernel) _ fun j => ?_
  blk_simp
  rw [after0_16]
  idx_vars j
  exact (last16 m c t0_7 last_not_first last_is_last j0 j1).trans ((sumWq m c _).trans (sumWq_all m c j0 j1))

theorem out17 (c : Dev nD) : (dats m 0 c).arrAt 17 (cfgs 0).N = (fun i => gWkv m c (i 0) (i 1) (i 2) : FVec Ideal S4x256x256 .bf16) := by
  refine (dats m 0 c).arrAt_eq_of_after_last 17 t0_7 (by decide +kernel) _ fun j => ?_
  blk_simp
  rw [after0_17]
  idx_vars j
  refine (last17 m c t0_7 last_not_first last_is_last j0 j1 j2).trans ?_
  split
  · exact (sumWk m c _).trans (sumWk_all m c j0 j1 j2 ‹_›)
  · exact (sumWv m c _).trans (sumWv_all m c j0 j1 j2 ‹_›)

theorem out18 (c : Dev nD) : (dats m 0 c).arrAt 18 (cfgs 0).N = (fun i => gGq m c (i 1) : FVec Ideal S1x768 .f32) := by
  refine (dats m 0 c).arrAt_eq_of_after_last 18 t0_7 (by decide +kernel) _ fun j => ?_
  blk_simp
  rw [after0_18]
  idx_vars j
  exact (sum18 m c _).trans (sum_rows fun s => nQ m c s j1 * (aCq m c s j1 * rQ m c s))

theorem out19 (c : Dev nD) : (dats m 0 c).arrAt 19 (cfgs 0).N = (fun i => gGkv m c (i 1) : FVec Ideal S1x256 .f32) := by
  refine (dats m 0 c).arrAt_eq_of_after_last 19 t0_7 (by decide +kernel) _ fun j => ?_
  blk_simp
  rw [after0_19]
  idx_vars j
  exact (sum19 m c _).trans (sum_rows fun s => nKV m c s j1 * (aCkv m c s j1 * rKV m c s))

end Cert.QkvIdeal.Value
-- ==== Proof.QkvClaim.lean ====
/- The value claim of `qkv_bwd`: on finite arguments the kernel leaves what the reference leaves. -/
module

public import proofs.«01_k».proof.Defs
public import proofs.«01_k».proof.Proof.Gen.Pre_qkv_finite
public import proofs.«01_k».proof.Proof.Gen.QkvRefIdeal.Run
public import proofs.«01_k».proof.Proof.QkvPoint
public import proofs.«01_k».proof.Proof.QkvFinal
public import proofs.«01_k».proof.Proof.QkvRefPoint
public import proofs.«01_k».proof.Proof.NormGrad
import all proofs.«01_k».proof.Proof.QkvFinal

@[expose] public section

set_option maxRecDepth 16384

noncomputable section

namespace Cert.QkvClaim

open Idealize.ShloMosaic Idealize.ShloMosaic.TcCoe Idealize.SL.Sem

/-- Every entry of an array is a real. -/
def Real {s : Shape} (x : FVec Ideal s .f32) : Prop := ∀ i, ∃ r : ℝ, x i = (r : EReal)

/-- What the precondition says of the arguments. -/
theorem reals (x0 : FVec Ideal Pre_qkv_finite.S1x4096x768 .f32) (x1 : FVec Ideal Pre_qkv_finite.S1x4096x256 .f32)
    (x2 : FVec Ideal Pre_qkv_finite.S1x4096x32 .f32) (x3 : FVec Ideal Pre_qkv_finite.S1x768 .f32) (x4 : FVec Ideal Pre_qkv_finite.S1x256 .f32)
    (x5 : FVec Ideal Pre_qkv_finite.S1x768x768 .f32) (x6 : FVec Ideal Pre_qkv_finite.S1x256x1024 .f32) (x7 x8 : FVec Ideal Pre_qkv_finite.S1x8x4096x96 .f32)
    (x9 : FVec Ideal Pre_qkv_finite.S1x8x4096x64 .f32) (h : Pre_qkv_finite.fn (F := Ideal) x0 x1 x2 x3 x4 x5 x6 x7 x8 x9 = fun _ => 1#1) :
    Real x0 ∧ Real x1 ∧ Real x3 ∧ Real x4 ∧ Real x5 ∧ Real x6 ∧ Real x7 ∧ Real x8 ∧ Real x9 := by
  haveI : Subsingleton Pre_qkv_finite.S_.Idx := ⟨fun a b => funext fun k => k.elim0⟩
  have h0 := congrFun h (fun k => k.elim0)
  obtain ⟨h8, p9⟩ := IntOp.andi_eq_one.1 h0
  obtain ⟨h7, p8⟩ := IntOp.andi_eq_one.1 h8
  obtain ⟨h6, p7⟩ := IntOp.andi_eq_one.1 h7
  obtain ⟨h5, p6⟩ := IntOp.andi_eq_one.1 h6
  obtain ⟨h4, p5⟩ := IntOp.andi_eq_one.1 h5
  obtain ⟨h3, p4⟩ := IntOp.andi_eq_one.1 h4
  obtain ⟨h1, p3⟩ := IntOp.andi_eq_one.1 h3
  obtain ⟨p0, p1⟩ := IntOp.andi_eq_one.1 h1
  exact ⟨RealNum.real_of_all x0 _ _ _ _ _ _ p0, RealNum.real_of_all x1 _ _ _ _ _ _ p1, RealNum.real_of_all x3 _ _ _ _ _ _ p3,
    RealNum.real_of_all x4 _ _ _ _ _ _ p4, RealNum.real_of_all x5 _ _ _ _ _ _ p5, RealNum.real_of_all x6 _ _ _ _ _ _ p6,
    RealNum.real_of_all x7 _ _ _ _ _ _ p7, RealNum.real_of_all x8 _ _ _ _ _ _ p8, RealNum.real_of_all x9 _ _ _ _ _ _ p9⟩

/-- A sum of products of reals is a real. -/
theorem sum_mul_real {n : ℕ} (f g : Fin n → EReal) (hf : ∀ j, ∃ r : ℝ, f j = (r : EReal)) (hg : ∀ j, ∃ r : ℝ, g j = (r : EReal)) :
    ∃ r : ℝ, ∑ j, f j * g j = (r : EReal) := by
  choose a ha using hf
  choose b hb using hg
  exact ⟨_, (Finset.sum_congr rfl fun j _ => (Ideal.mul_congr (ha j) (hb j)).trans (EReal.coe_mul _ _).symm).trans (RealNum.sum_coe _ _)⟩

/-- The two ways of writing a norm's gradient agree on real entries. -/
theorem norm_grad {n : ℕ} (x g h : Fin n → EReal) (M K E R c : EReal) (k e : ℝ) (hK : K = (k : EReal)) (hE : E = (e : EReal)) (hc : c = ((-(1 / 2) : ℝ) : EReal)) (hk : 0 < k) (he : 0 < e)
    (hx : ∀ d, ∃ r : ℝ, x d = (r : EReal)) (hg : ∀ d, ∃ r : ℝ, g d = (r : EReal)) (hh : ∀ d, ∃ r : ℝ, h d = (r : EReal))
    (hM : M = Ideal.div (∑ d, x d * x d) K + E) (hR : R = Ideal.rsqrt M) (d : Fin n) :
    R * (h d * g d) - x d * (R * R * R) * Ideal.div (∑ d, x d * (h d * g d)) K
      = h d * g d * R + x d * Ideal.div ((∑ d, x d * (h d * g d)) * (c * Ideal.div R M)) K + Ideal.div ((∑ d, x d * (h d * g d)) * (c * Ideal.div R M)) K * x d := by
  choose x' hx' using hx
  choose g' hg' using hg
  choose h' hh' using hh
  obtain rfl : x = fun d => (x' d : EReal) := funext hx'
  obtain rfl : g = fun d => (g' d : EReal) := funext hg'
  obtain rfl : h = fun d => (h' d : EReal) := funext hh'
  subst hK hE hc hR hM
  have := NormGrad.grad_eq 0 x' g' h' k e hk he d
  rw [zero_add, zero_add] at this
  exact this

section
open Cert.QkvIdeal Cert.QkvIdeal.Value Cert.QkvRefIdeal.Read

variable (m : (ℓ : Loc QkvIdeal.nD QkvIdeal.τ QkvIdeal.sig) → Buf (Elt Ideal) ℓ)

/-- The arguments by position. -/
abbrev a0 (c : Dev nD) := m ((c.tc : Thread nD τ).loc main_arg0)
abbrev a1 (c : Dev nD) := m ((c.tc : Thread nD τ).loc main_arg1)
abbrev a3 (c : Dev nD) := m ((c.tc : Thread nD τ).loc main_arg3)
abbrev a4 (c : Dev nD) := m ((c.tc : Thread nD τ).loc main_arg4)
abbrev a5 (c : Dev nD) := m ((c.tc : Thread nD τ).loc main_arg5)
abbrev a6 (c : Dev nD) := m ((c.tc : Thread nD τ).loc main_arg6)
abbrev a7 (c : Dev nD) := m ((c.tc : Thread nD τ).loc main_arg7)
abbrev a8 (c : Dev nD) := m ((c.tc : Thread nD τ).loc main_arg8)
abbrev a9 (c : Dev nD) := m ((c.tc : Thread nD τ).loc main_arg9)

/-- The cotangents of the normed inputs, in the two programs. -/
theorem nQ_ref (c : Dev nD) (s : Fin 4096) (d : Fin 768) : nQ m c s d = val_main_v170 (F := Ideal) (a5 m c) (a7 m c) (ix3 0 s d) := by
  refine Eq.trans ?_ (v170_at ..).symm
  exact Finset.sum_congr rfl fun j _ => Ideal.mul_congr (v167_at (a7 m c) s j).symm rfl
theorem nKV_ref (c : Dev nD) (s : Fin 4096) (d : Fin 256) : nKV m c s d = val_main_v124 (F := Ideal) (a6 m c) (a8 m c) (a9 m c) (ix3 0 s d) := by
  refine Eq.trans ?_ (v124_at ..).symm
  exact Finset.sum_congr rfl fun j _ => Ideal.mul_congr (v121_at (a8 m c) (a9 m c) s j).symm rfl
theorem rQ_ref (c : Dev nD) (s : Fin 4096) : rQ m c s = Ideal.rsqrt (val_main_v25 (F := Ideal) (a0 m c) (ix3 0 s 0)) :=
  congrArg Ideal.rsqrt (v25_at (a0 m c) s).symm
theorem rKV_ref (c : Dev nD) (s : Fin 4096) : rKV m c s = Ideal.rsqrt (val_main_v62 (F := Ideal) (a1 m c) (ix3 0 s 0)) :=
  congrArg Ideal.rsqrt (v62_at (a1 m c) s).symm

variable (hm : Pre_QkvIdeal_qkv_finite m)
include hm

theorem args_real (c : Dev nD) : Real (a0 m c) ∧ Real (a1 m c) ∧ Real (a3 m c) ∧ Real (a4 m c) ∧ Real (a5 m c) ∧ Real (a6 m c) ∧ Real (a7 m c)
    ∧ Real (a8 m c) ∧ Real (a9 m c) := reals _ _ _ _ _ _ _ _ _ _ (hm c)

theorem nQ_real (c : Dev nD) (s : Fin 4096) (d : Fin 768) : ∃ r : ℝ, nQ m c s d = (r : EReal) := by
  obtain ⟨-, -, -, -, h5, -, h7, -, -⟩ := args_real m hm c
  exact sum_mul_real _ _ (fun j => unrope_real _ (fun l => h7 _) s _) fun j => h5 _
theorem nKV_real (c : Dev nD) (s : Fin 4096) (d : Fin 256) : ∃ r : ℝ, nKV m c s d = (r : EReal) := by
  obtain ⟨-, -, -, -, -, h6, -, h8, h9⟩ := args_real m hm c
  refine sum_mul_real _ _ (fun j => ?_) fun j => h6 _
  unfold cKV
  split
  · exact h8 _
  · exact h9 _

/-- The gradients of the compressed rows. -/
theorem dcq_ref (c : Dev nD) : (fun i => gQ m c (i 0) (i 1) : FVec Ideal S4096x768 .bf16)
    = val_main_v202 (F := Ideal) (a0 m c) (a3 m c) (a5 m c) (a7 m c) := by
  obtain ⟨h0, -, h3, -, -, -, -, -, -⟩ := args_real m hm c
  obtain ⟨e, he, hE⟩ := k_eps
  funext i
  idx_vars i
  refine Eq.trans ?_ (v202_at ..).symm
  rw [v185_at, v29_at]
  simp only [← nQ_ref, ← rQ_ref]
  exact norm_grad (aCq m c i0) (aGq m c) (nQ m c i0) _ _ _ (rQ m c i0) _ 768 e k_768 hE k_mhalf (by norm_num) he (fun d => h0 _) (fun d => h3 _)
    (fun d => nQ_real m hm c i0 d) (v25_at (a0 m c) i0) (rQ_ref m c i0) i1
theorem dckv_ref (c : Dev nD) : (fun i => gKV m c (i 0) (i 1) : FVec Ideal S4096x256 .bf16)
    = val_main_v204 (F := Ideal) (a1 m c) (a4 m c) (a6 m c) (a8 m c) (a9 m c) := by
  obtain ⟨-, h1, -, h4, -, -, -, -, -⟩ := args_real m hm c
  obtain ⟨e, he, hE⟩ := k_eps
  funext i
  idx_vars i
  refine Eq.trans ?_ (v204_at ..).symm
  rw [v139_at, v66_at]
  simp only [← nKV_ref, ← rKV_ref]
  exact norm_grad (aCkv m c i0) (aGkv m c) (nKV m c i0) _ _ _ (rKV m c i0) _ 256 e k_256 hE k_mhalf (by norm_num) he (fun d => h1 _) (fun d => h4 _)
    (fun d => nKV_real m hm c i0 d) (v62_at (a1 m c) i0) (rKV_ref m c i0) i1

omit hm

/-- The gradient of the shared rotary key. -/
theorem dkpe_ref (c : Dev nD) : (fun i => gKpe m c (i 0) (i 1) : FVec Ideal S4096x128 .bf16) = val_main_v205 (F := Ideal) (a8 m c) := by
  funext i
  idx_vars i
  refine Eq.trans ?_ (v205_at ..).symm
  by_cases h : 64 ≤ i1.val ∧ i1.val < 96
  · refine (dif_pos h).trans (Eq.trans ?_ (dif_pos h).symm)
    refine Eq.trans ?_ (v115_at ..).symm
    exact congrArg (unrope _ i0) (Fin.ext (by simp only; omega))
  · refine Eq.trans ?_ (dif_neg h).symm
    exact dif_neg h

/-- The gradients of the weights. -/
theorem dwq_ref (c : Dev nD) : (fun i => gWq m c (i 0) (i 1) : FVec Ideal S768x768 .bf16) = val_main_v207 (F := Ideal) (a0 m c) (a3 m c) (a7 m c) := by
  funext i
  idx_vars i
  refine Eq.trans ?_ (v207_at ..).symm
  refine Finset.sum_congr rfl fun s _ => (mul_comm _ _).trans (Ideal.mul_congr (v167_at (a7 m c) s i1).symm ?_)
  refine Eq.trans ?_ (v34_at ..).symm
  exact Ideal.mul_congr (Ideal.mul_congr rfl (rQ_ref m c s)) rfl
theorem dwkv_ref (c : Dev nD) : (fun i => gWkv m c (i 0) (i 1) (i 2) : FVec Ideal S4x256x256 .bf16)
    = val_main_v208 (F := Ideal) (a1 m c) (a4 m c) (a8 m c) (a9 m c) := by
  funext i
  idx_vars i
  refine Eq.trans ?_ (v208_at ..).symm
  refine Finset.sum_congr rfl fun s _ => (mul_comm _ _).trans (Ideal.mul_congr (v121_at (a8 m c) (a9 m c) s _).symm ?_)
  refine Eq.trans ?_ (v71_at ..).symm
  exact Ideal.mul_congr (Ideal.mul_congr rfl (rKV_ref m c s)) rfl

/-- The gradients of the gains. -/
theorem dgq_ref (c : Dev nD) : (fun i => gGq m c (i 1) : FVec Ideal S1x768 .f32) = val_main_v193 (F := Ideal) (a0 m c) (a5 m c) (a7 m c) := by
  funext i
  idx_vars i
  obtain rfl : i0 = 0 := Subsingleton.elim _ _
  refine Eq.trans ?_ (v193_at ..).symm
  exact Finset.sum_congr rfl fun s _ => (mul_comm _ _).trans (Ideal.mul_congr (Ideal.mul_congr rfl (rQ_ref m c s)) (nQ_ref m c s i1))
theorem dgkv_ref (c : Dev nD) : (fun i => gGkv m c (i 1) : FVec Ideal S1x256 .f32) = val_main_v147 (F := Ideal) (a1 m c) (a6 m c) (a8 m c) (a9 m c) := by
  funext i
  idx_vars i
  obtain rfl : i0 = 0 := Subsingleton.elim _ _
  refine Eq.trans ?_ (v147_at ..).symm
  exact Finset.sum_congr rfl fun s _ => (mul_comm _ _).trans (Ideal.mul_congr (Ideal.mul_congr rfl (rKV_ref m c s)) (nKV_ref m c s i1))

end

/-- The two programs leave equal results from memories that agree on the arguments. -/
theorem algebraic : algebraic_QkvIdeal_QkvRefIdeal_pre_qkv_finite (hQkvIdeal := QkvIdeal.Gen.facts) (hQkvRefIdeal := QkvRefIdeal.Gen.facts)
    (hPre_qkv_finite := Pre_qkv_finite.Gen.facts) := fun m ρ m' ρ' hm hag =>
  ⟨_, _, _, _, _, _, _, (θ_run _ _ _).mono (fun _ h c => by
        obtain ⟨o0, o1, o2, o3, o4, o5, o6, oa⟩ := h c
        exact ⟨o0.trans (QkvIdeal.Value.out13 m c), o1.trans (QkvIdeal.Value.out14 m c), o2.trans (QkvIdeal.Value.out15 m c),
          o3.trans (QkvIdeal.Value.out16 m c), o4.trans (QkvIdeal.Value.out17 m c), o5.trans (QkvIdeal.Value.out18 m c),
          o6.trans (QkvIdeal.Value.out19 m c), oa⟩)
      (QkvIdeal.Value.run_blocks m ρ),
    (θ_run _ _ _).mono (fun _ h c => by
        obtain ⟨o0, o1, o2, o3, o4, o5, o6, oa⟩ := h c
        obtain ⟨e0, e1, e2, e3, e4, e5, e6, e7, e8, e9⟩ := hag c
        refine ⟨o0.trans ?_, o1.trans ?_, o2.trans ?_, o3.trans ?_, o4.trans ?_, o5.trans ?_, o6.trans ?_, oa⟩
        · exact (QkvRefIdeal.Read.val_main_v202_eq _).trans ((congr (congr (congr (congrArg QkvRefIdeal.Read.val_main_v202 e0) e3) e5) e7).trans (dcq_ref m hm c).symm)
        · exact (QkvRefIdeal.Read.val_main_v204_eq _).trans ((congr (congr (congr (congr (congrArg QkvRefIdeal.Read.val_main_v204 e1) e4) e6) e8) e9).trans (dckv_ref m hm c).symm)
        · exact (QkvRefIdeal.Read.val_main_v205_eq _).trans ((congrArg QkvRefIdeal.Read.val_main_v205 e8).trans (dkpe_ref m c).symm)
        · exact (QkvRefIdeal.Read.val_main_v207_eq _).trans ((congr (congr (congrArg QkvRefIdeal.Read.val_main_v207 e0) e3) e7).trans (dwq_ref m c).symm)
        · exact (QkvRefIdeal.Read.val_main_v208_eq _).trans ((congr (congr (congr (congrArg QkvRefIdeal.Read.val_main_v208 e1) e4) e8) e9).trans (dwkv_ref m c).symm)
        · exact (QkvRefIdeal.Read.val_main_v193_eq _).trans ((congr (congr (congrArg QkvRefIdeal.Read.val_main_v193 e0) e5) e7).trans (dgq_ref m c).symm)
        · exact (QkvRefIdeal.Read.val_main_v147_eq _).trans ((congr (congr (congr (congrArg QkvRefIdeal.Read.val_main_v147 e1) e6) e8) e9).trans (dgkv_ref m c).symm))
      (QkvRefIdeal.Value.run m' ρ')⟩

/-- The reference's frame: it owns no semaphore, so none is off zero. -/
theorem frame_ref : quiescent_QkvRefIdeal (hQkvRefIdeal := QkvRefIdeal.Gen.facts) := fun m ρ _ =>
  (θ_run _ _ _).mono (fun r h => ⟨fun c => (h c).2.2.2.2.2.2.2, sem_eq_zero_of_no_sems (by decide) _⟩) (QkvRefIdeal.Value.run m ρ)

end Cert.QkvClaim
-- ==== Proof.ProjPoint.lean ====
/- What `front_fwd` leaves, entry by entry over the extended reals: the normed input and its projection, whose columns are in the step's order. -/
module

public import proofs.«01_k».proof.Proof.Gen.ProjIdeal.Value
public import Idealize.ShloMosaic.Lib.Pipeline.ValueKit
public import Idealize.ShloMosaic.Lib.Pointwise

@[expose] public section

set_option maxRecDepth 16384

noncomputable section

namespace Cert.ProjIdeal.Value

open Cert.ProjIdeal Cert.ProjIdeal.Gen Idealize.ShloMosaic Idealize.ShloMosaic.TcCoe Idealize.SL.Sem
open Idealize.ShloMosaic.Pipeline (Dat)

variable (m : (ℓ : Loc nD τ sig) → Buf (Elt Ideal) ℓ)

/-- The arguments' entries. -/
def aX (c : Dev nD) (s : Fin 4096) (d : Fin 1024) : EReal := m ((c : Thread nD τ).loc main_arg0) (ix3 0 s d)
def aG (c : Dev nD) (d : Fin 1024) : EReal := m ((c : Thread nD τ).loc main_arg1) (ix2 0 d)
def aW (c : Dev nD) (d : Fin 1024) (k : Fin 5664) : EReal := m ((c : Thread nD τ).loc main_arg2) (ix3 0 d k)

/-- The normed input. -/
def hn (c : Dev nD) (s : Fin 4096) (d : Fin 1024) : EReal :=
  aX m c s d * Ideal.rsqrt (Ideal.div (∑ e : Fin 1024, aX m c s e * aX m c s e) (Ideal.ofBits .f32 0x44800000#32) + Ideal.ofBits .f32 0x358637BD#32) * aG m c d

/-- The weight that makes a column of the step's order: the merge's and the gates' columns first, the compressed query and keys, the rotary key among zeros. -/
def wcol (w : Fin 5664 → EReal) (k : Fin 5760) : EReal :=
  if h : k.val < 2048 then w ⟨3616 + k.val, by omega⟩ else if h : k.val < 4608 then w ⟨1056 + (k.val - 2048), by omega⟩
    else if h : k.val < 5632 then w ⟨k.val - 4608, by omega⟩ else if h : 5696 ≤ k.val ∧ k.val < 5728 then w ⟨1024 + (k.val - 5696), by omega⟩ else 0

theorem wcol_merge (w : Fin 5664 → EReal) (j : Fin 2048) (k : Fin 5760) (h : k.val = j.val) : wcol w k = w ⟨3616 + j.val, by omega⟩ := by
  unfold wcol
  rw [dif_pos (by omega)]; exact congrArg w (Fin.ext (by simp only; omega))
theorem wcol_gates (w : Fin 5664 → EReal) (j : Fin 2560) (k : Fin 5760) (h : k.val = 2048 + j.val) : wcol w k = w ⟨1056 + j.val, by omega⟩ := by
  unfold wcol
  rw [dif_neg (by omega), dif_pos (by omega)]; exact congrArg w (Fin.ext (by simp only; omega))
theorem wcol_low (w : Fin 5664 → EReal) (j : Fin 1024) (k : Fin 5760) (h : k.val = 4608 + j.val) : wcol w k = w ⟨j.val, by omega⟩ := by
  unfold wcol
  rw [dif_neg (by omega), dif_neg (by omega), dif_pos (by omega)]; exact congrArg w (Fin.ext (by simp only; omega))
theorem wcol_kpe (w : Fin 5664 → EReal) (j : Fin 32) (k : Fin 5760) (h : k.val = 5696 + j.val) : wcol w k = w ⟨1024 + j.val, by omega⟩ := by
  unfold wcol
  rw [dif_neg (by omega), dif_neg (by omega), dif_neg (by omega), dif_pos (by omega)]; exact congrArg w (Fin.ext (by simp only; omega))
theorem wcol_zero (w : Fin 5664 → EReal) (k : Fin 5760) (h : 5632 ≤ k.val ∧ (k.val < 5696 ∨ 5728 ≤ k.val)) : wcol w k = 0 := by
  unfold wcol
  rw [dif_neg (by omega), dif_neg (by omega), dif_neg (by omega), dif_neg (by omega)]

theorem k_zero : Ideal.ofBits .bf16 0x0000#16 = 0 := by simp [Ideal.ofBits, Ideal.ieee]

/-- The projection. -/
def pj (c : Dev nD) (s : Fin 4096) (k : Fin 5760) : EReal := ∑ d : Fin 1024, hn m c s d * wcol (aW m c d) k

/-- The block index of every window. -/
theorem idx_val : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The row of the arrays that row `i` of point `t`'s blocks is. -/
def rowOf (t : Fin cfg0.N) (i : Fin 512) : Fin 4096 := ⟨t.val * 512 + i.val, by have := lt_of_lt_of_eq t.isLt N_0; omega⟩

/-- The rotary key's rows between two blocks of zeros. -/
theorem catW_at (a : FVec Ideal S64x1024 .bf16) (b c : FVec Ideal S32x1024 .bf16) (h) (k : Fin 128) (d : Fin 1024) :
    concatenate S128x1024 0 [⟨S64x1024, a⟩, ⟨S32x1024, b⟩, ⟨S32x1024, c⟩] h (ix2 k d)
      = if h : k.val < 64 then a (ix2 ⟨k.val, h⟩ d) else if h' : k.val - 64 < 32 then b (ix2 ⟨k.val - 64, h'⟩ d)
        else c (ix2 ⟨k.val - 64 - 32, by omega⟩ d) := by
  pointwise

set_option maxHeartbeats 1000000 in
/-- The rotary key's padded weight as the region finds it. -/
theorem V_v7 (c : Dev nD) : V m c main_v7 = concatenate S128x1024 0 [⟨S64x1024, (V m c main_v4 : FVec Ideal S64x1024 .bf16)⟩, ⟨S32x1024, (V m c main_v5 : FVec Ideal S32x1024 .bf16)⟩, ⟨S32x1024, (V m c main_v6 : FVec Ideal S32x1024 .bf16)⟩]
    concatenates_S64x1024_S32x1024_S32x1024_S128x1024_d0 := by
  unfold V
  simp only [hostOps0, List.flatten_cons, List.flatten_nil, List.append_nil, StableHlo.after_cons, StableHlo.after_nil]
  simp (disch := decide) only [StableHlo.unary_result_ne', StableHlo.reshape_result_ne', StableHlo.nary_result_ne',
    StableHlo.nullary_result_ne', StableHlo.binary_result_ne', StableHlo.nary_result']
  rfl
theorem kpe_at (c : Dev nD) (k : Fin 128) (d : Fin 1024) :
    V m c main_v7 (ix2 k d) = wcol (aW m c d) ⟨5632 + k.val, by omega⟩ := by
  rw [V_v7]
  refine (catW_at _ _ _ _ _ _).trans ?_
  split
  · refine Eq.trans ?_ (wcol_zero (aW m c d) _ ⟨Nat.le_add_right _ _, Or.inl (by show 5632 + k.val < 5696; omega)⟩).symm
    entry_read; pointwise
  · split
    · refine Eq.trans ?_ (wcol_kpe (aW m c d) ⟨k.val - 64, by omega⟩ _ (by show 5632 + k.val = 5696 + (k.val - 64); omega)).symm
      entry_read; pointwise; rfl
    · refine Eq.trans ?_ (wcol_zero (aW m c d) _ ⟨Nat.le_add_right _ _, Or.inr (by show 5728 ≤ 5632 + k.val; omega)⟩).symm
      entry_read; pointwise

theorem iblk0 (c : Dev nD) (t : Fin cfg0.N) (i : Fin 512) (d : Fin 1024) : iblk m c 0 t (ix2 i d) = aX m c (rowOf t i) d := by
  blk_simp [iblk, idx_val t]; entry_read; pointwise; unfold aX; blk_ext [rowOf, idx_val t]
theorem iblk1 (c : Dev nD) (t : Fin cfg0.N) (d : Fin 1024) : iblk m c 1 t (ix2 0 d) = aG m c d := by
  blk_ext [iblk, V, aG, idx_val t]
theorem iblk2 (c : Dev nD) (t : Fin cfg0.N) (k : Fin 5664) (d : Fin 1024) : iblk m c 2 t (ix2 k d) = aW m c d k := by
  blk_simp [iblk, idx_val t]; entry_read; pointwise; unfold aW; blk_ext [rowOf, idx_val t]
theorem iblk3 (c : Dev nD) (t : Fin cfg0.N) (k : Fin 128) (d : Fin 1024) : iblk m c 3 t (ix2 k d) = wcol (aW m c d) ⟨5632 + k.val, by omega⟩ := by
  refine Eq.trans ?_ (kpe_at m c k d)
  blk_ext [iblk, idx_val t]

/-- The body's values on one block. -/
theorem pay2_at (x : Vec Ideal S512x1024 .f32) (g : Vec Ideal S1x1024 .f32) (i : Fin 512) (d : Fin 1024) : k0_pay2 (F := Ideal) x g (ix2 i d)
    = x (ix2 i d) * Ideal.rsqrt (Ideal.div (∑ e : Fin 1024, x (ix2 i e) * x (ix2 i e)) (Ideal.ofBits .f32 0x44800000#32) + Ideal.ofBits .f32 0x358637BD#32) * g (ix2 0 d) := by
  pointwise [k0_pay2]
theorem pay3_at (x : Vec Ideal S512x1024 .f32) (g : Vec Ideal S1x1024 .f32) (w : Vec Ideal S2048x1024 .bf16) (i : Fin 512) (j : Fin 2048) :
    k0_pay3 (F := Ideal) x g w (ix2 i j) = ∑ d : Fin 1024, k0_pay2 (F := Ideal) x g (ix2 i d) * w (ix2 j d) := by
  pointwise [k0_pay3]
theorem pay4_at (x : Vec Ideal S512x1024 .f32) (g : Vec Ideal S1x1024 .f32) (w : Vec Ideal S2560x1024 .bf16) (i : Fin 512) (j : Fin 2560) :
    k0_pay4 (F := Ideal) x g w (ix2 i j) = ∑ d : Fin 1024, k0_pay2 (F := Ideal) x g (ix2 i d) * w (ix2 j d) := by
  pointwise [k0_pay4]
theorem pay5_at (x : Vec Ideal S512x1024 .f32) (g : Vec Ideal S1x1024 .f32) (w : Vec Ideal S1024x1024 .bf16) (i : Fin 512) (j : Fin 1024) :
    k0_pay5 (F := Ideal) x g w (ix2 i j) = ∑ d : Fin 1024, k0_pay2 (F := Ideal) x g (ix2 i d) * w (ix2 j d) := by
  pointwise [k0_pay5]
theorem pay1_at (h : FVec Ideal S512x1024 .bf16) (w : Vec Ideal S128x1024 .bf16) (i : Fin 512) (j : Fin 128) :
    k0_pay1 (F := Ideal) h w (ix2 i j) = ∑ d : Fin 1024, h (ix2 i d) * w (ix2 j d) := by
  pointwise [k0_pay1]

/-- A row of the normed input, from the block's rows. -/
theorem hn_block (c : Dev nD) (t : Fin cfg0.N) (i : Fin 512) (d : Fin 1024) :
    k0_pay2 (F := Ideal) (iblk m c 0 t) (iblk m c 1 t) (ix2 i d) = hn m c (rowOf t i) d := by
  refine (pay2_at ..).trans ?_
  unfold hn
  rw [iblk1 m c t d]
  simp only [iblk0 m c t]

theorem emb4 (t : Fin cfg0.N) (i : Fin 512) (d : Fin 5760) : ((View.whole main_v8_0).slice (win0_4.rect t)).emb (ix2 i d) = ix2 (rowOf t i) d := by
  blk_ext [rowOf, idx_val t]
theorem emb5 (t : Fin cfg0.N) (i : Fin 512) (d : Fin 1024) : ((View.whole main_v8_1).slice (win0_5.rect t)).emb (ix2 i d) = ix2 (rowOf t i) d := by
  blk_ext [rowOf, idx_val t]

set_option maxHeartbeats 1000000 in
theorem hnFinal (c : Dev nD) : (dats m 0 c).arrAt 5 (cfgs 0).N = (fun i => hn m c (i 0) (i 1) : FVec Ideal S4096x1024 .bf16) := by
  refine (dats m 0 c).arrAt_eq_of_covers 5 _ (by decide +kernel) fun t _ y => ?_
  blk_simp
  rw [after0_5]
  unfold outsAt0; frame_out; idx_vars y
  exact (hn_block m c t y0 y1).trans (congrArg (fun i : S4096x1024.Idx => hn m c (i 0) (i 1)) (emb5 t y0 y1).symm)

set_option maxHeartbeats 1000000 in
theorem pjFinal (c : Dev nD) : (dats m 0 c).arrAt 4 (cfgs 0).N = (fun i => pj m c (i 0) (i 1) : FVec Ideal S4096x5760 .f32) := by
  refine (dats m 0 c).arrAt_eq_of_covers 4 _ (by decide +kernel) fun t _ y => ?_
  blk_simp
  rw [after0_4]
  unfold outsAt0; frame_out; idx_vars y
  refine Eq.trans ?_ (congrArg (fun i : S4096x5760.Idx => pj m c (i 0) (i 1)) (emb4 t y0 y1).symm)
  canon_tiles z hz using (View.cover_of_tiledBy _ ![512, 128] (by sl_kernel_rfl) _)
  case piece0 =>
    idx_vars z
    have e0 : z0 = y0 := Fin.ext hz0.symm
    subst e0
    refine (pay1_at ..).trans (Finset.sum_congr rfl fun d _ => Ideal.mul_congr (hn_block m c t _ d) ?_)
    exact (iblk3 m c t z1 d).trans (congrArg (wcol (aW m c d)) (Fin.ext hz1.symm))
  case piece1 =>
    idx_vars z
    have e0 : z0 = y0 := Fin.ext hz0.symm
    subst e0
    refine (pay5_at ..).trans (Finset.sum_congr rfl fun d _ => Ideal.mul_congr (hn_block m c t _ d) ?_)
    exact (View.ld_unit_apply_of _ _ _ _ _ (ix2 ⟨z1.val, by omega⟩ d) (fun a => match a with | ⟨0, _⟩ => (Nat.zero_add _).symm | ⟨1, _⟩ => (Nat.zero_add _).symm)).trans ((iblk2 m c t _ d).trans (wcol_low (aW m c d) z1 _ hz1).symm)
  case piece2 =>
    idx_vars z
    have e0 : z0 = y0 := Fin.ext hz0.symm
    subst e0
    refine (pay4_at ..).trans (Finset.sum_congr rfl fun d _ => Ideal.mul_congr (hn_block m c t _ d) ?_)
    exact (View.ld_unit_apply_of _ _ _ _ _ (ix2 ⟨1056 + z1.val, by omega⟩ d) (fun a => match a with | ⟨0, _⟩ => rfl | ⟨1, _⟩ => (Nat.zero_add _).symm)).trans ((iblk2 m c t _ d).trans (wcol_gates (aW m c d) z1 _ hz1).symm)
  case piece3 =>
    idx_vars z
    have e0 : z0 = y0 := Fin.ext hz0.symm
    subst e0
    refine (pay3_at ..).trans (Finset.sum_congr rfl fun d _ => Ideal.mul_congr (hn_block m c t _ d) ?_)
    exact (View.ld_unit_apply_of _ _ _ _ _ (ix2 ⟨3616 + z1.val, by omega⟩ d) (fun a => match a with | ⟨0, _⟩ => rfl | ⟨1, _⟩ => (Nat.zero_add _).symm)).trans ((iblk2 m c t _ d).trans (wcol_merge (aW m c d) z1 _ hz1).symm)

end Cert.ProjIdeal.Value

end
-- ==== Proof.ProjRefPoint.lean ====
/- What the reference of `front_fwd` leaves, entry by entry, over the extended reals. -/
module

public import proofs.«01_k».proof.Proof.Gen.ProjRefIdeal.Read
public import Idealize.ShloMosaic.Lib.Pipeline.ValueKit
public import Idealize.ShloMosaic.Lib.Pointwise

@[expose] public section

set_option maxRecDepth 16384

noncomputable section

namespace Cert.ProjRefIdeal.Read

open Cert.ProjRefIdeal Cert.ProjRefIdeal.Gen Idealize.ShloMosaic Idealize.ShloMosaic.TcCoe Idealize.SL.Sem

variable (x : (⟨S1x4096x1024, .f32⟩ : BufTy).Contents (Elt Ideal)) (g : (⟨S1x1024, .f32⟩ : BufTy).Contents (Elt Ideal))
  (w : (⟨S1x1024x5664, .f32⟩ : BufTy).Contents (Elt Ideal))

theorem k_zero : Ideal.ofBits .f32 0x00000000#32 = 0 := by simp [Ideal.ofBits, Ideal.ieee]

/-- The normed input, as the projection takes it and as the second result gives it. -/
theorem v13_at (s : Fin 4096) (d : Fin 1024) : val_main_v13 (F := Ideal) x g (ix3 0 s d)
    = x (ix3 0 s d) * Ideal.rsqrt (Ideal.div (∑ e : Fin 1024, x (ix3 0 s e) * x (ix3 0 s e)) (Ideal.ofBits .f32 0x44800000#32) + Ideal.ofBits .f32 0x358637BD#32) * g (ix2 0 d) := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, k_zero]
theorem v44_at (s : Fin 4096) (d : Fin 1024) : val_main_v44 (F := Ideal) x g (ix2 s d) = val_main_v13 (F := Ideal) x g (ix3 0 s d) := by
  rw [v13_at]
  pointwise [val_main_v44, val_main_v43, val_main_v42, val_main_v41, val_main_v40, val_main_v39, val_main_v38, val_main_v37, val_main_v36, val_main_v35, val_main_v34, val_main_v33, val_main_v32, val_main_v31, val_main_v30, val_main_v29, val_main_cst_4, val_main_cst_5, val_main_cst_6, k_zero]

/-- The projection in reference.py's order of columns. -/
theorem v16_at (s : Fin 4096) (k : Fin 5664) : val_main_v16 (F := Ideal) x g w (ix2 s k) = ∑ d : Fin 1024, val_main_v13 (F := Ideal) x g (ix3 0 s d) * w (ix3 0 d k) := by
  pointwise [val_main_v16, val_main_v15, val_main_v14]

/-- A column of the first result. -/
def col (p : Fin 5664 → EReal) (k : Fin 5760) : EReal :=
  if h : k.val < 2048 then p ⟨3616 + k.val, by omega⟩ else if h : k.val < 4608 then p ⟨1056 + (k.val - 2048), by omega⟩
    else if h : k.val < 5632 then p ⟨k.val - 4608, by omega⟩ else if h : 5696 ≤ k.val ∧ k.val < 5728 then p ⟨1024 + (k.val - 5696), by omega⟩ else 0

/-- The columns the slices take. -/
theorem v17_at (s : Fin 4096) (j : Fin 2048) : val_main_v17 (F := Ideal) x g w (ix2 s j) = val_main_v16 (F := Ideal) x g w (ix2 s ⟨3616 + j.val, by omega⟩) := by
  pointwise [val_main_v17]
theorem v18_at (s : Fin 4096) (j : Fin 512) : val_main_v18 (F := Ideal) x g w (ix2 s j) = val_main_v16 (F := Ideal) x g w (ix2 s ⟨1056 + j.val, by omega⟩) := by
  pointwise [val_main_v18]
theorem v19_at (s : Fin 4096) (j : Fin 512) : val_main_v19 (F := Ideal) x g w (ix2 s j) = val_main_v16 (F := Ideal) x g w (ix2 s ⟨1568 + j.val, by omega⟩) := by
  pointwise [val_main_v19]
theorem v20_at (s : Fin 4096) (j : Fin 512) : val_main_v20 (F := Ideal) x g w (ix2 s j) = val_main_v16 (F := Ideal) x g w (ix2 s ⟨2080 + j.val, by omega⟩) := by
  pointwise [val_main_v20]
theorem v21_at (s : Fin 4096) (j : Fin 512) : val_main_v21 (F := Ideal) x g w (ix2 s j) = val_main_v16 (F := Ideal) x g w (ix2 s ⟨2592 + j.val, by omega⟩) := by
  pointwise [val_main_v21]
theorem v22_at (s : Fin 4096) (j : Fin 512) : val_main_v22 (F := Ideal) x g w (ix2 s j) = val_main_v16 (F := Ideal) x g w (ix2 s ⟨3104 + j.val, by omega⟩) := by
  pointwise [val_main_v22]
theorem v23_at (s : Fin 4096) (j : Fin 768) : val_main_v23 (F := Ideal) x g w (ix2 s j) = val_main_v16 (F := Ideal) x g w (ix2 s ⟨j.val, by omega⟩) := by
  pointwise [val_main_v23]
theorem v24_at (s : Fin 4096) (j : Fin 256) : val_main_v24 (F := Ideal) x g w (ix2 s j) = val_main_v16 (F := Ideal) x g w (ix2 s ⟨768 + j.val, by omega⟩) := by
  pointwise [val_main_v24]
theorem v26_at (s : Fin 4096) (j : Fin 32) : val_main_v26 (F := Ideal) x g w (ix2 s j) = val_main_v16 (F := Ideal) x g w (ix2 s ⟨1024 + j.val, by omega⟩) := by
  pointwise [val_main_v26]
theorem v25_at (s : Fin 4096) (j : Fin 64) : val_main_v25 (F := Ideal) (ix2 s j) = 0 := by
  pointwise [val_main_v25, val_main_cst_2, k_zero]
theorem v27_at (s : Fin 4096) (j : Fin 32) : val_main_v27 (F := Ideal) (ix2 s j) = 0 := by
  pointwise [val_main_v27, val_main_cst_3, k_zero]

theorem col_val (p : Fin 5664 → EReal) (k : Fin 5760) (j : Fin 5664)
    (h : k.val < 2048 ∧ j.val = 3616 + k.val ∨ 2048 ≤ k.val ∧ k.val < 4608 ∧ j.val + 992 = k.val ∨ 4608 ≤ k.val ∧ k.val < 5632 ∧ j.val + 4608 = k.val
      ∨ 5696 ≤ k.val ∧ k.val < 5728 ∧ j.val + 4672 = k.val) : col p k = p j := by
  unfold col
  split_ifs <;> first | omega | exact congrArg p (Fin.ext (by simp only; omega))
theorem col_zero (p : Fin 5664 → EReal) (k : Fin 5760) (h : 5632 ≤ k.val ∧ (k.val < 5696 ∨ 5728 ≤ k.val)) : col p k = 0 := by
  unfold col
  split_ifs <;> first | omega | rfl

set_option maxHeartbeats 2000000 in
theorem v28_at (s : Fin 4096) (k : Fin 5760) : val_main_v28 (F := Ideal) x g w (ix2 s k) = col (fun j => val_main_v16 (F := Ideal) x g w (ix2 s j)) k := by
  pointwise [val_main_v28]
  by_cases h17 : k.val < 2048
  · refine (dif_pos h17).trans ?_
    refine (v17_at x g w s _).trans (Eq.symm (col_val (fun j => val_main_v16 (F := Ideal) x g w (ix2 s j)) k _ (Or.inl ⟨h17, rfl⟩)))
  refine (dif_neg h17).trans ?_
  by_cases h18 : k.val - 2048 < 512
  · refine (dif_pos h18).trans ?_
    refine (v18_at x g w s _).trans (Eq.symm (col_val (fun j => val_main_v16 (F := Ideal) x g w (ix2 s j)) k _ ?_)); simp only; omega
  refine (dif_neg h18).trans ?_
  by_cases h19 : k.val - 2048 - 512 < 512
  · refine (dif_pos h19).trans ?_
    refine (v19_at x g w s _).trans (Eq.symm (col_val (fun j => val_main_v16 (F := Ideal) x g w (ix2 s j)) k _ ?_)); simp only; omega
  refine (dif_neg h19).trans ?_
  by_cases h20 : k.val - 2048 - 512 - 512 < 512
  · refine (dif_pos h20).trans ?_
    refine (v20_at x g w s _).trans (Eq.symm (col_val (fun j => val_main_v16 (F := Ideal) x g w (ix2 s j)) k _ ?_)); simp only; omega
  refine (dif_neg h20).trans ?_
  by_cases h21 : k.val - 2048 - 512 - 512 - 512 < 512
  · refine (dif_pos h21).trans ?_
    refine (v21_at x g w s _).trans (Eq.symm (col_val (fun j => val_main_v16 (F := Ideal) x g w (ix2 s j)) k _ ?_)); simp only; omega
  refine (dif_neg h21).trans ?_
  by_cases h22 : k.val - 2048 - 512 - 512 - 512 - 512 < 512
  · refine (dif_pos h22).trans ?_
    refine (v22_at x g w s _).trans (Eq.symm (col_val (fun j => val_main_v16 (F := Ideal) x g w (ix2 s j)) k _ ?_)); simp only; omega
  refine (dif_neg h22).trans ?_
  by_cases h23 : k.val - 2048 - 512 - 512 - 512 - 512 - 512 < 768
  · refine (dif_pos h23).trans ?_
    refine (v23_at x g w s _).trans (Eq.symm (col_val (fun j => val_main_v16 (F := Ideal) x g w (ix2 s j)) k _ ?_)); simp only; omega
  refine (dif_neg h23).trans ?_
  by_cases h24 : k.val - 2048 - 512 - 512 - 512 - 512 - 512 - 768 < 256
  · refine (dif_pos h24).trans ?_
    refine (v24_at x g w s _).trans (Eq.symm (col_val (fun j => val_main_v16 (F := Ideal) x g w (ix2 s j)) k _ ?_)); simp only; omega
  refine (dif_neg h24).trans ?_
  by_cases h25 : k.val - 2048 - 512 - 512 - 512 - 512 - 512 - 768 - 256 < 64
  · refine (dif_pos h25).trans ?_
    exact (v25_at s _).trans (col_zero _ _ (by omega)).symm
  refine (dif_neg h25).trans ?_
  by_cases h26 : k.val - 2048 - 512 - 512 - 512 - 512 - 512 - 768 - 256 - 64 < 32
  · refine (dif_pos h26).trans ?_
    refine (v26_at x g w s _).trans (Eq.symm (col_val (fun j => val_main_v16 (F := Ideal) x g w (ix2 s j)) k _ ?_)); simp only; omega
  refine (dif_neg h26).trans ?_
  exact (v27_at s _).trans (col_zero _ _ (by omega)).symm

end Cert.ProjRefIdeal.Read

end
-- ==== Proof.ProjClaim.lean ====
/- The value claim of `front_fwd`: on all arguments the kernel leaves what the reference leaves. -/
module

public import proofs.«01_k».proof.Defs
public import proofs.«01_k».proof.Proof.Gen.ProjRefIdeal.Run
public import proofs.«01_k».proof.Proof.ProjPoint
public import proofs.«01_k».proof.Proof.ProjRefPoint
import all proofs.«01_k».proof.Proof.ProjPoint
import all proofs.«01_k».proof.Proof.ProjRefPoint

@[expose] public section

set_option maxRecDepth 16384

noncomputable section

namespace Cert.ProjClaim

open Idealize.ShloMosaic Idealize.ShloMosaic.TcCoe Idealize.SL.Sem

section
open Cert.ProjIdeal Cert.ProjIdeal.Value

variable (m : (ℓ : Loc ProjIdeal.nD ProjIdeal.τ ProjIdeal.sig) → Buf (Elt Ideal) ℓ)

/-- The normed input. -/
theorem hn_ref (c : Dev ProjIdeal.nD) :
    (fun i => hn m c (i 0) (i 1) : FVec Ideal S4096x1024 .bf16)
      = ProjRefIdeal.Read.val_main_v44 (F := Ideal) (m ((c.tc : Thread nD τ).loc main_arg0)) (m ((c.tc : Thread nD τ).loc main_arg1)) := by
  funext i
  idx_vars i
  exact ((ProjRefIdeal.Read.v44_at ..).trans (ProjRefIdeal.Read.v13_at ..)).symm

/-- The projection: a column of the padding is a sum of products with zero. -/
theorem pj_ref (c : Dev ProjIdeal.nD) :
    (fun i => pj m c (i 0) (i 1) : FVec Ideal S4096x5760 .f32)
      = ProjRefIdeal.Read.val_main_v28 (F := Ideal) (m ((c.tc : Thread nD τ).loc main_arg0)) (m ((c.tc : Thread nD τ).loc main_arg1))
        (m ((c.tc : Thread nD τ).loc main_arg2)) := by
  funext i
  idx_vars i
  refine Eq.trans ?_ (ProjRefIdeal.Read.v28_at ..).symm
  simp only [ProjRefIdeal.Read.v16_at, ProjRefIdeal.Read.v13_at]
  show ∑ d : Fin 1024, hn m c i0 d * wcol (aW m c d) i1 = ProjRefIdeal.Read.col (fun j => ∑ d : Fin 1024, hn m c i0 d * aW m c d j) i1
  unfold wcol ProjRefIdeal.Read.col
  split_ifs
  · rfl
  · rfl
  · rfl
  · rfl
  · simp only [mul_zero, Finset.sum_const_zero]

end

/-- The two programs leave equal results from memories that agree on the arguments. -/
theorem algebraic : algebraic_ProjIdeal_ProjRefIdeal (hProjIdeal := ProjIdeal.Gen.facts) (hProjRefIdeal := ProjRefIdeal.Gen.facts) := fun m ρ m' ρ' _ hag =>
  ⟨_, _, (θ_run _ _ _).mono (fun _ h c => ⟨(h c).1.trans (ProjIdeal.Value.pjFinal m c), (h c).2.1.trans (ProjIdeal.Value.hnFinal m c), (h c).2.2⟩)
      (ProjIdeal.Value.run_blocks m ρ),
    (θ_run _ _ _).mono (fun _ h c => ⟨(h c).1.trans (by
        obtain ⟨h0, h1, h2⟩ := hag c
        rw [ProjRefIdeal.Read.val_main_v28_eq, h0, h1, h2]; exact (pj_ref m c).symm), (h c).2.1.trans (by
        obtain ⟨h0, h1, h2⟩ := hag c
        rw [ProjRefIdeal.Read.val_main_v44_eq, h0, h1]; exact (hn_ref m c).symm), (h c).2.2⟩)
      (ProjRefIdeal.Value.run m' ρ')⟩

/-- The reference's frame: it owns no semaphore, so none is off zero. -/
theorem frame_ref : quiescent_ProjRefIdeal (hProjRefIdeal := ProjRefIdeal.Gen.facts) := fun m ρ _ =>
  (θ_run _ _ _).mono (fun r h => ⟨fun c => (h c).2.2, sem_eq_zero_of_no_sems (by decide) _⟩) (ProjRefIdeal.Value.run m ρ)

end Cert.ProjClaim

end
-- ==== Proof.RopeFwd.lean ====
module

public import proofs.«01_k».proof.Proof.QkvRefPoint

@[expose] public section

set_option maxRecDepth 16384

noncomputable section

namespace Cert.RopeFwd

open Idealize.ShloMosaic
open Cert.QkvRefIdeal.Read (cosT sinT)

/-- The rotation of a head's row at position `s`: 64 lanes stay, the others turn in pairs. -/
def rope (z : Fin 96 → EReal) (s : Fin 4096) (l : Fin 96) : EReal :=
  if l.val < 64 then z l
  else if h : l.val < 80 then z l * cosT s ⟨l.val - 64, by omega⟩ - z ⟨l.val + 16, by omega⟩ * sinT s ⟨l.val - 64, by omega⟩
  else z ⟨l.val - 16, by omega⟩ * sinT s ⟨l.val - 80, by omega⟩ + z l * cosT s ⟨l.val - 80, by omega⟩

theorem rope_nope (z : Fin 96 → EReal) (s : Fin 4096) (l : Fin 96) (h : l.val < 64) : rope z s l = z l := if_pos h
theorem rope_lo (z : Fin 96 → EReal) (s : Fin 4096) (l : Fin 16) :
    rope z s ⟨64 + l.val, by omega⟩ = z ⟨64 + l.val, by omega⟩ * cosT s l - z ⟨64 + (16 + l.val), by omega⟩ * sinT s l := by
  unfold rope
  rw [if_neg (show ¬64 + l.val < 64 by omega), dif_pos (show 64 + l.val < 80 by omega),
    show (⟨64 + l.val - 64, by omega⟩ : Fin 16) = l from Fin.ext (by simp only; omega),
    show (⟨64 + l.val + 16, by omega⟩ : Fin 96) = ⟨64 + (16 + l.val), by omega⟩ from Fin.ext (by simp only; omega)]
theorem rope_hi (z : Fin 96 → EReal) (s : Fin 4096) (l : Fin 16) :
    rope z s ⟨64 + (16 + l.val), by omega⟩ = z ⟨64 + l.val, by omega⟩ * sinT s l + z ⟨64 + (16 + l.val), by omega⟩ * cosT s l := by
  unfold rope
  rw [if_neg (show ¬64 + (16 + l.val) < 64 by omega), dif_neg (show ¬64 + (16 + l.val) < 80 by omega),
    show (⟨64 + (16 + l.val) - 80, by omega⟩ : Fin 16) = l from Fin.ext (by simp only; omega),
    show (⟨64 + (16 + l.val) - 16, by omega⟩ : Fin 96) = ⟨64 + l.val, by omega⟩ from Fin.ext (by simp only; omega)]

/-- The kernel's tables at position `s`. -/
def tabC (s : Fin 4096) (x : Fin 128) : EReal :=
  if hx : x.val < 64 then 1 else if hx : x.val < 80 then cosT s ⟨x.val - 64, by omega⟩ else if hx : x.val < 96 then cosT s ⟨x.val - 80, by omega⟩ else 1
def tab1 (s : Fin 4096) (x : Fin 128) : EReal := if hx : 64 ≤ x.val ∧ x.val < 80 then -sinT s ⟨x.val - 64, by omega⟩ else 0
def tab2 (s : Fin 4096) (x : Fin 128) : EReal := if hx : 80 ≤ x.val ∧ x.val < 96 then sinT s ⟨x.val - 80, by omega⟩ else 0

/-- The kernel's rotation: a lane's own value, the value sixteen lanes on and the value sixteen lanes before. -/
def turn (s : Fin 4096) (y : Fin 128 → EReal) (l : Fin 128) : EReal :=
  y l * tabC s l + y ⟨(l.val + 128 - 112) % 128, by omega⟩ * tab1 s l + y ⟨(l.val + 128 - 16) % 128, by omega⟩ * tab2 s l

theorem turn_eq (s : Fin 4096) (y : Fin 128 → EReal) (z : Fin 96 → EReal) (hy : ∀ x, y x = if hx : x.val < 96 then z ⟨x.val, hx⟩ else 0) (l : Fin 128) :
    turn s y l = if hl : l.val < 96 then rope z s ⟨l.val, hl⟩ else 0 := by
  have hl := l.isLt
  have own : ∀ h : l.val < 96, y l = z ⟨l.val, h⟩ := fun h => (hy l).trans (dif_pos h)
  unfold turn
  by_cases a : l.val < 64
  · have c1 : tabC s l = 1 := dif_pos a
    have c2 : tab1 s l = 0 := dif_neg (by omega)
    have c3 : tab2 s l = 0 := dif_neg (by omega)
    rw [c1, c2, c3, mul_one, mul_zero, mul_zero, add_zero, add_zero, own (by omega), dif_pos (by omega)]
    exact (if_pos a).symm
  by_cases b : l.val < 80
  · have c1 : tabC s l = cosT s ⟨l.val - 64, by omega⟩ := (dif_neg a).trans (dif_pos b)
    have c2 : tab1 s l = -sinT s ⟨l.val - 64, by omega⟩ := dif_pos (by omega)
    have c3 : tab2 s l = 0 := dif_neg (by omega)
    have e : y ⟨(l.val + 128 - 112) % 128, by omega⟩ = z ⟨l.val + 16, by omega⟩ :=
      (hy _).trans ((dif_pos (by simp only; omega)).trans (congrArg z (Fin.ext (by simp only; omega))))
    rw [c1, c2, c3, mul_zero, add_zero, own (by omega), e, mul_neg, dif_pos (by omega)]
    unfold rope
    simp only [if_neg a, dif_pos b, sub_eq_add_neg]
  by_cases d : l.val < 96
  · have c1 : tabC s l = cosT s ⟨l.val - 80, by omega⟩ := (dif_neg a).trans ((dif_neg b).trans (dif_pos d))
    have c2 : tab1 s l = 0 := dif_neg (by omega)
    have c3 : tab2 s l = sinT s ⟨l.val - 80, by omega⟩ := dif_pos (by omega)
    have e : y ⟨(l.val + 128 - 16) % 128, by omega⟩ = z ⟨l.val - 16, by omega⟩ :=
      (hy _).trans ((dif_pos (by simp only; omega)).trans (congrArg z (Fin.ext (by simp only; omega))))
    rw [c1, c2, c3, mul_zero, add_zero, own d, e, dif_pos d, add_comm]
    unfold rope
    simp only [if_neg a, dif_neg b]
  · have c2 : tab1 s l = 0 := dif_neg (by omega)
    have c3 : tab2 s l = 0 := dif_neg (by omega)
    have e : y l = 0 := (hy l).trans (dif_neg d)
    rw [c2, c3, mul_zero, mul_zero, add_zero, add_zero, e, zero_mul, dif_neg d]

end Cert.RopeFwd

end
-- ==== Proof.QkvFwdHost.lean ====
/- What the host hands `qkv_fwd`: the projection's columns, the padded weights and the rotary tables, entry by entry. -/
module

public import proofs.«01_k».proof.Proof.Gen.QkvFwdIdeal.Value
public import proofs.«01_k».proof.Proof.QkvHost
public import proofs.«01_k».proof.Proof.RopeFwd
public import Idealize.ShloMosaic.Lib.Pipeline.ValueKit
public import Idealize.ShloMosaic.Lib.Pointwise

@[expose] public section

set_option maxRecDepth 16384

noncomputable section

namespace Cert.QkvFwdIdeal.Value

open Cert.QkvFwdIdeal Cert.QkvFwdIdeal.Gen Idealize.ShloMosaic Idealize.ShloMosaic.TcCoe Idealize.SL.Sem
open Cert.QkvRefIdeal.Read (cosT sinT cos_eq sin_eq angle)
open Cert.QkvIdeal.Value (own_half zero_word)
open Cert.RopeFwd (tabC tab1 tab2)

variable (m : (ℓ : Loc nD τ sig) → Buf (Elt Ideal) ℓ)

/-- The arguments' entries. -/
def aCq (c : Dev nD) (s : Fin 4096) (d : Fin 768) : EReal := m ((c : Thread nD τ).loc main_arg0) (ix3 0 s d)
def aCkv (c : Dev nD) (s : Fin 4096) (d : Fin 256) : EReal := m ((c : Thread nD τ).loc main_arg1) (ix3 0 s d)
def aKpe (c : Dev nD) (s : Fin 4096) (d : Fin 32) : EReal := m ((c : Thread nD τ).loc main_arg2) (ix3 0 s d)
def aGq (c : Dev nD) (d : Fin 768) : EReal := m ((c : Thread nD τ).loc main_arg3) (ix2 0 d)
def aGkv (c : Dev nD) (d : Fin 256) : EReal := m ((c : Thread nD τ).loc main_arg4) (ix2 0 d)
def aWq (c : Dev nD) (d j : Fin 768) : EReal := m ((c : Thread nD τ).loc main_arg5) (ix3 0 d j)
def aWkv (c : Dev nD) (d : Fin 256) (j : Fin 1024) : EReal := m ((c : Thread nD τ).loc main_arg6) (ix3 0 d j)

set_option maxHeartbeats 1000000 in
theorem v6_q (c : Dev nD) (s : Fin 4096) (d : Fin 768) :
    V m c main_v6 (ix2 s ⟨4608 + d.val, by omega⟩) = aCq m c s d := by
  unfold V
  simp only [List.flatten_cons, List.flatten_nil, List.append_nil]
  after_reads_simp
  pointwise
  after_reads_simp
  pointwise
  rfl
set_option maxHeartbeats 1000000 in
theorem v6_kv (c : Dev nD) (s : Fin 4096) (d : Fin 256) :
    V m c main_v6 (ix2 s ⟨5376 + d.val, by omega⟩) = aCkv m c s d := by
  unfold V
  simp only [List.flatten_cons, List.flatten_nil, List.append_nil]
  after_reads_simp
  pointwise
  split
  · omega
  · split
    · omega
    · split
      · after_reads_simp
        pointwise
        show aCkv m c s ⟨5376 + d.val - 4608 - 768, by omega⟩ = _
        exact congrArg _ (Fin.ext (by simp only; omega))
      · omega
set_option maxHeartbeats 1000000 in
theorem v6_pe (c : Dev nD) (s : Fin 4096) (x : Fin 128) :
    V m c main_v6 (ix2 s ⟨5632 + x.val, by omega⟩) = if hx : 64 ≤ x.val ∧ x.val < 96 then aKpe m c s ⟨x.val - 64, by omega⟩ else (0 : EReal) := by
  unfold V
  simp only [List.flatten_cons, List.flatten_nil, List.append_nil]
  after_reads_simp
  pointwise
  refine (dif_neg (by omega)).trans ((dif_neg (by omega)).trans ((dif_neg (by omega)).trans ?_))
  by_cases h1 : x.val < 64
  · refine (dif_pos (by omega)).trans (Eq.trans ?_ (dif_neg (by omega)).symm)
    after_reads_simp
    pointwise
  by_cases h2 : x.val < 96
  · refine (dif_neg (by omega)).trans ((dif_pos (by omega)).trans (Eq.trans ?_ (dif_pos (by omega)).symm))
    after_reads_simp
    pointwise
    show aKpe m c s ⟨5632 + x.val - 4608 - 768 - 256 - 64, by omega⟩ = _
    exact congrArg _ (Fin.ext (by simp only; omega))
  · refine (dif_neg (by omega)).trans ((dif_neg (by omega)).trans (Eq.trans ?_ (dif_neg (by omega)).symm))
    after_reads_simp
    pointwise
set_option maxHeartbeats 1000000 in
theorem v38_at (c : Dev nD) (d : Fin 768) (j : Fin 1024) :
    V m c main_v38 (ix2 d j) = if hx : j.val % 128 < 96 then aWq m c d ⟨j.val / 128 * 96 + j.val % 128, by omega⟩ else (0 : EReal) := by
  unfold V
  simp only [List.flatten_cons, List.flatten_nil, List.append_nil]
  after_reads_simp
  pointwise
  simp only [StableHlo.TRef.toBuf, StableHlo.TRef.ofBuf, cast_eq]
  pointwise
  by_cases hx : j.val % 128 < 96
  · refine Eq.trans (dif_pos ⟨by omega, hx⟩) (Eq.trans ?_ (dif_pos hx).symm)
    rfl
  · refine Eq.trans ?_ (dif_neg hx).symm
    exact Eq.trans (dif_neg fun h => hx h.2) zero_word
set_option maxHeartbeats 1000000 in
theorem v59_at (c : Dev nD) (t : Fin 4) (d x : Fin 256) :
    V m c main_v59 (ix3 t d x) = if hx : x.val % 128 < 64 then aWkv m c d ⟨t.val * 256 + x.val, by omega⟩ else (0 : EReal) := by
  unfold V
  simp only [List.flatten_cons, List.flatten_nil, List.append_nil]
  after_reads_simp
  pointwise
  simp only [StableHlo.TRef.toBuf, StableHlo.TRef.ofBuf, cast_eq]
  pointwise
  by_cases hx : x.val % 128 < 64
  · refine Eq.trans (dif_pos ⟨by omega, hx⟩) (Eq.trans ?_ (dif_pos hx).symm)
    show aWkv m c d ⟨(t.val * 2 + x.val / 128) * 128 + x.val % 128, by omega⟩ = _
    exact congrArg _ (Fin.ext (by simp only; omega))
  · refine Eq.trans ?_ (dif_neg hx).symm
    exact Eq.trans (dif_neg fun h => hx h.2) zero_word
set_option maxHeartbeats 1000000 in
theorem v61_at (c : Dev nD) (t : Fin 4) (d x : Fin 256) :
    V m c main_v61 (ix3 t d x) = if hx : x.val % 128 / 64 = x.val / 128 then aWkv m c d ⟨t.val * 256 + x.val / 128 * 128 + 64 + x.val % 64, by omega⟩ else (0 : EReal) := by
  unfold V
  simp only [List.flatten_cons, List.flatten_nil, List.append_nil]
  after_reads_simp
  pointwise
  have hw : m (c, Proc.tc.devRef main_arg6) (ix3 0 d ⟨(t.val * 2 + x.val / 128) * 128 + (64 + x.val % 64), by omega⟩)
      = aWkv m c d ⟨t.val * 256 + x.val / 128 * 128 + 64 + x.val % 64, by omega⟩ := by
    show aWkv m c d ⟨(t.val * 2 + x.val / 128) * 128 + (64 + x.val % 64), by omega⟩ = _
    exact congrArg _ (Fin.ext (by simp only; omega))
  generalize m (c, Proc.tc.devRef main_arg6) (ix3 0 d ⟨(t.val * 2 + x.val / 128) * 128 + (64 + x.val % 64), _⟩) = w at hw ⊢
  rw [own_half]
  by_cases hx : x.val % 128 / 64 = x.val / 128
  · rw [if_pos hx, dif_pos hx, mul_one]
    exact hw
  · rw [if_neg hx, dif_neg hx, mul_zero]
set_option maxHeartbeats 1000000 in
theorem v62_at (c : Dev nD) (s : Fin 4096) (x : Fin 128) :
    V m c main_v62 (ix2 s x) = tabC s x := by
  unfold tabC
  unfold V
  simp only [List.flatten_cons, List.flatten_nil, List.append_nil]
  after_reads_simp
  pointwise
  split
  · rename_i h1
    after_reads_simp
    pointwise
  · rename_i h1
    split
    · after_reads_simp
      pointwise
      rw [dif_pos (by omega), cos_eq, angle]
    · split
      · after_reads_simp
        pointwise
        rw [dif_neg (by omega), dif_pos (by omega), cos_eq, angle]
        simp only [Nat.sub_sub]
      · after_reads_simp
        pointwise
        rw [dif_neg (by omega), dif_neg (by omega)]
set_option maxHeartbeats 1000000 in
theorem v63_at (c : Dev nD) (s : Fin 4096) (x : Fin 128) :
    V m c main_v63 (ix2 s x) = tab1 s x := by
  unfold tab1
  unfold V
  simp only [List.flatten_cons, List.flatten_nil, List.append_nil]
  after_reads_simp
  pointwise
  split
  · rename_i h1
    after_reads_simp
    pointwise
    rw [dif_neg (by omega)]
  · rename_i h1
    split
    · after_reads_simp
      pointwise
      rw [dif_pos (by omega), sin_eq, angle]
    · split
      · after_reads_simp
        pointwise
        rw [dif_neg (by omega)]
      · after_reads_simp
        pointwise
        rw [dif_neg (by omega)]
set_option maxHeartbeats 1000000 in
theorem v64_at (c : Dev nD) (s : Fin 4096) (x : Fin 128) :
    V m c main_v64 (ix2 s x) = tab2 s x := by
  unfold tab2
  unfold V
  simp only [List.flatten_cons, List.flatten_nil, List.append_nil]
  after_reads_simp
  pointwise
  split
  · rename_i h1
    after_reads_simp
    pointwise
    rw [dif_neg (by omega)]
  · rename_i h1
    split
    · after_reads_simp
      pointwise
      rw [dif_neg (by omega)]
    · split
      · after_reads_simp
        pointwise
        rw [dif_pos (by omega), sin_eq, angle]
        simp only [Nat.sub_sub]
      · after_reads_simp
        pointwise
        rw [dif_neg (by omega)]

end Cert.QkvFwdIdeal.Value
-- ==== Proof.QkvFwdBlock.lean ====
/- What `qkv_fwd` leaves, entry by entry over the extended reals: the heads' queries, keys and values in their lanes. -/
module

public import proofs.«01_k».proof.Proof.QkvFwdHost
import all proofs.«01_k».proof.Proof.QkvFwdHost
import all proofs.«01_k».proof.Proof.RopeFwd

@[expose] public section

set_option maxRecDepth 16384

noncomputable section

namespace Cert.QkvFwdIdeal.Value

open Cert.QkvFwdIdeal Cert.QkvFwdIdeal.Gen Idealize.ShloMosaic Idealize.ShloMosaic.TcCoe Idealize.SL.Sem
open Idealize.ShloMosaic.Pipeline (Dat)
open Cert.RopeFwd (rope turn turn_eq tabC tab1 tab2)

variable (m : (ℓ : Loc nD τ sig) → Buf (Elt Ideal) ℓ)

/-- The normed rows. -/
def yQ (c : Dev nD) (s : Fin 4096) (d : Fin 768) : EReal :=
  aCq m c s d * Ideal.rsqrt (Ideal.div (∑ e : Fin 768, aCq m c s e * aCq m c s e) (Ideal.ofBits .f32 0x44400000#32) + Ideal.ofBits .f32 0x358637BD#32) * aGq m c d
def yKV (c : Dev nD) (s : Fin 4096) (d : Fin 256) : EReal :=
  aCkv m c s d * Ideal.rsqrt (Ideal.div (∑ e : Fin 256, aCkv m c s e * aCkv m c s e) (Ideal.ofBits .f32 0x43800000#32) + Ideal.ofBits .f32 0x358637BD#32) * aGkv m c d

/-- The projections of a head, and the rotary key behind 64 zeros. -/
def qv (c : Dev nD) (h : Fin 8) (s : Fin 4096) (l : Fin 96) : EReal := ∑ d : Fin 768, yQ m c s d * aWq m c d ⟨h.val * 96 + l.val, by omega⟩
def kv (c : Dev nD) (h : Fin 8) (s : Fin 4096) (l : Fin 128) : EReal := ∑ d : Fin 256, yKV m c s d * aWkv m c d ⟨h.val * 128 + l.val, by omega⟩
def kp (c : Dev nD) (s : Fin 4096) (l : Fin 96) : EReal := if h : 64 ≤ l.val then aKpe m c s ⟨l.val - 64, by omega⟩ else 0

/-- The three results. -/
def oQ (c : Dev nD) (h : Fin 8) (s : Fin 4096) (l : Fin 128) : EReal := if hl : l.val < 96 then rope (qv m c h s) s ⟨l.val, hl⟩ else 0
def oK (c : Dev nD) (h : Fin 8) (s : Fin 4096) (l : Fin 128) : EReal :=
  if l.val < 64 then kv m c h s l else if hl : l.val < 96 then rope (kp m c s) s ⟨l.val, hl⟩ else 0
def oV (c : Dev nD) (h : Fin 8) (s : Fin 4096) (l : Fin 128) : EReal :=
  if l.val = (if h.val % 2 = 0 then 127 else 0) then Ideal.ofBits .f32 0x3F800000#32
  else if l.val / 64 = h.val % 2 then kv m c h s ⟨64 + l.val % 64, by omega⟩ else 0

/-- The block index of every window. -/
theorem idx_val : ∀ t : Fin cfg0.N, win0_0.index t = ![t.val, 6] ∧ win0_1.index t = ![t.val, 21] ∧ win0_2.index t = ![t.val, 44]
    ∧ win0_3.index t = ![0, 0] ∧ win0_4.index t = ![0, 0] ∧ win0_5.index t = ![0, 0] ∧ win0_6.index t = ![0, 0, 0] ∧ win0_7.index t = ![0, 0, 0]
    ∧ win0_8.index t = ![t.val, 0] ∧ win0_9.index t = ![t.val, 0] ∧ win0_10.index t = ![t.val, 0] ∧ win0_11.index t = ![0, t.val, 0]
    ∧ win0_12.index t = ![0, t.val, 0] ∧ win0_13.index t = ![0, t.val, 0] :=
  (by decide +kernel : ∀ t : Fin grid0.N, _)

/-- The row of the arrays that row `i` of point `t`'s blocks is. -/
def rowOf (t : Fin cfg0.N) (i : Fin 512) : Fin 4096 := ⟨t.val * 512 + i.val, by have := lt_of_lt_of_eq t.isLt N_0; omega⟩

theorem x0_at (c : Dev nD) (t : Fin cfg0.N) (i : Fin 512) (d : Fin 768) : X0_0 m c t (ix2 i d) = aCq m c (rowOf t i) d := by
  refine Eq.trans ?_ (v6_q m c (rowOf t i) d)
  unfold X0_0 Pipeline.Window.fill
  rw [dif_pos (moved0_0 t _)]
  blk_ext [iblk, rowOf, idx_val t]
theorem x1_at (c : Dev nD) (t : Fin cfg0.N) (i : Fin 512) (d : Fin 256) : X0_1 m c t (ix2 i d) = aCkv m c (rowOf t i) d := by
  refine Eq.trans ?_ (v6_kv m c (rowOf t i) d)
  unfold X0_1 Pipeline.Window.fill
  rw [dif_pos (moved0_1 t _)]
  blk_ext [iblk, rowOf, idx_val t]
theorem x2_at (c : Dev nD) (t : Fin cfg0.N) (i : Fin 512) (x : Fin 128) : iblk m c 2 t (ix2 i x) = if hx : x.val < 96 then kp m c (rowOf t i) ⟨x.val, hx⟩ else 0 := by
  refine Eq.trans (b := V m c main_v6 (ix2 (rowOf t i) ⟨5632 + x.val, by omega⟩)) (by blk_ext [iblk, rowOf, idx_val t]) ((v6_pe m c (rowOf t i) x).trans ?_)
  by_cases hx : x.val < 96 <;> by_cases h : 64 ≤ x.val <;> simp [kp, hx, h] <;> omega
theorem x3_at (c : Dev nD) (t : Fin cfg0.N) (d : Fin 768) : iblk m c 3 t (ix2 0 d) = aGq m c d := by
  blk_ext [iblk, V, aGq, idx_val t]
theorem x4_at (c : Dev nD) (t : Fin cfg0.N) (d : Fin 256) : iblk m c 4 t (ix2 0 d) = aGkv m c d := by
  blk_ext [iblk, V, aGkv, idx_val t]
theorem x5_at (c : Dev nD) (t : Fin cfg0.N) (d : Fin 768) (j : Fin 1024) : iblk m c 5 t (ix2 d j) = V m c main_v38 (ix2 d j) := by
  blk_ext [iblk, rowOf, idx_val t]
theorem x6_at (c : Dev nD) (t : Fin cfg0.N) (p : Fin 4) (d x : Fin 256) : iblk m c 6 t (ix3 p d x) = V m c main_v59 (ix3 p d x) := by
  blk_ext [iblk, rowOf, idx_val t]
theorem x7_at (c : Dev nD) (t : Fin cfg0.N) (p : Fin 4) (d x : Fin 256) : iblk m c 7 t (ix3 p d x) = V m c main_v61 (ix3 p d x) := by
  blk_ext [iblk, rowOf, idx_val t]
theorem x8_at (c : Dev nD) (t : Fin cfg0.N) (i : Fin 512) (l : Fin 128) : iblk m c 8 t (ix2 i l) = tabC (rowOf t i) l := by
  refine Eq.trans ?_ (v62_at m c (rowOf t i) l)
  blk_ext [iblk, rowOf, idx_val t]
theorem x9_at (c : Dev nD) (t : Fin cfg0.N) (i : Fin 512) (l : Fin 128) : iblk m c 9 t (ix2 i l) = tab1 (rowOf t i) l := by
  refine Eq.trans ?_ (v63_at m c (rowOf t i) l)
  blk_ext [iblk, rowOf, idx_val t]
theorem x10_at (c : Dev nD) (t : Fin cfg0.N) (i : Fin 512) (l : Fin 128) : iblk m c 10 t (ix2 i l) = tab2 (rowOf t i) l := by
  refine Eq.trans ?_ (v64_at m c (rowOf t i) l)
  blk_ext [iblk, rowOf, idx_val t]

end Cert.QkvFwdIdeal.Value
-- ==== Proof.QkvFwdPay.lean ====
/- What `qkv_fwd`'s body makes of one block of rows: its norms, its projections, its rotation and its three kinds of stores. -/
module

public import proofs.«01_k».proof.Proof.Gen.QkvFwdIdeal.Value
public import Idealize.ShloMosaic.Lib.Pipeline.ValueKit
public import Idealize.ShloMosaic.Lib.Pointwise

@[expose] public section

set_option maxRecDepth 16384

noncomputable section

namespace Cert.QkvFwdIdeal.Value

open Cert.QkvFwdIdeal Cert.QkvFwdIdeal.Gen Idealize.ShloMosaic Idealize.ShloMosaic.TcCoe Idealize.SL.Sem

/-- The norms and the products. -/
theorem pay4_at (x : Vec Ideal S512x256 .f32) (g : Vec Ideal S1x256 .f32) (i : Fin 512) (d : Fin 256) : k0_pay4 (F := Ideal) x g (ix2 i d)
    = x (ix2 i d) * Ideal.rsqrt (Ideal.div (∑ e : Fin 256, x (ix2 i e) * x (ix2 i e)) (Ideal.ofBits .f32 0x43800000#32) + Ideal.ofBits .f32 0x358637BD#32) * g (ix2 0 d) := by
  pointwise [k0_pay4]
theorem pay5_at (x : Vec Ideal S512x768 .f32) (g : Vec Ideal S1x768 .f32) (i : Fin 512) (d : Fin 768) : k0_pay5 (F := Ideal) x g (ix2 i d)
    = x (ix2 i d) * Ideal.rsqrt (Ideal.div (∑ e : Fin 768, x (ix2 i e) * x (ix2 i e)) (Ideal.ofBits .f32 0x44400000#32) + Ideal.ofBits .f32 0x358637BD#32) * g (ix2 0 d) := by
  pointwise [k0_pay5]
theorem pay6_at (y : FVec Ideal S512x768 .bf16) (w : Vec Ideal S768x1024 .bf16) (i : Fin 512) (j : Fin 1024) :
    k0_pay6 (F := Ideal) y w (ix2 i j) = ∑ d : Fin 768, y (ix2 i d) * w (ix2 d j) := by
  pointwise [k0_pay6]
theorem pay7_at (y : FVec Ideal S512x256 .bf16) (w : Fin 4 → Vec Ideal S1x256x256 .bf16) (i : Fin 512) (p : Fin 4) (x : Fin 256) (j : Fin 1024) (hj : j.val = p.val * 256 + x.val) :
    k0_pay7 (F := Ideal) y (w 0) (w 1) (w 2) (w 3) (ix2 i j) = ∑ d : Fin 256, y (ix2 i d) * w p (ix3 0 d x) := by
  pointwise [k0_pay7]
  have e : ∀ (n : ℕ) (h : n < 256) (w : Vec Ideal S1x256x256 .bf16), n = x.val → ∑ d : Fin 256, y (ix2 i d) * w (ix3 0 d ⟨n, h⟩) = ∑ d : Fin 256, y (ix2 i d) * w (ix3 0 d x) :=
    fun n h w hn => Finset.sum_congr rfl fun d _ => by rw [show (⟨n, h⟩ : Fin 256) = x from Fin.ext hn]
  match p, hj with
  | ⟨0, _⟩, hj => have hj : j.val = 0 * 256 + x.val := hj; exact (dif_pos (by omega)).trans (e _ _ _ (by omega))
  | ⟨1, _⟩, hj => have hj : j.val = 1 * 256 + x.val := hj; exact (dif_neg (by omega)).trans ((dif_pos (by omega)).trans (e _ _ _ (by omega)))
  | ⟨2, _⟩, hj => have hj : j.val = 2 * 256 + x.val := hj; exact (dif_neg (by omega)).trans ((dif_neg (by omega)).trans ((dif_pos (by omega)).trans (e _ _ _ (by omega))))
  | ⟨3, _⟩, hj => have hj : j.val = 3 * 256 + x.val := hj; exact (dif_neg (by omega)).trans ((dif_neg (by omega)).trans ((dif_neg (by omega)).trans (e _ _ _ (by omega))))

/-- The rotation of a row by its two rolls. -/
def spin (a b c : FVec Ideal S512x128 .f32) (y : Fin 128 → EReal) (i : Fin 512) (l : Fin 128) : EReal :=
  y l * a (ix2 i l) + y ⟨(l.val + 128 - 112) % 128, by omega⟩ * b (ix2 i l) + y ⟨(l.val + 128 - 16) % 128, by omega⟩ * c (ix2 i l)

theorem pay1_eq (a : Vec Ideal S512x128 .f32) (i : Fin 512) (l : Fin 128) : k0_pay1 (F := Ideal) a (ix2 i l) = a (ix2 i l) := by pointwise [k0_pay1]
theorem pay2_eq (a : Vec Ideal S512x128 .f32) (i : Fin 512) (l : Fin 128) : k0_pay2 (F := Ideal) a (ix2 i l) = a (ix2 i l) := by pointwise [k0_pay2]
theorem pay3_eq (a : Vec Ideal S512x128 .f32) (i : Fin 512) (l : Fin 128) : k0_pay3 (F := Ideal) a (ix2 i l) = a (ix2 i l) := by pointwise [k0_pay3]
theorem pay13_at (a b c : FVec Ideal S512x128 .f32) (y : Vec Ideal S512x128 .f32) (i : Fin 512) (l : Fin 128) :
    k0_pay13 (F := Ideal) a b c y (ix2 i l) = spin a b c (fun x => y (ix2 i x)) i l := by
  pointwise [k0_pay13]; rfl

/-- A choice of one lane. -/
theorem sel_lane (l k : Fin 128) (a b : EReal) :
    Scalar.select (IntOp.cmpi .eq (BitVec.ofNat 32 l.val) (BitVec.ofNat 32 k.val)) a b = if l.val = k.val then a else b := by
  rw [show IntOp.cmpi .eq (BitVec.ofNat 32 l.val) (BitVec.ofNat 32 k.val) = if l.val = k.val then 1#1 else 0#1 by revert l k; decide +kernel]
  split <;> rfl

/-- The stores of the queries, head by head. -/
theorem q0_at (a b c : FVec Ideal S512x128 .f32) (v : FVec Ideal S512x1024 .f32) (o : Fin 1) (i : Fin 512) (l : Fin 128) :
    k0_pay14 (F := Ideal) a b c v (ix3 o i l) = spin a b c (fun x => v (ix2 i ⟨x.val, by omega⟩)) i l := by
  pointwise [k0_pay14]; rfl
theorem q1_at (a b c : FVec Ideal S512x128 .f32) (v : FVec Ideal S512x1024 .f32) (o : Fin 1) (i : Fin 512) (l : Fin 128) :
    k0_pay17 (F := Ideal) a b c v (ix3 o i l) = spin a b c (fun x => v (ix2 i ⟨128 + x.val, by omega⟩)) i l := by
  pointwise [k0_pay17]; rfl
theorem q2_at (a b c : FVec Ideal S512x128 .f32) (v : FVec Ideal S512x1024 .f32) (o : Fin 1) (i : Fin 512) (l : Fin 128) :
    k0_pay20 (F := Ideal) a b c v (ix3 o i l) = spin a b c (fun x => v (ix2 i ⟨256 + x.val, by omega⟩)) i l := by
  pointwise [k0_pay20]; rfl
theorem q3_at (a b c : FVec Ideal S512x128 .f32) (v : FVec Ideal S512x1024 .f32) (o : Fin 1) (i : Fin 512) (l : Fin 128) :
    k0_pay23 (F := Ideal) a b c v (ix3 o i l) = spin a b c (fun x => v (ix2 i ⟨384 + x.val, by omega⟩)) i l := by
  pointwise [k0_pay23]; rfl
theorem q4_at (a b c : FVec Ideal S512x128 .f32) (v : FVec Ideal S512x1024 .f32) (o : Fin 1) (i : Fin 512) (l : Fin 128) :
    k0_pay29 (F := Ideal) a b c v (ix3 o i l) = spin a b c (fun x => v (ix2 i ⟨512 + x.val, by omega⟩)) i l := by
  pointwise [k0_pay29]; rfl
theorem q5_at (a b c : FVec Ideal S512x128 .f32) (v : FVec Ideal S512x1024 .f32) (o : Fin 1) (i : Fin 512) (l : Fin 128) :
    k0_pay35 (F := Ideal) c (k0_pay33 a b v) (k0_pay34 v) (ix3 o i l) = spin a b c (fun x => v (ix2 i ⟨640 + x.val, by omega⟩)) i l := by
  pointwise [k0_pay35, k0_pay33, k0_pay34, k0_pay32]; rfl
theorem q6_at (a b c : FVec Ideal S512x128 .f32) (v : FVec Ideal S512x1024 .f32) (o : Fin 1) (i : Fin 512) (l : Fin 128) :
    k0_pay38 (F := Ideal) a b c v (ix3 o i l) = spin a b c (fun x => v (ix2 i ⟨768 + x.val, by omega⟩)) i l := by
  pointwise [k0_pay38]; rfl
theorem q7_at (a b c : FVec Ideal S512x128 .f32) (v : FVec Ideal S512x1024 .f32) (o : Fin 1) (i : Fin 512) (l : Fin 128) :
    k0_pay42 (F := Ideal) a b c v (ix3 o i l) = spin a b c (fun x => v (ix2 i ⟨896 + x.val, by omega⟩)) i l := by
  pointwise [k0_pay42]; rfl

/-- The stores of the keys. -/
theorem k0_at (a b c : FVec Ideal S512x128 .f32) (y : Vec Ideal S512x128 .f32) (v : FVec Ideal S512x1024 .f32) (o : Fin 1) (i : Fin 512) (l : Fin 128) :
    k0_pay15 (F := Ideal) a b c v y (ix3 o i l) = v (ix2 i ⟨l.val, by omega⟩) + k0_pay13 (F := Ideal) a b c y (ix2 i l) := by
  pointwise [k0_pay15]
theorem k1_at (y : FVec Ideal S512x128 .f32) (v : FVec Ideal S512x1024 .f32) (o : Fin 1) (i : Fin 512) (l : Fin 128) :
    k0_pay18 (F := Ideal) v y (ix3 o i l) = v (ix2 i ⟨128 + l.val, by omega⟩) + y (ix2 i l) := by
  pointwise [k0_pay18]
theorem k2_at (y : FVec Ideal S512x128 .f32) (v : FVec Ideal S512x1024 .f32) (o : Fin 1) (i : Fin 512) (l : Fin 128) :
    k0_pay21 (F := Ideal) v y (ix3 o i l) = v (ix2 i ⟨256 + l.val, by omega⟩) + y (ix2 i l) := by
  pointwise [k0_pay21]
theorem k3_at (y : FVec Ideal S512x128 .f32) (v : FVec Ideal S512x1024 .f32) (o : Fin 1) (i : Fin 512) (l : Fin 128) :
    k0_pay24 (F := Ideal) v y (ix3 o i l) = v (ix2 i ⟨384 + l.val, by omega⟩) + y (ix2 i l) := by
  pointwise [k0_pay24]
theorem k4_at (y : FVec Ideal S512x128 .f32) (v : FVec Ideal S512x1024 .f32) (o : Fin 1) (i : Fin 512) (l : Fin 128) :
    k0_pay30 (F := Ideal) v y (ix3 o i l) = v (ix2 i ⟨512 + l.val, by omega⟩) + y (ix2 i l) := by
  pointwise [k0_pay30]
theorem k5_at (y : FVec Ideal S512x128 .f32) (v : FVec Ideal S512x1024 .f32) (o : Fin 1) (i : Fin 512) (l : Fin 128) :
    k0_pay36 (F := Ideal) v y (ix3 o i l) = v (ix2 i ⟨640 + l.val, by omega⟩) + y (ix2 i l) := by
  pointwise [k0_pay36]
theorem k6_at (y : FVec Ideal S512x128 .f32) (v : FVec Ideal S512x1024 .f32) (o : Fin 1) (i : Fin 512) (l : Fin 128) :
    k0_pay40 (F := Ideal) (k0_pay39 v y) (ix3 o i l) = v (ix2 i ⟨768 + l.val, by omega⟩) + y (ix2 i l) := by
  pointwise [k0_pay40, k0_pay39]
theorem k7_at (y : FVec Ideal S512x128 .f32) (v : FVec Ideal S512x1024 .f32) (o : Fin 1) (i : Fin 512) (l : Fin 128) :
    k0_pay43 (F := Ideal) v y (ix3 o i l) = v (ix2 i ⟨896 + l.val, by omega⟩) + y (ix2 i l) := by
  pointwise [k0_pay43]

/-- The stores of the values: one lane is one. -/
theorem v1_at (v : FVec Ideal S512x1024 .f32) (o : Fin 1) (i : Fin 512) (l : Fin 128) :
    k0_pay19 (F := Ideal) v (iota .tc S512x128 32 [1] iota_S512x128_d1_w32) (ix3 o i l) = if l.val = 0 then Ideal.ofBits .f32 0x3F800000#32 else v (ix2 i ⟨128 + l.val, by omega⟩) := by
  pointwise [k0_pay19]; exact sel_lane l 0 _ _
theorem v2_at (v : FVec Ideal S512x1024 .f32) (o : Fin 1) (i : Fin 512) (l : Fin 128) :
    k0_pay22 (F := Ideal) v (iota .tc S512x128 32 [1] iota_S512x128_d1_w32) (ix3 o i l) = if l.val = 127 then Ideal.ofBits .f32 0x3F800000#32 else v (ix2 i ⟨256 + l.val, by omega⟩) := by
  pointwise [k0_pay22]; exact sel_lane l 127 _ _
theorem v3_at (v : FVec Ideal S512x1024 .f32) (o : Fin 1) (i : Fin 512) (l : Fin 128) :
    k0_pay28 (F := Ideal) (k0_pay25 (iota .tc S512x128 32 [1] iota_S512x128_d1_w32)) (k0_pay26 v) k0_pay27 (ix3 o i l) = if l.val = 0 then Ideal.ofBits .f32 0x3F800000#32 else v (ix2 i ⟨384 + l.val, by omega⟩) := by
  pointwise [k0_pay28, k0_pay25, k0_pay26, k0_pay27]; exact sel_lane l 0 _ _
theorem v4_at (v : FVec Ideal S512x1024 .f32) (o : Fin 1) (i : Fin 512) (l : Fin 128) :
    k0_pay31 (F := Ideal) v (iota .tc S512x128 32 [1] iota_S512x128_d1_w32) (ix3 o i l) = if l.val = 127 then Ideal.ofBits .f32 0x3F800000#32 else v (ix2 i ⟨512 + l.val, by omega⟩) := by
  pointwise [k0_pay31]; exact sel_lane l 127 _ _
theorem v5_at (v : FVec Ideal S512x1024 .f32) (o : Fin 1) (i : Fin 512) (l : Fin 128) :
    k0_pay37 (F := Ideal) v (iota .tc S512x128 32 [1] iota_S512x128_d1_w32) (ix3 o i l) = if l.val = 0 then Ideal.ofBits .f32 0x3F800000#32 else v (ix2 i ⟨640 + l.val, by omega⟩) := by
  pointwise [k0_pay37]; exact sel_lane l 0 _ _
theorem v6_at (v : FVec Ideal S512x1024 .f32) (o : Fin 1) (i : Fin 512) (l : Fin 128) :
    k0_pay41 (F := Ideal) v (iota .tc S512x128 32 [1] iota_S512x128_d1_w32) (ix3 o i l) = if l.val = 127 then Ideal.ofBits .f32 0x3F800000#32 else v (ix2 i ⟨768 + l.val, by omega⟩) := by
  pointwise [k0_pay41]; exact sel_lane l 127 _ _
theorem v7_at (v : FVec Ideal S512x1024 .f32) (o : Fin 1) (i : Fin 512) (l : Fin 128) :
    k0_pay44 (F := Ideal) v (iota .tc S512x128 32 [1] iota_S512x128_d1_w32) (ix3 o i l) = if l.val = 0 then Ideal.ofBits .f32 0x3F800000#32 else v (ix2 i ⟨896 + l.val, by omega⟩) := by
  pointwise [k0_pay44]; exact sel_lane l 0 _ _
theorem v0_at (y : FVec Ideal S512x256 .bf16) (w0 w1 w2 w3 : Vec Ideal S1x256x256 .bf16) (o : Fin 1) (i : Fin 512) (l : Fin 128) :
    k0_pay16 (F := Ideal) y (k0_pay8 y w0) (k0_pay9 y w1) (k0_pay10 y w2) (k0_pay11 w3) (ix3 o i l)
      = if l.val = 127 then Ideal.ofBits .f32 0x3F800000#32 else k0_pay12 (F := Ideal) y (k0_pay8 y w0) (k0_pay9 y w1) (k0_pay10 y w2) (k0_pay11 w3) (ix2 i ⟨l.val, by omega⟩) := by
  generalize hv : k0_pay12 (F := Ideal) y (k0_pay8 y w0) (k0_pay9 y w1) (k0_pay10 y w2) (k0_pay11 w3) = v
  unfold k0_pay16
  rw [hv]
  pointwise; exact sel_lane l 127 _ _

end Cert.QkvFwdIdeal.Value
-- ==== Proof.QkvFwdPoint.lean ====
/- What `qkv_fwd` leaves: each head's store of queries, keys and values is that head's row of the results. -/
module

public import proofs.«01_k».proof.Proof.QkvFwdBlock
public import proofs.«01_k».proof.Proof.QkvFwdPay
public import Idealize.ShloMosaic.Lib.Pipeline.ValueKit
public import Idealize.ShloMosaic.Lib.Pointwise
import all proofs.«01_k».proof.Proof.QkvFwdBlock
import all proofs.«01_k».proof.Proof.QkvFwdPay
import all proofs.«01_k».proof.Proof.QkvFwdHost
import all proofs.«01_k».proof.Proof.RopeFwd

@[expose] public section

set_option maxRecDepth 16384

noncomputable section

namespace Cert.QkvFwdIdeal.Value

open Cert.QkvFwdIdeal Cert.QkvFwdIdeal.Gen Idealize.ShloMosaic Idealize.ShloMosaic.TcCoe Idealize.SL.Sem
open Idealize.ShloMosaic.Pipeline (Dat)
open Cert.RopeFwd (rope rope_nope turn turn_eq)

variable (m : (ℓ : Loc nD τ sig) → Buf (Elt Ideal) ℓ) (c : Dev nD) (t : Fin cfg0.N)

/-- The normed rows of a block. -/
theorem yq_block (i : Fin 512) (d : Fin 768) : k0_pay5 (F := Ideal) (X0_0 m c t) (iblk m c 3 t) (ix2 i d) = yQ m c (rowOf t i) d := by
  refine (pay5_at ..).trans ?_
  unfold yQ
  rw [x3_at m c t d]
  simp only [x0_at m c t]
theorem ykv_block (i : Fin 512) (d : Fin 256) : k0_pay4 (F := Ideal) (X0_1 m c t) (iblk m c 4 t) (ix2 i d) = yKV m c (rowOf t i) d := by
  refine (pay4_at ..).trans ?_
  unfold yKV
  rw [x4_at m c t d]
  simp only [x1_at m c t]

/-- The rotation of a row is the turn of its position. -/
theorem spin_turn (y : Fin 128 → EReal) (i : Fin 512) (l : Fin 128) :
    spin (k0_pay1 (iblk m c 8 t)) (k0_pay2 (iblk m c 9 t)) (k0_pay3 (iblk m c 10 t)) y i l = turn (rowOf t i) y l := by
  unfold spin turn
  rw [pay1_eq, pay2_eq, pay3_eq, x8_at, x9_at, x10_at]

/-- A head's projected query, and its rotation. -/
theorem q40 (h : Fin 8) (i : Fin 512) (x : Fin 128) :
    k0_pay6 (F := Ideal) (k0_pay5 (X0_0 m c t) (iblk m c 3 t)) (iblk m c 5 t) (ix2 i ⟨h.val * 128 + x.val, by omega⟩)
      = if hx : x.val < 96 then qv m c h (rowOf t i) ⟨x.val, hx⟩ else 0 := by
  refine (pay6_at ..).trans ?_
  have w : ∀ d : Fin 768, iblk m c 5 t (ix2 d ⟨h.val * 128 + x.val, by omega⟩) = if hx : x.val < 96 then aWq m c d ⟨h.val * 96 + x.val, by omega⟩ else (0 : EReal) := by
    intro d
    refine (x5_at m c t d _).trans ((v38_at m c d _).trans ?_)
    by_cases hx : x.val < 96
    · refine (dif_pos (by simp only; omega)).trans ?_
      rw [dif_pos hx]
      exact congrArg (aWq m c d) (Fin.ext (by simp only; omega))
    · refine (dif_neg (by simp only; omega)).trans ?_
      rw [dif_neg hx]
  by_cases hx : x.val < 96
  · rw [dif_pos hx]
    exact Finset.sum_congr rfl fun d _ => Ideal.mul_congr (yq_block m c t i d) ((w d).trans (dif_pos hx))
  · rw [dif_neg hx]
    exact Finset.sum_eq_zero fun d _ => (congrArg (_ * ·) ((w d).trans (dif_neg hx))).trans (mul_zero _)
theorem q_piece (h y0 : Fin 8) (i y1 : Fin 512) (l y2 : Fin 128) (e0 : y0.val = h.val) (e1 : y1.val = i.val) (e2 : y2.val = l.val)
    (j : Fin 128 → Fin 1024) (hj : ∀ x, (j x).val = h.val * 128 + x.val) :
    spin (k0_pay1 (iblk m c 8 t)) (k0_pay2 (iblk m c 9 t)) (k0_pay3 (iblk m c 10 t))
      (fun x => k0_pay6 (F := Ideal) (k0_pay5 (X0_0 m c t) (iblk m c 3 t)) (iblk m c 5 t) (ix2 i (j x))) i l = oQ m c y0 (rowOf t y1) y2 := by
  obtain rfl := Fin.ext e0
  obtain rfl := Fin.ext e1
  obtain rfl := Fin.ext e2
  refine (spin_turn m c t _ _ _).trans (turn_eq _ _ (qv m c y0 (rowOf t y1)) (fun x => ?_) y2)
  rw [show j x = ⟨y0.val * 128 + x.val, by omega⟩ from Fin.ext (hj x)]
  exact q40 m c t y0 y1 x

/-- The slabs of a weight. -/
theorem slab (w0 w1 w2 w3 : Vec Ideal S1x256x256 .bf16) (W : Fin 4 → Fin 256 → Fin 256 → EReal)
    (h0 : ∀ d x, w0 (ix3 0 d x) = W 0 d x) (h1 : ∀ d x, w1 (ix3 0 d x) = W 1 d x) (h2 : ∀ d x, w2 (ix3 0 d x) = W 2 d x) (h3 : ∀ d x, w3 (ix3 0 d x) = W 3 d x)
    (h : Fin 8) (i : Fin 512) (l : Fin 128) (j : Fin 1024) (hj : j.val = h.val * 128 + l.val) :
    k0_pay7 (F := Ideal) (k0_pay4 (X0_1 m c t) (iblk m c 4 t)) w0 w1 w2 w3 (ix2 i j)
      = ∑ d : Fin 256, yKV m c (rowOf t i) d * W ⟨h.val / 2, by omega⟩ d ⟨h.val % 2 * 128 + l.val, by omega⟩ := by
  refine (pay7_at _ ![w0, w1, w2, w3] i ⟨h.val / 2, by omega⟩ ⟨h.val % 2 * 128 + l.val, by omega⟩ j (by simp only; omega)).trans ?_
  have hw : ∀ p d x, (![w0, w1, w2, w3] : Fin 4 → Vec Ideal S1x256x256 .bf16) p (ix3 0 d x) = W p d x := fun p => match p with
    | ⟨0, _⟩ => h0 | ⟨1, _⟩ => h1 | ⟨2, _⟩ => h2 | ⟨3, _⟩ => h3
  exact Finset.sum_congr rfl fun d _ => Ideal.mul_congr (ykv_block m c t i d) (hw _ d _)

/-- A head's keys and values from the slabs. -/
theorem k_slab (h : Fin 8) (s : Fin 4096) (l : Fin 128) :
    ∑ d : Fin 256, yKV m c s d * V m c main_v59 (ix3 ⟨h.val / 2, by omega⟩ d ⟨h.val % 2 * 128 + l.val, by omega⟩) = if l.val < 64 then kv m c h s l else 0 := by
  by_cases a : l.val < 64
  · rw [if_pos a]
    exact Finset.sum_congr rfl fun d _ => Ideal.mul_congr rfl ((v59_at ..).trans ((dif_pos (by simp only; omega)).trans (congrArg (aWkv m c d) (Fin.ext (by simp only; omega)))))
  · rw [if_neg a]
    exact Finset.sum_eq_zero fun d _ => (congrArg (yKV m c s d * ·) ((v59_at ..).trans (dif_neg (by simp only; omega)))).trans (mul_zero _)
theorem v_slab (h : Fin 8) (s : Fin 4096) (l : Fin 128) :
    ∑ d : Fin 256, yKV m c s d * V m c main_v61 (ix3 ⟨h.val / 2, by omega⟩ d ⟨h.val % 2 * 128 + l.val, by omega⟩) = if l.val / 64 = h.val % 2 then kv m c h s ⟨64 + l.val % 64, by omega⟩ else 0 := by
  by_cases a : l.val / 64 = h.val % 2
  · rw [if_pos a]
    exact Finset.sum_congr rfl fun d _ => Ideal.mul_congr rfl ((v61_at ..).trans ((dif_pos (by simp only; omega)).trans (congrArg (aWkv m c d) (Fin.ext (by simp only; omega)))))
  · rw [if_neg a]
    exact Finset.sum_eq_zero fun d _ => (congrArg (yKV m c s d * ·) ((v61_at ..).trans (dif_neg (by simp only; omega)))).trans (mul_zero _)

/-- The rotary key in its lanes. -/
theorem kpe_turn (i : Fin 512) (l : Fin 128) :
    k0_pay13 (F := Ideal) (k0_pay1 (iblk m c 8 t)) (k0_pay2 (iblk m c 9 t)) (k0_pay3 (iblk m c 10 t)) (iblk m c 2 t) (ix2 i l)
      = if hl : l.val < 96 then rope (kp m c (rowOf t i)) (rowOf t i) ⟨l.val, hl⟩ else 0 :=
  (pay13_at ..).trans ((spin_turn m c t _ i l).trans (turn_eq _ _ (kp m c (rowOf t i)) (fun x => x2_at m c t i x) l))

/-- A head's keys: the projection below lane 64, the rotary key above it. -/
theorem k_sum (h : Fin 8) (s : Fin 4096) (l : Fin 128) :
    (if l.val < 64 then kv m c h s l else 0) + (if hl : l.val < 96 then rope (kp m c s) s ⟨l.val, hl⟩ else 0) = oK m c h s l := by
  unfold oK
  by_cases a : l.val < 64
  · rw [if_pos a, dif_pos (show l.val < 96 by omega), rope_nope _ _ _ a, if_pos a, show kp m c s ⟨l.val, by omega⟩ = 0 from dif_neg (by simp only; omega), add_zero]
  · rw [if_neg a, zero_add, if_neg a]

/-- A slab's entry. -/
theorem ld_slab (A : Vec Ideal S4x256x256 .bf16) (p : Fin 4) (hp) (d x : Fin 256) :
    View.ld A (Rect.unit ![p.val, 0, 0] ![1, 256, 256] hp) (ix3 0 d x) = A (ix3 p d x) :=
  View.ld_unit_apply_of A _ _ _ (ix3 0 d x) (ix3 p d x) (fun a => match a with | ⟨0, _⟩ => rfl | ⟨1, _⟩ => (Nat.zero_add _).symm | ⟨2, _⟩ => (Nat.zero_add _).symm)

/-- A store of keys and a store of values, at the head it is of. -/
theorem k_piece (h y0 : Fin 8) (i y1 : Fin 512) (l y2 : Fin 128) (e0 : y0.val = h.val) (e1 : y1.val = i.val) (e2 : y2.val = l.val)
    (j : Fin 1024) (hj : j.val = h.val * 128 + l.val) :
    k0_pay7 (F := Ideal) (k0_pay4 (X0_1 m c t) (iblk m c 4 t)) (View.ld (iblk m c 6 t) (Rect.unit ![0, 0, 0] ![1, 256, 256] inb_S4x256x256_S1x256x256_0_0_0))
        (View.ld (iblk m c 6 t) (Rect.unit ![1, 0, 0] ![1, 256, 256] inb_S4x256x256_S1x256x256_1_0_0))
        (View.ld (iblk m c 6 t) (Rect.unit ![2, 0, 0] ![1, 256, 256] inb_S4x256x256_S1x256x256_2_0_0))
        (View.ld (iblk m c 6 t) (Rect.unit ![3, 0, 0] ![1, 256, 256] inb_S4x256x256_S1x256x256_3_0_0)) (ix2 i j)
      + k0_pay13 (F := Ideal) (k0_pay1 (iblk m c 8 t)) (k0_pay2 (iblk m c 9 t)) (k0_pay3 (iblk m c 10 t)) (iblk m c 2 t) (ix2 i l) = oK m c y0 (rowOf t y1) y2 := by
  obtain rfl := Fin.ext e0
  obtain rfl := Fin.ext e1
  obtain rfl := Fin.ext e2
  have hs := (slab m c t _ _ _ _ (fun p d x => V m c main_v59 (ix3 p d x)) (fun d x => (ld_slab (iblk m c 6 t) 0 inb_S4x256x256_S1x256x256_0_0_0 d x).trans (x6_at m c t 0 d x))
    (fun d x => (ld_slab (iblk m c 6 t) 1 inb_S4x256x256_S1x256x256_1_0_0 d x).trans (x6_at m c t 1 d x))
    (fun d x => (ld_slab (iblk m c 6 t) 2 inb_S4x256x256_S1x256x256_2_0_0 d x).trans (x6_at m c t 2 d x))
    (fun d x => (ld_slab (iblk m c 6 t) 3 inb_S4x256x256_S1x256x256_3_0_0 d x).trans (x6_at m c t 3 d x)) y0 y1 y2 j hj).trans (k_slab m c y0 (rowOf t y1) y2)
  exact (congrArg₂ (fun a b : EReal => a + b) hs (kpe_turn m c t y1 y2)).trans (k_sum m c y0 (rowOf t y1) y2)
theorem v_piece (h y0 : Fin 8) (i y1 : Fin 512) (l y2 : Fin 128) (e0 : y0.val = h.val) (e1 : y1.val = i.val) (e2 : y2.val = l.val)
    (j : Fin 1024) (hj : j.val = h.val * 128 + l.val) (k : ℕ) (hk : k = if h.val % 2 = 0 then 127 else 0) :
    (if l.val = k then Ideal.ofBits .f32 0x3F800000#32 else
      k0_pay12 (F := Ideal) (k0_pay4 (X0_1 m c t) (iblk m c 4 t)) (k0_pay8 (k0_pay4 (X0_1 m c t) (iblk m c 4 t)) (View.ld (iblk m c 7 t) (Rect.unit ![0, 0, 0] ![1, 256, 256] inb_S4x256x256_S1x256x256_0_0_0)))
        (k0_pay9 (k0_pay4 (X0_1 m c t) (iblk m c 4 t)) (View.ld (iblk m c 7 t) (Rect.unit ![1, 0, 0] ![1, 256, 256] inb_S4x256x256_S1x256x256_1_0_0)))
        (k0_pay10 (k0_pay4 (X0_1 m c t) (iblk m c 4 t)) (View.ld (iblk m c 7 t) (Rect.unit ![2, 0, 0] ![1, 256, 256] inb_S4x256x256_S1x256x256_2_0_0)))
        (k0_pay11 (View.ld (iblk m c 7 t) (Rect.unit ![3, 0, 0] ![1, 256, 256] inb_S4x256x256_S1x256x256_3_0_0))) (ix2 i j)) = oV m c y0 (rowOf t y1) y2 := by
  obtain rfl := Fin.ext e0
  obtain rfl := Fin.ext e1
  obtain rfl := Fin.ext e2
  have hs := (slab m c t _ _ _ _ (fun p d x => V m c main_v61 (ix3 p d x)) (fun d x => (ld_slab (iblk m c 7 t) 0 inb_S4x256x256_S1x256x256_0_0_0 d x).trans (x7_at m c t 0 d x)) (fun d x => (ld_slab (iblk m c 7 t) 1 inb_S4x256x256_S1x256x256_1_0_0 d x).trans (x7_at m c t 1 d x))
    (fun d x => (ld_slab (iblk m c 7 t) 2 inb_S4x256x256_S1x256x256_2_0_0 d x).trans (x7_at m c t 2 d x)) (fun d x => (ld_slab (iblk m c 7 t) 3 inb_S4x256x256_S1x256x256_3_0_0 d x).trans (x7_at m c t 3 d x)) y0 y1 y2 j hj).trans (v_slab m c y0 (rowOf t y1) y2)
  subst hk
  exact congrArg (fun z => if y2.val = (if y0.val % 2 = 0 then 127 else 0) then Ideal.ofBits .f32 0x3F800000#32 else z) hs

theorem emb11 (h : Fin 8) (i : Fin 512) (l : Fin 128) : ((View.whole main_v65_0).slice (win0_11.rect t)).emb (ix3 h i l) = ix3 h (rowOf t i) l := by
  blk_ext [rowOf, idx_val t]
theorem emb12 (h : Fin 8) (i : Fin 512) (l : Fin 128) : ((View.whole main_v65_1).slice (win0_12.rect t)).emb (ix3 h i l) = ix3 h (rowOf t i) l := by
  blk_ext [rowOf, idx_val t]
theorem emb13 (h : Fin 8) (i : Fin 512) (l : Fin 128) : ((View.whole main_v65_2).slice (win0_13.rect t)).emb (ix3 h i l) = ix3 h (rowOf t i) l := by
  blk_ext [rowOf, idx_val t]

set_option maxHeartbeats 1000000 in
theorem qFinal (c : Dev nD) : (dats m 0 c).arrAt 11 (cfgs 0).N = (fun i => oQ m c (i 0) (i 1) (i 2) : FVec Ideal S8x4096x128 .bf16) := by
  refine (dats m 0 c).arrAt_eq_of_covers 11 _ (by decide +kernel) fun t _ y => ?_
  blk_simp
  rw [after0_11]
  unfold outsAt0; frame_out; idx_vars y
  refine Eq.trans ?_ (congrArg (fun i : S8x4096x128.Idx => oQ m c (i 0) (i 1) (i 2)) (emb11 t y0 y1 y2).symm)
  canon_tiles z hz
  case piece0 => idx_vars z; exact (q7_at ..).trans (q_piece m c t 7 y0 z1 y1 z2 y2 (by show y0.val = 7; omega) hz1 hz2 _ (fun x => rfl))
  case piece1 => idx_vars z; exact (q6_at ..).trans (q_piece m c t 6 y0 z1 y1 z2 y2 (by show y0.val = 6; omega) hz1 hz2 _ (fun x => rfl))
  case piece2 => idx_vars z; exact (q5_at ..).trans (q_piece m c t 5 y0 z1 y1 z2 y2 (by show y0.val = 5; omega) hz1 hz2 _ (fun x => rfl))
  case piece3 => idx_vars z; exact (q4_at ..).trans (q_piece m c t 4 y0 z1 y1 z2 y2 (by show y0.val = 4; omega) hz1 hz2 _ (fun x => rfl))
  case piece4 => idx_vars z; exact (q3_at ..).trans (q_piece m c t 3 y0 z1 y1 z2 y2 (by show y0.val = 3; omega) hz1 hz2 _ (fun x => rfl))
  case piece5 => idx_vars z; exact (q2_at ..).trans (q_piece m c t 2 y0 z1 y1 z2 y2 (by show y0.val = 2; omega) hz1 hz2 _ (fun x => rfl))
  case piece6 => idx_vars z; exact (q1_at ..).trans (q_piece m c t 1 y0 z1 y1 z2 y2 (by show y0.val = 1; omega) hz1 hz2 _ (fun x => rfl))
  case piece7 => idx_vars z; exact (q0_at ..).trans (q_piece m c t 0 y0 z1 y1 z2 y2 (by show y0.val = 0; omega) hz1 hz2 _ (fun x => (by show x.val = 0 * 128 + x.val; omega)))

set_option maxHeartbeats 1000000 in
theorem kFinal (c : Dev nD) : (dats m 0 c).arrAt 12 (cfgs 0).N = (fun i => oK m c (i 0) (i 1) (i 2) : FVec Ideal S8x4096x128 .bf16) := by
  refine (dats m 0 c).arrAt_eq_of_covers 12 _ (by decide +kernel) fun t _ y => ?_
  blk_simp
  rw [after0_12]
  unfold outsAt0; frame_out; idx_vars y
  refine Eq.trans ?_ (congrArg (fun i : S8x4096x128.Idx => oK m c (i 0) (i 1) (i 2)) (emb12 t y0 y1 y2).symm)
  canon_tiles z hz
  case piece0 => idx_vars z; exact (k7_at ..).trans (k_piece m c t 7 y0 z1 y1 z2 y2 (by show y0.val = 7; omega) hz1 hz2 _ rfl)
  case piece1 => idx_vars z; exact (k6_at ..).trans (k_piece m c t 6 y0 z1 y1 z2 y2 (by show y0.val = 6; omega) hz1 hz2 _ rfl)
  case piece2 => idx_vars z; exact (k5_at ..).trans (k_piece m c t 5 y0 z1 y1 z2 y2 (by show y0.val = 5; omega) hz1 hz2 _ rfl)
  case piece3 => idx_vars z; exact (k4_at ..).trans (k_piece m c t 4 y0 z1 y1 z2 y2 (by show y0.val = 4; omega) hz1 hz2 _ rfl)
  case piece4 => idx_vars z; exact (k3_at ..).trans (k_piece m c t 3 y0 z1 y1 z2 y2 (by show y0.val = 3; omega) hz1 hz2 _ rfl)
  case piece5 => idx_vars z; exact (k2_at ..).trans (k_piece m c t 2 y0 z1 y1 z2 y2 (by show y0.val = 2; omega) hz1 hz2 _ rfl)
  case piece6 => idx_vars z; exact (k1_at ..).trans (k_piece m c t 1 y0 z1 y1 z2 y2 (by show y0.val = 1; omega) hz1 hz2 _ rfl)
  case piece7 => idx_vars z; exact (k0_at ..).trans (k_piece m c t 0 y0 z1 y1 z2 y2 (by show y0.val = 0; omega) hz1 hz2 _ (by show z2.val = 0 * 128 + z2.val; omega))

set_option maxHeartbeats 1000000 in
theorem vFinal (c : Dev nD) : (dats m 0 c).arrAt 13 (cfgs 0).N = (fun i => oV m c (i 0) (i 1) (i 2) : FVec Ideal S8x4096x128 .bf16) := by
  refine (dats m 0 c).arrAt_eq_of_covers 13 _ (by decide +kernel) fun t _ y => ?_
  blk_simp
  rw [after0_13]
  unfold outsAt0; frame_out; idx_vars y
  refine Eq.trans ?_ (congrArg (fun i : S8x4096x128.Idx => oV m c (i 0) (i 1) (i 2)) (emb13 t y0 y1 y2).symm)
  canon_tiles z hz
  case piece0 => idx_vars z; exact (v7_at ..).trans (v_piece m c t 7 y0 z1 y1 z2 y2 (by show y0.val = 7; omega) hz1 hz2 _ rfl _ (by decide))
  case piece1 => idx_vars z; exact (v6_at ..).trans (v_piece m c t 6 y0 z1 y1 z2 y2 (by show y0.val = 6; omega) hz1 hz2 _ rfl _ (by decide))
  case piece2 => idx_vars z; exact (v5_at ..).trans (v_piece m c t 5 y0 z1 y1 z2 y2 (by show y0.val = 5; omega) hz1 hz2 _ rfl _ (by decide))
  case piece3 => idx_vars z; exact (v4_at ..).trans (v_piece m c t 4 y0 z1 y1 z2 y2 (by show y0.val = 4; omega) hz1 hz2 _ rfl _ (by decide))
  case piece4 => idx_vars z; exact (v3_at ..).trans (v_piece m c t 3 y0 z1 y1 z2 y2 (by show y0.val = 3; omega) hz1 hz2 _ rfl _ (by decide))
  case piece5 => idx_vars z; exact (v2_at ..).trans (v_piece m c t 2 y0 z1 y1 z2 y2 (by show y0.val = 2; omega) hz1 hz2 _ rfl _ (by decide))
  case piece6 => idx_vars z; exact (v1_at ..).trans (v_piece m c t 1 y0 z1 y1 z2 y2 (by show y0.val = 1; omega) hz1 hz2 _ rfl _ (by decide))
  case piece7 => idx_vars z; exact (v0_at ..).trans (v_piece m c t 0 y0 z1 y1 z2 y2 (by show y0.val = 0; omega) hz1 hz2 _ (by show z2.val = 0 * 128 + z2.val; omega) _ (by decide))

end Cert.QkvFwdIdeal.Value

end
-- ==== Proof.QkvFwdRefPoint.lean ====
/- What the reference of `qkv_fwd` leaves, entry by entry, over the extended reals. -/
module

public import proofs.«01_k».proof.Proof.RopeFwd
public import proofs.«01_k».proof.Proof.Gen.QkvFwdRefIdeal.Read
public import proofs.«01_k».proof.Proof.QkvHost
public import Idealize.ShloMosaic.Lib.Pipeline.ValueKit
public import Idealize.ShloMosaic.Lib.Pointwise
import all proofs.«01_k».proof.Proof.RopeFwd

@[expose] public section

set_option maxRecDepth 16384

noncomputable section

namespace Cert.QkvFwdRefIdeal.Read

open Cert.QkvFwdRefIdeal Cert.QkvFwdRefIdeal.Gen Idealize.ShloMosaic Idealize.ShloMosaic.TcCoe Idealize.SL.Sem
open Cert.QkvRefIdeal.Read (cosT sinT cos_eq sin_eq angle k_zero)
open Cert.RopeFwd (rope rope_nope rope_lo rope_hi)

variable (x0 : (⟨S1x4096x768, .f32⟩ : BufTy).Contents (Elt Ideal)) (x1 : (⟨S1x4096x256, .f32⟩ : BufTy).Contents (Elt Ideal))
  (x2 : (⟨S1x4096x32, .f32⟩ : BufTy).Contents (Elt Ideal)) (x3 : (⟨S1x768, .f32⟩ : BufTy).Contents (Elt Ideal))
  (x4 : (⟨S1x256, .f32⟩ : BufTy).Contents (Elt Ideal)) (x5 : (⟨S1x768x768, .f32⟩ : BufTy).Contents (Elt Ideal))
  (x6 : (⟨S1x256x1024, .f32⟩ : BufTy).Contents (Elt Ideal))

/-- The rotary tables. -/
theorem cos_at (s : Fin 4096) (j : Fin 16) : val_main_v16 (F := Ideal) (ix2 s j) = cosT s j := by
  rw [cos_eq]
  unfold angle
  pointwise [val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, k_zero]
theorem sin_at (s : Fin 4096) (j : Fin 16) : val_main_v17 (F := Ideal) (ix2 s j) = sinT s j := by
  rw [sin_eq]
  unfold angle
  pointwise [val_main_v17, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, k_zero]

/-- The normed rows and their projections. -/
theorem v31_at (s : Fin 4096) (d : Fin 768) : val_main_v31 (F := Ideal) x0 x3 (ix3 0 s d)
    = x0 (ix3 0 s d) * Ideal.rsqrt (Ideal.div (∑ e : Fin 768, x0 (ix3 0 s e) * x0 (ix3 0 s e)) (Ideal.ofBits .f32 0x44400000#32) + Ideal.ofBits .f32 0x358637BD#32) * x3 (ix2 0 d) := by
  pointwise [val_main_v31, val_main_v30, val_main_v29, val_main_v28, val_main_v27, val_main_v26, val_main_v25, val_main_v24, val_main_v23, val_main_v22, val_main_v21, val_main_v20, val_main_v19, val_main_v18, val_main_cst_3, val_main_cst_4, val_main_cst_5, k_zero]
theorem v65_at (s : Fin 4096) (d : Fin 256) : val_main_v65 (F := Ideal) x1 x4 (ix3 0 s d)
    = x1 (ix3 0 s d) * Ideal.rsqrt (Ideal.div (∑ e : Fin 256, x1 (ix3 0 s e) * x1 (ix3 0 s e)) (Ideal.ofBits .f32 0x43800000#32) + Ideal.ofBits .f32 0x358637BD#32) * x4 (ix2 0 d) := by
  pointwise [val_main_v65, val_main_v64, val_main_v63, val_main_v62, val_main_v61, val_main_v60, val_main_v59, val_main_v58, val_main_v57, val_main_v56, val_main_v55, val_main_v54, val_main_v53, val_main_v52, val_main_cst_6, val_main_cst_7, val_main_cst_8, k_zero]
theorem v34_at (s : Fin 4096) (h : Fin 8) (e : Fin 96) : val_main_v34 (F := Ideal) x0 x3 x5 (ix4 0 s h e)
    = ∑ d : Fin 768, val_main_v31 (F := Ideal) x0 x3 (ix3 0 s d) * x5 (ix3 0 d ⟨h.val * 96 + e.val, by omega⟩) := by
  pointwise [val_main_v34, val_main_v33, val_main_v32]
theorem v68_at (s : Fin 4096) (h : Fin 8) (e : Fin 128) : val_main_v68 (F := Ideal) x1 x4 x6 (ix4 0 s h e)
    = ∑ d : Fin 256, val_main_v65 (F := Ideal) x1 x4 (ix3 0 s d) * x6 (ix3 0 d ⟨h.val * 128 + e.val, by omega⟩) := by
  pointwise [val_main_v68, val_main_v67, val_main_v66]

/-- The rotated part of the queries. -/
theorem v45_at (s : Fin 4096) (h : Fin 8) (l : Fin 16) : val_main_v45 (F := Ideal) x0 x3 x5 (ix4 0 s h l)
    = rope (fun e => val_main_v34 (F := Ideal) x0 x3 x5 (ix4 0 s h e)) s ⟨64 + l.val, by omega⟩ := by
  rw [rope_lo]
  pointwise [val_main_v45, val_main_v44, val_main_v43, val_main_v42, val_main_v41, val_main_v40, val_main_v39, val_main_v38, val_main_v37, val_main_v36, cos_at, sin_at]
theorem v50_at (s : Fin 4096) (h : Fin 8) (l : Fin 16) : val_main_v50 (F := Ideal) x0 x3 x5 (ix4 0 s h l)
    = rope (fun e => val_main_v34 (F := Ideal) x0 x3 x5 (ix4 0 s h e)) s ⟨64 + (16 + l.val), by omega⟩ := by
  rw [rope_hi]
  pointwise [val_main_v50, val_main_v49, val_main_v48, val_main_v47, val_main_v46, val_main_v40, val_main_v39, val_main_v38, val_main_v37, val_main_v36, cos_at, sin_at]
theorem v84_at (s : Fin 4096) (h : Fin 8) (e : Fin 96) : val_main_v84 (F := Ideal) x0 x3 x5 (ix4 0 s h e)
    = rope (fun e => val_main_v34 (F := Ideal) x0 x3 x5 (ix4 0 s h e)) s e := by
  pointwise [val_main_v84, val_main_v51, val_main_v35]
  by_cases h1 : e.val < 64
  · exact (dif_pos h1).trans (rope_nope (fun e => val_main_v34 (F := Ideal) x0 x3 x5 (ix4 0 s h e)) s e h1).symm
  refine (dif_neg h1).trans ?_
  by_cases h2 : e.val - 64 < 16
  · exact (dif_pos h2).trans ((v45_at x0 x3 x5 s h ⟨e.val - 64, h2⟩).trans (congrArg _ (Fin.ext (by simp only; omega))))
  · exact (dif_neg h2).trans ((v50_at x0 x3 x5 s h ⟨e.val - 64 - 16, by omega⟩).trans (congrArg _ (Fin.ext (by simp only; omega))))
theorem v105_at (h : Fin 8) (s : Fin 4096) (l : Fin 128) : val_main_v105 (F := Ideal) x0 x3 x5 (ix3 h s l)
    = if hl : l.val < 96 then rope (fun e => val_main_v34 (F := Ideal) x0 x3 x5 (ix4 0 s h e)) s ⟨l.val, hl⟩ else 0 := by
  pointwise [val_main_v105, val_main_v104, val_main_v103, val_main_v102, val_main_v85, val_main_cst_13, k_zero]
  by_cases hl : l.val < 96
  · refine (dif_pos hl).trans ((v84_at x0 x3 x5 s h ⟨l.val, hl⟩).trans ?_)
    rw [dif_pos hl]
  · refine (dif_neg hl).trans ?_
    rw [dif_neg hl]

/-- The rotary key as a head's row. -/
def kpe (s : Fin 4096) (l : Fin 96) : EReal := if h : 64 ≤ l.val then x2 (ix3 0 s ⟨l.val - 64, by omega⟩) else 0
theorem kpe_at (s : Fin 4096) (j : Fin 32) (l : Fin 96) (h : l.val = 64 + j.val) : kpe x2 s l = x2 (ix3 0 s j) :=
  (dif_pos (by omega)).trans (congrArg (fun k => x2 (ix3 0 s k)) (Fin.ext (by simp only; omega)))
theorem v78_at (s : Fin 4096) (l : Fin 16) : val_main_v78 (F := Ideal) x2 (ix4 0 s 0 l) = rope (kpe x2 s) s ⟨64 + l.val, by omega⟩ := by
  rw [rope_lo, kpe_at x2 s ⟨l.val, by omega⟩ _ rfl, kpe_at x2 s ⟨16 + l.val, by omega⟩ _ rfl]
  pointwise [val_main_v78, val_main_v77, val_main_v76, val_main_v75, val_main_v74, val_main_v73, val_main_v72, val_main_v71, cos_at, sin_at]
theorem v81_at (s : Fin 4096) (l : Fin 16) : val_main_v81 (F := Ideal) x2 (ix4 0 s 0 l) = rope (kpe x2 s) s ⟨64 + (16 + l.val), by omega⟩ := by
  rw [rope_hi, kpe_at x2 s ⟨l.val, by omega⟩ _ rfl, kpe_at x2 s ⟨16 + l.val, by omega⟩ _ rfl]
  pointwise [val_main_v81, val_main_v80, val_main_v79, val_main_v78, val_main_v77, val_main_v76, val_main_v75, val_main_v74, val_main_v73, val_main_v72, val_main_v71, cos_at, sin_at]
theorem v86_at (s : Fin 4096) (h : Fin 8) (e : Fin 96) : val_main_v86 (F := Ideal) x1 x2 x4 x6 (ix4 0 s h e)
    = if e.val < 64 then val_main_v68 (F := Ideal) x1 x4 x6 (ix4 0 s h ⟨e.val, by omega⟩) else rope (kpe x2 s) s e := by
  pointwise [val_main_v86, val_main_v83, val_main_v82, val_main_v69]
  by_cases h1 : e.val < 64
  · exact (dif_pos h1).trans (if_pos h1).symm
  refine (dif_neg h1).trans (Eq.trans ?_ (if_neg h1).symm)
  by_cases h2 : e.val - 64 < 16
  · exact (dif_pos h2).trans ((v78_at x2 s ⟨e.val - 64, h2⟩).trans (congrArg _ (Fin.ext (by simp only; omega))))
  · exact (dif_neg h2).trans ((v81_at x2 s ⟨e.val - 64 - 16, by omega⟩).trans (congrArg _ (Fin.ext (by simp only; omega))))
theorem v109_at (h : Fin 8) (s : Fin 4096) (l : Fin 128) : val_main_v109 (F := Ideal) x1 x2 x4 x6 (ix3 h s l)
    = if l.val < 64 then val_main_v68 (F := Ideal) x1 x4 x6 (ix4 0 s h l) else if hl : l.val < 96 then rope (kpe x2 s) s ⟨l.val, hl⟩ else 0 := by
  pointwise [val_main_v109, val_main_v108, val_main_v107, val_main_v106, val_main_v87, val_main_cst_14, k_zero]
  by_cases hl : l.val < 96
  · refine (dif_pos hl).trans ((v86_at x1 x2 x4 x6 s h ⟨l.val, hl⟩).trans ?_)
    rw [dif_pos hl]
  · refine (dif_neg hl).trans ?_
    rw [if_neg (by omega), dif_neg hl]

/-- The values beside a lane of ones, on either side. -/
theorem v98_at (h : Fin 8) (s : Fin 4096) (l : Fin 128) : val_main_v98 (F := Ideal) x1 x4 x6 (ix3 h s l)
    = if hl : l.val < 64 then val_main_v68 (F := Ideal) x1 x4 x6 (ix4 0 s h ⟨64 + l.val, by omega⟩) else if l.val = 127 then Ideal.ofBits .f32 0x3F800000#32 else 0 := by
  pointwise [val_main_v98, val_main_v97, val_main_v96, val_main_v89, val_main_v88, val_main_v70, val_main_cst_9, val_main_cst_11, k_zero]
  by_cases h1 : l.val < 64
  · refine (dif_pos h1).trans ?_
    rw [dif_pos h1]
  refine (dif_neg h1).trans ?_
  rw [dif_neg h1]
  by_cases h2 : l.val = 127
  · refine (dif_neg (by omega)).trans ?_
    rw [if_pos h2]
  · refine (dif_pos (by omega)).trans ?_
    rw [if_neg h2]
theorem v101_at (h : Fin 8) (s : Fin 4096) (l : Fin 128) : val_main_v101 (F := Ideal) x1 x4 x6 (ix3 h s l)
    = if l.val = 0 then Ideal.ofBits .f32 0x3F800000#32 else if hl : l.val < 64 then 0 else val_main_v68 (F := Ideal) x1 x4 x6 (ix4 0 s h l) := by
  pointwise [val_main_v101, val_main_v99, val_main_v100, val_main_v89, val_main_v88, val_main_v70, val_main_cst_9, val_main_cst_12, k_zero]
  by_cases h1 : l.val = 0
  · refine (dif_pos (by omega)).trans ?_
    rw [if_pos h1]
  refine (dif_neg (by omega)).trans ?_
  rw [if_neg h1]
  by_cases h2 : l.val < 64
  · refine (dif_pos (by omega)).trans ?_
    rw [dif_pos h2]
  · refine (dif_neg (by omega)).trans ?_
    rw [dif_neg h2]
    exact congrArg (fun k => val_main_v68 (F := Ideal) x1 x4 x6 (ix4 0 s h k)) (Fin.ext (by simp only; omega))
theorem v111_at (h : Fin 8) (s : Fin 4096) (l : Fin 128) : val_main_v111 (F := Ideal) x1 x4 x6 (ix3 h s l)
    = if l.val = (if h.val % 2 = 0 then 127 else 0) then Ideal.ofBits .f32 0x3F800000#32
      else if l.val / 64 = h.val % 2 then val_main_v68 (F := Ideal) x1 x4 x6 (ix4 0 s h ⟨64 + l.val % 64, by omega⟩) else 0 := by
  have e : val_main_v111 (F := Ideal) x1 x4 x6 (ix3 h s l) = if h.val % 2 = 1 then val_main_v101 (F := Ideal) x1 x4 x6 (ix3 h s l) else val_main_v98 (F := Ideal) x1 x4 x6 (ix3 h s l) := by
    refine Eq.trans ?_ (Cert.QkvIdeal.Value.odd_head h _ _)
    pointwise [val_main_v111, val_main_v110, val_main_call0_v0, val_main_v95, val_main_v94, val_main_v93, val_main_v92, val_main_v91, val_main_v90, val_main_c, val_main_c_10]
  rw [e, v101_at, v98_at]
  have hc : ∀ (k : Fin 128), k.val = 64 + l.val % 64 → val_main_v68 (F := Ideal) x1 x4 x6 (ix4 0 s h k) = val_main_v68 (F := Ideal) x1 x4 x6 (ix4 0 s h ⟨64 + l.val % 64, by omega⟩) :=
    fun k hk => congrArg (fun k => val_main_v68 (F := Ideal) x1 x4 x6 (ix4 0 s h k)) (Fin.ext hk)
  split_ifs <;> first | rfl | omega | exact hc _ (by first | omega | (simp only; omega))

end Cert.QkvFwdRefIdeal.Read

end
-- ==== Proof.QkvFwdClaim.lean ====
/- The value claim of `qkv_fwd`: on all arguments the kernel leaves what the reference leaves. -/
module

public import proofs.«01_k».proof.Defs
public import proofs.«01_k».proof.Proof.Gen.QkvFwdRefIdeal.Run
public import proofs.«01_k».proof.Proof.QkvFwdPoint
public import proofs.«01_k».proof.Proof.QkvFwdRefPoint
import all proofs.«01_k».proof.Proof.QkvFwdBlock
import all proofs.«01_k».proof.Proof.QkvFwdHost
import all proofs.«01_k».proof.Proof.QkvFwdPoint
import all proofs.«01_k».proof.Proof.QkvFwdRefPoint
import all proofs.«01_k».proof.Proof.RopeFwd

@[expose] public section

set_option maxRecDepth 16384

noncomputable section

namespace Cert.QkvFwdClaim

open Idealize.ShloMosaic Idealize.ShloMosaic.TcCoe Idealize.SL.Sem

section
open Cert.QkvFwdIdeal Cert.QkvFwdIdeal.Value

variable (m : (ℓ : Loc QkvFwdIdeal.nD QkvFwdIdeal.τ QkvFwdIdeal.sig) → Buf (Elt Ideal) ℓ) (c : Dev QkvFwdIdeal.nD)

/-- The reference's heads' projections are the kernel's. -/
theorem q_head (h : Fin 8) (s : Fin 4096) (e : Fin 96) :
    QkvFwdRefIdeal.Read.val_main_v34 (F := Ideal) (m ((c.tc : Thread nD τ).loc main_arg0)) (m ((c.tc : Thread nD τ).loc main_arg3)) (m ((c.tc : Thread nD τ).loc main_arg5)) (ix4 0 s h e)
      = qv m c h s e :=
  (QkvFwdRefIdeal.Read.v34_at ..).trans (Finset.sum_congr rfl fun d _ => Ideal.mul_congr (QkvFwdRefIdeal.Read.v31_at ..) rfl)
theorem kv_head (h : Fin 8) (s : Fin 4096) (e : Fin 128) :
    QkvFwdRefIdeal.Read.val_main_v68 (F := Ideal) (m ((c.tc : Thread nD τ).loc main_arg1)) (m ((c.tc : Thread nD τ).loc main_arg4)) (m ((c.tc : Thread nD τ).loc main_arg6)) (ix4 0 s h e)
      = kv m c h s e :=
  (QkvFwdRefIdeal.Read.v68_at ..).trans (Finset.sum_congr rfl fun d _ => Ideal.mul_congr (QkvFwdRefIdeal.Read.v65_at ..) rfl)

theorem q_ref : (fun i => oQ m c (i 0) (i 1) (i 2) : FVec Ideal S8x4096x128 .bf16)
    = QkvFwdRefIdeal.Read.val_main_v105 (F := Ideal) (m ((c.tc : Thread nD τ).loc main_arg0)) (m ((c.tc : Thread nD τ).loc main_arg3)) (m ((c.tc : Thread nD τ).loc main_arg5)) := by
  funext i
  idx_vars i
  refine Eq.trans ?_ (QkvFwdRefIdeal.Read.v105_at ..).symm
  rw [show (fun e => QkvFwdRefIdeal.Read.val_main_v34 (F := Ideal) (m ((c.tc : Thread nD τ).loc main_arg0)) (m ((c.tc : Thread nD τ).loc main_arg3)) (m ((c.tc : Thread nD τ).loc main_arg5)) (ix4 0 i1 i0 e)) = qv m c i0 i1
    from funext fun e => q_head m c i0 i1 e]
  rfl
theorem k_ref : (fun i => oK m c (i 0) (i 1) (i 2) : FVec Ideal S8x4096x128 .bf16)
    = QkvFwdRefIdeal.Read.val_main_v109 (F := Ideal) (m ((c.tc : Thread nD τ).loc main_arg1)) (m ((c.tc : Thread nD τ).loc main_arg2)) (m ((c.tc : Thread nD τ).loc main_arg4)) (m ((c.tc : Thread nD τ).loc main_arg6)) := by
  funext i
  idx_vars i
  refine Eq.trans ?_ (QkvFwdRefIdeal.Read.v109_at ..).symm
  rw [kv_head m c i0 i1 i2]
  rfl
theorem v_ref : (fun i => oV m c (i 0) (i 1) (i 2) : FVec Ideal S8x4096x128 .bf16)
    = QkvFwdRefIdeal.Read.val_main_v111 (F := Ideal) (m ((c.tc : Thread nD τ).loc main_arg1)) (m ((c.tc : Thread nD τ).loc main_arg4)) (m ((c.tc : Thread nD τ).loc main_arg6)) := by
  funext i
  idx_vars i
  refine Eq.trans ?_ (QkvFwdRefIdeal.Read.v111_at ..).symm
  rw [kv_head m c i0 i1 _]
  rfl

end

/-- The two programs leave equal results from memories that agree on the arguments. -/
theorem algebraic : algebraic_QkvFwdIdeal_QkvFwdRefIdeal (hQkvFwdIdeal := QkvFwdIdeal.Gen.facts) (hQkvFwdRefIdeal := QkvFwdRefIdeal.Gen.facts) := fun m ρ m' ρ' _ hag =>
  ⟨_, _, _, (θ_run _ _ _).mono (fun _ h c => ⟨(h c).1.trans (QkvFwdIdeal.Value.qFinal m c), (h c).2.1.trans (QkvFwdIdeal.Value.kFinal m c),
      (h c).2.2.1.trans (QkvFwdIdeal.Value.vFinal m c), (h c).2.2.2⟩)
      (QkvFwdIdeal.Value.run_blocks m ρ),
    (θ_run _ _ _).mono (fun _ h c => by
        obtain ⟨h0, h1, h2, h3, h4, h5, h6⟩ := hag c
        refine ⟨(h c).1.trans ?_, (h c).2.1.trans ?_, (h c).2.2.1.trans ?_, (h c).2.2.2⟩
        · rw [QkvFwdRefIdeal.Read.val_main_v105_eq, h0, h3, h5]; exact (q_ref m c).symm
        · rw [QkvFwdRefIdeal.Read.val_main_v109_eq, h1, h2, h4, h6]; exact (k_ref m c).symm
        · rw [QkvFwdRefIdeal.Read.val_main_v111_eq, h1, h4, h6]; exact (v_ref m c).symm)
      (QkvFwdRefIdeal.Value.run m' ρ')⟩

/-- The reference's frame: it owns no semaphore, so none is off zero. -/
theorem frame_ref : quiescent_QkvFwdRefIdeal (hQkvFwdRefIdeal := QkvFwdRefIdeal.Gen.facts) := fun m ρ _ =>
  (θ_run _ _ _).mono (fun r h => ⟨fun c => (h c).2.2.2, sem_eq_zero_of_no_sems (by decide) _⟩) (QkvFwdRefIdeal.Value.run m ρ)

end Cert.QkvFwdClaim

end
-- ==== Proof.lean ====
module

public import proofs.«01_k».proof.Defs
public import proofs.«01_k».proof.Proof.Gen.Front
public import proofs.«01_k».proof.Proof.Gen.Front.Skeleton
public import proofs.«01_k».proof.Proof.Gen.Front.Launch
public import proofs.«01_k».proof.Proof.Gen.Front.Points
public import proofs.«01_k».proof.Proof.Gen.Front.Frame
public import proofs.«01_k».proof.Proof.Gen.FrontIdeal
public import proofs.«01_k».proof.Proof.Gen.FrontIdeal.Skeleton
public import proofs.«01_k».proof.Proof.Gen.FrontIdeal.Launch
public import proofs.«01_k».proof.Proof.Gen.FrontIdeal.Points
public import proofs.«01_k».proof.Proof.Gen.FrontIdeal.Frame
public import proofs.«01_k».proof.Proof.Gen.FrontRefIdeal
public import proofs.«01_k».proof.Proof.Gen.Pre_front_finite
public import proofs.«01_k».proof.Proof.Gen.FrontIdeal.Value
public import proofs.«01_k».proof.Proof.Gen.FrontRefIdeal.Run
public import proofs.«01_k».proof.Proof.Gen.FrontRefIdeal.Read
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_attn_finite
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Pre_qkv_finite
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.QkvFwd
public import proofs.«01_k».proof.Proof.Gen.QkvFwd.Skeleton
public import proofs.«01_k».proof.Proof.Gen.QkvFwd.Launch
public import proofs.«01_k».proof.Proof.Gen.QkvFwd.Points
public import proofs.«01_k».proof.Proof.Gen.QkvFwd.Frame
public import proofs.«01_k».proof.Proof.Gen.QkvFwdIdeal
public import proofs.«01_k».proof.Proof.Gen.QkvFwdIdeal.Skeleton
public import proofs.«01_k».proof.Proof.Gen.QkvFwdIdeal.Launch
public import proofs.«01_k».proof.Proof.Gen.QkvFwdIdeal.Points
public import proofs.«01_k».proof.Proof.Gen.QkvFwdIdeal.Frame
public import proofs.«01_k».proof.Proof.Gen.QkvFwdIdeal.Value
public import proofs.«01_k».proof.Proof.Gen.QkvFwdRefIdeal
public import proofs.«01_k».proof.Proof.Gen.QkvFwdRefIdeal.Run
public import proofs.«01_k».proof.Proof.Gen.QkvFwdRefIdeal.Read
public import proofs.«01_k».proof.Proof.FrontClaim
public import proofs.«01_k».proof.Proof.AttnFrame
public import proofs.«01_k».proof.Proof.AttnClaim
public import proofs.«01_k».proof.Proof.QkvClaim
public import proofs.«01_k».proof.Proof.ProjClaim
public import proofs.«01_k».proof.Proof.QkvFwdClaim
public import Idealize.ShloMosaic.Adequacy
public import Idealize.ShloMosaic.Init

@[expose] public section

noncomputable section

namespace Cert.Proof

open Idealize.ShloMosaic Idealize.SL.Sem Cert.Front

theorem claim : Cert.Claim := ⟨Cert.Front.Gen.facts, Cert.FrontIdeal.Gen.facts, Cert.FrontRefIdeal.Gen.facts, Cert.Attn.Gen.facts, Cert.AttnIdeal.Gen.facts,
  Cert.AttnRefIdeal.Gen.facts, Cert.Qkv.Gen.facts, Cert.QkvIdeal.Gen.facts, Cert.QkvRefIdeal.Gen.facts, Cert.Proj.Gen.facts, Cert.ProjIdeal.Gen.facts,
  Cert.ProjRefIdeal.Gen.facts, Cert.Hgrn.Gen.facts, Cert.HgrnIdeal.Gen.facts, Cert.QkvFwd.Gen.facts, Cert.QkvFwdIdeal.Gen.facts,
  Cert.QkvFwdRefIdeal.Gen.facts, Cert.Pre_front_finite.Gen.facts,
  Cert.Pre_attn_finite.Gen.facts, Cert.Pre_qkv_finite.Gen.facts, by
  exact ⟨fun m ρ _ => Cert.Front.Gen.frame m ρ, fun m ρ _ => Cert.FrontIdeal.Gen.frame m ρ, fun m ρ _ => Cert.FrontIdeal.Gen.frame m ρ,
    Cert.FrontClaim.frame_ref, fun m ρ _ => Cert.FrontClaim.frame_ref m ρ trivial,
    fun m ρ _ => Cert.Attn.Value.frame m ρ, fun m ρ _ => Cert.AttnIdeal.Value.frame m ρ, fun m ρ _ => Cert.AttnIdeal.Value.frame m ρ,
    Cert.AttnClaim.frame_ref, fun m ρ _ => Cert.AttnClaim.frame_ref m ρ trivial,
    fun m ρ _ => Cert.Qkv.Gen.frame m ρ, fun m ρ _ => Cert.QkvIdeal.Gen.frame m ρ, fun m ρ _ => Cert.QkvIdeal.Gen.frame m ρ,
    Cert.QkvClaim.frame_ref, fun m ρ _ => Cert.QkvClaim.frame_ref m ρ trivial,
    fun m ρ _ => Cert.Proj.Gen.frame m ρ, fun m ρ _ => Cert.ProjIdeal.Gen.frame m ρ, Cert.ProjClaim.frame_ref,
    fun m ρ _ => Cert.Hgrn.Gen.frame m ρ, fun m ρ _ => Cert.HgrnIdeal.Gen.frame m ρ,
    fun m ρ _ => Cert.QkvFwd.Gen.frame m ρ, fun m ρ _ => Cert.QkvFwdIdeal.Gen.frame m ρ, Cert.QkvFwdClaim.frame_ref,
    trivial, Cert.FrontClaim.algebraic, Cert.AttnClaim.preserves, Cert.AttnClaim.algebraic, trivial, Cert.QkvClaim.algebraic,
    trivial, Cert.ProjClaim.algebraic, trivial, trivial, Cert.QkvFwdClaim.algebraic⟩⟩

end Cert.Proof

end
